-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInRefIdeal (m : (ℓ : Loc Cert.AInRefIdeal.nD Cert.AInRefIdeal.τ Cert.AInRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_BOut (m : (ℓ : Loc Cert.BOut.nD Cert.BOut.τ Cert.BOut.sig) → Buf (Elt Bits) ℓ) : Prop :=
  True

def Pre_BOutIdeal (m : (ℓ : Loc Cert.BOutIdeal.nD Cert.BOutIdeal.τ Cert.BOutIdeal.sig) → Buf (Elt Ideal) ℓ) : Prop :=
  True

def Pre_BOutRefIdeal (m : (ℓ : Loc Cert.BOutRefIdeal.nD Cert.BOutRefIdeal.τ Cert.BOutRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Amix (m : (ℓ : Loc Cert.Amix.nD Cert.Amix.τ Cert.Amix.sig) → Buf (Elt Bits) ℓ) : Prop :=
  True

def Pre_AmixIdeal (m : (ℓ : Loc Cert.AmixIdeal.nD Cert.AmixIdeal.τ Cert.AmixIdeal.sig) → Buf (Elt Ideal) ℓ) : Prop :=
  True

def Pre_AmixRefIdeal (m : (ℓ : Loc Cert.AmixRefIdeal.nD Cert.AmixRefIdeal.τ Cert.AmixRefIdeal.sig) → Buf (Elt Ideal) ℓ) : Prop :=
  True

def Pre_PoolS (m : (ℓ : Loc Cert.PoolS.nD Cert.PoolS.τ Cert.PoolS.sig) → Buf (Elt Bits) ℓ) : Prop :=
  True

def Pre_PoolSIdeal (m : (ℓ : Loc Cert.PoolSIdeal.nD Cert.PoolSIdeal.τ Cert.PoolSIdeal.sig) → Buf (Elt Ideal) ℓ) : Prop :=
  True

def Pre_PoolSRefIdeal (m : (ℓ : Loc Cert.PoolSRefIdeal.nD Cert.PoolSRefIdeal.τ Cert.PoolSRefIdeal.sig) → Buf (Elt Ideal) ℓ) : Prop :=
  True

def Pre_AmixS (m : (ℓ : Loc Cert.AmixS.nD Cert.AmixS.τ Cert.AmixS.sig) → Buf (Elt Bits) ℓ) : Prop :=
  True

def Pre_AmixSIdeal (m : (ℓ : Loc Cert.AmixSIdeal.nD Cert.AmixSIdeal.τ Cert.AmixSIdeal.sig) → Buf (Elt Ideal) ℓ) : Prop :=
  True

def Pre_AmixSRefIdeal (m : (ℓ : Loc Cert.AmixSRefIdeal.nD Cert.AmixSRefIdeal.τ Cert.AmixSRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1)
      ∧ r.2.mem ((c.tc : Thread Cert.AIn.nD Cert.AIn.τ).loc Cert.AIn.main_arg2) = m ((c.tc : Thread Cert.AIn.nD Cert.AIn.τ).loc Cert.AIn.main_arg2))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
      ∧ r.2.mem ((c.tc : Thread Cert.AInIdeal.nD Cert.AInIdeal.τ).loc Cert.AInIdeal.main_arg2) = m ((c.tc : Thread Cert.AInIdeal.nD Cert.AInIdeal.τ).loc Cert.AInIdeal.main_arg2))
      ∧ r.2.sem = fun _ => 0)

def quiescent_AInRefIdeal [hAInRefIdeal : Cert.AInRefIdeal.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1)
      ∧ r.2.mem ((c.tc : Thread Cert.AInRefIdeal.nD Cert.AInRefIdeal.τ).loc Cert.AInRefIdeal.main_arg2) = m ((c.tc : Thread Cert.AInRefIdeal.nD Cert.AInRefIdeal.τ).loc Cert.AInRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_BOut [hBOut : Cert.BOut.Facts] : Prop :=
  ∀ (m : (ℓ : Loc Cert.BOut.nD Cert.BOut.τ Cert.BOut.sig) → Buf (Elt Bits) ℓ) (g : Dev Cert.BOut.nD → PrngReg), Pre_BOut m →
    θ_run (Cert.BOut.defs (F := Bits)) (onTc (τ := Cert.BOut.τ) (Cert.BOut.main (F := Bits))) ⟨m, fun _ => 0, g⟩ (fun r => (∀ c : Dev Cert.BOut.nD,
      r.2.mem ((c.tc : Thread Cert.BOut.nD Cert.BOut.τ).loc Cert.BOut.main_arg0) = m ((c.tc : Thread Cert.BOut.nD Cert.BOut.τ).loc Cert.BOut.main_arg0)
      ∧ r.2.mem ((c.tc : Thread Cert.BOut.nD Cert.BOut.τ).loc Cert.BOut.main_arg1) = m ((c.tc : Thread Cert.BOut.nD Cert.BOut.τ).loc Cert.BOut.main_arg1)
      ∧ r.2.mem ((c.tc : Thread Cert.BOut.nD Cert.BOut.τ).loc Cert.BOut.main_arg2) = m ((c.tc : Thread Cert.BOut.nD Cert.BOut.τ).loc Cert.BOut.main_arg2))
      ∧ r.2.sem = fun _ => 0)

def quiescent_BOutIdeal [hBOutIdeal : Cert.BOutIdeal.Facts] : Prop :=
  ∀ (m : (ℓ : Loc Cert.BOutIdeal.nD Cert.BOutIdeal.τ Cert.BOutIdeal.sig) → Buf (Elt Ideal) ℓ) (g : Dev Cert.BOutIdeal.nD → PrngReg), Pre_BOutIdeal m →
    θ_run (Cert.BOutIdeal.defs (F := Ideal)) (onTc (τ := Cert.BOutIdeal.τ) (Cert.BOutIdeal.main (F := Ideal))) ⟨m, fun _ => 0, g⟩ (fun r => (∀ c : Dev Cert.BOutIdeal.nD,
      r.2.mem ((c.tc : Thread Cert.BOutIdeal.nD Cert.BOutIdeal.τ).loc Cert.BOutIdeal.main_arg0) = m ((c.tc : Thread Cert.BOutIdeal.nD Cert.BOutIdeal.τ).loc Cert.BOutIdeal.main_arg0)
      ∧ r.2.mem ((c.tc : Thread Cert.BOutIdeal.nD Cert.BOutIdeal.τ).loc Cert.BOutIdeal.main_arg1) = m ((c.tc : Thread Cert.BOutIdeal.nD Cert.BOutIdeal.τ).loc Cert.BOutIdeal.main_arg1)
      ∧ r.2.mem ((c.tc : Thread Cert.BOutIdeal.nD Cert.BOutIdeal.τ).loc Cert.BOutIdeal.main_arg2) = m ((c.tc : Thread Cert.BOutIdeal.nD Cert.BOutIdeal.τ).loc Cert.BOutIdeal.main_arg2))
      ∧ r.2.sem = fun _ => 0)

def quiescent_BOutRefIdeal [hBOutRefIdeal : Cert.BOutRefIdeal.Facts] : Prop :=
  ∀ (m : (ℓ : Loc Cert.BOutRefIdeal.nD Cert.BOutRefIdeal.τ Cert.BOutRefIdeal.sig) → Buf (Elt Ideal) ℓ) (g : Dev Cert.BOutRefIdeal.nD → PrngReg), Pre_BOutRefIdeal m →
    θ_run (Cert.BOutRefIdeal.defs (F := Ideal)) (onTc (τ := Cert.BOutRefIdeal.τ) (Cert.BOutRefIdeal.main (F := Ideal))) ⟨m, fun _ => 0, g⟩ (fun r => (∀ c : Dev Cert.BOutRefIdeal.nD,
      r.2.mem ((c.tc : Thread Cert.BOutRefIdeal.nD Cert.BOutRefIdeal.τ).loc Cert.BOutRefIdeal.main_arg0) = m ((c.tc : Thread Cert.BOutRefIdeal.nD Cert.BOutRefIdeal.τ).loc Cert.BOutRefIdeal.main_arg0)
      ∧ r.2.mem ((c.tc : Thread Cert.BOutRefIdeal.nD Cert.BOutRefIdeal.τ).loc Cert.BOutRefIdeal.main_arg1) = m ((c.tc : Thread Cert.BOutRefIdeal.nD Cert.BOutRefIdeal.τ).loc Cert.BOutRefIdeal.main_arg1)
      ∧ r.2.mem ((c.tc : Thread Cert.BOutRefIdeal.nD Cert.BOutRefIdeal.τ).loc Cert.BOutRefIdeal.main_arg2) = m ((c.tc : Thread Cert.BOutRefIdeal.nD Cert.BOutRefIdeal.τ).loc Cert.BOutRefIdeal.main_arg2))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Amix [hAmix : Cert.Amix.Facts] : Prop :=
  ∀ (m : (ℓ : Loc Cert.Amix.nD Cert.Amix.τ Cert.Amix.sig) → Buf (Elt Bits) ℓ) (g : Dev Cert.Amix.nD → PrngReg), Pre_Amix m →
    θ_run (Cert.Amix.defs (F := Bits)) (onTc (τ := Cert.Amix.τ) (Cert.Amix.main (F := Bits))) ⟨m, fun _ => 0, g⟩ (fun r => (∀ c : Dev Cert.Amix.nD,
      r.2.mem ((c.tc : Thread Cert.Amix.nD Cert.Amix.τ).loc Cert.Amix.main_arg0) = m ((c.tc : Thread Cert.Amix.nD Cert.Amix.τ).loc Cert.Amix.main_arg0)
      ∧ r.2.mem ((c.tc : Thread Cert.Amix.nD Cert.Amix.τ).loc Cert.Amix.main_arg1) = m ((c.tc : Thread Cert.Amix.nD Cert.Amix.τ).loc Cert.Amix.main_arg1)
      ∧ r.2.mem ((c.tc : Thread Cert.Amix.nD Cert.Amix.τ).loc Cert.Amix.main_arg2) = m ((c.tc : Thread Cert.Amix.nD Cert.Amix.τ).loc Cert.Amix.main_arg2)
      ∧ r.2.mem ((c.tc : Thread Cert.Amix.nD Cert.Amix.τ).loc Cert.Amix.main_arg3) = m ((c.tc : Thread Cert.Amix.nD Cert.Amix.τ).loc Cert.Amix.main_arg3)
      ∧ r.2.mem ((c.tc : Thread Cert.Amix.nD Cert.Amix.τ).loc Cert.Amix.main_arg4) = m ((c.tc : Thread Cert.Amix.nD Cert.Amix.τ).loc Cert.Amix.main_arg4)
      ∧ r.2.mem ((c.tc : Thread Cert.Amix.nD Cert.Amix.τ).loc Cert.Amix.main_arg5) = m ((c.tc : Thread Cert.Amix.nD Cert.Amix.τ).loc Cert.Amix.main_arg5)
      ∧ r.2.mem ((c.tc : Thread Cert.Amix.nD Cert.Amix.τ).loc Cert.Amix.main_arg6) = m ((c.tc : Thread Cert.Amix.nD Cert.Amix.τ).loc Cert.Amix.main_arg6))
      ∧ r.2.sem = fun _ => 0)

def quiescent_AmixIdeal [hAmixIdeal : Cert.AmixIdeal.Facts] : Prop :=
  ∀ (m : (ℓ : Loc Cert.AmixIdeal.nD Cert.AmixIdeal.τ Cert.AmixIdeal.sig) → Buf (Elt Ideal) ℓ) (g : Dev Cert.AmixIdeal.nD → PrngReg), Pre_AmixIdeal m →
    θ_run (Cert.AmixIdeal.defs (F := Ideal)) (onTc (τ := Cert.AmixIdeal.τ) (Cert.AmixIdeal.main (F := Ideal))) ⟨m, fun _ => 0, g⟩ (fun r => (∀ c : Dev Cert.AmixIdeal.nD,
      r.2.mem ((c.tc : Thread Cert.AmixIdeal.nD Cert.AmixIdeal.τ).loc Cert.AmixIdeal.main_arg0) = m ((c.tc : Thread Cert.AmixIdeal.nD Cert.AmixIdeal.τ).loc Cert.AmixIdeal.main_arg0)
      ∧ r.2.mem ((c.tc : Thread Cert.AmixIdeal.nD Cert.AmixIdeal.τ).loc Cert.AmixIdeal.main_arg1) = m ((c.tc : Thread Cert.AmixIdeal.nD Cert.AmixIdeal.τ).loc Cert.AmixIdeal.main_arg1)
      ∧ r.2.mem ((c.tc : Thread Cert.AmixIdeal.nD Cert.AmixIdeal.τ).loc Cert.AmixIdeal.main_arg2) = m ((c.tc : Thread Cert.AmixIdeal.nD Cert.AmixIdeal.τ).loc Cert.AmixIdeal.main_arg2)
      ∧ r.2.mem ((c.tc : Thread Cert.AmixIdeal.nD Cert.AmixIdeal.τ).loc Cert.AmixIdeal.main_arg3) = m ((c.tc : Thread Cert.AmixIdeal.nD Cert.AmixIdeal.τ).loc Cert.AmixIdeal.main_arg3)
      ∧ r.2.mem ((c.tc : Thread Cert.AmixIdeal.nD Cert.AmixIdeal.τ).loc Cert.AmixIdeal.main_arg4) = m ((c.tc : Thread Cert.AmixIdeal.nD Cert.AmixIdeal.τ).loc Cert.AmixIdeal.main_arg4)
      ∧ r.2.mem ((c.tc : Thread Cert.AmixIdeal.nD Cert.AmixIdeal.τ).loc Cert.AmixIdeal.main_arg5) = m ((c.tc : Thread Cert.AmixIdeal.nD Cert.AmixIdeal.τ).loc Cert.AmixIdeal.main_arg5)
      ∧ r.2.mem ((c.tc : Thread Cert.AmixIdeal.nD Cert.AmixIdeal.τ).loc Cert.AmixIdeal.main_arg6) = m ((c.tc : Thread Cert.AmixIdeal.nD Cert.AmixIdeal.τ).loc Cert.AmixIdeal.main_arg6))
      ∧ r.2.sem = fun _ => 0)

def quiescent_AmixRefIdeal [hAmixRefIdeal : Cert.AmixRefIdeal.Facts] : Prop :=
  ∀ (m : (ℓ : Loc Cert.AmixRefIdeal.nD Cert.AmixRefIdeal.τ Cert.AmixRefIdeal.sig) → Buf (Elt Ideal) ℓ) (g : Dev Cert.AmixRefIdeal.nD → PrngReg), Pre_AmixRefIdeal m →
    θ_run (Cert.AmixRefIdeal.defs (F := Ideal)) (onTc (τ := Cert.AmixRefIdeal.τ) (Cert.AmixRefIdeal.main (F := Ideal))) ⟨m, fun _ => 0, g⟩ (fun r => (∀ c : Dev Cert.AmixRefIdeal.nD,
      r.2.mem ((c.tc : Thread Cert.AmixRefIdeal.nD Cert.AmixRefIdeal.τ).loc Cert.AmixRefIdeal.main_arg0) = m ((c.tc : Thread Cert.AmixRefIdeal.nD Cert.AmixRefIdeal.τ).loc Cert.AmixRefIdeal.main_arg0)
      ∧ r.2.mem ((c.tc : Thread Cert.AmixRefIdeal.nD Cert.AmixRefIdeal.τ).loc Cert.AmixRefIdeal.main_arg1) = m ((c.tc : Thread Cert.AmixRefIdeal.nD Cert.AmixRefIdeal.τ).loc Cert.AmixRefIdeal.main_arg1)
      ∧ r.2.mem ((c.tc : Thread Cert.AmixRefIdeal.nD Cert.AmixRefIdeal.τ).loc Cert.AmixRefIdeal.main_arg2) = m ((c.tc : Thread Cert.AmixRefIdeal.nD Cert.AmixRefIdeal.τ).loc Cert.AmixRefIdeal.main_arg2)
      ∧ r.2.mem ((c.tc : Thread Cert.AmixRefIdeal.nD Cert.AmixRefIdeal.τ).loc Cert.AmixRefIdeal.main_arg3) = m ((c.tc : Thread Cert.AmixRefIdeal.nD Cert.AmixRefIdeal.τ).loc Cert.AmixRefIdeal.main_arg3)
      ∧ r.2.mem ((c.tc : Thread Cert.AmixRefIdeal.nD Cert.AmixRefIdeal.τ).loc Cert.AmixRefIdeal.main_arg4) = m ((c.tc : Thread Cert.AmixRefIdeal.nD Cert.AmixRefIdeal.τ).loc Cert.AmixRefIdeal.main_arg4)
      ∧ r.2.mem ((c.tc : Thread Cert.AmixRefIdeal.nD Cert.AmixRefIdeal.τ).loc Cert.AmixRefIdeal.main_arg5) = m ((c.tc : Thread Cert.AmixRefIdeal.nD Cert.AmixRefIdeal.τ).loc Cert.AmixRefIdeal.main_arg5)
      ∧ r.2.mem ((c.tc : Thread Cert.AmixRefIdeal.nD Cert.AmixRefIdeal.τ).loc Cert.AmixRefIdeal.main_arg6) = m ((c.tc : Thread Cert.AmixRefIdeal.nD Cert.AmixRefIdeal.τ).loc Cert.AmixRefIdeal.main_arg6))
      ∧ r.2.sem = fun _ => 0)

def quiescent_PoolS [hPoolS : Cert.PoolS.Facts] : Prop :=
  ∀ (m : (ℓ : Loc Cert.PoolS.nD Cert.PoolS.τ Cert.PoolS.sig) → Buf (Elt Bits) ℓ) (g : Dev Cert.PoolS.nD → PrngReg), Pre_PoolS m →
    θ_run (Cert.PoolS.defs (F := Bits)) (onTc (τ := Cert.PoolS.τ) (Cert.PoolS.main (F := Bits))) ⟨m, fun _ => 0, g⟩ (fun r => (∀ c : Dev Cert.PoolS.nD,
      r.2.mem ((c.tc : Thread Cert.PoolS.nD Cert.PoolS.τ).loc Cert.PoolS.main_arg0) = m ((c.tc : Thread Cert.PoolS.nD Cert.PoolS.τ).loc Cert.PoolS.main_arg0)
      ∧ r.2.mem ((c.tc : Thread Cert.PoolS.nD Cert.PoolS.τ).loc Cert.PoolS.main_arg1) = m ((c.tc : Thread Cert.PoolS.nD Cert.PoolS.τ).loc Cert.PoolS.main_arg1)
      ∧ r.2.mem ((c.tc : Thread Cert.PoolS.nD Cert.PoolS.τ).loc Cert.PoolS.main_arg2) = m ((c.tc : Thread Cert.PoolS.nD Cert.PoolS.τ).loc Cert.PoolS.main_arg2)
      ∧ r.2.mem ((c.tc : Thread Cert.PoolS.nD Cert.PoolS.τ).loc Cert.PoolS.main_arg3) = m ((c.tc : Thread Cert.PoolS.nD Cert.PoolS.τ).loc Cert.PoolS.main_arg3)
      ∧ r.2.mem ((c.tc : Thread Cert.PoolS.nD Cert.PoolS.τ).loc Cert.PoolS.main_arg4) = m ((c.tc : Thread Cert.PoolS.nD Cert.PoolS.τ).loc Cert.PoolS.main_arg4))
      ∧ r.2.sem = fun _ => 0)

def quiescent_PoolSIdeal [hPoolSIdeal : Cert.PoolSIdeal.Facts] : Prop :=
  ∀ (m : (ℓ : Loc Cert.PoolSIdeal.nD Cert.PoolSIdeal.τ Cert.PoolSIdeal.sig) → Buf (Elt Ideal) ℓ) (g : Dev Cert.PoolSIdeal.nD → PrngReg), Pre_PoolSIdeal m →
    θ_run (Cert.PoolSIdeal.defs (F := Ideal)) (onTc (τ := Cert.PoolSIdeal.τ) (Cert.PoolSIdeal.main (F := Ideal))) ⟨m, fun _ => 0, g⟩ (fun r => (∀ c : Dev Cert.PoolSIdeal.nD,
      r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
      ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
      ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2)
      ∧ r.2.mem ((c.tc : Thread Cert.PoolSIdeal.nD Cert.PoolSIdeal.τ).loc Cert.PoolSIdeal.main_arg3) = m ((c.tc : Thread Cert.PoolSIdeal.nD Cert.PoolSIdeal.τ).loc Cert.PoolSIdeal.main_arg3)
      ∧ r.2.mem ((c.tc : Thread Cert.PoolSIdeal.nD Cert.PoolSIdeal.τ).loc Cert.PoolSIdeal.main_arg4) = m ((c.tc : Thread Cert.PoolSIdeal.nD Cert.PoolSIdeal.τ).loc Cert.PoolSIdeal.main_arg4))
      ∧ r.2.sem = fun _ => 0)

def quiescent_PoolSRefIdeal [hPoolSRefIdeal : Cert.PoolSRefIdeal.Facts] : Prop :=
  ∀ (m : (ℓ : Loc Cert.PoolSRefIdeal.nD Cert.PoolSRefIdeal.τ Cert.PoolSRefIdeal.sig) → Buf (Elt Ideal) ℓ) (g : Dev Cert.PoolSRefIdeal.nD → PrngReg), Pre_PoolSRefIdeal m →
    θ_run (Cert.PoolSRefIdeal.defs (F := Ideal)) (onTc (τ := Cert.PoolSRefIdeal.τ) (Cert.PoolSRefIdeal.main (F := Ideal))) ⟨m, fun _ => 0, g⟩ (fun r => (∀ c : Dev Cert.PoolSRefIdeal.nD,
      r.2.mem ((c.tc : Thread Cert.PoolSRefIdeal.nD Cert.PoolSRefIdeal.τ).loc Cert.PoolSRefIdeal.main_arg0) = m ((c.tc : Thread Cert.PoolSRefIdeal.nD Cert.PoolSRefIdeal.τ).loc Cert.PoolSRefIdeal.main_arg0)
      ∧ r.2.mem ((c.tc : Thread Cert.PoolSRefIdeal.nD Cert.PoolSRefIdeal.τ).loc Cert.PoolSRefIdeal.main_arg1) = m ((c.tc : Thread Cert.PoolSRefIdeal.nD Cert.PoolSRefIdeal.τ).loc Cert.PoolSRefIdeal.main_arg1)
      ∧ r.2.mem ((c.tc : Thread Cert.PoolSRefIdeal.nD Cert.PoolSRefIdeal.τ).loc Cert.PoolSRefIdeal.main_arg2) = m ((c.tc : Thread Cert.PoolSRefIdeal.nD Cert.PoolSRefIdeal.τ).loc Cert.PoolSRefIdeal.main_arg2)
      ∧ r.2.mem ((c.tc : Thread Cert.PoolSRefIdeal.nD Cert.PoolSRefIdeal.τ).loc Cert.PoolSRefIdeal.main_arg3) = m ((c.tc : Thread Cert.PoolSRefIdeal.nD Cert.PoolSRefIdeal.τ).loc Cert.PoolSRefIdeal.main_arg3)
      ∧ r.2.mem ((c.tc : Thread Cert.PoolSRefIdeal.nD Cert.PoolSRefIdeal.τ).loc Cert.PoolSRefIdeal.main_arg4) = m ((c.tc : Thread Cert.PoolSRefIdeal.nD Cert.PoolSRefIdeal.τ).loc Cert.PoolSRefIdeal.main_arg4))
      ∧ r.2.sem = fun _ => 0)

def quiescent_AmixS [hAmixS : Cert.AmixS.Facts] : Prop :=
  ∀ (m : (ℓ : Loc Cert.AmixS.nD Cert.AmixS.τ Cert.AmixS.sig) → Buf (Elt Bits) ℓ) (g : Dev Cert.AmixS.nD → PrngReg), Pre_AmixS m →
    θ_run (Cert.AmixS.defs (F := Bits)) (onTc (τ := Cert.AmixS.τ) (Cert.AmixS.main (F := Bits))) ⟨m, fun _ => 0, g⟩ (fun r => (∀ c : Dev Cert.AmixS.nD,
      r.2.mem ((c.tc : Thread Cert.AmixS.nD Cert.AmixS.τ).loc Cert.AmixS.main_arg0) = m ((c.tc : Thread Cert.AmixS.nD Cert.AmixS.τ).loc Cert.AmixS.main_arg0)
      ∧ r.2.mem ((c.tc : Thread Cert.AmixS.nD Cert.AmixS.τ).loc Cert.AmixS.main_arg1) = m ((c.tc : Thread Cert.AmixS.nD Cert.AmixS.τ).loc Cert.AmixS.main_arg1)
      ∧ r.2.mem ((c.tc : Thread Cert.AmixS.nD Cert.AmixS.τ).loc Cert.AmixS.main_arg2) = m ((c.tc : Thread Cert.AmixS.nD Cert.AmixS.τ).loc Cert.AmixS.main_arg2)
      ∧ r.2.mem ((c.tc : Thread Cert.AmixS.nD Cert.AmixS.τ).loc Cert.AmixS.main_arg3) = m ((c.tc : Thread Cert.AmixS.nD Cert.AmixS.τ).loc Cert.AmixS.main_arg3)
      ∧ r.2.mem ((c.tc : Thread Cert.AmixS.nD Cert.AmixS.τ).loc Cert.AmixS.main_arg4) = m ((c.tc : Thread Cert.AmixS.nD Cert.AmixS.τ).loc Cert.AmixS.main_arg4)
      ∧ r.2.mem ((c.tc : Thread Cert.AmixS.nD Cert.AmixS.τ).loc Cert.AmixS.main_arg5) = m ((c.tc : Thread Cert.AmixS.nD Cert.AmixS.τ).loc Cert.AmixS.main_arg5)
      ∧ r.2.mem ((c.tc : Thread Cert.AmixS.nD Cert.AmixS.τ).loc Cert.AmixS.main_arg6) = m ((c.tc : Thread Cert.AmixS.nD Cert.AmixS.τ).loc Cert.AmixS.main_arg6))
      ∧ r.2.sem = fun _ => 0)

def quiescent_AmixSIdeal [hAmixSIdeal : Cert.AmixSIdeal.Facts] : Prop :=
  ∀ (m : (ℓ : Loc Cert.AmixSIdeal.nD Cert.AmixSIdeal.τ Cert.AmixSIdeal.sig) → Buf (Elt Ideal) ℓ) (g : Dev Cert.AmixSIdeal.nD → PrngReg), Pre_AmixSIdeal m →
    θ_run (Cert.AmixSIdeal.defs (F := Ideal)) (onTc (τ := Cert.AmixSIdeal.τ) (Cert.AmixSIdeal.main (F := Ideal))) ⟨m, fun _ => 0, g⟩ (fun r => (∀ c : Dev Cert.AmixSIdeal.nD,
      r.2.mem ((c.tc : Thread Cert.AmixSIdeal.nD Cert.AmixSIdeal.τ).loc Cert.AmixSIdeal.main_arg0) = m ((c.tc : Thread Cert.AmixSIdeal.nD Cert.AmixSIdeal.τ).loc Cert.AmixSIdeal.main_arg0)
      ∧ r.2.mem ((c.tc : Thread Cert.AmixSIdeal.nD Cert.AmixSIdeal.τ).loc Cert.AmixSIdeal.main_arg1) = m ((c.tc : Thread Cert.AmixSIdeal.nD Cert.AmixSIdeal.τ).loc Cert.AmixSIdeal.main_arg1)
      ∧ r.2.mem ((c.tc : Thread Cert.AmixSIdeal.nD Cert.AmixSIdeal.τ).loc Cert.AmixSIdeal.main_arg2) = m ((c.tc : Thread Cert.AmixSIdeal.nD Cert.AmixSIdeal.τ).loc Cert.AmixSIdeal.main_arg2)
      ∧ r.2.mem ((c.tc : Thread Cert.AmixSIdeal.nD Cert.AmixSIdeal.τ).loc Cert.AmixSIdeal.main_arg3) = m ((c.tc : Thread Cert.AmixSIdeal.nD Cert.AmixSIdeal.τ).loc Cert.AmixSIdeal.main_arg3)
      ∧ r.2.mem ((c.tc : Thread Cert.AmixSIdeal.nD Cert.AmixSIdeal.τ).loc Cert.AmixSIdeal.main_arg4) = m ((c.tc : Thread Cert.AmixSIdeal.nD Cert.AmixSIdeal.τ).loc Cert.AmixSIdeal.main_arg4)
      ∧ r.2.mem ((c.tc : Thread Cert.AmixSIdeal.nD Cert.AmixSIdeal.τ).loc Cert.AmixSIdeal.main_arg5) = m ((c.tc : Thread Cert.AmixSIdeal.nD Cert.AmixSIdeal.τ).loc Cert.AmixSIdeal.main_arg5)
      ∧ r.2.mem ((c.tc : Thread Cert.AmixSIdeal.nD Cert.AmixSIdeal.τ).loc Cert.AmixSIdeal.main_arg6) = m ((c.tc : Thread Cert.AmixSIdeal.nD Cert.AmixSIdeal.τ).loc Cert.AmixSIdeal.main_arg6))
      ∧ r.2.sem = fun _ => 0)

def quiescent_AmixSRefIdeal [hAmixSRefIdeal : Cert.AmixSRefIdeal.Facts] : Prop :=
  ∀ (m : (ℓ : Loc Cert.AmixSRefIdeal.nD Cert.AmixSRefIdeal.τ Cert.AmixSRefIdeal.sig) → Buf (Elt Ideal) ℓ) (g : Dev Cert.AmixSRefIdeal.nD → PrngReg), Pre_AmixSRefIdeal m →
    θ_run (Cert.AmixSRefIdeal.defs (F := Ideal)) (onTc (τ := Cert.AmixSRefIdeal.τ) (Cert.AmixSRefIdeal.main (F := Ideal))) ⟨m, fun _ => 0, g⟩ (fun r => (∀ c : Dev Cert.AmixSRefIdeal.nD,
      r.2.mem ((c.tc : Thread Cert.AmixSRefIdeal.nD Cert.AmixSRefIdeal.τ).loc Cert.AmixSRefIdeal.main_arg0) = m ((c.tc : Thread Cert.AmixSRefIdeal.nD Cert.AmixSRefIdeal.τ).loc Cert.AmixSRefIdeal.main_arg0)
      ∧ r.2.mem ((c.tc : Thread Cert.AmixSRefIdeal.nD Cert.AmixSRefIdeal.τ).loc Cert.AmixSRefIdeal.main_arg1) = m ((c.tc : Thread Cert.AmixSRefIdeal.nD Cert.AmixSRefIdeal.τ).loc Cert.AmixSRefIdeal.main_arg1)
      ∧ r.2.mem ((c.tc : Thread Cert.AmixSRefIdeal.nD Cert.AmixSRefIdeal.τ).loc Cert.AmixSRefIdeal.main_arg2) = m ((c.tc : Thread Cert.AmixSRefIdeal.nD Cert.AmixSRefIdeal.τ).loc Cert.AmixSRefIdeal.main_arg2)
      ∧ r.2.mem ((c.tc : Thread Cert.AmixSRefIdeal.nD Cert.AmixSRefIdeal.τ).loc Cert.AmixSRefIdeal.main_arg3) = m ((c.tc : Thread Cert.AmixSRefIdeal.nD Cert.AmixSRefIdeal.τ).loc Cert.AmixSRefIdeal.main_arg3)
      ∧ r.2.mem ((c.tc : Thread Cert.AmixSRefIdeal.nD Cert.AmixSRefIdeal.τ).loc Cert.AmixSRefIdeal.main_arg4) = m ((c.tc : Thread Cert.AmixSRefIdeal.nD Cert.AmixSRefIdeal.τ).loc Cert.AmixSRefIdeal.main_arg4)
      ∧ r.2.mem ((c.tc : Thread Cert.AmixSRefIdeal.nD Cert.AmixSRefIdeal.τ).loc Cert.AmixSRefIdeal.main_arg5) = m ((c.tc : Thread Cert.AmixSRefIdeal.nD Cert.AmixSRefIdeal.τ).loc Cert.AmixSRefIdeal.main_arg5)
      ∧ r.2.mem ((c.tc : Thread Cert.AmixSRefIdeal.nD Cert.AmixSRefIdeal.τ).loc Cert.AmixSRefIdeal.main_arg6) = m ((c.tc : Thread Cert.AmixSRefIdeal.nD Cert.AmixSRefIdeal.τ).loc Cert.AmixSRefIdeal.main_arg6))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v18) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_AIn_AInIdeal : Prop :=
  True

def algebraic_AInIdeal_AInRefIdeal [hAInIdeal : Cert.AInIdeal.Facts] [hAInRefIdeal : Cert.AInRefIdeal.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInRefIdeal.nD Cert.AInRefIdeal.τ Cert.AInRefIdeal.sig) → Buf (Elt Ideal) ℓ) (g' : Dev Cert.AInRefIdeal.nD → PrngReg), Pre_AInIdeal m →
    (∀ c : Dev Cert.AInIdeal.nD,
      m' ((c.tc : Thread Cert.AInRefIdeal.nD Cert.AInRefIdeal.τ).loc Cert.AInRefIdeal.main_arg0) = m ((c.tc : Thread Cert.AInIdeal.nD Cert.AInIdeal.τ).loc Cert.AInIdeal.main_arg0)
      ∧ m' ((c.tc : Thread Cert.AInRefIdeal.nD Cert.AInRefIdeal.τ).loc Cert.AInRefIdeal.main_arg1) = m ((c.tc : Thread Cert.AInIdeal.nD Cert.AInIdeal.τ).loc Cert.AInIdeal.main_arg1)
      ∧ m' ((c.tc : Thread Cert.AInRefIdeal.nD Cert.AInRefIdeal.τ).loc Cert.AInRefIdeal.main_arg2) = m ((c.tc : Thread Cert.AInIdeal.nD Cert.AInIdeal.τ).loc Cert.AInIdeal.main_arg2)) →
    ∃ (v0 : (c : Dev Cert.AInIdeal.nD) → Buf (Elt Ideal) ((c.tc : Thread Cert.AInIdeal.nD Cert.AInIdeal.τ).loc Cert.AInIdeal.main_v1)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v1) = v0 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
          ∧ r.2.mem ((c.tc : Thread Cert.AInIdeal.nD Cert.AInIdeal.τ).loc Cert.AInIdeal.main_arg2) = m ((c.tc : Thread Cert.AInIdeal.nD Cert.AInIdeal.τ).loc Cert.AInIdeal.main_arg2))
      ∧ θ_run (Cert.AInRefIdeal.defs (F := Ideal)) (onTc (τ := Cert.AInRefIdeal.τ) (Cert.AInRefIdeal.main (F := Ideal))) ⟨m', fun _ => 0, g'⟩ (fun r => ∀ c : Dev Cert.AInRefIdeal.nD,
          r.2.mem ((c.tc : Thread Cert.AInRefIdeal.nD Cert.AInRefIdeal.τ).loc Cert.AInRefIdeal.main_v26) = v0 c
          ∧ r.2.mem ((c.tc : Thread Cert.AInRefIdeal.nD Cert.AInRefIdeal.τ).loc Cert.AInRefIdeal.main_arg0) = m' ((c.tc : Thread Cert.AInRefIdeal.nD Cert.AInRefIdeal.τ).loc Cert.AInRefIdeal.main_arg0)
          ∧ r.2.mem ((c.tc : Thread Cert.AInRefIdeal.nD Cert.AInRefIdeal.τ).loc Cert.AInRefIdeal.main_arg1) = m' ((c.tc : Thread Cert.AInRefIdeal.nD Cert.AInRefIdeal.τ).loc Cert.AInRefIdeal.main_arg1)
          ∧ r.2.mem ((c.tc : Thread Cert.AInRefIdeal.nD Cert.AInRefIdeal.τ).loc Cert.AInRefIdeal.main_arg2) = m' ((c.tc : Thread Cert.AInRefIdeal.nD Cert.AInRefIdeal.τ).loc Cert.AInRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v13)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v13) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v53) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_BOut_BOutIdeal : Prop :=
  True

def algebraic_BOutIdeal_BOutRefIdeal [hBOutIdeal : Cert.BOutIdeal.Facts] [hBOutRefIdeal : Cert.BOutRefIdeal.Facts] : Prop :=
  ∀ (m : (ℓ : Loc Cert.BOutIdeal.nD Cert.BOutIdeal.τ Cert.BOutIdeal.sig) → Buf (Elt Ideal) ℓ) (g : Dev Cert.BOutIdeal.nD → PrngReg)
    (m' : (ℓ : Loc Cert.BOutRefIdeal.nD Cert.BOutRefIdeal.τ Cert.BOutRefIdeal.sig) → Buf (Elt Ideal) ℓ) (g' : Dev Cert.BOutRefIdeal.nD → PrngReg), Pre_BOutIdeal m →
    (∀ c : Dev Cert.BOutIdeal.nD,
      m' ((c.tc : Thread Cert.BOutRefIdeal.nD Cert.BOutRefIdeal.τ).loc Cert.BOutRefIdeal.main_arg0) = m ((c.tc : Thread Cert.BOutIdeal.nD Cert.BOutIdeal.τ).loc Cert.BOutIdeal.main_arg0)
      ∧ m' ((c.tc : Thread Cert.BOutRefIdeal.nD Cert.BOutRefIdeal.τ).loc Cert.BOutRefIdeal.main_arg1) = m ((c.tc : Thread Cert.BOutIdeal.nD Cert.BOutIdeal.τ).loc Cert.BOutIdeal.main_arg1)
      ∧ m' ((c.tc : Thread Cert.BOutRefIdeal.nD Cert.BOutRefIdeal.τ).loc Cert.BOutRefIdeal.main_arg2) = m ((c.tc : Thread Cert.BOutIdeal.nD Cert.BOutIdeal.τ).loc Cert.BOutIdeal.main_arg2)) →
    ∃ (v0 : (c : Dev Cert.BOutIdeal.nD) → Buf (Elt Ideal) ((c.tc : Thread Cert.BOutIdeal.nD Cert.BOutIdeal.τ).loc Cert.BOutIdeal.main_v0)),
      θ_run (Cert.BOutIdeal.defs (F := Ideal)) (onTc (τ := Cert.BOutIdeal.τ) (Cert.BOutIdeal.main (F := Ideal))) ⟨m, fun _ => 0, g⟩ (fun r => ∀ c : Dev Cert.BOutIdeal.nD,
          r.2.mem ((c.tc : Thread Cert.BOutIdeal.nD Cert.BOutIdeal.τ).loc Cert.BOutIdeal.main_v0) = v0 c
          ∧ r.2.mem ((c.tc : Thread Cert.BOutIdeal.nD Cert.BOutIdeal.τ).loc Cert.BOutIdeal.main_arg0) = m ((c.tc : Thread Cert.BOutIdeal.nD Cert.BOutIdeal.τ).loc Cert.BOutIdeal.main_arg0)
          ∧ r.2.mem ((c.tc : Thread Cert.BOutIdeal.nD Cert.BOutIdeal.τ).loc Cert.BOutIdeal.main_arg1) = m ((c.tc : Thread Cert.BOutIdeal.nD Cert.BOutIdeal.τ).loc Cert.BOutIdeal.main_arg1)
          ∧ r.2.mem ((c.tc : Thread Cert.BOutIdeal.nD Cert.BOutIdeal.τ).loc Cert.BOutIdeal.main_arg2) = m ((c.tc : Thread Cert.BOutIdeal.nD Cert.BOutIdeal.τ).loc Cert.BOutIdeal.main_arg2))
      ∧ θ_run (Cert.BOutRefIdeal.defs (F := Ideal)) (onTc (τ := Cert.BOutRefIdeal.τ) (Cert.BOutRefIdeal.main (F := Ideal))) ⟨m', fun _ => 0, g'⟩ (fun r => ∀ c : Dev Cert.BOutRefIdeal.nD,
          r.2.mem ((c.tc : Thread Cert.BOutRefIdeal.nD Cert.BOutRefIdeal.τ).loc Cert.BOutRefIdeal.main_v1) = v0 c
          ∧ r.2.mem ((c.tc : Thread Cert.BOutRefIdeal.nD Cert.BOutRefIdeal.τ).loc Cert.BOutRefIdeal.main_arg0) = m' ((c.tc : Thread Cert.BOutRefIdeal.nD Cert.BOutRefIdeal.τ).loc Cert.BOutRefIdeal.main_arg0)
          ∧ r.2.mem ((c.tc : Thread Cert.BOutRefIdeal.nD Cert.BOutRefIdeal.τ).loc Cert.BOutRefIdeal.main_arg1) = m' ((c.tc : Thread Cert.BOutRefIdeal.nD Cert.BOutRefIdeal.τ).loc Cert.BOutRefIdeal.main_arg1)
          ∧ r.2.mem ((c.tc : Thread Cert.BOutRefIdeal.nD Cert.BOutRefIdeal.τ).loc Cert.BOutRefIdeal.main_arg2) = m' ((c.tc : Thread Cert.BOutRefIdeal.nD Cert.BOutRefIdeal.τ).loc Cert.BOutRefIdeal.main_arg2))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v1) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v120) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Amix_AmixIdeal : Prop :=
  True

def algebraic_AmixIdeal_AmixRefIdeal [hAmixIdeal : Cert.AmixIdeal.Facts] [hAmixRefIdeal : Cert.AmixRefIdeal.Facts] : Prop :=
  ∀ (m : (ℓ : Loc Cert.AmixIdeal.nD Cert.AmixIdeal.τ Cert.AmixIdeal.sig) → Buf (Elt Ideal) ℓ) (g : Dev Cert.AmixIdeal.nD → PrngReg)
    (m' : (ℓ : Loc Cert.AmixRefIdeal.nD Cert.AmixRefIdeal.τ Cert.AmixRefIdeal.sig) → Buf (Elt Ideal) ℓ) (g' : Dev Cert.AmixRefIdeal.nD → PrngReg), Pre_AmixIdeal m →
    (∀ c : Dev Cert.AmixIdeal.nD,
      m' ((c.tc : Thread Cert.AmixRefIdeal.nD Cert.AmixRefIdeal.τ).loc Cert.AmixRefIdeal.main_arg0) = m ((c.tc : Thread Cert.AmixIdeal.nD Cert.AmixIdeal.τ).loc Cert.AmixIdeal.main_arg0)
      ∧ m' ((c.tc : Thread Cert.AmixRefIdeal.nD Cert.AmixRefIdeal.τ).loc Cert.AmixRefIdeal.main_arg1) = m ((c.tc : Thread Cert.AmixIdeal.nD Cert.AmixIdeal.τ).loc Cert.AmixIdeal.main_arg1)
      ∧ m' ((c.tc : Thread Cert.AmixRefIdeal.nD Cert.AmixRefIdeal.τ).loc Cert.AmixRefIdeal.main_arg2) = m ((c.tc : Thread Cert.AmixIdeal.nD Cert.AmixIdeal.τ).loc Cert.AmixIdeal.main_arg2)
      ∧ m' ((c.tc : Thread Cert.AmixRefIdeal.nD Cert.AmixRefIdeal.τ).loc Cert.AmixRefIdeal.main_arg3) = m ((c.tc : Thread Cert.AmixIdeal.nD Cert.AmixIdeal.τ).loc Cert.AmixIdeal.main_arg3)
      ∧ m' ((c.tc : Thread Cert.AmixRefIdeal.nD Cert.AmixRefIdeal.τ).loc Cert.AmixRefIdeal.main_arg4) = m ((c.tc : Thread Cert.AmixIdeal.nD Cert.AmixIdeal.τ).loc Cert.AmixIdeal.main_arg4)
      ∧ m' ((c.tc : Thread Cert.AmixRefIdeal.nD Cert.AmixRefIdeal.τ).loc Cert.AmixRefIdeal.main_arg5) = m ((c.tc : Thread Cert.AmixIdeal.nD Cert.AmixIdeal.τ).loc Cert.AmixIdeal.main_arg5)
      ∧ m' ((c.tc : Thread Cert.AmixRefIdeal.nD Cert.AmixRefIdeal.τ).loc Cert.AmixRefIdeal.main_arg6) = m ((c.tc : Thread Cert.AmixIdeal.nD Cert.AmixIdeal.τ).loc Cert.AmixIdeal.main_arg6)) →
    ∃ (v0 : (c : Dev Cert.AmixIdeal.nD) → Buf (Elt Ideal) ((c.tc : Thread Cert.AmixIdeal.nD Cert.AmixIdeal.τ).loc Cert.AmixIdeal.main_v5_0)),
      θ_run (Cert.AmixIdeal.defs (F := Ideal)) (onTc (τ := Cert.AmixIdeal.τ) (Cert.AmixIdeal.main (F := Ideal))) ⟨m, fun _ => 0, g⟩ (fun r => ∀ c : Dev Cert.AmixIdeal.nD,
          r.2.mem ((c.tc : Thread Cert.AmixIdeal.nD Cert.AmixIdeal.τ).loc Cert.AmixIdeal.main_v5_0) = v0 c
          ∧ r.2.mem ((c.tc : Thread Cert.AmixIdeal.nD Cert.AmixIdeal.τ).loc Cert.AmixIdeal.main_arg0) = m ((c.tc : Thread Cert.AmixIdeal.nD Cert.AmixIdeal.τ).loc Cert.AmixIdeal.main_arg0)
          ∧ r.2.mem ((c.tc : Thread Cert.AmixIdeal.nD Cert.AmixIdeal.τ).loc Cert.AmixIdeal.main_arg1) = m ((c.tc : Thread Cert.AmixIdeal.nD Cert.AmixIdeal.τ).loc Cert.AmixIdeal.main_arg1)
          ∧ r.2.mem ((c.tc : Thread Cert.AmixIdeal.nD Cert.AmixIdeal.τ).loc Cert.AmixIdeal.main_arg2) = m ((c.tc : Thread Cert.AmixIdeal.nD Cert.AmixIdeal.τ).loc Cert.AmixIdeal.main_arg2)
          ∧ r.2.mem ((c.tc : Thread Cert.AmixIdeal.nD Cert.AmixIdeal.τ).loc Cert.AmixIdeal.main_arg3) = m ((c.tc : Thread Cert.AmixIdeal.nD Cert.AmixIdeal.τ).loc Cert.AmixIdeal.main_arg3)
          ∧ r.2.mem ((c.tc : Thread Cert.AmixIdeal.nD Cert.AmixIdeal.τ).loc Cert.AmixIdeal.main_arg4) = m ((c.tc : Thread Cert.AmixIdeal.nD Cert.AmixIdeal.τ).loc Cert.AmixIdeal.main_arg4)
          ∧ r.2.mem ((c.tc : Thread Cert.AmixIdeal.nD Cert.AmixIdeal.τ).loc Cert.AmixIdeal.main_arg5) = m ((c.tc : Thread Cert.AmixIdeal.nD Cert.AmixIdeal.τ).loc Cert.AmixIdeal.main_arg5)
          ∧ r.2.mem ((c.tc : Thread Cert.AmixIdeal.nD Cert.AmixIdeal.τ).loc Cert.AmixIdeal.main_arg6) = m ((c.tc : Thread Cert.AmixIdeal.nD Cert.AmixIdeal.τ).loc Cert.AmixIdeal.main_arg6))
      ∧ θ_run (Cert.AmixRefIdeal.defs (F := Ideal)) (onTc (τ := Cert.AmixRefIdeal.τ) (Cert.AmixRefIdeal.main (F := Ideal))) ⟨m', fun _ => 0, g'⟩ (fun r => ∀ c : Dev Cert.AmixRefIdeal.nD,
          r.2.mem ((c.tc : Thread Cert.AmixRefIdeal.nD Cert.AmixRefIdeal.τ).loc Cert.AmixRefIdeal.main_v43) = v0 c
          ∧ r.2.mem ((c.tc : Thread Cert.AmixRefIdeal.nD Cert.AmixRefIdeal.τ).loc Cert.AmixRefIdeal.main_arg0) = m' ((c.tc : Thread Cert.AmixRefIdeal.nD Cert.AmixRefIdeal.τ).loc Cert.AmixRefIdeal.main_arg0)
          ∧ r.2.mem ((c.tc : Thread Cert.AmixRefIdeal.nD Cert.AmixRefIdeal.τ).loc Cert.AmixRefIdeal.main_arg1) = m' ((c.tc : Thread Cert.AmixRefIdeal.nD Cert.AmixRefIdeal.τ).loc Cert.AmixRefIdeal.main_arg1)
          ∧ r.2.mem ((c.tc : Thread Cert.AmixRefIdeal.nD Cert.AmixRefIdeal.τ).loc Cert.AmixRefIdeal.main_arg2) = m' ((c.tc : Thread Cert.AmixRefIdeal.nD Cert.AmixRefIdeal.τ).loc Cert.AmixRefIdeal.main_arg2)
          ∧ r.2.mem ((c.tc : Thread Cert.AmixRefIdeal.nD Cert.AmixRefIdeal.τ).loc Cert.AmixRefIdeal.main_arg3) = m' ((c.tc : Thread Cert.AmixRefIdeal.nD Cert.AmixRefIdeal.τ).loc Cert.AmixRefIdeal.main_arg3)
          ∧ r.2.mem ((c.tc : Thread Cert.AmixRefIdeal.nD Cert.AmixRefIdeal.τ).loc Cert.AmixRefIdeal.main_arg4) = m' ((c.tc : Thread Cert.AmixRefIdeal.nD Cert.AmixRefIdeal.τ).loc Cert.AmixRefIdeal.main_arg4)
          ∧ r.2.mem ((c.tc : Thread Cert.AmixRefIdeal.nD Cert.AmixRefIdeal.τ).loc Cert.AmixRefIdeal.main_arg5) = m' ((c.tc : Thread Cert.AmixRefIdeal.nD Cert.AmixRefIdeal.τ).loc Cert.AmixRefIdeal.main_arg5)
          ∧ r.2.mem ((c.tc : Thread Cert.AmixRefIdeal.nD Cert.AmixRefIdeal.τ).loc Cert.AmixRefIdeal.main_arg6) = m' ((c.tc : Thread Cert.AmixRefIdeal.nD Cert.AmixRefIdeal.τ).loc Cert.AmixRefIdeal.main_arg6))

def preserves_PoolS_PoolSIdeal : Prop :=
  True

def algebraic_PoolSIdeal_PoolSRefIdeal [hPoolSIdeal : Cert.PoolSIdeal.Facts] [hPoolSRefIdeal : Cert.PoolSRefIdeal.Facts] : Prop :=
  ∀ (m : (ℓ : Loc Cert.PoolSIdeal.nD Cert.PoolSIdeal.τ Cert.PoolSIdeal.sig) → Buf (Elt Ideal) ℓ) (g : Dev Cert.PoolSIdeal.nD → PrngReg)
    (m' : (ℓ : Loc Cert.PoolSRefIdeal.nD Cert.PoolSRefIdeal.τ Cert.PoolSRefIdeal.sig) → Buf (Elt Ideal) ℓ) (g' : Dev Cert.PoolSRefIdeal.nD → PrngReg), Pre_PoolSIdeal m →
    (∀ c : Dev Cert.PoolSIdeal.nD,
      m' ((c.tc : Thread Cert.PoolSRefIdeal.nD Cert.PoolSRefIdeal.τ).loc Cert.PoolSRefIdeal.main_arg0) = m ((c.tc : Thread Cert.PoolSIdeal.nD Cert.PoolSIdeal.τ).loc Cert.PoolSIdeal.main_arg0)
      ∧ m' ((c.tc : Thread Cert.PoolSRefIdeal.nD Cert.PoolSRefIdeal.τ).loc Cert.PoolSRefIdeal.main_arg1) = m ((c.tc : Thread Cert.PoolSIdeal.nD Cert.PoolSIdeal.τ).loc Cert.PoolSIdeal.main_arg1)
      ∧ m' ((c.tc : Thread Cert.PoolSRefIdeal.nD Cert.PoolSRefIdeal.τ).loc Cert.PoolSRefIdeal.main_arg2) = m ((c.tc : Thread Cert.PoolSIdeal.nD Cert.PoolSIdeal.τ).loc Cert.PoolSIdeal.main_arg2)
      ∧ m' ((c.tc : Thread Cert.PoolSRefIdeal.nD Cert.PoolSRefIdeal.τ).loc Cert.PoolSRefIdeal.main_arg3) = m ((c.tc : Thread Cert.PoolSIdeal.nD Cert.PoolSIdeal.τ).loc Cert.PoolSIdeal.main_arg3)
      ∧ m' ((c.tc : Thread Cert.PoolSRefIdeal.nD Cert.PoolSRefIdeal.τ).loc Cert.PoolSRefIdeal.main_arg4) = m ((c.tc : Thread Cert.PoolSIdeal.nD Cert.PoolSIdeal.τ).loc Cert.PoolSIdeal.main_arg4)) →
    ∃ (v0 : (c : Dev Cert.PoolSIdeal.nD) → Buf (Elt Ideal) ((c.tc : Thread Cert.PoolSIdeal.nD Cert.PoolSIdeal.τ).loc Cert.PoolSIdeal.main_v3_0)) (v1 : (c : Dev Cert.PoolSIdeal.nD) → Buf (Elt Ideal) ((c.tc : Thread Cert.PoolSIdeal.nD Cert.PoolSIdeal.τ).loc Cert.PoolSIdeal.main_v3_1)),
      θ_run (Cert.PoolSIdeal.defs (F := Ideal)) (onTc (τ := Cert.PoolSIdeal.τ) (Cert.PoolSIdeal.main (F := Ideal))) ⟨m, fun _ => 0, g⟩ (fun r => ∀ c : Dev Cert.PoolSIdeal.nD,
          r.2.mem ((c.tc : Thread Cert.PoolSIdeal.nD Cert.PoolSIdeal.τ).loc Cert.PoolSIdeal.main_v3_0) = v0 c
          ∧ r.2.mem ((c.tc : Thread Cert.PoolSIdeal.nD Cert.PoolSIdeal.τ).loc Cert.PoolSIdeal.main_v3_1) = v1 c
          ∧ r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
          ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
          ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2)
          ∧ r.2.mem ((c.tc : Thread Cert.PoolSIdeal.nD Cert.PoolSIdeal.τ).loc Cert.PoolSIdeal.main_arg3) = m ((c.tc : Thread Cert.PoolSIdeal.nD Cert.PoolSIdeal.τ).loc Cert.PoolSIdeal.main_arg3)
          ∧ r.2.mem ((c.tc : Thread Cert.PoolSIdeal.nD Cert.PoolSIdeal.τ).loc Cert.PoolSIdeal.main_arg4) = m ((c.tc : Thread Cert.PoolSIdeal.nD Cert.PoolSIdeal.τ).loc Cert.PoolSIdeal.main_arg4))
      ∧ θ_run (Cert.PoolSRefIdeal.defs (F := Ideal)) (onTc (τ := Cert.PoolSRefIdeal.τ) (Cert.PoolSRefIdeal.main (F := Ideal))) ⟨m', fun _ => 0, g'⟩ (fun r => ∀ c : Dev Cert.PoolSRefIdeal.nD,
          r.2.mem ((c.tc : Thread Cert.PoolSRefIdeal.nD Cert.PoolSRefIdeal.τ).loc Cert.PoolSRefIdeal.main_v164) = v0 c
          ∧ r.2.mem ((c.tc : Thread Cert.PoolSRefIdeal.nD Cert.PoolSRefIdeal.τ).loc Cert.PoolSRefIdeal.main_v165) = v1 c
          ∧ r.2.mem ((c.tc : Thread Cert.PoolSRefIdeal.nD Cert.PoolSRefIdeal.τ).loc Cert.PoolSRefIdeal.main_arg0) = m' ((c.tc : Thread Cert.PoolSRefIdeal.nD Cert.PoolSRefIdeal.τ).loc Cert.PoolSRefIdeal.main_arg0)
          ∧ r.2.mem ((c.tc : Thread Cert.PoolSRefIdeal.nD Cert.PoolSRefIdeal.τ).loc Cert.PoolSRefIdeal.main_arg1) = m' ((c.tc : Thread Cert.PoolSRefIdeal.nD Cert.PoolSRefIdeal.τ).loc Cert.PoolSRefIdeal.main_arg1)
          ∧ r.2.mem ((c.tc : Thread Cert.PoolSRefIdeal.nD Cert.PoolSRefIdeal.τ).loc Cert.PoolSRefIdeal.main_arg2) = m' ((c.tc : Thread Cert.PoolSRefIdeal.nD Cert.PoolSRefIdeal.τ).loc Cert.PoolSRefIdeal.main_arg2)
          ∧ r.2.mem ((c.tc : Thread Cert.PoolSRefIdeal.nD Cert.PoolSRefIdeal.τ).loc Cert.PoolSRefIdeal.main_arg3) = m' ((c.tc : Thread Cert.PoolSRefIdeal.nD Cert.PoolSRefIdeal.τ).loc Cert.PoolSRefIdeal.main_arg3)
          ∧ r.2.mem ((c.tc : Thread Cert.PoolSRefIdeal.nD Cert.PoolSRefIdeal.τ).loc Cert.PoolSRefIdeal.main_arg4) = m' ((c.tc : Thread Cert.PoolSRefIdeal.nD Cert.PoolSRefIdeal.τ).loc Cert.PoolSRefIdeal.main_arg4))

def preserves_AmixS_AmixSIdeal : Prop :=
  True

def algebraic_AmixSIdeal_AmixSRefIdeal [hAmixSIdeal : Cert.AmixSIdeal.Facts] [hAmixSRefIdeal : Cert.AmixSRefIdeal.Facts] : Prop :=
  ∀ (m : (ℓ : Loc Cert.AmixSIdeal.nD Cert.AmixSIdeal.τ Cert.AmixSIdeal.sig) → Buf (Elt Ideal) ℓ) (g : Dev Cert.AmixSIdeal.nD → PrngReg)
    (m' : (ℓ : Loc Cert.AmixSRefIdeal.nD Cert.AmixSRefIdeal.τ Cert.AmixSRefIdeal.sig) → Buf (Elt Ideal) ℓ) (g' : Dev Cert.AmixSRefIdeal.nD → PrngReg), Pre_AmixSIdeal m →
    (∀ c : Dev Cert.AmixSIdeal.nD,
      m' ((c.tc : Thread Cert.AmixSRefIdeal.nD Cert.AmixSRefIdeal.τ).loc Cert.AmixSRefIdeal.main_arg0) = m ((c.tc : Thread Cert.AmixSIdeal.nD Cert.AmixSIdeal.τ).loc Cert.AmixSIdeal.main_arg0)
      ∧ m' ((c.tc : Thread Cert.AmixSRefIdeal.nD Cert.AmixSRefIdeal.τ).loc Cert.AmixSRefIdeal.main_arg1) = m ((c.tc : Thread Cert.AmixSIdeal.nD Cert.AmixSIdeal.τ).loc Cert.AmixSIdeal.main_arg1)
      ∧ m' ((c.tc : Thread Cert.AmixSRefIdeal.nD Cert.AmixSRefIdeal.τ).loc Cert.AmixSRefIdeal.main_arg2) = m ((c.tc : Thread Cert.AmixSIdeal.nD Cert.AmixSIdeal.τ).loc Cert.AmixSIdeal.main_arg2)
      ∧ m' ((c.tc : Thread Cert.AmixSRefIdeal.nD Cert.AmixSRefIdeal.τ).loc Cert.AmixSRefIdeal.main_arg3) = m ((c.tc : Thread Cert.AmixSIdeal.nD Cert.AmixSIdeal.τ).loc Cert.AmixSIdeal.main_arg3)
      ∧ m' ((c.tc : Thread Cert.AmixSRefIdeal.nD Cert.AmixSRefIdeal.τ).loc Cert.AmixSRefIdeal.main_arg4) = m ((c.tc : Thread Cert.AmixSIdeal.nD Cert.AmixSIdeal.τ).loc Cert.AmixSIdeal.main_arg4)
      ∧ m' ((c.tc : Thread Cert.AmixSRefIdeal.nD Cert.AmixSRefIdeal.τ).loc Cert.AmixSRefIdeal.main_arg5) = m ((c.tc : Thread Cert.AmixSIdeal.nD Cert.AmixSIdeal.τ).loc Cert.AmixSIdeal.main_arg5)
      ∧ m' ((c.tc : Thread Cert.AmixSRefIdeal.nD Cert.AmixSRefIdeal.τ).loc Cert.AmixSRefIdeal.main_arg6) = m ((c.tc : Thread Cert.AmixSIdeal.nD Cert.AmixSIdeal.τ).loc Cert.AmixSIdeal.main_arg6)) →
    ∃ (v0 : (c : Dev Cert.AmixSIdeal.nD) → Buf (Elt Ideal) ((c.tc : Thread Cert.AmixSIdeal.nD Cert.AmixSIdeal.τ).loc Cert.AmixSIdeal.main_v13_0)) (v1 : (c : Dev Cert.AmixSIdeal.nD) → Buf (Elt Ideal) ((c.tc : Thread Cert.AmixSIdeal.nD Cert.AmixSIdeal.τ).loc Cert.AmixSIdeal.main_v13_1)),
      θ_run (Cert.AmixSIdeal.defs (F := Ideal)) (onTc (τ := Cert.AmixSIdeal.τ) (Cert.AmixSIdeal.main (F := Ideal))) ⟨m, fun _ => 0, g⟩ (fun r => ∀ c : Dev Cert.AmixSIdeal.nD,
          r.2.mem ((c.tc : Thread Cert.AmixSIdeal.nD Cert.AmixSIdeal.τ).loc Cert.AmixSIdeal.main_v13_0) = v0 c
          ∧ r.2.mem ((c.tc : Thread Cert.AmixSIdeal.nD Cert.AmixSIdeal.τ).loc Cert.AmixSIdeal.main_v13_1) = v1 c
          ∧ r.2.mem ((c.tc : Thread Cert.AmixSIdeal.nD Cert.AmixSIdeal.τ).loc Cert.AmixSIdeal.main_arg0) = m ((c.tc : Thread Cert.AmixSIdeal.nD Cert.AmixSIdeal.τ).loc Cert.AmixSIdeal.main_arg0)
          ∧ r.2.mem ((c.tc : Thread Cert.AmixSIdeal.nD Cert.AmixSIdeal.τ).loc Cert.AmixSIdeal.main_arg1) = m ((c.tc : Thread Cert.AmixSIdeal.nD Cert.AmixSIdeal.τ).loc Cert.AmixSIdeal.main_arg1)
          ∧ r.2.mem ((c.tc : Thread Cert.AmixSIdeal.nD Cert.AmixSIdeal.τ).loc Cert.AmixSIdeal.main_arg2) = m ((c.tc : Thread Cert.AmixSIdeal.nD Cert.AmixSIdeal.τ).loc Cert.AmixSIdeal.main_arg2)
          ∧ r.2.mem ((c.tc : Thread Cert.AmixSIdeal.nD Cert.AmixSIdeal.τ).loc Cert.AmixSIdeal.main_arg3) = m ((c.tc : Thread Cert.AmixSIdeal.nD Cert.AmixSIdeal.τ).loc Cert.AmixSIdeal.main_arg3)
          ∧ r.2.mem ((c.tc : Thread Cert.AmixSIdeal.nD Cert.AmixSIdeal.τ).loc Cert.AmixSIdeal.main_arg4) = m ((c.tc : Thread Cert.AmixSIdeal.nD Cert.AmixSIdeal.τ).loc Cert.AmixSIdeal.main_arg4)
          ∧ r.2.mem ((c.tc : Thread Cert.AmixSIdeal.nD Cert.AmixSIdeal.τ).loc Cert.AmixSIdeal.main_arg5) = m ((c.tc : Thread Cert.AmixSIdeal.nD Cert.AmixSIdeal.τ).loc Cert.AmixSIdeal.main_arg5)
          ∧ r.2.mem ((c.tc : Thread Cert.AmixSIdeal.nD Cert.AmixSIdeal.τ).loc Cert.AmixSIdeal.main_arg6) = m ((c.tc : Thread Cert.AmixSIdeal.nD Cert.AmixSIdeal.τ).loc Cert.AmixSIdeal.main_arg6))
      ∧ θ_run (Cert.AmixSRefIdeal.defs (F := Ideal)) (onTc (τ := Cert.AmixSRefIdeal.τ) (Cert.AmixSRefIdeal.main (F := Ideal))) ⟨m', fun _ => 0, g'⟩ (fun r => ∀ c : Dev Cert.AmixSRefIdeal.nD,
          r.2.mem ((c.tc : Thread Cert.AmixSRefIdeal.nD Cert.AmixSRefIdeal.τ).loc Cert.AmixSRefIdeal.main_v52) = v0 c
          ∧ r.2.mem ((c.tc : Thread Cert.AmixSRefIdeal.nD Cert.AmixSRefIdeal.τ).loc Cert.AmixSRefIdeal.main_v53) = v1 c
          ∧ r.2.mem ((c.tc : Thread Cert.AmixSRefIdeal.nD Cert.AmixSRefIdeal.τ).loc Cert.AmixSRefIdeal.main_arg0) = m' ((c.tc : Thread Cert.AmixSRefIdeal.nD Cert.AmixSRefIdeal.τ).loc Cert.AmixSRefIdeal.main_arg0)
          ∧ r.2.mem ((c.tc : Thread Cert.AmixSRefIdeal.nD Cert.AmixSRefIdeal.τ).loc Cert.AmixSRefIdeal.main_arg1) = m' ((c.tc : Thread Cert.AmixSRefIdeal.nD Cert.AmixSRefIdeal.τ).loc Cert.AmixSRefIdeal.main_arg1)
          ∧ r.2.mem ((c.tc : Thread Cert.AmixSRefIdeal.nD Cert.AmixSRefIdeal.τ).loc Cert.AmixSRefIdeal.main_arg2) = m' ((c.tc : Thread Cert.AmixSRefIdeal.nD Cert.AmixSRefIdeal.τ).loc Cert.AmixSRefIdeal.main_arg2)
          ∧ r.2.mem ((c.tc : Thread Cert.AmixSRefIdeal.nD Cert.AmixSRefIdeal.τ).loc Cert.AmixSRefIdeal.main_arg3) = m' ((c.tc : Thread Cert.AmixSRefIdeal.nD Cert.AmixSRefIdeal.τ).loc Cert.AmixSRefIdeal.main_arg3)
          ∧ r.2.mem ((c.tc : Thread Cert.AmixSRefIdeal.nD Cert.AmixSRefIdeal.τ).loc Cert.AmixSRefIdeal.main_arg4) = m' ((c.tc : Thread Cert.AmixSRefIdeal.nD Cert.AmixSRefIdeal.τ).loc Cert.AmixSRefIdeal.main_arg4)
          ∧ r.2.mem ((c.tc : Thread Cert.AmixSRefIdeal.nD Cert.AmixSRefIdeal.τ).loc Cert.AmixSRefIdeal.main_arg5) = m' ((c.tc : Thread Cert.AmixSRefIdeal.nD Cert.AmixSRefIdeal.τ).loc Cert.AmixSRefIdeal.main_arg5)
          ∧ r.2.mem ((c.tc : Thread Cert.AmixSRefIdeal.nD Cert.AmixSRefIdeal.τ).loc Cert.AmixSRefIdeal.main_arg6) = m' ((c.tc : Thread Cert.AmixSRefIdeal.nD Cert.AmixSRefIdeal.τ).loc Cert.AmixSRefIdeal.main_arg6))

def Claim : Prop :=
  ∃ (hFfn : Cert.Ffn.Facts) (hFfnIdeal : Cert.FfnIdeal.Facts) (hFfnRefIdeal : Cert.FfnRefIdeal.Facts) (hAIn : Cert.AIn.Facts) (hAInIdeal : Cert.AInIdeal.Facts) (hAInRefIdeal : Cert.AInRefIdeal.Facts) (hQkv : Cert.Qkv.Facts) (hQkvIdeal : Cert.QkvIdeal.Facts) (hQkvRefIdeal : Cert.QkvRefIdeal.Facts) (hBOut : Cert.BOut.Facts) (hBOutIdeal : Cert.BOutIdeal.Facts) (hBOutRefIdeal : Cert.BOutRefIdeal.Facts) (hPool : Cert.Pool.Facts) (hPoolIdeal : Cert.PoolIdeal.Facts) (hPoolRefIdeal : Cert.PoolRefIdeal.Facts) (hNorm : Cert.Norm.Facts) (hNormIdeal : Cert.NormIdeal.Facts) (hNormRefIdeal : Cert.NormRefIdeal.Facts) (hAmix : Cert.Amix.Facts) (hAmixIdeal : Cert.AmixIdeal.Facts) (hAmixRefIdeal : Cert.AmixRefIdeal.Facts) (hPoolS : Cert.PoolS.Facts) (hPoolSIdeal : Cert.PoolSIdeal.Facts) (hPoolSRefIdeal : Cert.PoolSRefIdeal.Facts) (hAmixS : Cert.AmixS.Facts) (hAmixSIdeal : Cert.AmixSIdeal.Facts) (hAmixSRefIdeal : Cert.AmixSRefIdeal.Facts),
    quiescent_Ffn (hFfn := hFfn)
    ∧ quiescent_FfnIdeal (hFfnIdeal := hFfnIdeal)
    ∧ quiescent_FfnRefIdeal (hFfnRefIdeal := hFfnRefIdeal)
    ∧ quiescent_AIn (hAIn := hAIn)
    ∧ quiescent_AInIdeal (hAInIdeal := hAInIdeal)
    ∧ quiescent_AInRefIdeal (hAInRefIdeal := hAInRefIdeal)
    ∧ quiescent_Qkv (hQkv := hQkv)
    ∧ quiescent_QkvIdeal (hQkvIdeal := hQkvIdeal)
    ∧ quiescent_QkvRefIdeal (hQkvRefIdeal := hQkvRefIdeal)
    ∧ quiescent_BOut (hBOut := hBOut)
    ∧ quiescent_BOutIdeal (hBOutIdeal := hBOutIdeal)
    ∧ quiescent_BOutRefIdeal (hBOutRefIdeal := hBOutRefIdeal)
    ∧ quiescent_Pool (hPool := hPool)
    ∧ quiescent_PoolIdeal (hPoolIdeal := hPoolIdeal)
    ∧ quiescent_PoolRefIdeal (hPoolRefIdeal := hPoolRefIdeal)
    ∧ quiescent_Norm (hNorm := hNorm)
    ∧ quiescent_NormIdeal (hNormIdeal := hNormIdeal)
    ∧ quiescent_NormRefIdeal (hNormRefIdeal := hNormRefIdeal)
    ∧ quiescent_Amix (hAmix := hAmix)
    ∧ quiescent_AmixIdeal (hAmixIdeal := hAmixIdeal)
    ∧ quiescent_AmixRefIdeal (hAmixRefIdeal := hAmixRefIdeal)
    ∧ quiescent_PoolS (hPoolS := hPoolS)
    ∧ quiescent_PoolSIdeal (hPoolSIdeal := hPoolSIdeal)
    ∧ quiescent_PoolSRefIdeal (hPoolSRefIdeal := hPoolSRefIdeal)
    ∧ quiescent_AmixS (hAmixS := hAmixS)
    ∧ quiescent_AmixSIdeal (hAmixSIdeal := hAmixSIdeal)
    ∧ quiescent_AmixSRefIdeal (hAmixSRefIdeal := hAmixSRefIdeal)
    ∧ preserves_Ffn_FfnIdeal
    ∧ algebraic_FfnIdeal_FfnRefIdeal (hFfnIdeal := hFfnIdeal) (hFfnRefIdeal := hFfnRefIdeal)
    ∧ preserves_AIn_AInIdeal
    ∧ algebraic_AInIdeal_AInRefIdeal (hAInIdeal := hAInIdeal) (hAInRefIdeal := hAInRefIdeal)
    ∧ preserves_Qkv_QkvIdeal
    ∧ algebraic_QkvIdeal_QkvRefIdeal (hQkvIdeal := hQkvIdeal) (hQkvRefIdeal := hQkvRefIdeal)
    ∧ preserves_BOut_BOutIdeal
    ∧ algebraic_BOutIdeal_BOutRefIdeal (hBOutIdeal := hBOutIdeal) (hBOutRefIdeal := hBOutRefIdeal)
    ∧ preserves_Pool_PoolIdeal
    ∧ algebraic_PoolIdeal_PoolRefIdeal (hPoolIdeal := hPoolIdeal) (hPoolRefIdeal := hPoolRefIdeal)
    ∧ preserves_Norm_NormIdeal
    ∧ algebraic_NormIdeal_NormRefIdeal (hNormIdeal := hNormIdeal) (hNormRefIdeal := hNormRefIdeal)
    ∧ preserves_Amix_AmixIdeal
    ∧ algebraic_AmixIdeal_AmixRefIdeal (hAmixIdeal := hAmixIdeal) (hAmixRefIdeal := hAmixRefIdeal)
    ∧ preserves_PoolS_PoolSIdeal
    ∧ algebraic_PoolSIdeal_PoolSRefIdeal (hPoolSIdeal := hPoolSIdeal) (hPoolSRefIdeal := hPoolSRefIdeal)
    ∧ preserves_AmixS_AmixSIdeal
    ∧ algebraic_AmixSIdeal_AmixSRefIdeal (hAmixSIdeal := hAmixSIdeal) (hAmixSRefIdeal := hAmixSRefIdeal)
-- ==== Ffn.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x256 : Shape := ⟨2, ![2048, 256]⟩
abbrev S256x2048 : Shape := ⟨2, ![256, 2048]⟩
abbrev S256 : Shape := ⟨1, ![256]⟩
abbrev S256x1 : Shape := ⟨2, ![256, 1]⟩
abbrev S512x256 : Shape := ⟨2, ![512, 256]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S1x2048, .f32⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S256x2048, .f32⟩
  | .local _ .vmem, ⟨8, _⟩ => ⟨S256x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_14 : BitVec 32 := 0#32
  let c2_i32 : BitVec 32 := 2#32
  let v21 : BitVec 32 := Scalar.addi c0_i32_14 c2_i32
  let c1_i32 : BitVec 32 := 1#32
  ⟨c0_i32_14, v21, c1_i32⟩
def k0_mult1 (k0_t1 : Fin k0_t1_loop.trips) : BitVec 32 :=
  let c0_i32_14 : BitVec 32 := 0#32
  let c1_i32 : BitVec 32 := 1#32
  let arg9 : BitVec 32 := Scf.iv c0_i32_14 c1_i32 k0_t1
  let c256_i32 : BitVec 32 := 256#32
  let v22 : BitVec 32 := Scalar.muli arg9 c256_i32
  v22
def k0_off1 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let c256_i32 : BitVec 32 := 256#32
  let v22 : BitVec 32 := Scalar.muli arg9 c256_i32
  let v23 : BitVec 32 := v22
  let v24 : Index := Scalar.indexCast v23
  let c0_16 : Index := 0#32
  ![v24.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S_, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x2048, .f32⟩
  | .hbm, ⟨34, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== AIn.lean ====
abbrev S8192x2048 : Shape := ⟨2, ![8192, 2048]⟩
abbrev S2048 : Shape := ⟨1, ![2048]⟩
abbrev S2048x4096 : Shape := ⟨2, ![2048, 4096]⟩
abbrev S1x2048 : Shape := ⟨2, ![1, 2048]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .f32⟩
  | .hbm, ⟨3, _⟩ => ⟨S1x2048, .f32⟩
  | .hbm, ⟨4, _⟩ => ⟨S8192x4096, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_10 : BitVec 32 := 0#32
  let c4_i32 : BitVec 32 := 4#32
  let v21 : BitVec 32 := Scalar.addi c0_i32_10 c4_i32
  let c1_i32 : BitVec 32 := 1#32
  ⟨c0_i32_10, v21, c1_i32⟩
def k0_mult1 (k0_t1 : Fin k0_t1_loop.trips) : BitVec 32 :=
  let c0_i32_10 : BitVec 32 := 0#32
  let c1_i32 : BitVec 32 := 1#32
  let arg7 : BitVec 32 := Scf.iv c0_i32_10 c1_i32 k0_t1
  let c256_i32 : BitVec 32 := 256#32
  let v22 : BitVec 32 := Scalar.muli arg7 c256_i32
  v22
def k0_off1 (k0_t1 : Fin k0_t1_loop.trips) : Fin 2 → Nat :=
  let c0_i32_10 : BitVec 32 := 0#32
  let c1_i32 : BitVec 32 := 1#32
  let arg7 : BitVec 32 := Scf.iv c0_i32_10 c1_i32 k0_t1
  let c256_i32 : BitVec 32 := 256#32
  let v22 : BitVec 32 := Scalar.muli arg7 c256_i32
  let v23 : BitVec 32 := v22
  let v24 : Index := Scalar.indexCast v23
  let c0_12 : Index := 0#32
  ![v24.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AInRefIdeal.lean ====
abbrev S8192x2048 : Shape := ⟨2, ![8192, 2048]⟩
abbrev S2048 : Shape := ⟨1, ![2048]⟩
abbrev S2048x4096 : Shape := ⟨2, ![2048, 4096]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4096 : Shape := ⟨2, ![8192, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S_, .f32⟩
  | .hbm, ⟨34, _⟩ => ⟨S8192x4096, .f32⟩
  | .hbm, ⟨35, _⟩ => ⟨S8192x4096, .f32⟩
  | .hbm, ⟨36, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Qkv.lean ====
abbrev S8192x2048 : Shape := ⟨2, ![8192, 2048]⟩
abbrev S2048 : Shape := ⟨1, ![2048]⟩
abbrev S2048x18432 : Shape := ⟨2, ![2048, 18432]⟩
abbrev S3x128 : Shape := ⟨2, ![3, 128]⟩
abbrev S_ : Shape := ⟨0, ![]⟩
abbrev S3x2048 : Shape := ⟨2, ![3, 2048]⟩
abbrev S1x3x1x128 : Shape := ⟨4, ![1, 3, 1, 128]⟩
abbrev S1x3x16x128 : Shape := ⟨4, ![1, 3, 16, 128]⟩
abbrev S3x1x2048 : Shape := ⟨3, ![3, 1, 2048]⟩
abbrev S3x3x2048 : Shape := ⟨3, ![3, 3, 2048]⟩
abbrev S1x18432 : Shape := ⟨2, ![1, 18432]⟩
abbrev S1x2048 : Shape := ⟨2, ![1, 2048]⟩
abbrev S8192x18432 : Shape := ⟨2, ![8192, 18432]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩
abbrev S256x2048 : Shape := ⟨2, ![256, 2048]⟩
abbrev S256 : Shape := ⟨1, ![256]⟩
abbrev S256x1 : Shape := ⟨2, ![256, 1]⟩
abbrev S1024x128 : Shape := ⟨2, ![1024, 128]⟩
abbrev S1x128 : Shape := ⟨2, ![1, 128]⟩
abbrev S1024 : Shape := ⟨1, ![1024]⟩
abbrev S1024x1 : Shape := ⟨2, ![1024, 1]⟩

abbrev nBuf : Space → Nat
  | .hbm => 20
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x18432, .f32⟩
  | .hbm, ⟨3, _⟩ => ⟨S3x128, .f32⟩
  | .hbm, ⟨4, _⟩ => ⟨S3x128, .f32⟩
  | .hbm, ⟨5, _⟩ => ⟨S_, .f32⟩
  | .hbm, ⟨6, _⟩ => ⟨S3x2048, .f32⟩
  | .hbm, ⟨7, _⟩ => ⟨S1x3x1x128, .f32⟩
  | .hbm, ⟨8, _⟩ => ⟨S1x3x16x128, .f32⟩
  | .hbm, ⟨9, _⟩ => ⟨S3x2048, .f32⟩
  | .hbm, ⟨10, _⟩ => ⟨S1x3x1x128, .f32⟩
  | .hbm, ⟨11, _⟩ => ⟨S1x3x16x128, .f32⟩
  | .hbm, ⟨12, _⟩ => ⟨S3x2048, .f32⟩
  | .hbm, ⟨13, _⟩ => ⟨S3x1x2048, .f32⟩
  | .hbm, ⟨14, _⟩ => ⟨S3x1x2048, .f32⟩
  | .hbm, ⟨15, _⟩ => ⟨S3x1x2048, .f32⟩
  | .hbm, ⟨16, _⟩ => ⟨S3x3x2048, .f32⟩
  | .hbm, ⟨17, _⟩ => ⟨S1x18432, .f32⟩
  | .hbm, ⟨18, _⟩ => ⟨S1x2048, .f32⟩
  | .hbm, ⟨19, _⟩ => ⟨S8192x18432, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S1x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 36], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_17 : BitVec 32 := 0#32
  let c4_i32_18 : BitVec 32 := 4#32
  let v40 : BitVec 32 := Scalar.addi c0_i32_17 c4_i32_18
  let c1_i32_19 : BitVec 32 := 1#32
  ⟨c0_i32_17, v40, c1_i32_19⟩
def k0_mult1 (k0_t1 : Fin k0_t1_loop.trips) : BitVec 32 :=
  let c0_i32_17 : BitVec 32 := 0#32
  let c1_i32_19 : BitVec 32 := 1#32
  let arg8 : BitVec 32 := Scf.iv c0_i32_17 c1_i32_19 k0_t1
  let c256_i32 : BitVec 32 := 256#32
  let v41 : BitVec 32 := Scalar.muli arg8 c256_i32
  v41
def k0_off1 (k0_t1 : Fin k0_t1_loop.trips) : Fin 2 → Nat :=
  let c0_i32_17 : BitVec 32 := 0#32
  let c1_i32_19 : BitVec 32 := 1#32
  let arg8 : BitVec 32 := Scf.iv c0_i32_17 c1_i32_19 k0_t1
  let c256_i32 : BitVec 32 := 256#32
  let v41 : BitVec 32 := Scalar.muli arg8 c256_i32
  let v42 : BitVec 32 := v41
  let v43 : Index := Scalar.indexCast v42
  let c0_21 : Index := 0#32
  ![v43.toNat, 0]
def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg1 c4_i32
  let c0_i32_8 : BitVec 32 := 0#32
  let v20 : BitVec 1 := Scalar.cmpi .ne v19 c0_i32_8
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c3_i32 : BitVec 32 := 3#32
  let c0_i32_9 : BitVec 32 := 0#32
  let v24 : BitVec 1 := Scalar.cmpi .eq c3_i32 c0_i32_9
  let c1_i32_10 : BitVec 32 := 1#32
  let v25 : BitVec 32 := Scalar.select v24 c1_i32_10 c3_i32
  let v26 : BitVec 32 := Scalar.remsi v23 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c2_i32 : BitVec 32 := 2#32
  let v34 : BitVec 1 := Scalar.cmpi .slt v33 c2_i32
  let v35 : BitVec 32 := Scalar.extui v34
  let c0_i32_14 : BitVec 32 := 0#32
  let v36 : BitVec 1 := Scalar.cmpi .ne v35 c0_i32_14
  v36

def k0_cond3 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c4_i32 : BitVec 32 := 4#32
  let c0_i32_6 : BitVec 32 := 0#32
  let v13 : BitVec 1 := Scalar.cmpi .sgt c4_i32 c0_i32_6
  let v14 : BitVec 32 := Scalar.extui v13
  let c0_i32_7 : BitVec 32 := 0#32
  let v15 : BitVec 1 := Scalar.cmpi .slt c4_i32 c0_i32_7
  let v16 : BitVec 32 := Scalar.extui v15
  let v17 : BitVec 32 := Scalar.subi v14 v16
  let v18 : BitVec 1 := Scalar.cmpi .ne v12 v17
  let v19 : BitVec 32 := Scalar.remsi arg1 c4_i32
  let c0_i32_8 : BitVec 32 := 0#32
  let v20 : BitVec 1 := Scalar.cmpi .ne v19 c0_i32_8
  let v21 : BitVec 1 := Scalar.andi v18 v20
  let v7 : BitVec 32 := Scalar.divsi arg1 c4_i32
  let c1_i32 : BitVec 32 := 1#32
  let v22 : BitVec 32 := Scalar.subi v7 c1_i32
  let v23 : BitVec 32 := Scalar.select v21 v22 v7
  let c3_i32 : BitVec 32 := 3#32
  let c0_i32_9 : BitVec 32 := 0#32
  let v24 : BitVec 1 := Scalar.cmpi .eq c3_i32 c0_i32_9
  let c1_i32_10 : BitVec 32 := 1#32
  let v25 : BitVec 32 := Scalar.select v24 c1_i32_10 c3_i32
  let v26 : BitVec 32 := Scalar.remsi v23 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c2_i32_15 : BitVec 32 := 2#32
  let v37 : BitVec 1 := Scalar.cmpi .eq v33 c2_i32_15
  let v38 : BitVec 32 := Scalar.extui v37
  let c0_i32_16 : BitVec 32 := 0#32
  let v39 : BitVec 1 := Scalar.cmpi .ne v38 c0_i32_16
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvRefIdeal.lean ====
abbrev S8192x2048 : Shape := ⟨2, ![8192, 2048]⟩
abbrev S2048 : Shape := ⟨1, ![2048]⟩
abbrev S2048x18432 : Shape := ⟨2, ![2048, 18432]⟩
abbrev S3x128 : Shape := ⟨2, ![3, 128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x18432 : Shape := ⟨2, ![8192, 18432]⟩
abbrev S8192x3x3x16x128 : Shape := ⟨5, ![8192, 3, 3, 16, 128]⟩
abbrev S8192x3x1x16x128 : Shape := ⟨5, ![8192, 3, 1, 16, 128]⟩
abbrev S8192x3x16x128 : Shape := ⟨4, ![8192, 3, 16, 128]⟩
abbrev S3x1x128 : Shape := ⟨3, ![3, 1, 128]⟩
abbrev S8192x3x16 : Shape := ⟨3, ![8192, 3, 16]⟩
abbrev S8192x3x16x1 : Shape := ⟨4, ![8192, 3, 16, 1]⟩
abbrev S1x3x1x128 : Shape := ⟨4, ![1, 3, 1, 128]⟩

abbrev nBuf : Space → Nat
  | .hbm => 68
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x18432, .f32⟩
  | .hbm, ⟨3, _⟩ => ⟨S3x128, .f32⟩
  | .hbm, ⟨4, _⟩ => ⟨S3x128, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x18432, .f32⟩
  | .hbm, ⟨22, _⟩ => ⟨S8192x3x3x16x128, .f32⟩
  | .hbm, ⟨23, _⟩ => ⟨S8192x3x1x16x128, .f32⟩
  | .hbm, ⟨24, _⟩ => ⟨S8192x3x16x128, .f32⟩
  | .hbm, ⟨25, _⟩ => ⟨S3x1x128, .f32⟩
  | .hbm, ⟨26, _⟩ => ⟨S8192x3x16x128, .f32⟩
  | .hbm, ⟨27, _⟩ => ⟨S_, .f32⟩
  | .hbm, ⟨28, _⟩ => ⟨S8192x3x16, .f32⟩
  | .hbm, ⟨29, _⟩ => ⟨S8192x3x16x1, .f32⟩
  | .hbm, ⟨30, _⟩ => ⟨S_, .f32⟩
  | .hbm, ⟨31, _⟩ => ⟨S8192x3x16x1, .f32⟩
  | .hbm, ⟨32, _⟩ => ⟨S8192x3x16x1, .f32⟩
  | .hbm, ⟨33, _⟩ => ⟨S_, .f32⟩
  | .hbm, ⟨34, _⟩ => ⟨S8192x3x16x1, .f32⟩
  | .hbm, ⟨35, _⟩ => ⟨S8192x3x16x1, .f32⟩
  | .hbm, ⟨36, _⟩ => ⟨S8192x3x16x1, .f32⟩
  | .hbm, ⟨37, _⟩ => ⟨S8192x3x16x128, .f32⟩
  | .hbm, ⟨38, _⟩ => ⟨S8192x3x16x128, .f32⟩
  | .hbm, ⟨39, _⟩ => ⟨S1x3x1x128, .f32⟩
  | .hbm, ⟨40, _⟩ => ⟨S8192x3x16x128, .f32⟩
  | .hbm, ⟨41, _⟩ => ⟨S8192x3x16x128, .f32⟩
  | .hbm, ⟨42, _⟩ => ⟨S8192x3x1x16x128, .f32⟩
  | .hbm, ⟨43, _⟩ => ⟨S8192x3x16x128, .f32⟩
  | .hbm, ⟨44, _⟩ => ⟨S3x1x128, .f32⟩
  | .hbm, ⟨45, _⟩ => ⟨S8192x3x16x128, .f32⟩
  | .hbm, ⟨46, _⟩ => ⟨S_, .f32⟩
  | .hbm, ⟨47, _⟩ => ⟨S8192x3x16, .f32⟩
  | .hbm, ⟨48, _⟩ => ⟨S8192x3x16x1, .f32⟩
  | .hbm, ⟨49, _⟩ => ⟨S_, .f32⟩
  | .hbm, ⟨50, _⟩ => ⟨S8192x3x16x1, .f32⟩
  | .hbm, ⟨51, _⟩ => ⟨S8192x3x16x1, .f32⟩
  | .hbm, ⟨52, _⟩ => ⟨S_, .f32⟩
  | .hbm, ⟨53, _⟩ => ⟨S8192x3x16x1, .f32⟩
  | .hbm, ⟨54, _⟩ => ⟨S8192x3x16x1, .f32⟩
  | .hbm, ⟨55, _⟩ => ⟨S8192x3x16x1, .f32⟩
  | .hbm, ⟨56, _⟩ => ⟨S8192x3x16x128, .f32⟩
  | .hbm, ⟨57, _⟩ => ⟨S8192x3x16x128, .f32⟩
  | .hbm, ⟨58, _⟩ => ⟨S1x3x1x128, .f32⟩
  | .hbm, ⟨59, _⟩ => ⟨S8192x3x16x128, .f32⟩
  | .hbm, ⟨60, _⟩ => ⟨S8192x3x16x128, .f32⟩
  | .hbm, ⟨61, _⟩ => ⟨S8192x3x1x16x128, .f32⟩
  | .hbm, ⟨62, _⟩ => ⟨S8192x3x16x128, .f32⟩
  | .hbm, ⟨63, _⟩ => ⟨S8192x3x1x16x128, .f32⟩
  | .hbm, ⟨64, _⟩ => ⟨S8192x3x1x16x128, .f32⟩
  | .hbm, ⟨65, _⟩ => ⟨S8192x3x1x16x128, .f32⟩
  | .hbm, ⟨66, _⟩ => ⟨S8192x3x3x16x128, .f32⟩
  | .hbm, ⟨67, _⟩ => ⟨S8192x18432, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== BOut.lean ====
abbrev S8192x2048 : Shape := ⟨2, ![8192, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c4_i32 : BitVec 32 := 4#32
  let v10 : BitVec 32 := Scalar.addi c0_i32_8 c4_i32
  let c1_i32 : BitVec 32 := 1#32
  ⟨c0_i32_8, v10, c1_i32⟩
def k0_mult1 (k0_t1 : Fin k0_t1_loop.trips) : BitVec 32 :=
  let c0_i32_8 : BitVec 32 := 0#32
  let c1_i32 : BitVec 32 := 1#32
  let arg7 : BitVec 32 := Scf.iv c0_i32_8 c1_i32 k0_t1
  let c256_i32 : BitVec 32 := 256#32
  let v11 : BitVec 32 := Scalar.muli arg7 c256_i32
  v11
def k0_off1 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c256_i32 : BitVec 32 := 256#32
  let v11 : BitVec 32 := Scalar.muli arg7 c256_i32
  let v12 : BitVec 32 := v11
  let v13 : Index := Scalar.indexCast v12
  let c0_10 : Index := 0#32
  ![v13.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== BOutRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Pool.lean ====
abbrev S4x2048x2048 : Shape := ⟨3, ![4, 2048, 2048]⟩
abbrev S4x512x512 : Shape := ⟨3, ![4, 512, 512]⟩
abbrev S2048 : Shape := ⟨1, ![2048]⟩
abbrev S1x2048 : Shape := ⟨2, ![1, 2048]⟩
abbrev S1x2048x512 : Shape := ⟨3, ![1, 2048, 512]⟩
abbrev S1x512x512 : Shape := ⟨3, ![1, 512, 512]⟩
abbrev S1x512 : Shape := ⟨2, ![1, 512]⟩
abbrev S2064x512 : Shape := ⟨2, ![2064, 512]⟩
abbrev S2048x512 : Shape := ⟨2, ![2048, 512]⟩
abbrev S16x512 : Shape := ⟨2, ![16, 512]⟩
abbrev S256x512 : Shape := ⟨2, ![256, 512]⟩
abbrev S256x1 : Shape := ⟨2, ![256, 1]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x512x512, .f32⟩
  | .hbm, ⟨3, _⟩ => ⟨S2048, .f32⟩
  | .hbm, ⟨4, _⟩ => ⟨S1x2048, .f32⟩
  | .hbm, ⟨5, _⟩ => ⟨S4x2048x2048, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x512x512, .f32⟩
  | .local _ .vmem, ⟨5, _⟩ => ⟨S1x512x512, .f32⟩
  | .local _ .vmem, ⟨6, _⟩ => ⟨S1x512, .f32⟩
  | .local _ .vmem, ⟨7, _⟩ => ⟨S1x512, .f32⟩
  | .local _ .vmem, ⟨8, _⟩ => ⟨S1x2048x512, .f32⟩
  | .local _ .vmem, ⟨9, _⟩ => ⟨S1x2048x512, .f32⟩
  | .local _ .vmem, ⟨10, _⟩ => ⟨S2064x512, .f32⟩
  | .local _ .vmem, ⟨11, _⟩ => ⟨S2048x512, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PoolRefIdeal.lean ====
abbrev S4x2048x2048 : Shape := ⟨3, ![4, 2048, 2048]⟩
abbrev S4x512x512 : Shape := ⟨3, ![4, 512, 512]⟩
abbrev S2048 : Shape := ⟨1, ![2048]⟩
abbrev S4x2048x512 : Shape := ⟨3, ![4, 2048, 512]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S4x512x2048 : Shape := ⟨3, ![4, 512, 2048]⟩
abbrev S1x2048x1 : Shape := ⟨3, ![1, 2048, 1]⟩
abbrev S4x2048x1x512 : Shape := ⟨4, ![4, 2048, 1, 512]⟩
abbrev S4x2048x4x512 : Shape := ⟨4, ![4, 2048, 4, 512]⟩
abbrev S4x512x4x2048 : Shape := ⟨4, ![4, 512, 4, 2048]⟩
abbrev S1x1x2048 : Shape := ⟨3, ![1, 1, 2048]⟩

abbrev nBuf : Space → Nat
  | .hbm => 137
  | .vmem => 0
  | .smem => 0
  | _ => 0

abbrev hbmTy0_0 (i : Nat) : BufTy := match i % 128 with
  | 0 => ⟨S4x2048x2048, .f32⟩
  | 1 => ⟨S4x2048x2048, .f32⟩
  | 2 => ⟨S4x512x512, .f32⟩
  | 3 => ⟨S2048, .f32⟩
  | 4 => ⟨S2048, .i32⟩
  | 5 => ⟨S4x2048x512, .f32⟩
  | 6 => ⟨S1x2048, .i32⟩
  | 7 => ⟨S2048x1, .i32⟩
  | 8 => ⟨S2048x2048, .i32⟩
  | 9 => ⟨S2048x2048, .i32⟩
  | 10 => ⟨S2048x2048, .i1⟩
  | 11 => ⟨S1x2048, .i32⟩
  | 12 => ⟨S2048x1, .i32⟩
  | 13 => ⟨S_, .i32⟩
  | 14 => ⟨S2048x1, .i32⟩
  | 15 => ⟨S2048x1, .i32⟩
  | 16 => ⟨S2048x2048, .i32⟩
  | 17 => ⟨S2048x2048, .i32⟩
  | 18 => ⟨S2048x2048, .i1⟩
  | 19 => ⟨S2048x2048, .i1⟩
  | 20 => ⟨S_, .i32⟩
  | 21 => ⟨S2048, .i32⟩
  | 22 => ⟨S2048, .i32⟩
  | 23 => ⟨S_, .i32⟩
  | 24 => ⟨S2048, .i32⟩
  | 25 => ⟨S2048, .i32⟩
  | 26 => ⟨S2048, .f32⟩
  | 27 => ⟨S2048x2048, .f32⟩
  | 28 => ⟨S4x512x2048, .f32⟩
  | 29 => ⟨S4x2048x512, .f32⟩
  | 30 => ⟨S2048x1, .f32⟩
  | 31 => ⟨S1x2048x1, .f32⟩
  | 32 => ⟨S4x2048x512, .f32⟩
  | 33 => ⟨S4x2048x512, .f32⟩
  | 34 => ⟨S4x2048x512, .f32⟩
  | 35 => ⟨S4x2048x512, .f32⟩
  | 36 => ⟨S1x2048, .i32⟩
  | 37 => ⟨S2048x1, .i32⟩
  | 38 => ⟨S2048x2048, .i32⟩
  | 39 => ⟨S2048x2048, .i32⟩
  | 40 => ⟨S2048x2048, .i1⟩
  | 41 => ⟨S1x2048, .i32⟩
  | 42 => ⟨S2048x1, .i32⟩
  | 43 => ⟨S_, .i32⟩
  | 44 => ⟨S2048x1, .i32⟩
  | 45 => ⟨S2048x1, .i32⟩
  | 46 => ⟨S2048x2048, .i32⟩
  | 47 => ⟨S2048x2048, .i32⟩
  | 48 => ⟨S2048x2048, .i1⟩
  | 49 => ⟨S2048x2048, .i1⟩
  | 50 => ⟨S_, .i32⟩
  | 51 => ⟨S2048, .i32⟩
  | 52 => ⟨S2048, .i32⟩
  | 53 => ⟨S_, .i32⟩
  | 54 => ⟨S2048, .i32⟩
  | 55 => ⟨S2048, .i32⟩
  | 56 => ⟨S2048, .f32⟩
  | 57 => ⟨S2048x2048, .f32⟩
  | 58 => ⟨S4x512x2048, .f32⟩
  | 59 => ⟨S4x2048x512, .f32⟩
  | 60 => ⟨S2048x1, .f32⟩
  | 61 => ⟨S1x2048x1, .f32⟩
  | 62 => ⟨S4x2048x512, .f32⟩
  | 63 => ⟨S4x2048x512, .f32⟩
  | 64 => ⟨S4x2048x512, .f32⟩
  | 65 => ⟨S4x2048x512, .f32⟩
  | 66 => ⟨S1x2048, .i32⟩
  | 67 => ⟨S2048x1, .i32⟩
  | 68 => ⟨S2048x2048, .i32⟩
  | 69 => ⟨S2048x2048, .i32⟩
  | 70 => ⟨S2048x2048, .i1⟩
  | 71 => ⟨S1x2048, .i32⟩
  | 72 => ⟨S2048x1, .i32⟩
  | 73 => ⟨S_, .i32⟩
  | 74 => ⟨S2048x1, .i32⟩
  | 75 => ⟨S2048x1, .i32⟩
  | 76 => ⟨S2048x2048, .i32⟩
  | 77 => ⟨S2048x2048, .i32⟩
  | 78 => ⟨S2048x2048, .i1⟩
  | 79 => ⟨S2048x2048, .i1⟩
  | 80 => ⟨S_, .i32⟩
  | 81 => ⟨S2048, .i32⟩
  | 82 => ⟨S2048, .i32⟩
  | 83 => ⟨S_, .i32⟩
  | 84 => ⟨S2048, .i32⟩
  | 85 => ⟨S2048, .i32⟩
  | 86 => ⟨S2048, .f32⟩
  | 87 => ⟨S2048x2048, .f32⟩
  | 88 => ⟨S4x512x2048, .f32⟩
  | 89 => ⟨S4x2048x512, .f32⟩
  | 90 => ⟨S2048x1, .f32⟩
  | 91 => ⟨S1x2048x1, .f32⟩
  | 92 => ⟨S4x2048x512, .f32⟩
  | 93 => ⟨S4x2048x512, .f32⟩
  | 94 => ⟨S4x2048x512, .f32⟩
  | 95 => ⟨S4x2048x512, .f32⟩
  | 96 => ⟨S1x2048, .i32⟩
  | 97 => ⟨S2048x1, .i32⟩
  | 98 => ⟨S2048x2048, .i32⟩
  | 99 => ⟨S2048x2048, .i32⟩
  | 100 => ⟨S2048x2048, .i1⟩
  | 101 => ⟨S1x2048, .i32⟩
  | 102 => ⟨S2048x1, .i32⟩
  | 103 => ⟨S_, .i32⟩
  | 104 => ⟨S2048x1, .i32⟩
  | 105 => ⟨S2048x1, .i32⟩
  | 106 => ⟨S2048x2048, .i32⟩
  | 107 => ⟨S2048x2048, .i32⟩
  | 108 => ⟨S2048x2048, .i1⟩
  | 109 => ⟨S2048x2048, .i1⟩
  | 110 => ⟨S_, .i32⟩
  | 111 => ⟨S2048, .i32⟩
  | 112 => ⟨S2048, .i32⟩
  | 113 => ⟨S_, .i32⟩
  | 114 => ⟨S2048, .i32⟩
  | 115 => ⟨S2048, .i32⟩
  | 116 => ⟨S2048, .f32⟩
  | 117 => ⟨S2048x2048, .f32⟩
  | 118 => ⟨S4x512x2048, .f32⟩
  | 119 => ⟨S4x2048x512, .f32⟩
  | 120 => ⟨S2048x1, .f32⟩
  | 121 => ⟨S1x2048x1, .f32⟩
  | 122 => ⟨S4x2048x512, .f32⟩
  | 123 => ⟨S4x2048x512, .f32⟩
  | 124 => ⟨S4x2048x512, .f32⟩
  | 125 => ⟨S4x2048x1x512, .f32⟩
  | 126 => ⟨S4x2048x1x512, .f32⟩
  | 127 => ⟨S4x2048x1x512, .f32⟩
  | _ => ⟨S4x2048x2048, .f32⟩

abbrev hbmTy0_1 (i : Nat) : BufTy := match i % 128 with
  | 0 => ⟨S4x2048x1x512, .f32⟩
  | 1 => ⟨S4x2048x4x512, .f32⟩
  | 2 => ⟨S4x512x4x2048, .f32⟩
  | 3 => ⟨S4x2048x4x512, .f32⟩
  | 4 => ⟨S4x2048x2048, .f32⟩
  | 5 => ⟨S1x1x2048, .f32⟩
  | 6 => ⟨S4x2048x2048, .f32⟩
  | 7 => ⟨S4x2048x2048, .f32⟩
  | 8 => ⟨S4x2048x2048, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_c_2 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c_3 : Ref sig .tc := ⟨.hbm, 50, rfl⟩
abbrev main_v42 : Ref sig .tc := ⟨.hbm, 51, rfl⟩
abbrev main_v43 : Ref sig .tc := ⟨.hbm, 52, rfl⟩
abbrev main_c_4 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_c_5 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_c_6 : Ref sig .tc := ⟨.hbm, 80, rfl⟩
abbrev main_v69 : Ref sig .tc := ⟨.hbm, 81, rfl⟩
abbrev main_v70 : Ref sig .tc := ⟨.hbm, 82, rfl⟩
abbrev main_c_7 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_c_8 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_c_9 : Ref sig .tc := ⟨.hbm, 110, rfl⟩
abbrev main_v96 : Ref sig .tc := ⟨.hbm, 111, rfl⟩
abbrev main_v97 : Ref sig .tc := ⟨.hbm, 112, rfl⟩
abbrev main_c_10 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩

abbrev nD : Nat := 1
abbrev τ : Topo := Topo.v7x

variable {F : FTy → Type} [FloatOps F]
-- ==== Norm.lean ====
abbrev S8192x2048 : Shape := ⟨2, ![8192, 2048]⟩
abbrev S2048 : Shape := ⟨1, ![2048]⟩
abbrev S1x2048 : Shape := ⟨2, ![1, 2048]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c256_i32 : BitVec 32 := 256#32
  let v1 : BitVec 32 := Scalar.muli arg4 c256_i32
  v1
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c256_i32 : BitVec 32 := 256#32
  let v1 : BitVec 32 := Scalar.muli arg4 c256_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Amix.lean ====
abbrev S8192x2048 : Shape := ⟨2, ![8192, 2048]⟩
abbrev S8192x4096 : Shape := ⟨2, ![8192, 4096]⟩
abbrev S2048 : Shape := ⟨1, ![2048]⟩
abbrev S16x128x128 : Shape := ⟨3, ![16, 128, 128]⟩
abbrev S16x128 : Shape := ⟨2, ![16, 128]⟩
abbrev S2048x2048 : Shape := ⟨2, ![2048, 2048]⟩
abbrev S128x16 : Shape := ⟨2, ![128, 16]⟩
abbrev S128x16x128 : Shape := ⟨3, ![128, 16, 128]⟩
abbrev S128x2048 : Shape := ⟨2, ![128, 2048]⟩
abbrev S1x2048 : Shape := ⟨2, ![1, 2048]⟩
abbrev S512x256 : Shape := ⟨2, ![512, 256]⟩
abbrev S512x2048 : Shape := ⟨2, ![512, 2048]⟩
abbrev S2048x256 : Shape := ⟨2, ![2048, 256]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 14
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S2048, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S2048x2048, .f32⟩
  | .hbm, ⟨7, _⟩ => ⟨S128x16, .f32⟩
  | .hbm, ⟨8, _⟩ => ⟨S128x16x128, .f32⟩
  | .hbm, ⟨9, _⟩ => ⟨S128x2048, .f32⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S8192x2048, .f32⟩
  | .local _ .vmem, ⟨0, _⟩ => ⟨S512x256, .f32⟩
  | .local _ .vmem, ⟨1, _⟩ => ⟨S512x256, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S16x128x128, .f32⟩
  | .local _ .vmem, ⟨9, _⟩ => ⟨S128x2048, .f32⟩
  | .local _ .vmem, ⟨10, _⟩ => ⟨S2048x256, .f32⟩
  | .local _ .vmem, ⟨11, _⟩ => ⟨S2048x256, .f32⟩
  | .local _ .vmem, ⟨12, _⟩ => ⟨S512x256, .f32⟩
  | .local _ .vmem, ⟨13, _⟩ => ⟨S512x256, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S16x128x128, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_105 : BitVec 32 := 0#32
  let c4_i32 : BitVec 32 := 4#32
  let v141 : BitVec 32 := Scalar.addi c0_i32_105 c4_i32
  let c1_i32 : BitVec 32 := 1#32
  ⟨c0_i32_105, v141, c1_i32⟩
def k0_mult1 (k0_t1 : Fin k0_t1_loop.trips) : BitVec 32 :=
  let c0_i32_105 : BitVec 32 := 0#32
  let c1_i32 : BitVec 32 := 1#32
  let arg14 : BitVec 32 := Scf.iv c0_i32_105 c1_i32 k0_t1
  let c128_i32 : BitVec 32 := 128#32
  let v142 : BitVec 32 := Scalar.muli arg14 c128_i32
  v142
def k0_off1 (k0_t1 : Fin k0_t1_loop.trips) : Fin 2 → Nat :=
  let c0_i32_105 : BitVec 32 := 0#32
  let c1_i32 : BitVec 32 := 1#32
  let arg14 : BitVec 32 := Scf.iv c0_i32_105 c1_i32 k0_t1
  let c128_i32 : BitVec 32 := 128#32
  let v142 : BitVec 32 := Scalar.muli arg14 c128_i32
  let v143 : BitVec 32 := v142
  let v144 : Index := Scalar.indexCast v143
  let c0_107 : Index := 0#32
  ![v144.toNat, 0]
def k0_off2 (k0_t1 : Fin k0_t1_loop.trips) : Fin 2 → Nat :=
  let c0_i32_105 : BitVec 32 := 0#32
  let c1_i32 : BitVec 32 := 1#32
  let arg14 : BitVec 32 := Scf.iv c0_i32_105 c1_i32 k0_t1
  let c128_i32 : BitVec 32 := 128#32
  let v142 : BitVec 32 := Scalar.muli arg14 c128_i32
  let v143 : BitVec 32 := v142
  let v180 : Index := Scalar.indexCast v143
  let c0_124 : Index := 0#32
  ![v180.toNat, 0]
def k0_off3 (k0_t1 : Fin k0_t1_loop.trips) : Fin 2 → Nat :=
  let c0_i32_105 : BitVec 32 := 0#32
  let c1_i32 : BitVec 32 := 1#32
  let arg14 : BitVec 32 := Scf.iv c0_i32_105 c1_i32 k0_t1
  let c128_i32 : BitVec 32 := 128#32
  let v142 : BitVec 32 := Scalar.muli arg14 c128_i32
  let v143 : BitVec 32 := v142
  let v195 : Index := Scalar.indexCast v143
  let c128_131 : Index := 128#32
  ![v195.toNat, 128]
def k0_off4 (k0_t1 : Fin k0_t1_loop.trips) : Fin 2 → Nat :=
  let c0_i32_105 : BitVec 32 := 0#32
  let c1_i32 : BitVec 32 := 1#32
  let arg14 : BitVec 32 := Scf.iv c0_i32_105 c1_i32 k0_t1
  let c128_i32 : BitVec 32 := 128#32
  let v142 : BitVec 32 := Scalar.muli arg14 c128_i32
  let v143 : BitVec 32 := v142
  let v210 : Index := Scalar.indexCast v143
  let c256_138 : Index := 256#32
  ![v210.toNat, 256]
def k0_off5 (k0_t1 : Fin k0_t1_loop.trips) : Fin 2 → Nat :=
  let c0_i32_105 : BitVec 32 := 0#32
  let c1_i32 : BitVec 32 := 1#32
  let arg14 : BitVec 32 := Scf.iv c0_i32_105 c1_i32 k0_t1
  let c128_i32 : BitVec 32 := 128#32
  let v142 : BitVec 32 := Scalar.muli arg14 c128_i32
  let v143 : BitVec 32 := v142
  let v225 : Index := Scalar.indexCast v143
  let c384_145 : Index := 384#32
  ![v225.toNat, 384]
def k0_off6 (k0_t1 : Fin k0_t1_loop.trips) : Fin 2 → Nat :=
  let c0_i32_105 : BitVec 32 := 0#32
  let c1_i32 : BitVec 32 := 1#32
  let arg14 : BitVec 32 := Scf.iv c0_i32_105 c1_i32 k0_t1
  let c128_i32 : BitVec 32 := 128#32
  let v142 : BitVec 32 := Scalar.muli arg14 c128_i32
  let v143 : BitVec 32 := v142
  let v240 : Index := Scalar.indexCast v143
  let c512_152 : Index := 512#32
  ![v240.toNat, 512]
def k0_off7 (k0_t1 : Fin k0_t1_loop.trips) : Fin 2 → Nat :=
  let c0_i32_105 : BitVec 32 := 0#32
  let c1_i32 : BitVec 32 := 1#32
  let arg14 : BitVec 32 := Scf.iv c0_i32_105 c1_i32 k0_t1
  let c128_i32 : BitVec 32 := 128#32
  let v142 : BitVec 32 := Scalar.muli arg14 c128_i32
  let v143 : BitVec 32 := v142
  let v255 : Index := Scalar.indexCast v143
  let c640_159 : Index := 640#32
  ![v255.toNat, 640]
def k0_off8 (k0_t1 : Fin k0_t1_loop.trips) : Fin 2 → Nat :=
  let c0_i32_105 : BitVec 32 := 0#32
  let c1_i32 : BitVec 32 := 1#32
  let arg14 : BitVec 32 := Scf.iv c0_i32_105 c1_i32 k0_t1
  let c128_i32 : BitVec 32 := 128#32
  let v142 : BitVec 32 := Scalar.muli arg14 c128_i32
  let v143 : BitVec 32 := v142
  let v270 : Index := Scalar.indexCast v143
  let c768_166 : Index := 768#32
  ![v270.toNat, 768]
def k0_off9 (k0_t1 : Fin k0_t1_loop.trips) : Fin 2 → Nat :=
  let c0_i32_105 : BitVec 32 := 0#32
  let c1_i32 : BitVec 32 := 1#32
  let arg14 : BitVec 32 := Scf.iv c0_i32_105 c1_i32 k0_t1
  let c128_i32 : BitVec 32 := 128#32
  let v142 : BitVec 32 := Scalar.muli arg14 c128_i32
  let v143 : BitVec 32 := v142
  let v285 : Index := Scalar.indexCast v143
  let c896_173 : Index := 896#32
  ![v285.toNat, 896]
def k0_off10 (k0_t1 : Fin k0_t1_loop.trips) : Fin 2 → Nat :=
  let c0_i32_105 : BitVec 32 := 0#32
  let c1_i32 : BitVec 32 := 1#32
  let arg14 : BitVec 32 := Scf.iv c0_i32_105 c1_i32 k0_t1
  let c128_i32 : BitVec 32 := 128#32
  let v142 : BitVec 32 := Scalar.muli arg14 c128_i32
  let v143 : BitVec 32 := v142
  let v300 : Index := Scalar.indexCast v143
  let c1024_180 : Index := 1024#32
  ![v300.toNat, 1024]
def k0_off11 (k0_t1 : Fin k0_t1_loop.trips) : Fin 2 → Nat :=
  let c0_i32_105 : BitVec 32 := 0#32
  let c1_i32 : BitVec 32 := 1#32
  let arg14 : BitVec 32 := Scf.iv c0_i32_105 c1_i32 k0_t1
  let c128_i32 : BitVec 32 := 128#32
  let v142 : BitVec 32 := Scalar.muli arg14 c128_i32
  let v143 : BitVec 32 := v142
  let v315 : Index := Scalar.indexCast v143
  let c1152_187 : Index := 1152#32
  ![v315.toNat, 1152]
def k0_off12 (k0_t1 : Fin k0_t1_loop.trips) : Fin 2 → Nat :=
  let c0_i32_105 : BitVec 32 := 0#32
  let c1_i32 : BitVec 32 := 1#32
  let arg14 : BitVec 32 := Scf.iv c0_i32_105 c1_i32 k0_t1
  let c128_i32 : BitVec 32 := 128#32
  let v142 : BitVec 32 := Scalar.muli arg14 c128_i32
  let v143 : BitVec 32 := v142
  let v330 : Index := Scalar.indexCast v143
  let c1280_194 : Index := 1280#32
  ![v330.toNat, 1280]
def k0_off13 (k0_t1 : Fin k0_t1_loop.trips) : Fin 2 → Nat :=
  let c0_i32_105 : BitVec 32 := 0#32
  let c1_i32 : BitVec 32 := 1#32
  let arg14 : BitVec 32 := Scf.iv c0_i32_105 c1_i32 k0_t1
  let c128_i32 : BitVec 32 := 128#32
  let v142 : BitVec 32 := Scalar.muli arg14 c128_i32
  let v143 : BitVec 32 := v142
  let v345 : Index := Scalar.indexCast v143
  let c1408_201 : Index := 1408#32
  ![v345.toNat, 1408]
def k0_off14 (k0_t1 : Fin k0_t1_loop.trips) : Fin 2 → Nat :=
  let c0_i32_105 : BitVec 32 := 0#32
  let c1_i32 : BitVec 32 := 1#32
  let arg14 : BitVec 32 := Scf.iv c0_i32_105 c1_i32 k0_t1
  let c128_i32 : BitVec 32 := 128#32
  let v142 : BitVec 32 := Scalar.muli arg14 c128_i32
  let v143 : BitVec 32 := v142
  let v360 : Index := Scalar.indexCast v143
  let c1536_208 : Index := 1536#32
  ![v360.toNat, 1536]
def k0_off15 (k0_t1 : Fin k0_t1_loop.trips) : Fin 2 → Nat :=
  let c0_i32_105 : BitVec 32 := 0#32
  let c1_i32 : BitVec 32 := 1#32
  let arg14 : BitVec 32 := Scf.iv c0_i32_105 c1_i32 k0_t1
  let c128_i32 : BitVec 32 := 128#32
  let v142 : BitVec 32 := Scalar.muli arg14 c128_i32
  let v143 : BitVec 32 := v142
  let v375 : Index := Scalar.indexCast v143
  let c1664_215 : Index := 1664#32
  ![v375.toNat, 1664]
def k0_off16 (k0_t1 : Fin k0_t1_loop.trips) : Fin 2 → Nat :=
  let c0_i32_105 : BitVec 32 := 0#32
  let c1_i32 : BitVec 32 := 1#32
  let arg14 : BitVec 32 := Scf.iv c0_i32_105 c1_i32 k0_t1
  let c128_i32 : BitVec 32 := 128#32
  let v142 : BitVec 32 := Scalar.muli arg14 c128_i32
  let v143 : BitVec 32 := v142
  let v390 : Index := Scalar.indexCast v143
  let c1792_222 : Index := 1792#32
  ![v390.toNat, 1792]
def k0_off17 (k0_t1 : Fin k0_t1_loop.trips) : Fin 2 → Nat :=
  let c0_i32_105 : BitVec 32 := 0#32
  let c1_i32 : BitVec 32 := 1#32
  let arg14 : BitVec 32 := Scf.iv c0_i32_105 c1_i32 k0_t1
  let c128_i32 : BitVec 32 := 128#32
  let v142 : BitVec 32 := Scalar.muli arg14 c128_i32
  let v143 : BitVec 32 := v142
  let v405 : Index := Scalar.indexCast v143
  let c1920_229 : Index := 1920#32
  ![v405.toNat, 1920]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== AmixRefIdeal.lean ====
abbrev S8192x2048 : Shape := ⟨2, ![8192, 2048]⟩
abbrev S8192x4096 : Shape := ⟨2, ![8192, 4096]⟩
abbrev S2048 : Shape := ⟨1, ![2048]⟩
abbrev S16x128x128 : Shape := ⟨3, ![16, 128, 128]⟩
abbrev S16x128 : Shape := ⟨2, ![16, 128]⟩
abbrev S2048x2048 : Shape := ⟨2, ![2048, 2048]⟩
abbrev S4x2048x4096 : Shape := ⟨3, ![4, 2048, 4096]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x16x128x16x128 : Shape := ⟨5, ![4, 16, 128, 16, 128]⟩
abbrev S128x128 : Shape := ⟨2, ![128, 128]⟩
abbrev S1x128x128 : Shape := ⟨3, ![1, 128, 128]⟩
abbrev S16x4x16x128x128 : Shape := ⟨5, ![16, 4, 16, 128, 128]⟩
abbrev S128x16 : Shape := ⟨2, ![128, 16]⟩
abbrev S1x1x128x16x1 : Shape := ⟨5, ![1, 1, 128, 16, 1]⟩

abbrev nBuf : Space → Nat
  | .hbm => 65
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S2048, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S2048x2048, .f32⟩
  | .hbm, ⟨7, _⟩ => ⟨S4x2048x4096, .f32⟩
  | .hbm, ⟨8, _⟩ => ⟨S4x2048x2048, .f32⟩
  | .hbm, ⟨9, _⟩ => ⟨S4x2048x2048, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S4x2048x1, .f32⟩
  | .hbm, ⟨31, _⟩ => ⟨S4x2048x2048, .f32⟩
  | .hbm, ⟨32, _⟩ => ⟨S4x2048x2048, .f32⟩
  | .hbm, ⟨33, _⟩ => ⟨S1x1x2048, .f32⟩
  | .hbm, ⟨34, _⟩ => ⟨S4x2048x2048, .f32⟩
  | .hbm, ⟨35, _⟩ => ⟨S4x2048x2048, .f32⟩
  | .hbm, ⟨36, _⟩ => ⟨S1x1x2048, .f32⟩
  | .hbm, ⟨37, _⟩ => ⟨S4x2048x2048, .f32⟩
  | .hbm, ⟨38, _⟩ => ⟨S4x2048x2048, .f32⟩
  | .hbm, ⟨39, _⟩ => ⟨S4x16x128x16x128, .f32⟩
  | .hbm, ⟨40, _⟩ => ⟨S_, .f32⟩
  | .hbm, ⟨41, _⟩ => ⟨S128x128, .f32⟩
  | .hbm, ⟨42, _⟩ => ⟨S128x128, .i32⟩
  | .hbm, ⟨43, _⟩ => ⟨S_, .i32⟩
  | .hbm, ⟨44, _⟩ => ⟨S128x128, .i32⟩
  | .hbm, ⟨45, _⟩ => ⟨S128x128, .i32⟩
  | .hbm, ⟨46, _⟩ => ⟨S128x128, .i32⟩
  | .hbm, ⟨47, _⟩ => ⟨S128x128, .i1⟩
  | .hbm, ⟨48, _⟩ => ⟨S_, .f32⟩
  | .hbm, ⟨49, _⟩ => ⟨S128x128, .f32⟩
  | .hbm, ⟨50, _⟩ => ⟨S128x128, .f32⟩
  | .hbm, ⟨51, _⟩ => ⟨S1x128x128, .f32⟩
  | .hbm, ⟨52, _⟩ => ⟨S16x128x128, .f32⟩
  | .hbm, ⟨53, _⟩ => ⟨S16x128x128, .f32⟩
  | .hbm, ⟨54, _⟩ => ⟨S16x4x16x128x128, .f32⟩
  | .hbm, ⟨55, _⟩ => ⟨S4x16x128x16x128, .f32⟩
  | .hbm, ⟨56, _⟩ => ⟨S128x16, .f32⟩
  | .hbm, ⟨57, _⟩ => ⟨S1x1x128x16x1, .f32⟩
  | .hbm, ⟨58, _⟩ => ⟨S4x16x128x16x128, .f32⟩
  | .hbm, ⟨59, _⟩ => ⟨S4x16x128x16x128, .f32⟩
  | .hbm, ⟨60, _⟩ => ⟨S4x2048x2048, .f32⟩
  | .hbm, ⟨61, _⟩ => ⟨S4x2048x2048, .f32⟩
  | .hbm, ⟨62, _⟩ => ⟨S4x2048x2048, .f32⟩
  | .hbm, ⟨63, _⟩ => ⟨S8192x2048, .f32⟩
  | .hbm, ⟨64, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_call0_v0 : Ref sig .tc := ⟨.hbm, 42, rfl⟩
abbrev main_call0_c : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_cst : Ref sig .tc := ⟨.hbm, 48, rfl⟩
abbrev main_call0_v5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== PoolS.lean ====
abbrev S64x2048 : Shape := ⟨2, ![64, 2048]⟩
abbrev S2048 : Shape := ⟨1, ![2048]⟩
abbrev S8x15x2048 : Shape := ⟨3, ![8, 15, 2048]⟩
abbrev S4x512x512 : Shape := ⟨3, ![4, 512, 512]⟩
abbrev S_ : Shape := ⟨0, ![]⟩
abbrev S8x16x2048 : Shape := ⟨3, ![8, 16, 2048]⟩
abbrev S1x2048 : Shape := ⟨2, ![1, 2048]⟩
abbrev S8x24x2048 : Shape := ⟨3, ![8, 24, 2048]⟩
abbrev S1x16x2048 : Shape := ⟨3, ![1, 16, 2048]⟩
abbrev S16x2048 : Shape := ⟨2, ![16, 2048]⟩
abbrev S8x2048 : Shape := ⟨2, ![8, 2048]⟩
abbrev S8 : Shape := ⟨1, ![8]⟩
abbrev S8x1 : Shape := ⟨2, ![8, 1]⟩
abbrev S1x8x2048 : Shape := ⟨3, ![1, 8, 2048]⟩
abbrev S1x8x512 : Shape := ⟨3, ![1, 8, 512]⟩
abbrev S8x512 : Shape := ⟨2, ![8, 512]⟩
abbrev S64x512 : Shape := ⟨2, ![64, 512]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 12
  | .vmem => 8
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S8x15x2048, .f32⟩
  | .hbm, ⟨3, _⟩ => ⟨S4x512x512, .f32⟩
  | .hbm, ⟨4, _⟩ => ⟨S2048, .f32⟩
  | .hbm, ⟨5, _⟩ => ⟨S_, .i32⟩
  | .hbm, ⟨6, _⟩ => ⟨S_, .f32⟩
  | .hbm, ⟨7, _⟩ => ⟨S8x16x2048, .f32⟩
  | .hbm, ⟨8, _⟩ => ⟨S1x2048, .f32⟩
  | .hbm, ⟨9, _⟩ => ⟨S1x2048, .f32⟩
  | .hbm, ⟨10, _⟩ => ⟨S64x2048, .f32⟩
  | .hbm, ⟨11, _⟩ => ⟨S8x24x2048, .f32⟩
  | .local _ .vmem, ⟨0, _⟩ => ⟨S64x2048, .f32⟩
  | .local _ .vmem, ⟨1, _⟩ => ⟨S1x2048, .f32⟩
  | .local _ .vmem, ⟨2, _⟩ => ⟨S8x16x2048, .f32⟩
  | .local _ .vmem, ⟨3, _⟩ => ⟨S4x512x512, .f32⟩
  | .local _ .vmem, ⟨4, _⟩ => ⟨S1x2048, .f32⟩
  | .local _ .vmem, ⟨5, _⟩ => ⟨S64x2048, .f32⟩
  | .local _ .vmem, ⟨6, _⟩ => ⟨S8x24x2048, .f32⟩
  | .local _ .vmem, ⟨7, _⟩ => ⟨S64x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x24x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolSRefIdeal.lean ====
abbrev S64x2048 : Shape := ⟨2, ![64, 2048]⟩
abbrev S2048 : Shape := ⟨1, ![2048]⟩
abbrev S8x15x2048 : Shape := ⟨3, ![8, 15, 2048]⟩
abbrev S4x512x512 : Shape := ⟨3, ![4, 512, 512]⟩
abbrev S8x8x2048 : Shape := ⟨3, ![8, 8, 2048]⟩
abbrev S_ : Shape := ⟨0, ![]⟩
abbrev S8x8 : Shape := ⟨2, ![8, 8]⟩
abbrev S8x8x1 : Shape := ⟨3, ![8, 8, 1]⟩
abbrev S1x1x2048 : Shape := ⟨3, ![1, 1, 2048]⟩
abbrev S8x23x2048 : Shape := ⟨3, ![8, 23, 2048]⟩
abbrev S8 : Shape := ⟨1, ![8]⟩
abbrev S23 : Shape := ⟨1, ![23]⟩
abbrev S8x23x512 : Shape := ⟨3, ![8, 23, 512]⟩
abbrev S1x23 : Shape := ⟨2, ![1, 23]⟩
abbrev S8x1 : Shape := ⟨2, ![8, 1]⟩
abbrev S8x23 : Shape := ⟨2, ![8, 23]⟩
abbrev S8x512x8 : Shape := ⟨3, ![8, 512, 8]⟩
abbrev S8x8x512 : Shape := ⟨3, ![8, 8, 512]⟩
abbrev S1x8x1 : Shape := ⟨3, ![1, 8, 1]⟩
abbrev S8x8x1x512 : Shape := ⟨4, ![8, 8, 1, 512]⟩
abbrev S8x8x4x512 : Shape := ⟨4, ![8, 8, 4, 512]⟩
abbrev S4x512x8x8 : Shape := ⟨4, ![4, 512, 8, 8]⟩
abbrev S1x2048 : Shape := ⟨2, ![1, 2048]⟩
abbrev S8x24x2048 : Shape := ⟨3, ![8, 24, 2048]⟩

abbrev nBuf : Space → Nat
  | .hbm => 200
  | .vmem => 0
  | .smem => 0
  | _ => 0

abbrev hbmTy0_0 (i : Nat) : BufTy := match i % 128 with
  | 0 => ⟨S64x2048, .f32⟩
  | 1 => ⟨S2048, .f32⟩
  | 2 => ⟨S8x15x2048, .f32⟩
  | 3 => ⟨S4x512x512, .f32⟩
  | 4 => ⟨S2048, .f32⟩
  | 5 => ⟨S8x8x2048, .f32⟩
  | 6 => ⟨S8x8x2048, .f32⟩
  | 7 => ⟨S_, .f32⟩
  | 8 => ⟨S8x8, .f32⟩
  | 9 => ⟨S8x8x1, .f32⟩
  | 10 => ⟨S_, .f32⟩
  | 11 => ⟨S8x8x1, .f32⟩
  | 12 => ⟨S8x8x1, .f32⟩
  | 13 => ⟨S_, .f32⟩
  | 14 => ⟨S8x8x1, .f32⟩
  | 15 => ⟨S8x8x1, .f32⟩
  | 16 => ⟨S8x8x1, .f32⟩
  | 17 => ⟨S8x8x2048, .f32⟩
  | 18 => ⟨S8x8x2048, .f32⟩
  | 19 => ⟨S1x1x2048, .f32⟩
  | 20 => ⟨S8x8x2048, .f32⟩
  | 21 => ⟨S8x8x2048, .f32⟩
  | 22 => ⟨S8x23x2048, .f32⟩
  | 23 => ⟨S8, .i32⟩
  | 24 => ⟨S23, .i32⟩
  | 25 => ⟨S8x23x512, .f32⟩
  | 26 => ⟨S1x23, .i32⟩
  | 27 => ⟨S8x1, .i32⟩
  | 28 => ⟨S_, .i32⟩
  | 29 => ⟨S8x1, .i32⟩
  | 30 => ⟨S8x1, .i32⟩
  | 31 => ⟨S8x23, .i32⟩
  | 32 => ⟨S8x23, .i32⟩
  | 33 => ⟨S8x23, .i1⟩
  | 34 => ⟨S1x23, .i32⟩
  | 35 => ⟨S8x1, .i32⟩
  | 36 => ⟨S_, .i32⟩
  | 37 => ⟨S8x1, .i32⟩
  | 38 => ⟨S8x1, .i32⟩
  | 39 => ⟨S_, .i32⟩
  | 40 => ⟨S8x1, .i32⟩
  | 41 => ⟨S8x1, .i32⟩
  | 42 => ⟨S8x23, .i32⟩
  | 43 => ⟨S8x23, .i32⟩
  | 44 => ⟨S8x23, .i1⟩
  | 45 => ⟨S8x23, .i1⟩
  | 46 => ⟨S_, .i32⟩
  | 47 => ⟨S8, .i32⟩
  | 48 => ⟨S8, .i32⟩
  | 49 => ⟨S_, .i32⟩
  | 50 => ⟨S8, .i32⟩
  | 51 => ⟨S8, .i32⟩
  | 52 => ⟨S_, .i32⟩
  | 53 => ⟨S8, .i32⟩
  | 54 => ⟨S8, .i32⟩
  | 55 => ⟨S8, .f32⟩
  | 56 => ⟨S8x23, .f32⟩
  | 57 => ⟨S8x512x8, .f32⟩
  | 58 => ⟨S8x8x512, .f32⟩
  | 59 => ⟨S8x1, .f32⟩
  | 60 => ⟨S1x8x1, .f32⟩
  | 61 => ⟨S8x8x512, .f32⟩
  | 62 => ⟨S8x8x512, .f32⟩
  | 63 => ⟨S8x8x512, .f32⟩
  | 64 => ⟨S8x8x512, .f32⟩
  | 65 => ⟨S8x23x512, .f32⟩
  | 66 => ⟨S1x23, .i32⟩
  | 67 => ⟨S8x1, .i32⟩
  | 68 => ⟨S_, .i32⟩
  | 69 => ⟨S8x1, .i32⟩
  | 70 => ⟨S8x1, .i32⟩
  | 71 => ⟨S8x23, .i32⟩
  | 72 => ⟨S8x23, .i32⟩
  | 73 => ⟨S8x23, .i1⟩
  | 74 => ⟨S1x23, .i32⟩
  | 75 => ⟨S8x1, .i32⟩
  | 76 => ⟨S_, .i32⟩
  | 77 => ⟨S8x1, .i32⟩
  | 78 => ⟨S8x1, .i32⟩
  | 79 => ⟨S_, .i32⟩
  | 80 => ⟨S8x1, .i32⟩
  | 81 => ⟨S8x1, .i32⟩
  | 82 => ⟨S8x23, .i32⟩
  | 83 => ⟨S8x23, .i32⟩
  | 84 => ⟨S8x23, .i1⟩
  | 85 => ⟨S8x23, .i1⟩
  | 86 => ⟨S_, .i32⟩
  | 87 => ⟨S8, .i32⟩
  | 88 => ⟨S8, .i32⟩
  | 89 => ⟨S_, .i32⟩
  | 90 => ⟨S8, .i32⟩
  | 91 => ⟨S8, .i32⟩
  | 92 => ⟨S_, .i32⟩
  | 93 => ⟨S8, .i32⟩
  | 94 => ⟨S8, .i32⟩
  | 95 => ⟨S8, .f32⟩
  | 96 => ⟨S8x23, .f32⟩
  | 97 => ⟨S8x512x8, .f32⟩
  | 98 => ⟨S8x8x512, .f32⟩
  | 99 => ⟨S8x1, .f32⟩
  | 100 => ⟨S1x8x1, .f32⟩
  | 101 => ⟨S8x8x512, .f32⟩
  | 102 => ⟨S8x8x512, .f32⟩
  | 103 => ⟨S8x8x512, .f32⟩
  | 104 => ⟨S8x8x512, .f32⟩
  | 105 => ⟨S8x23x512, .f32⟩
  | 106 => ⟨S1x23, .i32⟩
  | 107 => ⟨S8x1, .i32⟩
  | 108 => ⟨S_, .i32⟩
  | 109 => ⟨S8x1, .i32⟩
  | 110 => ⟨S8x1, .i32⟩
  | 111 => ⟨S8x23, .i32⟩
  | 112 => ⟨S8x23, .i32⟩
  | 113 => ⟨S8x23, .i1⟩
  | 114 => ⟨S1x23, .i32⟩
  | 115 => ⟨S8x1, .i32⟩
  | 116 => ⟨S_, .i32⟩
  | 117 => ⟨S8x1, .i32⟩
  | 118 => ⟨S8x1, .i32⟩
  | 119 => ⟨S_, .i32⟩
  | 120 => ⟨S8x1, .i32⟩
  | 121 => ⟨S8x1, .i32⟩
  | 122 => ⟨S8x23, .i32⟩
  | 123 => ⟨S8x23, .i32⟩
  | 124 => ⟨S8x23, .i1⟩
  | 125 => ⟨S8x23, .i1⟩
  | 126 => ⟨S_, .i32⟩
  | 127 => ⟨S8, .i32⟩
  | _ => ⟨S64x2048, .f32⟩

abbrev hbmTy0_1 (i : Nat) : BufTy := match i % 128 with
  | 0 => ⟨S8, .i32⟩
  | 1 => ⟨S_, .i32⟩
  | 2 => ⟨S8, .i32⟩
  | 3 => ⟨S8, .i32⟩
  | 4 => ⟨S_, .i32⟩
  | 5 => ⟨S8, .i32⟩
  | 6 => ⟨S8, .i32⟩
  | 7 => ⟨S8, .f32⟩
  | 8 => ⟨S8x23, .f32⟩
  | 9 => ⟨S8x512x8, .f32⟩
  | 10 => ⟨S8x8x512, .f32⟩
  | 11 => ⟨S8x1, .f32⟩
  | 12 => ⟨S1x8x1, .f32⟩
  | 13 => ⟨S8x8x512, .f32⟩
  | 14 => ⟨S8x8x512, .f32⟩
  | 15 => ⟨S8x8x512, .f32⟩
  | 16 => ⟨S8x8x512, .f32⟩
  | 17 => ⟨S8x23x512, .f32⟩
  | 18 => ⟨S1x23, .i32⟩
  | 19 => ⟨S8x1, .i32⟩
  | 20 => ⟨S_, .i32⟩
  | 21 => ⟨S8x1, .i32⟩
  | 22 => ⟨S8x1, .i32⟩
  | 23 => ⟨S8x23, .i32⟩
  | 24 => ⟨S8x23, .i32⟩
  | 25 => ⟨S8x23, .i1⟩
  | 26 => ⟨S1x23, .i32⟩
  | 27 => ⟨S8x1, .i32⟩
  | 28 => ⟨S_, .i32⟩
  | 29 => ⟨S8x1, .i32⟩
  | 30 => ⟨S8x1, .i32⟩
  | 31 => ⟨S_, .i32⟩
  | 32 => ⟨S8x1, .i32⟩
  | 33 => ⟨S8x1, .i32⟩
  | 34 => ⟨S8x23, .i32⟩
  | 35 => ⟨S8x23, .i32⟩
  | 36 => ⟨S8x23, .i1⟩
  | 37 => ⟨S8x23, .i1⟩
  | 38 => ⟨S_, .i32⟩
  | 39 => ⟨S8, .i32⟩
  | 40 => ⟨S8, .i32⟩
  | 41 => ⟨S_, .i32⟩
  | 42 => ⟨S8, .i32⟩
  | 43 => ⟨S8, .i32⟩
  | 44 => ⟨S_, .i32⟩
  | 45 => ⟨S8, .i32⟩
  | 46 => ⟨S8, .i32⟩
  | 47 => ⟨S8, .f32⟩
  | 48 => ⟨S8x23, .f32⟩
  | 49 => ⟨S8x512x8, .f32⟩
  | 50 => ⟨S8x8x512, .f32⟩
  | 51 => ⟨S8x1, .f32⟩
  | 52 => ⟨S1x8x1, .f32⟩
  | 53 => ⟨S8x8x512, .f32⟩
  | 54 => ⟨S8x8x512, .f32⟩
  | 55 => ⟨S8x8x512, .f32⟩
  | 56 => ⟨S8x8x512, .f32⟩
  | 57 => ⟨S8x8x1x512, .f32⟩
  | 58 => ⟨S8x8x1x512, .f32⟩
  | 59 => ⟨S8x8x1x512, .f32⟩
  | 60 => ⟨S8x8x1x512, .f32⟩
  | 61 => ⟨S8x8x4x512, .f32⟩
  | 62 => ⟨S4x512x8x8, .f32⟩
  | 63 => ⟨S8x8x4x512, .f32⟩
  | 64 => ⟨S64x2048, .f32⟩
  | 65 => ⟨S1x2048, .f32⟩
  | 66 => ⟨S64x2048, .f32⟩
  | 67 => ⟨S64x2048, .f32⟩
  | 68 => ⟨S64x2048, .f32⟩
  | 69 => ⟨S_, .i32⟩
  | 70 => ⟨S_, .f32⟩
  | 71 => ⟨S8x24x2048, .f32⟩
  | _ => ⟨S64x2048, .f32⟩

abbrev hbmTy (i : Nat) : BufTy := match i / 128 with
  | 0 => hbmTy0_0 i
  | 1 => hbmTy0_1 i
  | _ => ⟨S64x2048, .f32⟩

abbrev bufTy : (tb : Table) → Fin (tcTables nBuf tb) → BufTy
  | .hbm, ⟨i, _⟩ => hbmTy i
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_4 : Ref sig .tc := ⟨.hbm, 46, rfl⟩
abbrev main_v35 : Ref sig .tc := ⟨.hbm, 47, rfl⟩
abbrev main_v36 : Ref sig .tc := ⟨.hbm, 48, rfl⟩
abbrev main_c_5 : Ref sig .tc := ⟨.hbm, 49, rfl⟩
abbrev main_v37 : Ref sig .tc := ⟨.hbm, 50, rfl⟩
abbrev main_v38 : Ref sig .tc := ⟨.hbm, 51, rfl⟩
abbrev main_c_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c_8 : Ref sig .tc := ⟨.hbm, 76, rfl⟩
abbrev main_v61 : Ref sig .tc := ⟨.hbm, 77, rfl⟩
abbrev main_v62 : Ref sig .tc := ⟨.hbm, 78, rfl⟩
abbrev main_c_9 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_c_10 : Ref sig .tc := ⟨.hbm, 86, rfl⟩
abbrev main_v69 : Ref sig .tc := ⟨.hbm, 87, rfl⟩
abbrev main_v70 : Ref sig .tc := ⟨.hbm, 88, rfl⟩
abbrev main_c_11 : Ref sig .tc := ⟨.hbm, 89, rfl⟩
abbrev main_v71 : Ref sig .tc := ⟨.hbm, 90, rfl⟩
abbrev main_v72 : Ref sig .tc := ⟨.hbm, 91, rfl⟩
abbrev main_c_12 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_c_13 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_c_14 : Ref sig .tc := ⟨.hbm, 116, rfl⟩
abbrev main_v95 : Ref sig .tc := ⟨.hbm, 117, rfl⟩
abbrev main_v96 : Ref sig .tc := ⟨.hbm, 118, rfl⟩
abbrev main_c_15 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_c_16 : Ref sig .tc := ⟨.hbm, 126, rfl⟩
abbrev main_v103 : Ref sig .tc := ⟨.hbm, 127, rfl⟩
abbrev main_v104 : Ref sig .tc := ⟨.hbm, 128, rfl⟩
abbrev main_c_17 : Ref sig .tc := ⟨.hbm, 129, rfl⟩
abbrev main_v105 : Ref sig .tc := ⟨.hbm, 130, rfl⟩
abbrev main_v106 : Ref sig .tc := ⟨.hbm, 131, rfl⟩
abbrev main_c_18 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_c_19 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_c_20 : Ref sig .tc := ⟨.hbm, 156, rfl⟩
abbrev main_v129 : Ref sig .tc := ⟨.hbm, 157, rfl⟩
abbrev main_v130 : Ref sig .tc := ⟨.hbm, 158, rfl⟩
abbrev main_c_21 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_c_22 : Ref sig .tc := ⟨.hbm, 166, rfl⟩
abbrev main_v137 : Ref sig .tc := ⟨.hbm, 167, rfl⟩
abbrev main_v138 : Ref sig .tc := ⟨.hbm, 168, rfl⟩
abbrev main_c_23 : Ref sig .tc := ⟨.hbm, 169, rfl⟩
abbrev main_v139 : Ref sig .tc := ⟨.hbm, 170, rfl⟩
abbrev main_v140 : Ref sig .tc := ⟨.hbm, 171, rfl⟩
abbrev main_c_24 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_c_25 : Ref sig .tc := ⟨.hbm, 197, rfl⟩
abbrev main_call0_v0 : Ref sig .tc := ⟨.hbm, 198, rfl⟩
abbrev main_v165 : Ref sig .tc := ⟨.hbm, 199, rfl⟩

abbrev nD : Nat := 1
abbrev τ : Topo := Topo.v7x

variable {F : FTy → Type} [FloatOps F]
-- ==== AmixS.lean ====
abbrev S64x2048 : Shape := ⟨2, ![64, 2048]⟩
abbrev S64x4096 : Shape := ⟨2, ![64, 4096]⟩
abbrev S2048 : Shape := ⟨1, ![2048]⟩
abbrev S16x128x128 : Shape := ⟨3, ![16, 128, 128]⟩
abbrev S16x128 : Shape := ⟨2, ![16, 128]⟩
abbrev S2048x2048 : Shape := ⟨2, ![2048, 2048]⟩
abbrev S16x8x8 : Shape := ⟨3, ![16, 8, 8]⟩
abbrev S1x16x1x8x1x8 : Shape := ⟨6, ![1, 16, 1, 8, 1, 8]⟩
abbrev S1x16x8x8x8x8 : Shape := ⟨6, ![1, 16, 8, 8, 8, 8]⟩
abbrev S16x64x64 : Shape := ⟨3, ![16, 64, 64]⟩
abbrev S16x8 : Shape := ⟨2, ![16, 8]⟩
abbrev S8x16 : Shape := ⟨2, ![8, 16]⟩
abbrev S8x16x128 : Shape := ⟨3, ![8, 16, 128]⟩
abbrev S8x2048 : Shape := ⟨2, ![8, 2048]⟩
abbrev S1x8x1x2048 : Shape := ⟨4, ![1, 8, 1, 2048]⟩
abbrev S8x8x1x2048 : Shape := ⟨4, ![8, 8, 1, 2048]⟩
abbrev S1x2048 : Shape := ⟨2, ![1, 2048]⟩
abbrev S64x512 : Shape := ⟨2, ![64, 512]⟩
abbrev S2048x512 : Shape := ⟨2, ![2048, 512]⟩
abbrev S64x64 : Shape := ⟨2, ![64, 64]⟩
abbrev S1x64x64 : Shape := ⟨3, ![1, 64, 64]⟩
abbrev S64 : Shape := ⟨1, ![64]⟩
abbrev S64x1 : Shape := ⟨2, ![64, 1]⟩
abbrev S64x128 : Shape := ⟨2, ![64, 128]⟩

abbrev nBuf : Space → Nat
  | .hbm => 22
  | .vmem => 15
  | .smem => 0
  | _ => 0

abbrev bufTy : (tb : Table) → Fin (tcTables nBuf tb) → BufTy
  | .hbm, ⟨0, _⟩ => ⟨S64x2048, .f32⟩
  | .hbm, ⟨1, _⟩ => ⟨S64x4096, .f32⟩
  | .hbm, ⟨2, _⟩ => ⟨S2048, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S2048x2048, .f32⟩
  | .hbm, ⟨7, _⟩ => ⟨S16x8x8, .f32⟩
  | .hbm, ⟨8, _⟩ => ⟨S1x16x1x8x1x8, .f32⟩
  | .hbm, ⟨9, _⟩ => ⟨S1x16x8x8x8x8, .f32⟩
  | .hbm, ⟨10, _⟩ => ⟨S16x64x64, .f32⟩
  | .hbm, ⟨11, _⟩ => ⟨S16x8, .f32⟩
  | .hbm, ⟨12, _⟩ => ⟨S8x16, .f32⟩
  | .hbm, ⟨13, _⟩ => ⟨S8x16x128, .f32⟩
  | .hbm, ⟨14, _⟩ => ⟨S8x2048, .f32⟩
  | .hbm, ⟨15, _⟩ => ⟨S1x8x1x2048, .f32⟩
  | .hbm, ⟨16, _⟩ => ⟨S8x8x1x2048, .f32⟩
  | .hbm, ⟨17, _⟩ => ⟨S64x2048, .f32⟩
  | .hbm, ⟨18, _⟩ => ⟨S1x2048, .f32⟩
  | .hbm, ⟨19, _⟩ => ⟨S1x2048, .f32⟩
  | .hbm, ⟨20, _⟩ => ⟨S64x2048, .f32⟩
  | .hbm, ⟨21, _⟩ => ⟨S64x2048, .f32⟩
  | .local _ .vmem, ⟨0, _⟩ => ⟨S64x512, .f32⟩
  | .local _ .vmem, ⟨1, _⟩ => ⟨S64x512, .f32⟩
  | .local _ .vmem, ⟨2, _⟩ => ⟨S64x2048, .f32⟩
  | .local _ .vmem, ⟨3, _⟩ => ⟨S64x2048, .f32⟩
  | .local _ .vmem, ⟨4, _⟩ => ⟨S1x2048, .f32⟩
  | .local _ .vmem, ⟨5, _⟩ => ⟨S1x2048, .f32⟩
  | .local _ .vmem, ⟨6, _⟩ => ⟨S16x64x64, .f32⟩
  | .local _ .vmem, ⟨7, _⟩ => ⟨S64x2048, .f32⟩
  | .local _ .vmem, ⟨8, _⟩ => ⟨S2048x512, .f32⟩
  | .local _ .vmem, ⟨9, _⟩ => ⟨S2048x512, .f32⟩
  | .local _ .vmem, ⟨10, _⟩ => ⟨S64x512, .f32⟩
  | .local _ .vmem, ⟨11, _⟩ => ⟨S64x512, .f32⟩
  | .local _ .vmem, ⟨12, _⟩ => ⟨S64x2048, .f32⟩
  | .local _ .vmem, ⟨13, _⟩ => ⟨S64x2048, .bf16⟩
  | .local _ .vmem, ⟨14, _⟩ => ⟨S16x64x64, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S64x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== AmixSRefIdeal.lean ====
abbrev S64x2048 : Shape := ⟨2, ![64, 2048]⟩
abbrev S64x4096 : Shape := ⟨2, ![64, 4096]⟩
abbrev S2048 : Shape := ⟨1, ![2048]⟩
abbrev S16x128x128 : Shape := ⟨3, ![16, 128, 128]⟩
abbrev S16x128 : Shape := ⟨2, ![16, 128]⟩
abbrev S2048x2048 : Shape := ⟨2, ![2048, 2048]⟩
abbrev S8x8x4096 : Shape := ⟨3, ![8, 8, 4096]⟩
abbrev S8x8x2048 : Shape := ⟨3, ![8, 8, 2048]⟩
abbrev S_ : Shape := ⟨0, ![]⟩
abbrev S8x8 : Shape := ⟨2, ![8, 8]⟩
abbrev S8x8x1 : Shape := ⟨3, ![8, 8, 1]⟩
abbrev S1x1x2048 : Shape := ⟨3, ![1, 1, 2048]⟩
abbrev S8x8x16x128 : Shape := ⟨4, ![8, 8, 16, 128]⟩
abbrev S8 : Shape := ⟨1, ![8]⟩
abbrev S16x8x8 : Shape := ⟨3, ![16, 8, 8]⟩
abbrev S1x8 : Shape := ⟨2, ![1, 8]⟩
abbrev S1x8x8 : Shape := ⟨3, ![1, 8, 8]⟩
abbrev S16x8x128x8 : Shape := ⟨4, ![16, 8, 128, 8]⟩
abbrev S16x8 : Shape := ⟨2, ![16, 8]⟩
abbrev S8x16 : Shape := ⟨2, ![8, 16]⟩
abbrev S1x8x16x1 : Shape := ⟨4, ![1, 8, 16, 1]⟩

abbrev nBuf : Space → Nat
  | .hbm => 76
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S64x4096, .f32⟩
  | .hbm, ⟨2, _⟩ => ⟨S2048, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S2048x2048, .f32⟩
  | .hbm, ⟨7, _⟩ => ⟨S8x8x4096, .f32⟩
  | .hbm, ⟨8, _⟩ => ⟨S8x8x2048, .f32⟩
  | .hbm, ⟨9, _⟩ => ⟨S8x8x2048, .f32⟩
  | .hbm, ⟨10, _⟩ => ⟨S_, .f32⟩
  | .hbm, ⟨11, _⟩ => ⟨S8x8, .f32⟩
  | .hbm, ⟨12, _⟩ => ⟨S8x8x1, .f32⟩
  | .hbm, ⟨13, _⟩ => ⟨S_, .f32⟩
  | .hbm, ⟨14, _⟩ => ⟨S8x8x1, .f32⟩
  | .hbm, ⟨15, _⟩ => ⟨S8x8x1, .f32⟩
  | .hbm, ⟨16, _⟩ => ⟨S8x8x2048, .f32⟩
  | .hbm, ⟨17, _⟩ => ⟨S8x8x2048, .f32⟩
  | .hbm, ⟨18, _⟩ => ⟨S8x8x2048, .f32⟩
  | .hbm, ⟨19, _⟩ => ⟨S_, .f32⟩
  | .hbm, ⟨20, _⟩ => ⟨S8x8, .f32⟩
  | .hbm, ⟨21, _⟩ => ⟨S8x8x1, .f32⟩
  | .hbm, ⟨22, _⟩ => ⟨S_, .f32⟩
  | .hbm, ⟨23, _⟩ => ⟨S8x8x1, .f32⟩
  | .hbm, ⟨24, _⟩ => ⟨S8x8x1, .f32⟩
  | .hbm, ⟨25, _⟩ => ⟨S8x8x2048, .f32⟩
  | .hbm, ⟨26, _⟩ => ⟨S8x8x2048, .f32⟩
  | .hbm, ⟨27, _⟩ => ⟨S_, .f32⟩
  | .hbm, ⟨28, _⟩ => ⟨S8x8x1, .f32⟩
  | .hbm, ⟨29, _⟩ => ⟨S8x8x1, .f32⟩
  | .hbm, ⟨30, _⟩ => ⟨S8x8x1, .f32⟩
  | .hbm, ⟨31, _⟩ => ⟨S8x8x2048, .f32⟩
  | .hbm, ⟨32, _⟩ => ⟨S8x8x2048, .f32⟩
  | .hbm, ⟨33, _⟩ => ⟨S1x1x2048, .f32⟩
  | .hbm, ⟨34, _⟩ => ⟨S8x8x2048, .f32⟩
  | .hbm, ⟨35, _⟩ => ⟨S8x8x2048, .f32⟩
  | .hbm, ⟨36, _⟩ => ⟨S1x1x2048, .f32⟩
  | .hbm, ⟨37, _⟩ => ⟨S8x8x2048, .f32⟩
  | .hbm, ⟨38, _⟩ => ⟨S8x8x2048, .f32⟩
  | .hbm, ⟨39, _⟩ => ⟨S8x8x16x128, .f32⟩
  | .hbm, ⟨40, _⟩ => ⟨S8, .i32⟩
  | .hbm, ⟨41, _⟩ => ⟨S_, .i32⟩
  | .hbm, ⟨42, _⟩ => ⟨S8, .i32⟩
  | .hbm, ⟨43, _⟩ => ⟨S8, .i1⟩
  | .hbm, ⟨44, _⟩ => ⟨S8, .f32⟩
  | .hbm, ⟨45, _⟩ => ⟨S16x8x8, .f32⟩
  | .hbm, ⟨46, _⟩ => ⟨S_, .f32⟩
  | .hbm, ⟨47, _⟩ => ⟨S8x8, .f32⟩
  | .hbm, ⟨48, _⟩ => ⟨S8x8, .i32⟩
  | .hbm, ⟨49, _⟩ => ⟨S_, .i32⟩
  | .hbm, ⟨50, _⟩ => ⟨S8x8, .i32⟩
  | .hbm, ⟨51, _⟩ => ⟨S8x8, .i32⟩
  | .hbm, ⟨52, _⟩ => ⟨S8x8, .i32⟩
  | .hbm, ⟨53, _⟩ => ⟨S8x8, .i1⟩
  | .hbm, ⟨54, _⟩ => ⟨S_, .f32⟩
  | .hbm, ⟨55, _⟩ => ⟨S8x8, .f32⟩
  | .hbm, ⟨56, _⟩ => ⟨S8x8, .f32⟩
  | .hbm, ⟨57, _⟩ => ⟨S1x8, .f32⟩
  | .hbm, ⟨58, _⟩ => ⟨S8x8, .f32⟩
  | .hbm, ⟨59, _⟩ => ⟨S8x8, .f32⟩
  | .hbm, ⟨60, _⟩ => ⟨S1x8x8, .f32⟩
  | .hbm, ⟨61, _⟩ => ⟨S16x8x8, .f32⟩
  | .hbm, ⟨62, _⟩ => ⟨S16x8x8, .f32⟩
  | .hbm, ⟨63, _⟩ => ⟨S16x8x128x8, .f32⟩
  | .hbm, ⟨64, _⟩ => ⟨S8x8x16x128, .f32⟩
  | .hbm, ⟨65, _⟩ => ⟨S16x8, .f32⟩
  | .hbm, ⟨66, _⟩ => ⟨S8x16, .f32⟩
  | .hbm, ⟨67, _⟩ => ⟨S1x8x16x1, .f32⟩
  | .hbm, ⟨68, _⟩ => ⟨S8x8x16x128, .f32⟩
  | .hbm, ⟨69, _⟩ => ⟨S8x8x16x128, .f32⟩
  | .hbm, ⟨70, _⟩ => ⟨S8x8x2048, .f32⟩
  | .hbm, ⟨71, _⟩ => ⟨S8x8x2048, .f32⟩
  | .hbm, ⟨72, _⟩ => ⟨S8x8x2048, .f32⟩
  | .hbm, ⟨73, _⟩ => ⟨S64x2048, .f32⟩
  | .hbm, ⟨74, _⟩ => ⟨S64x2048, .f32⟩
  | .hbm, ⟨75, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_call0_v0 : Ref sig .tc := ⟨.hbm, 48, rfl⟩
abbrev main_call0_c : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_cst : Ref sig .tc := ⟨.hbm, 54, rfl⟩
abbrev main_call0_v5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== Proof.AmixSRun.lean ====
/-
  The gated mixer's body on the sample's rows run once in each of its two cases, on any staging memrefs: at the first point
  it fills the gated scratch and the normalised rows and multiplies by the weight's columns; at the other three it only
  multiplies, over what the scratch held, the normalised rows kept.  The pieces each buffer ends with are the witnesses the
  run finds.
-/
module

public import proofs.«01_k».proof.Proof.Gen.AmixS.Frame
public import proofs.«01_k».proof.Proof.Gen.AmixS.Launch
public import proofs.«01_k».proof.Proof.Gen.AmixS.Skeleton
public import proofs.«01_k».proof.Proof.Gen.AmixS.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.AmixS.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AmixS Cert.AmixS.Gen

variable {F : FTy → Type} [FloatOps F]

local notation "𝕄" => MT nD τ sig Unit (Elt F) ℕ (UR sig nD τ) ℕ

/-- The body fills the gated scratch at this point. -/
abbrev fresh (i : grid0.Coords) : Prop := k0_cond1 i = 1#1
/-- That is the first of the four points. -/
theorem fresh_iff : ∀ t : Fin cfg0.N, fresh (grid0.coords t) ↔ t.val % 4 = 0 :=
  (fun t => by
    have ht : t.val < 4 := Nat.lt_of_lt_of_eq t.isLt N_0
    have e0 : (grid0.coords t 0).val = t.val / 4 % 1 := Pipeline.Grid.coords_val t 0 (by decide) rfl
    have e1 : (grid0.coords t 1).val = t.val / 1 % 4 := Pipeline.Grid.coords_val t 1 (by decide) rfl
    simp only [fresh, k0_cond1, e0, e1]
    word_cmp
   : ∀ t : Fin grid0.N, fresh (grid0.coords t) ↔ t.val % 4 = 0)

/-- The staging buffer of the normalised rows, through which what it holds is stated. -/
abbrev rowsView : View sig .tc .vmem S64x2048 .f32 := (Memref.whole cc0_stg9_0 : Memref sig .tc .vmem S64x2048 .f32).view
/-- One staging buffer of the result, through which what it holds is stated. -/
abbrev outView : View sig .tc .vmem S64x512 .f32 := (Memref.whole cc0_stg8_0 : Memref sig .tc .vmem S64x512 .f32).view

/-! Each window's staging memref at point `t`, and that it is whole. -/

abbrev ms0 (t : Fin cfg0.N) : Memref sig .tc .vmem S64x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x64x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S64x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S64x2048 .f32 := win0_9.stage (cfg0.slots t 9)
abbrev hs9 (t : Fin cfg0.N) : (ms9 t).IsWhole := hstage0_9 ((cfg0.slots t 9).cast nbuf0_9)

/-- The gated scratch. -/
abbrev scM0 : Memref sig .tc .vmem S64x2048 .bf16 := Memref.whole cc0_scratch0
/-- The masked weights' scratch. -/
abbrev scM1 : Memref sig .tc .vmem S16x64x64 .bf16 := Memref.whole cc0_scratch1
/-- The gated scratch as a view. -/
abbrev gatedView : View sig .tc .vmem S64x2048 .bf16 := scM0.view

section
variable (c : Dev nD) (i : grid0.Coords) (arg2 : Memref sig .tc .vmem S64x512 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x64x64 .f32) (harg7 : arg7.IsWhole) (arg8 : Memref sig .tc .vmem S64x2048 .f32) (harg8 : arg8.IsWhole) (arg9 : Memref sig .tc .vmem S2048x512 .f32) (harg9 : arg9.IsWhole) (arg10 : Memref sig .tc .vmem S64x512 .f32) (harg10 : arg10.IsWhole) (arg11 : Memref sig .tc .vmem S64x2048 .f32) (harg11 : arg11.IsWhole) (arg12 : Memref sig .tc .vmem S64x2048 .bf16) (harg12 : arg12.IsWhole) (arg13 : Memref sig .tc .vmem S16x64x64 .bf16) (harg13 : arg13.IsWhole)
    (x0 : Vec F S64x512 .f32) (x1 : Vec F S64x2048 .f32) (x2 : Vec F S64x2048 .f32) (x3 : Vec F S1x2048 .f32) (x4 : Vec F S1x2048 .f32) (x5 : Vec F S16x64x64 .f32) (x6 : Vec F S64x2048 .f32) (x7 : Vec F S2048x512 .f32)

set_option backward.proofsInPublic true in
set_option maxHeartbeats 1000000 in
/-- The body where it fills the gated scratch: the pieces of the result block and of the scratch, and that the body runs to
    them from any contents of the two. -/
noncomputable def runStore (hc0 : fresh i) :
    Σ' (L8 : List (View.Piece (Elt F) S64x512 .f32)) (L9 : List (View.Piece (Elt F) S64x2048 .f32)), { LS1 : List (View.Piece (Elt F) S64x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS1) ∗ (∃ d, owns (c : Thread nD τ) arg13 fullShare d)) -∗ K ⟨⟩))
          ⊢ wp frame (wpE (defs₀ (F := F)) Variants.none c none) E (cc0_amix i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_amix_eq_skeleton]; unfold cc0_amix_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    isplitl [HS1]; · iexists _; iexact HS1
    iexists _, _; isplitr; swap; · iexact HS2
    ipureintro; rfl

set_option maxHeartbeats 1000000 in
/-- The body where the gated scratch is kept: the same, over what the scratch held. -/
noncomputable def runKeep (hc0 : ¬fresh i) (xr : Vec F S64x2048 .f32) (xs1 : Vec F S64x2048 .bf16) :
    Σ' (L8 : List (View.Piece (Elt F) S64x512 .f32)), { LS1 : List (View.Piece (Elt F) S64x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xr ∗ owns (c : Thread nD τ) arg12 fullShare xs1 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xr ∗ owns (c : Thread nD τ) arg12 fullShare xs1 ∗ (∃ d, owns (c : Thread nD τ) arg13 fullShare d)) -∗ K ⟨⟩))
          ⊢ wp frame (wpE (defs₀ (F := F)) Variants.none c none) E (cc0_amix i arg2 harg2 arg3 harg3 arg4 harg4 arg5 harg5 arg6 harg6 arg7 harg7 arg8 harg8 arg9 harg9 arg10 harg10 arg11 harg11 arg12 harg12 arg13 harg13) K } := by
  refine ⟨?_, [], fun E K => ?run⟩
  case run =>
    simp only [cc0_amix_eq_skeleton]; unfold cc0_amix_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]
    · iexists _; isplitr; · ipureintro; exact harg11.read_unread _
      iexact HS0
    isplitl [HS1]
    · iexists _; isplitr; · ipureintro; exact harg12.read_unread _
      iexact HS1
    iexists _, _; isplitr; swap; · iexact HS2
    ipureintro; rfl

end

end Cert.AmixS.Hand

end
-- ==== Proof.Rows.lean ====
/-
  What several of the calls compute on a row, over the extended reals: the row scaled by the reciprocal root of its mean
  square and a gain; the gated unit in its tanh form.
-/
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Rows

/-- The offsets of a store of a whole block. -/
theorem hz2 : (![0, 0] : Fin 2 → Nat) = fun _ => 0 := funext fun a => by fin_cases a <;> rfl

/-- Row `r` of a block scaled by the reciprocal root of its mean square, then by the gain. -/
def hnAt {n : ℕ} (x : Fin n → Fin 2048 → EReal) (g : Fin 2048 → EReal) (r : Fin n) (d : Fin 2048) : EReal :=
  x r d * Ideal.rsqrt (Ideal.div (∑ k, x r k * x r k) (Ideal.ofBits FTy.f32 0x45000000#32)
    + Ideal.ofBits FTy.f32 0x358637BD#32) * g d

/-- A row's normalisation is decided by the row and the gain. -/
theorem hnAt_congr {n n' : ℕ} {x : Fin n → Fin 2048 → EReal} {x' : Fin n' → Fin 2048 → EReal} {g g' : Fin 2048 → EReal}
    {r : Fin n} {r' : Fin n'} {d : Fin 2048} (hx : ∀ k, x r k = x' r' k) (hg : ∀ k, g k = g' k) :
    hnAt x g r d = hnAt x' g' r' d := by
  simp only [hnAt, hx, hg]

/-- The gated unit in its tanh form. -/
def geluAt (a : EReal) : EReal :=
  a * (Ideal.ofBits FTy.f32 0x3F000000#32 * (Ideal.ofBits FTy.f32 0x3F800000#32
    + Ideal.tanh (Ideal.ofBits FTy.f32 0x3F4C422A#32 * (a + Ideal.ofBits FTy.f32 0x3D372713#32 * (a * (a * a))))))

end Cert.Rows

end
-- ==== Proof.FfnBlock.lean ====
/-
  The feed-forward kernel's body over the extended reals: what each grid point leaves in the result block and in the
  carried scratch, as functions of the blocks it reads.
-/
module

public import proofs.«01_k».proof.Proof.Gen.FfnIdeal.Value
public import proofs.«01_k».proof.Proof.Rows

@[expose] public section

set_option maxRecDepth 16384

noncomputable section

open Idealize.ShloMosaic Idealize.ShloMosaic.TcCoe Idealize.SL.Sem

namespace Cert.FfnIdeal.Value

open Cert.FfnIdeal Cert.FfnIdeal.Gen Cert.Rows

/-- What one trip of the normalising loop stores, at an index. -/
theorem pay1_at (x : FVec Ideal S256x2048 .f32) (g : FVec Ideal S1x2048 .f32) (r : Fin 256) (d : Fin 2048) :
    k0_pay1 (F := Ideal) x g (ix2 r d) = hnAt (fun r d => x (ix2 r d)) (fun d => g (ix2 0 d)) r d := by
  pointwise [k0_pay1, hnAt]

/-- One feed-forward tile of width `f`: the gated projections of a normalised row against tile columns, taken back
    to the model width. -/
def ffnPart {n f : ℕ} (h : Fin n → Fin 2048 → EReal) (w1 w3 : Fin 2048 → Fin f → EReal) (w2 : Fin f → Fin 2048 → EReal)
    (r : Fin n) (d : Fin 2048) : EReal :=
  ∑ j, ((∑ k, h r k * w1 k j) * Ideal.logistic (∑ k, h r k * w1 k j) * ∑ k, h r k * w3 k j) * w2 j d

/-- What every point stores last, at an index: the result block so far with one tile added. -/
theorem pay2_at (hn : FVec Ideal S512x2048 .bf16) (w1 w3 : FVec Ideal S2048x256 .f32) (o : FVec Ideal S512x2048 .f32)
    (w2 : FVec Ideal S256x2048 .f32) (r : Fin 512) (d : Fin 2048) :
    k0_pay2 (F := Ideal) hn w1 w3 o w2 (ix2 r d) = o (ix2 r d)
      + ffnPart (fun r d => hn (ix2 r d)) (fun k j => w1 (ix2 k j)) (fun k j => w3 (ix2 k j)) (fun j d => w2 (ix2 j d)) r d := by
  pointwise [k0_pay2, ffnPart]

/-! ## The normalising loop's pieces -/

section
variable (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x256 .f32) (h4 : a4.IsWhole)
    (a5 : Memref sig .tc .vmem S2048x256 .f32) (h5 : a5.IsWhole) (a6 : Memref sig .tc .vmem S256x2048 .f32) (h6 : a6.IsWhole)
    (a7 : Memref sig .tc .vmem S512x2048 .f32) (h7 : a7.IsWhole) (a8 : Memref sig .tc .vmem S512x2048 .bf16) (h8 : a8.IsWhole)

/-- Trip `k` starts at row `256 k`. -/
theorem off1_val : ∀ k : Fin k0_t1_loop.trips, k0_off1 k = ![256 * k.val, 0] := by decide +kernel

/-- One trip copies its 256 rows into the result block and stores their normalisation into the scratch. -/
theorem trip_pieces (hc : cond0_0 i) (x0 : Vec Ideal S512x2048 .f32) (x1 : Vec Ideal S1x2048 .f32) (k : Fin k0_t1_loop.trips) :
    tripL_k0_t1 (F := Ideal) Variants.none c none i a2 h2 a3 h3 a4 h4 a5 h5 a6 h6 a7 h7 a8 h8 hc (h2.unread x0) (h3.unread x1) k
     = ([⟨Rect.unit (s := S512x2048) (k0_off1 k) S256x2048.size (k0_off1_inb i k hc),
          View.ld x0 (Rect.unit (s := S512x2048) (k0_off1 k) S256x2048.size (k0_off1_inb i k hc))⟩],
        [⟨Rect.unit (s := S512x2048) (k0_off1 k) S256x2048.size (k0_off1_inb i k hc),
          k0_pay1 (View.ld x0 (Rect.unit (s := S512x2048) (k0_off1 k) S256x2048.size (k0_off1_inb i k hc))) x1⟩]) := by
  unfold tripL_k0_t1 trip_k0_t1
  dsimp only
  simp only [View.readAt_eq_ld, h2.read_unread, h3.read_unread, View.ld_unit_zero (S := S1x2048) hz2]

/-- The whole block's normalisation. -/
def hnBlk (x0 : Vec Ideal S512x2048 .f32) (x1 : Vec Ideal S1x2048 .f32) : Vec Ideal S512x2048 .bf16 :=
  fun y => hnAt (fun (r : Fin 512) d => (show FVec Ideal S512x2048 .f32 from x0) (ix2 r d)) (fun d => (show FVec Ideal S1x2048 .f32 from x1) (ix2 0 d)) (y 0) (y 1)

/-- The rows of a 256-row rectangle at trip `k`'s offsets. -/
theorem ld_rows (i : grid0.Coords) (hc : cond0_0 i) (x0 : FVec Ideal S512x2048 .f32) (k : Fin k0_t1_loop.trips) (r : Fin 256) (d : Fin 2048) :
    View.ld (Val := Elt Ideal) (e' := .f32) (show Vec Ideal S512x2048 .f32 from x0) (Rect.unit (s := S512x2048) (k0_off1 k) S256x2048.size (k0_off1_inb i k hc)) (ix2 r d)
      = x0 (ix2 ⟨256 * k.val + r.val, by have := Nat.lt_of_lt_of_le k.isLt k0_t1_abs.2.1; omega⟩ d) := by
  show x0 _ = x0 _
  congr 1
  funext a
  apply Fin.ext
  match a with
  | ⟨0, _⟩ => show k0_off1 k 0 + 1 * r.val = 256 * k.val + r.val; rw [off1_val]; simp
  | ⟨1, _⟩ => show k0_off1 k 1 + 1 * d.val = d.val; rw [off1_val]; simp

/-- After any number of trips every piece is a tile: of `x0` in the result block, of its normalisation in the scratch. -/
theorem pb_tiles (hc : cond0_0 i) (x0 : Vec Ideal S512x2048 .f32) (x1 : Vec Ideal S1x2048 .f32) (n : ℕ) (hn : n ≤ k0_t1_loop.trips) :
    (∀ p ∈ (pb_k0_t1 (F := Ideal) Variants.none c none i a2 h2 a3 h3 a4 h4 a5 h5 a6 h6 a7 h7 a8 h8 hc (h2.unread x0) (h3.unread x1) n).1,
      ∀ x : p.1.shape.Idx, p.2 x = x0 (p.1.emb x))
    ∧ (∀ p ∈ (pb_k0_t1 (F := Ideal) Variants.none c none i a2 h2 a3 h3 a4 h4 a5 h5 a6 h6 a7 h7 a8 h8 hc (h2.unread x0) (h3.unread x1) n).2,
      ∀ x : p.1.shape.Idx, p.2 x = hnBlk x0 x1 (p.1.emb x)) := by
  induction n with
  | zero => exact ⟨fun p hp => absurd hp List.not_mem_nil, fun p hp => absurd hp List.not_mem_nil⟩
  | succ n ih =>
    have hs := pb_k0_t1_succ (F := Ideal) Variants.none c none i a2 h2 a3 h3 a4 h4 a5 h5 a6 h6 a7 h7 a8 h8 hc (h2.unread x0) (h3.unread x1) ⟨n, hn⟩
    rw [trip_pieces] at hs
    dsimp only at hs
    rw [hs]
    obtain ⟨ih1, ih2⟩ := ih (Nat.le_of_succ_le hn)
    constructor
    · intro p hp
      rcases List.mem_cons.mp hp with rfl | hp
      · intro x; rfl
      · exact ih1 p hp
    · intro p hp
      rcases List.mem_cons.mp hp with rfl | hp
      · intro x
        dsimp only at x ⊢
        obtain ⟨r, d, rfl⟩ : ∃ (r : Fin 256) (d : Fin 2048), x = ix2 r d := ⟨x 0, x 1, eq_ix2 x⟩
        refine (pay1_at _ _ r d).trans ?_
        have e : ((Rect.unit (s := S512x2048) (k0_off1 ⟨n, hn⟩) S256x2048.size (k0_off1_inb i ⟨n, hn⟩ hc)).emb (ix2 r d) : S512x2048.Idx)
            = ix2 (⟨256 * n + r.val, by have := Nat.lt_of_lt_of_le hn k0_t1_abs.2.1; omega⟩ : Fin 512) d := by
          funext a
          apply Fin.ext
          match a with
          | ⟨0, _⟩ => show k0_off1 ⟨n, hn⟩ 0 + 1 * r.val = 256 * n + r.val; rw [off1_val]; simp
          | ⟨1, _⟩ => show k0_off1 ⟨n, hn⟩ 1 + 1 * d.val = d.val; rw [off1_val]; simp
        rw [e]
        exact hnAt_congr (fun d => ld_rows i hc x0 ⟨n, hn⟩ r d) (fun _ => rfl)
      · exact ih2 p hp

/-- What a point that only accumulates leaves in the result block. -/
theorem out_B (hc : ¬cond0_0 i) (x0 : Vec Ideal S512x2048 .f32) (x1 : Vec Ideal S1x2048 .f32) (x2 x3 : Vec Ideal S2048x256 .f32)
    (x4 : Vec Ideal S256x2048 .f32) (xo : Vec Ideal S512x2048 .f32) (xs : Vec Ideal S512x2048 .bf16) :
    out0_B_5 c i a2 h2 a3 h3 a4 h4 a5 h5 a6 h6 a7 h7 a8 h8 hc x0 x1 x2 x3 x4 xo xs = k0_pay2 xs x2 x3 xo x4 := by
  frame_out

/-- The loop's pieces left in the result block are `x0`. -/
theorem canon_rows (hc : cond0_0 i) (x0 : Vec Ideal S512x2048 .f32) (x1 : Vec Ideal S1x2048 .f32) :
    View.canon (pb_k0_t1 (F := Ideal) Variants.none c none i a2 h2 a3 h3 a4 h4 a5 h5 a6 h6 a7 h7 a8 h8 hc (h2.unread x0) (h3.unread x1)
      (Scf.trips k0_t1_loop.lb k0_t1_loop.ub k0_t1_loop.st)).1 = x0 :=
  funext fun y => View.canon_apply_of_pieces x0 _ (pb_tiles c i a2 h2 a3 h3 a4 h4 a5 h5 a6 h6 a7 h7 a8 h8 hc x0 x1 _ le_rfl).1 y
    (View.cover_of_tiledL (pb_k0_t1 (F := Ideal) Variants.none c none i a2 h2 a3 h3 a4 h4 a5 h5 a6 h6 a7 h7 a8 h8 hc (h2.unread x0) (h3.unread x1) (Scf.trips k0_t1_loop.lb k0_t1_loop.ub k0_t1_loop.st)).1 S256x2048.size (by sl_kernel_rfl) y)

/-- The loop's pieces left in the scratch are the block's normalisation. -/
theorem canon_hn (hc : cond0_0 i) (x0 : Vec Ideal S512x2048 .f32) (x1 : Vec Ideal S1x2048 .f32) :
    View.canon (pb_k0_t1 (F := Ideal) Variants.none c none i a2 h2 a3 h3 a4 h4 a5 h5 a6 h6 a7 h7 a8 h8 hc (h2.unread x0) (h3.unread x1)
      (Scf.trips k0_t1_loop.lb k0_t1_loop.ub k0_t1_loop.st)).2 = hnBlk x0 x1 :=
  funext fun y => View.canon_apply_of_pieces (hnBlk x0 x1) _ (pb_tiles c i a2 h2 a3 h3 a4 h4 a5 h5 a6 h6 a7 h7 a8 h8 hc x0 x1 _ le_rfl).2 y
    (View.cover_of_tiledL (pb_k0_t1 (F := Ideal) Variants.none c none i a2 h2 a3 h3 a4 h4 a5 h5 a6 h6 a7 h7 a8 h8 hc (h2.unread x0) (h3.unread x1) (Scf.trips k0_t1_loop.lb k0_t1_loop.ub k0_t1_loop.st)).2 S256x2048.size (by sl_kernel_rfl) y)

/-- What a run's first point leaves in the result block: the rows with the first tile added. -/
theorem out_A (hc : cond0_0 i) (x0 : Vec Ideal S512x2048 .f32) (x1 : Vec Ideal S1x2048 .f32) (x2 x3 : Vec Ideal S2048x256 .f32)
    (x4 : Vec Ideal S256x2048 .f32)  :
    out0_A_5 c i a2 h2 a3 h3 a4 h4 a5 h5 a6 h6 a7 h7 a8 h8 hc x0 x1 x2 x3 x4 = k0_pay2 (hnBlk x0 x1) x2 x3 x0 x4 := by
  frame_out
  rw [View.readCov_eq_canon', View.readCov_eq_canon']
  have e1 := canon_rows c i a2 h2 a3 h3 a4 h4 a5 h5 a6 h6 a7 h7 a8 h8 hc x0 x1
  have e2 := canon_hn c i a2 h2 a3 h3 a4 h4 a5 h5 a6 h6 a7 h7 a8 h8 hc x0 x1
  have l1 := View.ld_unit_zero (Val := Elt Ideal) (S := S512x2048) (e := .f32) hz2 inb_S512x2048_S512x2048_0_0 x0
  have l2 := View.ld_unit_zero (Val := Elt Ideal) (S := S512x2048) (e := .bf16) hz2 inb_S512x2048_S512x2048_0_0 (hnBlk x0 x1)
  refine congrArg₂ (fun p q => k0_pay2 p x2 x3 q x4) ?_ ?_
  · refine Eq.trans ?_ l2
    exact congrArg (fun G : Vec Ideal S512x2048 .bf16 => View.ld (Val := Elt Ideal) G (Rect.unit ![0, 0] ![512, 2048] inb_S512x2048_S512x2048_0_0)) e2
  · refine Eq.trans ?_ l1
    exact congrArg (fun G : Vec Ideal S512x2048 .f32 => View.ld (Val := Elt Ideal) G (Rect.unit ![0, 0] ![512, 2048] inb_S512x2048_S512x2048_0_0)) e1

/-- What a run's first point leaves in the scratch. -/
theorem sout_A (hc : cond0_0 i) (x0 : Vec Ideal S512x2048 .f32) (x1 : Vec Ideal S1x2048 .f32) (x2 x3 : Vec Ideal S2048x256 .f32)
    (x4 : Vec Ideal S256x2048 .f32)  :
    sout0_A_0 c i a2 h2 a3 h3 a4 h4 a5 h5 a6 h6 a7 h7 a8 h8 hc x0 x1 x2 x3 x4 = hnBlk x0 x1 := by
  frame_out
  exact canon_hn c i a2 h2 a3 h3 a4 h4 a5 h5 a6 h6 a7 h7 a8 h8 hc x0 x1

end

end Cert.FfnIdeal.Value

end
-- ==== Proof.FfnFold.lean ====
/-
  The feed-forward kernel over its grid: point `t` is row block `t / 22` and feed-forward tile `t % 22`; after it the
  scratch holds the row block's normalisation and the result block the rows plus the tiles so far. The result array
  ends holding the rows plus the sum over all 5632 feed-forward columns.
-/
module

public import proofs.«01_k».proof.Proof.FfnBlock

@[expose] public section

set_option maxRecDepth 16384

noncomputable section

open Idealize.ShloMosaic Idealize.ShloMosaic.TcCoe Idealize.SL.Sem

namespace Cert.FfnIdeal.Value

open Cert.FfnIdeal Cert.FfnIdeal.Gen Cert.Rows

/-- The windows' block indices at point `t`. -/
theorem idx_val : ∀ t : Fin cfg0.N, win0_0.index t = ![t.val / 22, 0] ∧ win0_1.index t = ![0, 0]
    ∧ win0_2.index t = ![0, t.val % 22] ∧ win0_3.index t = ![0, t.val % 22] ∧ win0_4.index t = ![t.val % 22, 0]
    ∧ win0_5.index t = ![t.val / 22, 0] :=
  (by decide +kernel : ∀ t : Fin grid0.N, _)

/-! ## The arrays the kernel reads, as functions of coordinates -/

section
variable (m : (ℓ : Loc nD τ sig) → Buf (Elt Ideal) ℓ) (c : Dev nD)

abbrev X (r : Fin 8192) (d : Fin 2048) : EReal := (show FVec Ideal S8192x2048 .f32 from m ((c : Thread nD τ).loc main_arg0)) (ix2 r d)
abbrev Gn (d : Fin 2048) : EReal := (show FVec Ideal S2048 .f32 from m ((c : Thread nD τ).loc main_arg1)) (ix1 d)
abbrev W1 (k : Fin 2048) (j : Fin 5632) : EReal := (show FVec Ideal S2048x5632 .f32 from m ((c : Thread nD τ).loc main_arg2)) (ix2 k j)
abbrev W3 (k : Fin 2048) (j : Fin 5632) : EReal := (show FVec Ideal S2048x5632 .f32 from m ((c : Thread nD τ).loc main_arg3)) (ix2 k j)
abbrev W2 (j : Fin 5632) (d : Fin 2048) : EReal := (show FVec Ideal S5632x2048 .f32 from m ((c : Thread nD τ).loc main_arg4)) (ix2 j d)

/-- The row block's row `r` at point `t`, as a row of the array. -/
def rowAt (t : Fin cfg0.N) (r : Fin 512) : Fin 8192 :=
  ⟨512 * (t.val / 22) + r.val, by have := lt_of_lt_of_eq t.isLt N_0; omega⟩
/-- Column `j` of feed-forward tile `s`, as a column of the array. -/
def colAt (s : ℕ) (j : Fin 256) : Fin 5632 := ⟨(s * 256 + j.val) % 5632, Nat.mod_lt _ (by decide)⟩

theorem colAt_val (t : Fin cfg0.N) (j : Fin 256) : (colAt (t.val % 22) j).val = t.val % 22 * 256 + j.val := by
  show (t.val % 22 * 256 + j.val) % 5632 = _
  omega

theorem blk0 (t : Fin cfg0.N) (r : Fin 512) (d : Fin 2048) :
    (show FVec Ideal S512x2048 .f32 from iblk m c 0 t) (ix2 r d) = X m c (rowAt t r) d := by
  have h := idx_val t
  blk_ext [iblk, V, idx_val t, rowAt]

theorem blk1 (t : Fin cfg0.N) (d : Fin 2048) :
    (show FVec Ideal S1x2048 .f32 from iblk m c 1 t) (ix2 0 d) = Gn m c d := by
  blk_simp [iblk, idx_val t]
  entry_read
  pointwise
  blk_ext [idx_val t]

theorem blk2 (t : Fin cfg0.N) (k : Fin 2048) (j : Fin 256) :
    (show FVec Ideal S2048x256 .f32 from iblk m c 2 t) (ix2 k j) = W1 m c k (colAt (t.val % 22) j) := by
  have h := colAt_val t j
  blk_ext [iblk, V, idx_val t]

theorem blk3 (t : Fin cfg0.N) (k : Fin 2048) (j : Fin 256) :
    (show FVec Ideal S2048x256 .f32 from iblk m c 3 t) (ix2 k j) = W3 m c k (colAt (t.val % 22) j) := by
  have h := colAt_val t j
  blk_ext [iblk, V, idx_val t]

theorem blk4 (t : Fin cfg0.N) (j : Fin 256) (d : Fin 2048) :
    (show FVec Ideal S256x2048 .f32 from iblk m c 4 t) (ix2 j d) = W2 m c (colAt (t.val % 22) j) d := by
  have h := colAt_val t j
  blk_ext [iblk, V, idx_val t]

/-- One feed-forward column's contribution to result row `r`, model column `d`. -/
def colTerm (r : Fin 8192) (d : Fin 2048) (l : Fin 5632) : EReal :=
  ((∑ k, hnAt (X m c) (Gn m c) r k * W1 m c k l) * Ideal.logistic (∑ k, hnAt (X m c) (Gn m c) r k * W1 m c k l)
    * ∑ k, hnAt (X m c) (Gn m c) r k * W3 m c k l) * W2 m c l d

/-- A tile's contribution. -/
def tileTerm (r : Fin 8192) (d : Fin 2048) (s : ℕ) : EReal := ∑ j : Fin 256, colTerm m c r d (colAt s j)

/-- The scratch after any point: its row block's normalisation. -/
theorem scratch_eq (n : ℕ) (hn : n < cfg0.N) (r : Fin 512) (d : Fin 2048) :
    (show FVec Ideal S512x2048 .bf16 from (outsAt0 m c n hn).2) (ix2 r d) = hnAt (X m c) (Gn m c) (rowAt ⟨n, hn⟩ r) d := by
  induction n with
  | zero =>
    have e := congrArg Prod.snd (outsAt0_A m c ⟨0, hn⟩ rfl)
    dsimp only at e
    rw [e, sout_A]
    exact hnAt_congr (fun d => blk0 m c ⟨0, hn⟩ r d) (fun d => blk1 m c ⟨0, hn⟩ d)
  | succ n ih =>
    by_cases h0 : (n + 1) % 22 = 0
    · have e := congrArg Prod.snd (outsAt0_A m c ⟨n + 1, hn⟩ h0)
      dsimp only at e
      rw [e, sout_A]
      exact hnAt_congr (fun d => blk0 m c ⟨n + 1, hn⟩ r d) (fun d => blk1 m c ⟨n + 1, hn⟩ d)
    · have e := congrArg Prod.snd (outsAt0_B m c ⟨n + 1, hn⟩ h0)
      dsimp only at e
      rw [e]
      refine (ih (Nat.lt_of_succ_lt hn)).trans ?_
      have er : rowAt ⟨n, Nat.lt_of_succ_lt hn⟩ r = rowAt ⟨n + 1, hn⟩ r := by
        apply Fin.ext; show 512 * (n / 22) + r.val = 512 * ((n + 1) / 22) + r.val; omega
      rw [er]

/-- A tile's part read off the blocks at point `t` is that tile's contribution. -/
theorem part_eq (t : Fin cfg0.N) (h : FVec Ideal S512x2048 .bf16) (r : Fin 512) (d : Fin 2048)
    (hh : ∀ d, h (ix2 r d) = hnAt (X m c) (Gn m c) (rowAt t r) d) :
    ffnPart (fun r d => h (ix2 r d)) (fun k j => (show FVec Ideal S2048x256 .f32 from iblk m c 2 t) (ix2 k j))
      (fun k j => (show FVec Ideal S2048x256 .f32 from iblk m c 3 t) (ix2 k j))
      (fun j d => (show FVec Ideal S256x2048 .f32 from iblk m c 4 t) (ix2 j d)) r d = tileTerm m c (rowAt t r) d (t.val % 22) := by
  unfold ffnPart tileTerm colTerm
  simp only [hh, blk2, blk3, blk4]

/-- The result block after any point: its rows plus the tiles so far. -/
theorem out_eq (n : ℕ) (hn : n < cfg0.N) (r : Fin 512) (d : Fin 2048) :
    (show FVec Ideal S512x2048 .f32 from (outsAt0 m c n hn).1) (ix2 r d)
      = X m c (rowAt ⟨n, hn⟩ r) d + ∑ s ∈ Finset.range (n % 22 + 1), tileTerm m c (rowAt ⟨n, hn⟩ r) d s := by
  have hA : ∀ t : Fin cfg0.N, t.val % 22 = 0 → (show FVec Ideal S512x2048 .f32 from (outsAt0 m c t.val t.isLt).1) (ix2 r d)
      = X m c (rowAt t r) d + ∑ s ∈ Finset.range (t.val % 22 + 1), tileTerm m c (rowAt t r) d s := fun t h0 => by
    rw [congrArg Prod.fst (outsAt0_A m c t h0)]
    dsimp only
    rw [out_A]
    refine (pay2_at _ _ _ _ _ r d).trans ?_
    rw [part_eq m c t _ r d fun d => hnAt_congr (fun d => blk0 m c t r d) (fun d => blk1 m c t d), h0, Finset.sum_range_one]
    exact congrArg (· + _) (blk0 m c t r d)
  induction n with
  | zero => exact hA ⟨0, hn⟩ rfl
  | succ n ih =>
    by_cases h0 : (n + 1) % 22 = 0
    · exact hA ⟨n + 1, hn⟩ h0
    · have hn' := Nat.lt_of_succ_lt hn
      have er : rowAt ⟨n, hn'⟩ r = rowAt ⟨n + 1, hn⟩ r := by
        apply Fin.ext; show 512 * (n / 22) + r.val = 512 * ((n + 1) / 22) + r.val; omega
      have em : n % 22 + 1 = (n + 1) % 22 := by omega
      rw [congrArg Prod.fst (outsAt0_B m c ⟨n + 1, hn⟩ h0)]
      dsimp only
      rw [out_B]
      refine (pay2_at _ _ _ _ _ r d).trans ?_
      refine (congrArg₂ (· + ·) (ih hn')
        (part_eq m c ⟨n + 1, hn⟩ _ r d fun d => (scratch_eq m c n hn' r d).trans (by rw [er]))).trans ?_
      rw [er, em, add_assoc, ← Finset.sum_range_succ]

/-- The array the kernel computes. -/
def ffnOut (r : Fin 8192) (d : Fin 2048) : EReal := X m c r d + ∑ l : Fin 5632, colTerm m c r d l

/-- The result array at row `r`, column `d`. -/
theorem G5_at (r : Fin 8192) (d : Fin 2048) :
    (show FVec Ideal S8192x2048 .f32 from G5 m c) (ix2 r d) = ffnOut m c r d := by
  have hp : pt5Of (ix2 r d : S8192x2048.Idx) = 22 * (r.val / 512) + 21 := by
    show 22 * (1 * (r.val / 512 - 0) + 1 * (d.val / 2048 - 0)) + 21 = _
    have := d.isLt; omega
  have hN : pt5Of (ix2 r d : S8192x2048.Idx) < cfg0.N := by
    rw [hp]; have := r.isLt; exact lt_of_lt_of_eq (by omega) N_0.symm
  show G5 m c (ix2 r d : S8192x2048.Idx) = _
  unfold G5
  rw [dif_pos hN, ← outsAt0_sweep m c _ hN]
  have hl : loc5Of (ix2 r d : S8192x2048.Idx) = ix2 (⟨r.val % 512, Nat.mod_lt _ (by decide)⟩ : Fin 512) d := by
    funext a; apply Fin.ext
    match a with
    | ⟨0, _⟩ => rfl
    | ⟨1, _⟩ => exact Nat.mod_eq_of_lt d.isLt
  rw [hl]
  refine (out_eq m c _ hN _ d).trans ?_
  have er : rowAt ⟨_, hN⟩ (⟨r.val % 512, Nat.mod_lt _ (by decide)⟩ : Fin 512) = r := by
    apply Fin.ext; show 512 * (pt5Of (ix2 r d : S8192x2048.Idx) / 22) + r.val % 512 = r.val; rw [hp]; omega
  have em : pt5Of (ix2 r d : S8192x2048.Idx) % 22 + 1 = 22 := by rw [hp]; omega
  rw [er, em]
  unfold ffnOut
  refine congrArg (X m c r d + ·) ?_
  rw [Finset.sum_range]
  exact Fin.sum_mul_add_congr fun s k hl => congrArg (colTerm m c r d) (Fin.ext (Nat.mod_eq_of_lt hl))

end

end Cert.FfnIdeal.Value

end
-- ==== Proof.FfnRef.lean ====
/-
  The feed-forward part of the reference, read at an index: the row plus the sum over all feed-forward columns of the
  gated projections of the normalised row.
-/
module

public import proofs.«01_k».proof.Proof.FfnFold
public import proofs.«01_k».proof.Proof.Gen.FfnRefIdeal.Run

@[expose] public section

set_option maxRecDepth 16384

noncomputable section

open Idealize.ShloMosaic Idealize.ShloMosaic.TcCoe Idealize.SL.Sem

namespace Cert.FfnRefIdeal.Value

open Cert.FfnRefIdeal Cert.FfnRefIdeal.Gen Cert.Rows

/-- The normalised rows, as the reference composes them. -/
def norm (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

theorem norm_at (x : FVec Ideal S8192x2048 .f32) (g : FVec Ideal S2048 .f32) (r : Fin 8192) (d : Fin 2048) :
    norm x g (ix2 r d) = hnAt (fun r d => x (ix2 r d)) (fun d => g (ix1 d)) r d := by
  pointwise [norm, hnAt]

/-- The result, as the reference composes it from the normalised rows `h`. -/
def out (x h : FVec Ideal S8192x2048 .f32) (w1 w3 : FVec Ideal S2048x5632 .f32) (w2 : FVec Ideal S5632x2048 .f32) : FVec Ideal S8192x2048 .f32 :=
  addf x (Host.dotGeneral dot_S8192x5632_S5632x2048_S8192x2048_1_0_0_1_n_n none (mulf (mulf (Host.dotGeneral dot_S8192x2048_S2048x5632_S8192x5632_1_0_0_1_n_n none h w1) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (Host.dotGeneral dot_S8192x2048_S2048x5632_S8192x5632_1_0_0_1_n_n none h w1)))))) (Host.dotGeneral dot_S8192x2048_S2048x5632_S8192x5632_1_0_0_1_n_n none h w3)) w2)

theorem out_at (x h : FVec Ideal S8192x2048 .f32) (w1 w3 : FVec Ideal S2048x5632 .f32) (w2 : FVec Ideal S5632x2048 .f32)
    (r : Fin 8192) (d : Fin 2048) :
    out x h w1 w3 w2 (ix2 r d) = x (ix2 r d) + ∑ l : Fin 5632,
      ((∑ k : Fin 2048, h (ix2 r k) * w1 (ix2 k l)) * Ideal.logistic (∑ k : Fin 2048, h (ix2 r k) * w1 (ix2 k l))
        * ∑ k : Fin 2048, h (ix2 r k) * w3 (ix2 k l)) * w2 (ix2 l d) := by
  pointwise [out, Ideal.logistic]

/-- The reference's result is the array the kernel computes from the same arguments. -/
theorem out_eq_kernel (m : (ℓ : Loc Cert.FfnIdeal.nD Cert.FfnIdeal.τ Cert.FfnIdeal.sig) → Buf (Elt Ideal) ℓ) (c : Dev Cert.FfnIdeal.nD) :
    out (m ((c.tc : Thread Cert.FfnIdeal.nD Cert.FfnIdeal.τ).loc Cert.FfnIdeal.main_arg0))
      (norm (m ((c.tc : Thread Cert.FfnIdeal.nD Cert.FfnIdeal.τ).loc Cert.FfnIdeal.main_arg0))
        (m ((c.tc : Thread Cert.FfnIdeal.nD Cert.FfnIdeal.τ).loc Cert.FfnIdeal.main_arg1)))
      (m ((c.tc : Thread Cert.FfnIdeal.nD Cert.FfnIdeal.τ).loc Cert.FfnIdeal.main_arg2))
      (m ((c.tc : Thread Cert.FfnIdeal.nD Cert.FfnIdeal.τ).loc Cert.FfnIdeal.main_arg3))
      (m ((c.tc : Thread Cert.FfnIdeal.nD Cert.FfnIdeal.τ).loc Cert.FfnIdeal.main_arg4))
    = Cert.FfnIdeal.Value.G5 m c := by
  funext i
  obtain ⟨r, d, rfl⟩ : ∃ (r : Fin 8192) (d : Fin 2048), i = ix2 r d := ⟨i 0, i 1, eq_ix2 i⟩
  refine (out_at _ _ _ _ _ r d).trans ?_
  refine Eq.trans ?_ (Cert.FfnIdeal.Value.G5_at m c r d).symm
  unfold Cert.FfnIdeal.Value.ffnOut Cert.FfnIdeal.Value.colTerm
  simp only [norm_at]

end Cert.FfnRefIdeal.Value

end
-- ==== Proof.AIn.lean ====
/-
  The gated mixer's input projection over the extended reals: point `t` is row block `t / 8` and column tile `t % 8`;
  the scratch holds the row block's normalisation from the run's first point on, and every point stores the gated unit
  of the normalised rows against its column tile.
-/
module

public import proofs.«01_k».proof.Proof.Gen.AInIdeal.Value
public import proofs.«01_k».proof.Proof.Rows

@[expose] public section

set_option maxRecDepth 16384

noncomputable section

open Idealize.ShloMosaic Idealize.ShloMosaic.TcCoe Idealize.SL.Sem

namespace Cert.AInIdeal.Value

open Cert.AInIdeal Cert.AInIdeal.Gen Cert.Rows

/-! ## What one point computes -/

/-- What one trip of the normalising loop stores, at an index. -/
theorem pay1_at (x : FVec Ideal S256x2048 .f32) (g : FVec Ideal S1x2048 .f32) (r : Fin 256) (d : Fin 2048) :
    k0_pay1 (F := Ideal) x g (ix2 r d) = hnAt (fun r d => x (ix2 r d)) (fun d => g (ix2 0 d)) r d := by
  pointwise [k0_pay1, hnAt]

/-- What every point stores last, at an index. -/
theorem pay2_at (hn : FVec Ideal S1024x2048 .bf16) (w : FVec Ideal S2048x512 .f32) (r : Fin 1024) (j : Fin 512) :
    k0_pay2 (F := Ideal) hn w (ix2 r j) = geluAt (∑ k : Fin 2048, hn (ix2 r k) * w (ix2 k j)) := by
  pointwise [k0_pay2, geluAt]

section
variable (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .f32) (h4 : a4.IsWhole)
    (a5 : Memref sig .tc .vmem S1024x512 .f32) (h5 : a5.IsWhole) (a6 : Memref sig .tc .vmem S1024x2048 .bf16) (h6 : a6.IsWhole)

/-- Trip `k` starts at row `256 k`. -/
theorem off1_val : ∀ k : Fin k0_t1_loop.trips, k0_off1 k = ![256 * k.val, 0] := by decide +kernel

/-- One trip stores the normalisation of its 256 rows. -/
theorem trip_pieces (hc : cond0_0 i) (x0 : Vec Ideal S1024x2048 .f32) (x1 : Vec Ideal S1x2048 .f32) (k : Fin k0_t1_loop.trips) :
    tripL_k0_t1 (F := Ideal) Variants.none c none i a2 h2 a3 h3 a4 h4 a5 h5 a6 h6 hc (h2.unread x0) (h3.unread x1) k
     = [⟨Rect.unit (s := S1024x2048) (k0_off1 k) S256x2048.size (k0_off1_inb i k hc),
          k0_pay1 (View.ld x0 (Rect.unit (s := S1024x2048) (k0_off1 k) S256x2048.size (k0_off1_inb i k hc))) x1⟩] := by
  unfold tripL_k0_t1 trip_k0_t1
  dsimp only
  simp only [View.readAt_eq_ld, h2.read_unread, h3.read_unread, View.ld_unit_zero (S := S1x2048) hz2]

/-- The whole block's normalisation. -/
def hnBlk (x0 : Vec Ideal S1024x2048 .f32) (x1 : Vec Ideal S1x2048 .f32) : Vec Ideal S1024x2048 .bf16 :=
  fun y => hnAt (fun (r : Fin 1024) d => (show FVec Ideal S1024x2048 .f32 from x0) (ix2 r d)) (fun d => (show FVec Ideal S1x2048 .f32 from x1) (ix2 0 d)) (y 0) (y 1)

/-- Where trip `k`'s rectangle puts its index. -/
theorem emb_rows (hc : cond0_0 i) (k : Fin k0_t1_loop.trips) (r : Fin 256) (d : Fin 2048) :
    ((Rect.unit (s := S1024x2048) (k0_off1 k) S256x2048.size (k0_off1_inb i k hc)).emb (ix2 r d) : S1024x2048.Idx)
      = ix2 (⟨256 * k.val + r.val, by have := Nat.lt_of_lt_of_le k.isLt k0_t1_abs.2.1; omega⟩ : Fin 1024) d := by
  funext a
  apply Fin.ext
  match a with
  | ⟨0, _⟩ => show k0_off1 k 0 + 1 * r.val = 256 * k.val + r.val; rw [off1_val]; simp
  | ⟨1, _⟩ => show k0_off1 k 1 + 1 * d.val = d.val; rw [off1_val]; simp

/-- After any number of trips every piece is a tile of the block's normalisation. -/
theorem pb_tiles (hc : cond0_0 i) (x0 : Vec Ideal S1024x2048 .f32) (x1 : Vec Ideal S1x2048 .f32) (n : ℕ) (hn : n ≤ k0_t1_loop.trips) :
    ∀ p ∈ pb_k0_t1 (F := Ideal) Variants.none c none i a2 h2 a3 h3 a4 h4 a5 h5 a6 h6 hc (h2.unread x0) (h3.unread x1) n,
      ∀ x : p.1.shape.Idx, p.2 x = hnBlk x0 x1 (p.1.emb x) := by
  induction n with
  | zero => exact fun p hp => absurd hp List.not_mem_nil
  | succ n ih =>
    have hs := pb_k0_t1_succ (F := Ideal) Variants.none c none i a2 h2 a3 h3 a4 h4 a5 h5 a6 h6 hc (h2.unread x0) (h3.unread x1) ⟨n, hn⟩
    rw [trip_pieces] at hs
    dsimp only at hs
    rw [hs]
    intro p hp
    rcases List.mem_cons.mp hp with rfl | hp
    · intro x
      dsimp only at x ⊢
      obtain ⟨r, d, rfl⟩ : ∃ (r : Fin 256) (d : Fin 2048), x = ix2 r d := ⟨x 0, x 1, eq_ix2 x⟩
      refine (pay1_at _ _ r d).trans ?_
      rw [emb_rows i hc ⟨n, hn⟩ r d]
      exact hnAt_congr (fun d => congrArg x0 (emb_rows i hc ⟨n, hn⟩ r d)) (fun _ => rfl)
    · exact ih (Nat.le_of_succ_le hn) p hp

/-- The loop's pieces left in the scratch are the block's normalisation. -/
theorem canon_hn (hc : cond0_0 i) (x0 : Vec Ideal S1024x2048 .f32) (x1 : Vec Ideal S1x2048 .f32) :
    View.canon (pb_k0_t1 (F := Ideal) Variants.none c none i a2 h2 a3 h3 a4 h4 a5 h5 a6 h6 hc (h2.unread x0) (h3.unread x1)
      (Scf.trips k0_t1_loop.lb k0_t1_loop.ub k0_t1_loop.st)) = hnBlk x0 x1 :=
  funext fun y => View.canon_apply_of_pieces (hnBlk x0 x1) _ (pb_tiles c i a2 h2 a3 h3 a4 h4 a5 h5 a6 h6 hc x0 x1 _ le_rfl) y
    (View.cover_of_tiledL (pb_k0_t1 (F := Ideal) Variants.none c none i a2 h2 a3 h3 a4 h4 a5 h5 a6 h6 hc (h2.unread x0) (h3.unread x1) (Scf.trips k0_t1_loop.lb k0_t1_loop.ub k0_t1_loop.st)) S256x2048.size (by sl_kernel_rfl) y)

/-- What a run's later points leave in the result block. -/
theorem out_B (hc : ¬cond0_0 i) (x0 : Vec Ideal S1024x2048 .f32) (x1 : Vec Ideal S1x2048 .f32) (x2 : Vec Ideal S2048x512 .f32)
    (xs : Vec Ideal S1024x2048 .bf16) :
    out0_B_3 c i a2 h2 a3 h3 a4 h4 a5 h5 a6 h6 hc x0 x1 x2 xs = k0_pay2 xs x2 := by
  frame_out

/-- What a run's first point leaves in the result block. -/
theorem out_A (hc : cond0_0 i) (x0 : Vec Ideal S1024x2048 .f32) (x1 : Vec Ideal S1x2048 .f32) (x2 : Vec Ideal S2048x512 .f32) :
    out0_A_3 c i a2 h2 a3 h3 a4 h4 a5 h5 a6 h6 hc x0 x1 x2 = k0_pay2 (hnBlk x0 x1) x2 := by
  frame_out
  rw [View.readCov_eq_canon']
  have e2 := canon_hn c i a2 h2 a3 h3 a4 h4 a5 h5 a6 h6 hc x0 x1
  have l2 := View.ld_unit_zero (Val := Elt Ideal) (S := S1024x2048) (e := .bf16) hz2 inb_S1024x2048_S1024x2048_0_0 (hnBlk x0 x1)
  refine congrArg (fun p => k0_pay2 p x2) (Eq.trans ?_ l2)
  exact congrArg (fun G : Vec Ideal S1024x2048 .bf16 => View.ld (Val := Elt Ideal) G (Rect.unit ![0, 0] ![1024, 2048] inb_S1024x2048_S1024x2048_0_0)) e2

/-- What a run's first point leaves in the scratch. -/
theorem sout_A (hc : cond0_0 i) (x0 : Vec Ideal S1024x2048 .f32) (x1 : Vec Ideal S1x2048 .f32) (x2 : Vec Ideal S2048x512 .f32) :
    sout0_A_0 c i a2 h2 a3 h3 a4 h4 a5 h5 a6 h6 hc x0 x1 x2 = hnBlk x0 x1 := by
  frame_out
  exact canon_hn c i a2 h2 a3 h3 a4 h4 a5 h5 a6 h6 hc x0 x1

end

/-! ## What the array holds -/

/-- The windows' block indices at point `t`. -/
theorem idx_val : ∀ t : Fin cfg0.N, win0_0.index t = ![t.val / 8, 0] ∧ win0_1.index t = ![0, 0]
    ∧ win0_2.index t = ![0, t.val % 8] ∧ win0_3.index t = ![t.val / 8, t.val % 8] :=
  (by decide +kernel : ∀ t : Fin grid0.N, _)

section
variable (m : (ℓ : Loc nD τ sig) → Buf (Elt Ideal) ℓ) (c : Dev nD)

abbrev X (r : Fin 8192) (d : Fin 2048) : EReal := (show FVec Ideal S8192x2048 .f32 from m ((c : Thread nD τ).loc main_arg0)) (ix2 r d)
abbrev Gn (d : Fin 2048) : EReal := (show FVec Ideal S2048 .f32 from m ((c : Thread nD τ).loc main_arg1)) (ix1 d)
abbrev W (k : Fin 2048) (j : Fin 4096) : EReal := (show FVec Ideal S2048x4096 .f32 from m ((c : Thread nD τ).loc main_arg2)) (ix2 k j)

/-- The row block's row `r` at point `t`, as a row of the array. -/
def rowAt (t : Fin cfg0.N) (r : Fin 1024) : Fin 8192 :=
  ⟨1024 * (t.val / 8) + r.val, by have := lt_of_lt_of_eq t.isLt N_0; omega⟩
/-- The tile's column `j` at point `t`, as a column of the array. -/
def colAt (t : Fin cfg0.N) (j : Fin 512) : Fin 4096 := ⟨512 * (t.val % 8) + j.val, by omega⟩

theorem blk0 (t : Fin cfg0.N) (r : Fin 1024) (d : Fin 2048) :
    (show FVec Ideal S1024x2048 .f32 from iblk m c 0 t) (ix2 r d) = X m c (rowAt t r) d := by
  have h := idx_val t
  blk_ext [iblk, V, idx_val t, rowAt]

theorem blk1 (t : Fin cfg0.N) (d : Fin 2048) :
    (show FVec Ideal S1x2048 .f32 from iblk m c 1 t) (ix2 0 d) = Gn m c d := by
  blk_simp [iblk, idx_val t]
  entry_read
  pointwise
  blk_ext [idx_val t]

theorem blk2 (t : Fin cfg0.N) (k : Fin 2048) (j : Fin 512) :
    (show FVec Ideal S2048x512 .f32 from iblk m c 2 t) (ix2 k j) = W m c k (colAt t j) := by
  have h := idx_val t
  blk_ext [iblk, V, idx_val t, colAt]

/-- The array the kernel computes. -/
def zOut (r : Fin 8192) (j : Fin 4096) : EReal := geluAt (∑ k : Fin 2048, hnAt (X m c) (Gn m c) r k * W m c k j)

/-- The scratch after any point: its row block's normalisation. -/
theorem scratch_eq (n : ℕ) (hn : n < cfg0.N) (r : Fin 1024) (d : Fin 2048) :
    (show FVec Ideal S1024x2048 .bf16 from (outsAt0 m c n hn).2) (ix2 r d) = hnAt (X m c) (Gn m c) (rowAt ⟨n, hn⟩ r) d := by
  have hA : ∀ t : Fin cfg0.N, t.val % 8 = 0 → (show FVec Ideal S1024x2048 .bf16 from (outsAt0 m c t.val t.isLt).2) (ix2 r d)
      = hnAt (X m c) (Gn m c) (rowAt t r) d := fun t h0 => by
    have e := congrArg Prod.snd (outsAt0_A m c t h0)
    dsimp only at e
    rw [e, sout_A]
    exact hnAt_congr (fun d => blk0 m c t r d) (fun d => blk1 m c t d)
  induction n with
  | zero => exact hA ⟨0, hn⟩ rfl
  | succ n ih =>
    by_cases h0 : (n + 1) % 8 = 0
    · exact hA ⟨n + 1, hn⟩ h0
    · have e := congrArg Prod.snd (outsAt0_B m c ⟨n + 1, hn⟩ h0)
      dsimp only at e
      rw [e]
      refine (ih (Nat.lt_of_succ_lt hn)).trans ?_
      have er : rowAt ⟨n, Nat.lt_of_succ_lt hn⟩ r = rowAt ⟨n + 1, hn⟩ r := by
        apply Fin.ext; show 1024 * (n / 8) + r.val = 1024 * ((n + 1) / 8) + r.val; omega
      rw [er]

/-- The result block after any point. -/
theorem out_eq (t : Fin cfg0.N) (r : Fin 1024) (j : Fin 512) :
    (show FVec Ideal S1024x512 .f32 from (outsAt0 m c t.val t.isLt).1) (ix2 r j) = zOut m c (rowAt t r) (colAt t j) := by
  unfold zOut
  by_cases h0 : t.val % 8 = 0
  · have e := congrArg Prod.fst (outsAt0_A m c t h0)
    dsimp only at e
    rw [e, out_A]
    refine (pay2_at _ _ r j).trans (congrArg geluAt (Finset.sum_congr rfl fun k _ => ?_))
    exact congrArg₂ (· * ·) (hnAt_congr (fun d => blk0 m c t r d) (fun d => blk1 m c t d)) (blk2 m c t k j)
  · have e := congrArg Prod.fst (outsAt0_B m c t h0)
    dsimp only at e
    rw [e, out_B]
    have ht := t.isLt
    refine (pay2_at _ _ r j).trans (congrArg geluAt (Finset.sum_congr rfl fun k _ => ?_))
    refine congrArg₂ (· * ·) ((scratch_eq m c (t.val - 1) (by omega) r k).trans ?_) (blk2 m c t k j)
    have er : rowAt ⟨t.val - 1, by omega⟩ r = rowAt t r := by
      apply Fin.ext; show 1024 * ((t.val - 1) / 8) + r.val = 1024 * (t.val / 8) + r.val; omega
    rw [er]

/-- The result array at row `r`, column `j`. -/
theorem G3_at (r : Fin 8192) (j : Fin 4096) :
    (show FVec Ideal S8192x4096 .f32 from G3 m c) (ix2 r j) = zOut m c r j := by
  have hp : pt3Of (ix2 r j : S8192x4096.Idx) = 8 * (r.val / 1024) + j.val / 512 := by
    show 8 * (r.val / 1024 - 0) + 1 * (j.val / 512 - 0) = _
    omega
  have hN : pt3Of (ix2 r j : S8192x4096.Idx) < cfg0.N := by
    rw [hp]; have := r.isLt; have := j.isLt; exact lt_of_lt_of_eq (by omega) N_0.symm
  show G3 m c (ix2 r j : S8192x4096.Idx) = _
  unfold G3
  rw [dif_pos hN, ← outsAt0_sweep m c _ hN]
  have hl : loc3Of (ix2 r j : S8192x4096.Idx) = ix2 (⟨r.val % 1024, Nat.mod_lt _ (by decide)⟩ : Fin 1024) (⟨j.val % 512, Nat.mod_lt _ (by decide)⟩ : Fin 512) := by
    funext a; apply Fin.ext
    match a with
    | ⟨0, _⟩ => rfl
    | ⟨1, _⟩ => rfl
  rw [hl]
  refine (out_eq m c ⟨_, hN⟩ _ _).trans ?_
  have er : rowAt ⟨_, hN⟩ (⟨r.val % 1024, Nat.mod_lt _ (by decide)⟩ : Fin 1024) = r := by
    apply Fin.ext; show 1024 * (pt3Of (ix2 r j : S8192x4096.Idx) / 8) + r.val % 1024 = r.val; rw [hp]; have := j.isLt; omega
  have ec : colAt ⟨_, hN⟩ (⟨j.val % 512, Nat.mod_lt _ (by decide)⟩ : Fin 512) = j := by
    apply Fin.ext; show 512 * (pt3Of (ix2 r j : S8192x4096.Idx) % 8) + j.val % 512 = j.val; rw [hp]; have := j.isLt; omega
  rw [er, ec]

end

end Cert.AInIdeal.Value

end
-- ==== Proof.AInRef.lean ====
/-
  The gated mixer's input projection in the reference, read at an index, and its equation with the kernel's array.
-/
module

public import proofs.«01_k».proof.Proof.AIn
public import proofs.«01_k».proof.Proof.Gen.AInRefIdeal.Run

@[expose] public section

set_option maxRecDepth 16384

noncomputable section

open Idealize.ShloMosaic Idealize.ShloMosaic.TcCoe Idealize.SL.Sem

namespace Cert.AInRefIdeal.Value

open Cert.AInRefIdeal Cert.AInRefIdeal.Gen Cert.Rows

/-- The normalised rows, as the reference composes them. -/
def norm (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

theorem norm_at (x : FVec Ideal S8192x2048 .f32) (g : FVec Ideal S2048 .f32) (r : Fin 8192) (d : Fin 2048) :
    norm x g (ix2 r d) = hnAt (fun r d => x (ix2 r d)) (fun d => g (ix1 d)) r d := by
  pointwise [norm, hnAt]

/-- The gated unit of the projected rows `a`, as the reference composes it. -/
def gelu (a : FVec Ideal S8192x4096 .f32) : FVec Ideal S8192x4096 .f32 :=
  mulf a (mulf (broadcastInDim S8192x4096 ![] bcast_S_S8192x4096 (constant S_ .f32 0x3F000000#32)) (addf (broadcastInDim S8192x4096 ![] bcast_S_S8192x4096 (constant S_ .f32 0x3F800000#32)) (Host.tanh (mulf (broadcastInDim S8192x4096 ![] bcast_S_S8192x4096 (constant S_ .f32 0x3F4C422A#32)) (addf a (mulf (broadcastInDim S8192x4096 ![] bcast_S_S8192x4096 (constant S_ .f32 0x3D372713#32)) (mulf (mulf a a) a)))))))

theorem gelu_at (a : FVec Ideal S8192x4096 .f32) (r : Fin 8192) (j : Fin 4096) : gelu a (ix2 r j) = geluAt (a (ix2 r j)) := by
  pointwise [gelu, geluAt, mul_assoc]

/-- The projected rows. -/
def proj (h : FVec Ideal S8192x2048 .f32) (w : FVec Ideal S2048x4096 .f32) : FVec Ideal S8192x4096 .f32 :=
  Host.dotGeneral dot_S8192x2048_S2048x4096_S8192x4096_1_0_0_1_n_n none h w

theorem proj_at (h : FVec Ideal S8192x2048 .f32) (w : FVec Ideal S2048x4096 .f32) (r : Fin 8192) (j : Fin 4096) :
    proj h w (ix2 r j) = ∑ k : Fin 2048, h (ix2 r k) * w (ix2 k j) := by
  pointwise [proj]

/-- The reference's result is the array the kernel computes from the same arguments. -/
theorem out_eq_kernel (m : (ℓ : Loc Cert.AInIdeal.nD Cert.AInIdeal.τ Cert.AInIdeal.sig) → Buf (Elt Ideal) ℓ) (c : Dev Cert.AInIdeal.nD) :
    gelu (proj (norm (m ((c.tc : Thread Cert.AInIdeal.nD Cert.AInIdeal.τ).loc Cert.AInIdeal.main_arg0))
        (m ((c.tc : Thread Cert.AInIdeal.nD Cert.AInIdeal.τ).loc Cert.AInIdeal.main_arg1)))
      (m ((c.tc : Thread Cert.AInIdeal.nD Cert.AInIdeal.τ).loc Cert.AInIdeal.main_arg2)))
    = Cert.AInIdeal.Value.G3 m c := by
  funext i
  obtain ⟨r, j, rfl⟩ : ∃ (r : Fin 8192) (j : Fin 4096), i = ix2 r j := ⟨i 0, i 1, eq_ix2 i⟩
  refine (gelu_at _ r j).trans (Eq.trans (congrArg geluAt ?_) (Cert.AInIdeal.Value.G3_at m c r j).symm)
  refine (proj_at _ _ r j).trans ?_
  simp only [norm_at]

end Cert.AInRefIdeal.Value

end
-- ==== Proof.Qkv.lean ====
/-
  The windowed attention's projection over the extended reals: point `t` is row block `t / 36` and column tile `t % 36`;
  the scratch holds the row block's normalisation from the run's first point on, every point multiplies it with its
  column tile, and stores each head normalised (query and key tiles) or the product itself (value tiles).
-/
module

public import proofs.«01_k».proof.Proof.Gen.QkvIdeal.Value
public import proofs.«01_k».proof.Proof.Rows
public import Idealize.ShloMosaic.Lib.StableHlo.RunRead

@[expose] public section

set_option maxRecDepth 16384

noncomputable section

open Idealize.ShloMosaic Idealize.ShloMosaic.TcCoe Idealize.SL.Sem

namespace Cert.QkvIdeal.Value

open Cert.QkvIdeal Cert.QkvIdeal.Gen Cert.Rows

/-! ## What one point computes -/

/-- One entry of a head's normalisation: the entry over the root of the head's mean square, times a gain. -/
def headAt (a : Fin 128 → EReal) (g : EReal) (e : Fin 128) : EReal :=
  a e * Ideal.rsqrt (Ideal.div (∑ k : Fin 128, a k * a k) (Scalar.ofBits (F := Ideal) .f32 0x43000000#32) + Scalar.ofBits (F := Ideal) .f32 0x358637BD#32) * g

/-- The product a point computes, at an index. -/
theorem pay9_at (hn : FVec Ideal S1024x2048 .bf16) (w : FVec Ideal S2048x512 .f32) (r : Fin 1024) (j : Fin 512) :
    k0_pay9 (F := Ideal) hn w (ix2 r j) = ∑ k : Fin 2048, hn (ix2 r k) * w (ix2 k j) := by
  pointwise [k0_pay9]

/-- What one trip of the normalising loop stores, at an index. -/
theorem pay8_at (x : FVec Ideal S256x2048 .f32) (g : FVec Ideal S1x2048 .f32) (r : Fin 256) (d : Fin 2048) :
    k0_pay8 (F := Ideal) x g (ix2 r d) = hnAt (fun r d => x (ix2 r d)) (fun d => g (ix2 0 d)) r d := by
  pointwise [k0_pay8, hnAt]

/-- What a query or key tile stores for its four heads, at an index: head 0, then 1, 2 and 3. -/
theorem pay3_at (acc : FVec Ideal S1024x512 .f32) (g : FVec Ideal S1x128 .f32) (r : Fin 1024) (e : Fin 128) :
    k0_pay3 (F := Ideal) acc g (ix2 r e) = headAt (fun k => acc (ix2 r ⟨0 + k.val, by omega⟩)) (g (ix2 0 e)) e := by
  pointwise [k0_pay3, headAt]
theorem pay4_at (acc : FVec Ideal S1024x512 .f32) (g : FVec Ideal S1x128 .f32) (r : Fin 1024) (e : Fin 128) :
    k0_pay4 (F := Ideal) acc g (ix2 r e) = headAt (fun k => acc (ix2 r ⟨128 + k.val, by omega⟩)) (g (ix2 0 e)) e := by
  pointwise [k0_pay4, headAt]
theorem pay1_at (acc : FVec Ideal S1024x512 .f32) (g : FVec Ideal S1x128 .f32) (r : Fin 1024) (e : Fin 128) :
    k0_pay1 (F := Ideal) (k0_pay5 acc) (k0_pay6 g) (k0_pay7 acc) (ix2 r e) = headAt (fun k => acc (ix2 r ⟨256 + k.val, by omega⟩)) (g (ix2 0 e)) e := by
  pointwise [k0_pay1, k0_pay5, k0_pay6, k0_pay7, headAt]
theorem pay2_at (acc : FVec Ideal S1024x512 .f32) (g : FVec Ideal S1x128 .f32) (r : Fin 1024) (e : Fin 128) :
    k0_pay2 (F := Ideal) acc g (ix2 r e) = headAt (fun k => acc (ix2 r ⟨384 + k.val, by omega⟩)) (g (ix2 0 e)) e := by
  pointwise [k0_pay2, headAt]

/-- A query or key tile's block: every head normalised. -/
def headBlk (acc : FVec Ideal S1024x512 .f32) (g : FVec Ideal S1x512 .f32) : FVec Ideal S1024x512 .f32 :=
  fun y => headAt (fun k => acc (ix2 (y 0) ⟨128 * ((show Fin 512 from y 1).val / 128) + k.val, by have := (show Fin 512 from y 1).isLt; omega⟩)) (g (ix2 0 (y 1)))
    ⟨(show Fin 512 from y 1).val % 128, Nat.mod_lt _ (by decide)⟩

/-- A head's rectangle puts its index `o` columns to the right. -/
theorem emb_head (o : ℕ) (inb : ∀ a, (![0, o] : Fin 2 → Nat) a + S1024x128.size a ≤ S1024x512.size a) (r : Fin 1024) (e : Fin 128) (ho : o + e.val < 512) :
    ((Rect.unit (s := S1024x512) ![0, o] S1024x128.size inb).emb (ix2 r e) : S1024x512.Idx) = ix2 r ⟨o + e.val, ho⟩ := by
  funext a
  apply Fin.ext
  match a with
  | ⟨0, _⟩ => show 0 + 1 * r.val = r.val; omega
  | ⟨1, _⟩ => show o + 1 * e.val = o + e.val; omega

/-- A head's slice of the gains. -/
theorem ld_head (g : Vec Ideal S1x512 .f32) (o : ℕ) (inb : ∀ a, (![0, o] : Fin 2 → Nat) a + S1x128.size a ≤ S1x512.size a) (e : Fin 128) (ho : o + e.val < 512) :
    (show FVec Ideal S1x128 .f32 from View.ld g (Rect.unit (s := S1x512) ![0, o] S1x128.size inb)) (ix2 0 e)
      = (show FVec Ideal S1x512 .f32 from g) (ix2 0 ⟨o + e.val, ho⟩) := by
  refine congrArg g (funext fun a => Fin.ext ?_)
  match a with
  | ⟨0, _⟩ => rfl
  | ⟨1, _⟩ => show o + 1 * e.val = o + e.val; omega

/-- What the block holds in head `q`. -/
theorem headBlk_at (acc : FVec Ideal S1024x512 .f32) (g : FVec Ideal S1x512 .f32) (q : Fin 4) (o : ℕ) (hq : o = 128 * q.val) (r : Fin 1024) (e : Fin 128)
    (ho : o + e.val < 512) :
    headBlk acc g (ix2 r ⟨o + e.val, ho⟩) = headAt (fun k => acc (ix2 r ⟨o + k.val, by omega⟩)) (g (ix2 0 ⟨o + e.val, ho⟩)) e := by
  subst hq
  have hd : (128 * q.val + e.val) / 128 = q.val := by omega
  have hm : (128 * q.val + e.val) % 128 = e.val := by omega
  show headAt _ _ _ = _
  refine congrArg₂ (fun (a : Fin 128 → EReal) (j : Fin 128) => headAt a (g (ix2 0 ⟨128 * q.val + e.val, ho⟩)) j) (funext fun k => ?_) (Fin.ext hm)
  refine congrArg (fun j => acc (ix2 r j)) (Fin.ext ?_)
  show 128 * ((128 * q.val + e.val) / 128) + k.val = 128 * q.val + k.val
  rw [hd]

/-- A piece whose entries are head `q`'s normalisation is a tile of the block. -/
theorem piece_head (acc : FVec Ideal S1024x512 .f32) (g : Vec Ideal S1x512 .f32) (q : Fin 4) (o : ℕ) (hq : o = 128 * q.val)
    (inb : ∀ a, (![0, o] : Fin 2 → Nat) a + S1024x128.size a ≤ S1024x512.size a) (inb' : ∀ a, (![0, o] : Fin 2 → Nat) a + S1x128.size a ≤ S1x512.size a) (v : FVec Ideal S1024x128 .f32)
    (hv : ∀ (r : Fin 1024) (e : Fin 128), v (ix2 r e) = headAt (fun k => acc (ix2 r ⟨o + k.val, by omega⟩))
      ((show FVec Ideal S1x128 .f32 from View.ld g (Rect.unit (s := S1x512) ![0, o] S1x128.size inb')) (ix2 0 e)) e) (x : S1024x128.Idx) :
    v x = headBlk acc g ((Rect.unit (s := S1024x512) ![0, o] S1024x128.size inb).emb x) := by
  obtain ⟨r, e, rfl⟩ : ∃ (r : Fin 1024) (e : Fin 128), x = ix2 r e := ⟨x 0, x 1, eq_ix2 x⟩
  have ho : o + e.val < 512 := by omega
  rw [hv, emb_head o inb r e ho, headBlk_at acc g q o hq r e ho]
  exact congrArg (fun z => headAt _ z e) (ld_head g o inb' e ho)

/-- The four pieces a query or key tile stores. -/
abbrev headPieces (acc : FVec Ideal S1024x512 .f32) (x3 : Vec Ideal S1x512 .f32) : List (View.Piece (Elt Ideal) S1024x512 .f32) :=
  [⟨Rect.unit ![0, 384] ![1024, 128] inb_S1024x512_S1024x128_0_384,
      k0_pay2 acc (View.ld x3 (Rect.unit ![0, 384] ![1, 128] inb_S1x512_S1x128_0_384))⟩,
   ⟨Rect.unit ![0, 256] ![1024, 128] inb_S1024x512_S1024x128_0_256,
      k0_pay1 (k0_pay5 acc) (k0_pay6 (View.ld x3 (Rect.unit ![0, 256] ![1, 128] inb_S1x512_S1x128_0_256))) (k0_pay7 acc)⟩,
   ⟨Rect.unit ![0, 128] ![1024, 128] inb_S1024x512_S1024x128_0_128,
      k0_pay4 acc (View.ld x3 (Rect.unit ![0, 128] ![1, 128] inb_S1x512_S1x128_0_128))⟩,
   ⟨Rect.unit ![0, 0] ![1024, 128] inb_S1024x512_S1024x128_0_0,
      k0_pay3 acc (View.ld x3 (Rect.unit ![0, 0] ![1, 128] inb_S1x512_S1x128_0_0))⟩]

/-- They make up the block. -/
theorem canon_head (acc : FVec Ideal S1024x512 .f32) (x3 : Vec Ideal S1x512 .f32) :
    View.canon (headPieces acc x3) = headBlk acc x3 := by
  funext y
  refine View.canon_apply_of_pieces (headBlk acc x3) _ ?_ y (View.cover_of_tiledL (headPieces acc x3) S1024x128.size (by sl_kernel_rfl) y)
  intro p hp
  simp only [headPieces, List.mem_cons, List.not_mem_nil, or_false] at hp
  rcases hp with rfl | rfl | rfl | rfl
  · exact piece_head acc x3 3 384 rfl inb_S1024x512_S1024x128_0_384 _ _ (pay2_at acc _)
  · exact piece_head acc x3 2 256 rfl inb_S1024x512_S1024x128_0_256 _ _ (pay1_at acc _)
  · exact piece_head acc x3 1 128 rfl inb_S1024x512_S1024x128_0_128 _ _ (pay4_at acc _)
  · exact piece_head acc x3 0 0 rfl inb_S1024x512_S1024x128_0_0 _ _ (pay3_at acc _)

section
variable (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .f32) (h4 : a4.IsWhole)
    (a5 : Memref sig .tc .vmem S1x512 .f32) (h5 : a5.IsWhole)
    (a6 : Memref sig .tc .vmem S1024x512 .f32) (h6 : a6.IsWhole) (a7 : Memref sig .tc .vmem S1024x2048 .bf16) (h7 : a7.IsWhole)

/-- Trip `k` starts at row `256 k`. -/
theorem off1_val : ∀ k : Fin k0_t1_loop.trips, k0_off1 k = ![256 * k.val, 0] := by decide +kernel

/-- One trip stores the normalisation of its 256 rows. -/
theorem trip_pieces (hc : cond0_0 i) (x0 : Vec Ideal S1024x2048 .f32) (x1 : Vec Ideal S1x2048 .f32) (k : Fin k0_t1_loop.trips) :
    tripL_k0_t1 (F := Ideal) Variants.none c none i a2 h2 a3 h3 a4 h4 a5 h5 a6 h6 a7 h7 hc (h2.unread x0) (h3.unread x1) k
     = [⟨Rect.unit (s := S1024x2048) (k0_off1 k) S256x2048.size (k0_off1_inb i k hc),
          k0_pay8 (View.ld x0 (Rect.unit (s := S1024x2048) (k0_off1 k) S256x2048.size (k0_off1_inb i k hc))) x1⟩] := by
  unfold tripL_k0_t1 trip_k0_t1
  dsimp only
  simp only [View.readAt_eq_ld, h2.read_unread, h3.read_unread, View.ld_unit_zero (S := S1x2048) hz2]

/-- The whole block's normalisation. -/
def hnBlk (x0 : Vec Ideal S1024x2048 .f32) (x1 : Vec Ideal S1x2048 .f32) : Vec Ideal S1024x2048 .bf16 :=
  fun y => hnAt (fun (r : Fin 1024) d => (show FVec Ideal S1024x2048 .f32 from x0) (ix2 r d)) (fun d => (show FVec Ideal S1x2048 .f32 from x1) (ix2 0 d)) (y 0) (y 1)

/-- Where trip `k`'s rectangle puts its index. -/
theorem emb_rows (hc : cond0_0 i) (k : Fin k0_t1_loop.trips) (r : Fin 256) (d : Fin 2048) :
    ((Rect.unit (s := S1024x2048) (k0_off1 k) S256x2048.size (k0_off1_inb i k hc)).emb (ix2 r d) : S1024x2048.Idx)
      = ix2 (⟨256 * k.val + r.val, by have := Nat.lt_of_lt_of_le k.isLt k0_t1_abs.2.1; omega⟩ : Fin 1024) d := by
  funext a
  apply Fin.ext
  match a with
  | ⟨0, _⟩ => show k0_off1 k 0 + 1 * r.val = 256 * k.val + r.val; rw [off1_val]; simp
  | ⟨1, _⟩ => show k0_off1 k 1 + 1 * d.val = d.val; rw [off1_val]; simp

/-- After any number of trips every piece is a tile of the block's normalisation. -/
theorem pb_tiles (hc : cond0_0 i) (x0 : Vec Ideal S1024x2048 .f32) (x1 : Vec Ideal S1x2048 .f32) (n : ℕ) (hn : n ≤ k0_t1_loop.trips) :
    ∀ p ∈ pb_k0_t1 (F := Ideal) Variants.none c none i a2 h2 a3 h3 a4 h4 a5 h5 a6 h6 a7 h7 hc (h2.unread x0) (h3.unread x1) n,
      ∀ x : p.1.shape.Idx, p.2 x = hnBlk x0 x1 (p.1.emb x) := by
  induction n with
  | zero => exact fun p hp => absurd hp List.not_mem_nil
  | succ n ih =>
    have hs := pb_k0_t1_succ (F := Ideal) Variants.none c none i a2 h2 a3 h3 a4 h4 a5 h5 a6 h6 a7 h7 hc (h2.unread x0) (h3.unread x1) ⟨n, hn⟩
    rw [trip_pieces] at hs
    dsimp only at hs
    rw [hs]
    intro p hp
    rcases List.mem_cons.mp hp with rfl | hp
    · intro x
      dsimp only at x ⊢
      obtain ⟨r, d, rfl⟩ : ∃ (r : Fin 256) (d : Fin 2048), x = ix2 r d := ⟨x 0, x 1, eq_ix2 x⟩
      refine (pay8_at _ _ r d).trans ?_
      rw [emb_rows i hc ⟨n, hn⟩ r d]
      exact hnAt_congr (fun d => congrArg x0 (emb_rows i hc ⟨n, hn⟩ r d)) (fun _ => rfl)
    · exact ih (Nat.le_of_succ_le hn) p hp

/-- The loop's pieces left in the scratch are the block's normalisation. -/
theorem canon_hn (hc : cond0_0 i) (x0 : Vec Ideal S1024x2048 .f32) (x1 : Vec Ideal S1x2048 .f32) :
    View.canon (pb_k0_t1 (F := Ideal) Variants.none c none i a2 h2 a3 h3 a4 h4 a5 h5 a6 h6 a7 h7 hc (h2.unread x0) (h3.unread x1)
      (Scf.trips k0_t1_loop.lb k0_t1_loop.ub k0_t1_loop.st)) = hnBlk x0 x1 :=
  funext fun y => View.canon_apply_of_pieces (hnBlk x0 x1) _ (pb_tiles c i a2 h2 a3 h3 a4 h4 a5 h5 a6 h6 a7 h7 hc x0 x1 _ le_rfl) y
    (View.cover_of_tiledL (pb_k0_t1 (F := Ideal) Variants.none c none i a2 h2 a3 h3 a4 h4 a5 h5 a6 h6 a7 h7 hc (h2.unread x0) (h3.unread x1) (Scf.trips k0_t1_loop.lb k0_t1_loop.ub k0_t1_loop.st)) S256x2048.size (by sl_kernel_rfl) y)

/-- What a query or key tile's later points leave in the result block. -/
theorem out_B (hc0 : ¬cond0_0 i) (hc1 : cond0_1 i) (hc2 : ¬cond0_2 i) (x0 : Vec Ideal S1024x2048 .f32) (x1 : Vec Ideal S1x2048 .f32)
    (x2 : Vec Ideal S2048x512 .f32) (x3 : Vec Ideal S1x512 .f32) (xs : Vec Ideal S1024x2048 .bf16) :
    out0_B_4 c i a2 h2 a3 h3 a4 h4 a5 h5 a6 h6 a7 h7 hc0 hc1 hc2 x0 x1 x2 x3 xs = headBlk (k0_pay9 xs x2) x3 := by
  frame_out
  exact canon_head (k0_pay9 xs x2) x3

/-- What a value tile's points leave in the result block. -/
theorem out_C (hc0 : ¬cond0_0 i) (hc1 : ¬cond0_1 i) (hc2 : cond0_2 i) (x0 : Vec Ideal S1024x2048 .f32) (x1 : Vec Ideal S1x2048 .f32)
    (x2 : Vec Ideal S2048x512 .f32) (x3 : Vec Ideal S1x512 .f32) (xs : Vec Ideal S1024x2048 .bf16) :
    out0_C_4 c i a2 h2 a3 h3 a4 h4 a5 h5 a6 h6 a7 h7 hc0 hc1 hc2 x0 x1 x2 x3 xs = k0_pay9 xs x2 := by
  frame_out

/-- What a run's first point leaves in the result block. -/
theorem out_A (hc0 : cond0_0 i) (hc1 : cond0_1 i) (hc2 : ¬cond0_2 i) (x0 : Vec Ideal S1024x2048 .f32) (x1 : Vec Ideal S1x2048 .f32)
    (x2 : Vec Ideal S2048x512 .f32) (x3 : Vec Ideal S1x512 .f32) :
    out0_A_4 c i a2 h2 a3 h3 a4 h4 a5 h5 a6 h6 a7 h7 hc0 hc1 hc2 x0 x1 x2 x3 = headBlk (k0_pay9 (hnBlk x0 x1) x2) x3 := by
  frame_out
  rw [View.readCov_eq_canon']
  have e2 := canon_hn c i a2 h2 a3 h3 a4 h4 a5 h5 a6 h6 a7 h7 hc0 x0 x1
  have l2 := View.ld_unit_zero (Val := Elt Ideal) (S := S1024x2048) (e := .bf16) hz2 inb_S1024x2048_S1024x2048_0_0 (hnBlk x0 x1)
  refine (canon_head _ x3).trans (congrArg (fun p => headBlk (k0_pay9 p x2) x3) (Eq.trans ?_ l2))
  exact congrArg (fun G : Vec Ideal S1024x2048 .bf16 => View.ld (Val := Elt Ideal) G (Rect.unit ![0, 0] ![1024, 2048] inb_S1024x2048_S1024x2048_0_0)) e2

/-- What a run's first point leaves in the scratch. -/
theorem sout_A (hc0 : cond0_0 i) (hc1 : cond0_1 i) (hc2 : ¬cond0_2 i) (x0 : Vec Ideal S1024x2048 .f32) (x1 : Vec Ideal S1x2048 .f32)
    (x2 : Vec Ideal S2048x512 .f32) (x3 : Vec Ideal S1x512 .f32) :
    sout0_A_0 c i a2 h2 a3 h3 a4 h4 a5 h5 a6 h6 a7 h7 hc0 hc1 hc2 x0 x1 x2 x3 = hnBlk x0 x1 := by
  frame_out
  exact canon_hn c i a2 h2 a3 h3 a4 h4 a5 h5 a6 h6 a7 h7 hc0 x0 x1

end

/-! ## The gains the host lays out -/

/-- A per-head gain laid out over the three dilations' sixteen heads. -/
def spread (g : FVec Ideal S3x128 .f32) : FVec Ideal S3x1x2048 .f32 :=
  broadcastInDim S3x1x2048 ![0, 2] bcast_S3x2048_S3x1x2048_0_2
    (shapeCast S3x2048 (broadcastInDim S1x3x16x128 ![0, 1, 2, 3] bcast_S1x3x1x128_S1x3x16x128_0_1_2_3
      (shapeCast S1x3x1x128 g shapeCasts_S3x128_S1x3x1x128)) shapeCasts_S1x3x16x128_S3x2048)

/-- The gain array the host prepares. -/
def gains (qg kg : FVec Ideal S3x128 .f32) : FVec Ideal S1x18432 .f32 :=
  shapeCast S1x18432 (concatenate S3x3x2048 1 [⟨S3x1x2048, spread qg⟩, ⟨S3x1x2048, spread kg⟩,
    ⟨S3x1x2048, broadcastInDim S3x1x2048 ![0, 2] bcast_S3x2048_S3x1x2048_0_2
      (broadcastInDim S3x2048 ![] bcast_S_S3x2048 (constant S_ .f32 0x3F800000#32))⟩]
    concatenates_S3x1x2048_S3x1x2048_S3x1x2048_S3x3x2048_d1) shapeCasts_S3x3x2048_S1x18432

/-- The laid-out gain at an index. -/
theorem spread_at (g : FVec Ideal S3x128 .f32) (s : Fin 3) (u : Fin 1) (d : Fin 2048) :
    spread g (ix3 s u d) = g (ix2 s ⟨d.val % 128, Nat.mod_lt _ (by decide)⟩) := by
  pointwise [spread]

/-- The gain array at column `C`: `C / 6144` is the dilation, `C / 2048 % 3` the kind (query, key, value), `C % 128` the head's entry. -/
theorem gains_at (qg kg : FVec Ideal S3x128 .f32) (C : Fin 18432) :
    gains qg kg (ix2 0 C) = if C.val / 2048 % 3 = 0 then qg (ix2 ⟨C.val / 6144, by omega⟩ ⟨C.val % 128, by omega⟩)
     else if C.val / 2048 % 3 = 1 then kg (ix2 ⟨C.val / 6144, by omega⟩ ⟨C.val % 128, by omega⟩) else 1 := by
  have h3 : C.val / 2048 % 3 < 3 := Nat.mod_lt _ (by decide)
  have hm : C.val % 2048 % 128 = C.val % 128 := by omega
  pointwise [gains, spread_at]
  simp only [hm]
  by_cases h0 : C.val / 2048 % 3 = 0
  · rw [dif_pos (by omega), if_pos h0]
  · rw [dif_neg (by omega), if_neg h0]
    by_cases h1 : C.val / 2048 % 3 = 1
    · rw [dif_pos (by omega), if_pos h1]
    · rw [dif_neg (by omega), if_neg h1]

/-! ## What the array holds -/

/-- The windows' block indices at point `t`. -/
theorem idx_val : ∀ t : Fin cfg0.N, win0_0.index t = ![t.val / 36, 0] ∧ win0_1.index t = ![0, 0]
    ∧ win0_2.index t = ![0, t.val % 36] ∧ win0_3.index t = ![0, t.val % 36] ∧ win0_4.index t = ![t.val / 36, t.val % 36] :=
  (by decide +kernel : ∀ t : Fin grid0.N, _)

section
variable (m : (ℓ : Loc nD τ sig) → Buf (Elt Ideal) ℓ) (c : Dev nD)

abbrev X (r : Fin 8192) (d : Fin 2048) : EReal := (show FVec Ideal S8192x2048 .f32 from m ((c : Thread nD τ).loc main_arg0)) (ix2 r d)
abbrev Gn (d : Fin 2048) : EReal := (show FVec Ideal S2048 .f32 from m ((c : Thread nD τ).loc main_arg1)) (ix1 d)
abbrev W (k : Fin 2048) (j : Fin 18432) : EReal := (show FVec Ideal S2048x18432 .f32 from m ((c : Thread nD τ).loc main_arg2)) (ix2 k j)
abbrev Gains : FVec Ideal S1x18432 .f32 := gains (m ((c : Thread nD τ).loc main_arg3)) (m ((c : Thread nD τ).loc main_arg4))

/-- The row block's row `r` at point `t`, as a row of the array. -/
def rowAt (t : Fin cfg0.N) (r : Fin 1024) : Fin 8192 :=
  ⟨1024 * (t.val / 36) + r.val, by have := lt_of_lt_of_eq t.isLt N_0; omega⟩
/-- The tile's column `j` at point `t`, as a column of the array. -/
def colAt (t : Fin cfg0.N) (j : Fin 512) : Fin 18432 := ⟨512 * (t.val % 36) + j.val, by omega⟩

theorem blk0 (t : Fin cfg0.N) (r : Fin 1024) (d : Fin 2048) :
    (show FVec Ideal S1024x2048 .f32 from iblk m c 0 t) (ix2 r d) = X m c (rowAt t r) d := by
  have h := idx_val t
  blk_ext [iblk, V, idx_val t, rowAt]

/-- The gain row at the region's entry. -/
theorem norm_entry : (show FVec Ideal S1x2048 .f32 from V m c main_v12)
    = shapeCast S1x2048 (show FVec Ideal S2048 .f32 from m ((c : Thread nD τ).loc main_arg1)) shapeCasts_S2048_S1x2048 := by
  show StableHlo.after hostOps0 (fun b => m (c, b)) (Proc.tc.devRef main_v12) = _
  after_reads_simp
  rfl

/-- The laid-out gains at the region's entry. -/
theorem gain_entry : (show FVec Ideal S1x18432 .f32 from V m c main_v11) = Gains m c := by
  show StableHlo.after hostOps0 (fun b => m (c, b)) (Proc.tc.devRef main_v11) = _
  after_reads_simp
  rfl

theorem blk1 (t : Fin cfg0.N) (d : Fin 2048) :
    (show FVec Ideal S1x2048 .f32 from iblk m c 1 t) (ix2 0 d) = Gn m c d := by
  have h := idx_val t
  have e : (show FVec Ideal S1x2048 .f32 from iblk m c 1 t) (ix2 0 d) = (show FVec Ideal S1x2048 .f32 from V m c main_v12) (ix2 0 d) := by
    blk_ext [iblk, idx_val t]
  rw [e, norm_entry]
  pointwise

theorem blk2 (t : Fin cfg0.N) (k : Fin 2048) (j : Fin 512) :
    (show FVec Ideal S2048x512 .f32 from iblk m c 2 t) (ix2 k j) = W m c k (colAt t j) := by
  have h := idx_val t
  blk_ext [iblk, V, idx_val t, colAt]

theorem blk3 (t : Fin cfg0.N) (j : Fin 512) :
    (show FVec Ideal S1x512 .f32 from iblk m c 3 t) (ix2 0 j) = Gains m c (ix2 0 (colAt t j)) := by
  have h := idx_val t
  have e : (show FVec Ideal S1x512 .f32 from iblk m c 3 t) (ix2 0 j) = (show FVec Ideal S1x18432 .f32 from V m c main_v11) (ix2 0 (colAt t j)) := by
    blk_ext [iblk, idx_val t, colAt]
  rw [e, gain_entry]

/-- The projection at row `r`, column `C`. -/
def dotAt (r : Fin 8192) (C : Fin 18432) : EReal := ∑ k : Fin 2048, hnAt (X m c) (Gn m c) r k * W m c k C

/-- The array the kernel computes: value columns hold the projection, query and key columns their head's normalisation. -/
def qkvOut (r : Fin 8192) (C : Fin 18432) : EReal :=
  if C.val / 2048 % 3 = 2 then dotAt m c r C
  else headAt (fun k => dotAt m c r ⟨128 * (C.val / 128) + k.val, by omega⟩) (Gains m c (ix2 0 C)) ⟨C.val % 128, Nat.mod_lt _ (by decide)⟩

/-- The scratch after any point: its row block's normalisation. -/
theorem scratch_eq (n : ℕ) (hn : n < cfg0.N) (r : Fin 1024) (d : Fin 2048) :
    (show FVec Ideal S1024x2048 .bf16 from (outsAt0 m c n hn).2) (ix2 r d) = hnAt (X m c) (Gn m c) (rowAt ⟨n, hn⟩ r) d := by
  have hA : ∀ t : Fin cfg0.N, t.val % 36 = 0 → (show FVec Ideal S1024x2048 .bf16 from (outsAt0 m c t.val t.isLt).2) (ix2 r d)
      = hnAt (X m c) (Gn m c) (rowAt t r) d := fun t h0 => by
    have e := congrArg Prod.snd (outsAt0_A m c t h0 (by omega) (by omega))
    dsimp only at e
    rw [e, sout_A]
    exact hnAt_congr (fun d => blk0 m c t r d) (fun d => blk1 m c t d)
  induction n with
  | zero => exact hA ⟨0, hn⟩ rfl
  | succ n ih =>
    by_cases h0 : (n + 1) % 36 = 0
    · exact hA ⟨n + 1, hn⟩ h0
    · have er : rowAt ⟨n, Nat.lt_of_succ_lt hn⟩ r = rowAt ⟨n + 1, hn⟩ r := by
        apply Fin.ext; show 1024 * (n / 36) + r.val = 1024 * ((n + 1) / 36) + r.val; omega
      have keep : (outsAt0 m c (n + 1) hn).2 = (outsAt0 m c n (Nat.lt_of_succ_lt hn)).2 := by
        by_cases hv : (n + 1) % 12 = 8 ∨ (n + 1) % 12 = 9 ∨ (n + 1) % 12 = 10 ∨ (n + 1) % 12 = 11
        · have e := congrArg Prod.snd (outsAt0_C m c ⟨n + 1, hn⟩ h0 (not_not.mpr hv) hv)
          simp only [Nat.add_sub_cancel] at e
          exact e
        · have e := congrArg Prod.snd (outsAt0_B m c ⟨n + 1, hn⟩ h0 hv hv)
          simp only [Nat.add_sub_cancel] at e
          exact e
      rw [keep, ← er]
      exact ih (Nat.lt_of_succ_lt hn)

/-- A tile's product at any point, once the block of rows is the normalisation. -/
theorem acc_eq (t : Fin cfg0.N) (hn : FVec Ideal S1024x2048 .bf16) (hs : ∀ r d, hn (ix2 r d) = hnAt (X m c) (Gn m c) (rowAt t r) d)
    (r : Fin 1024) (j : Fin 512) : k0_pay9 (F := Ideal) hn (iblk m c 2 t) (ix2 r j) = dotAt m c (rowAt t r) (colAt t j) :=
  (pay9_at _ _ r j).trans (Finset.sum_congr rfl fun k _ => congrArg₂ (· * ·) (hs r k) (blk2 m c t k j))

/-- A query or key tile at any point. -/
theorem head_eq (t : Fin cfg0.N) (hv : ¬(t.val % 12 = 8 ∨ t.val % 12 = 9 ∨ t.val % 12 = 10 ∨ t.val % 12 = 11)) (hn : FVec Ideal S1024x2048 .bf16)
    (hs : ∀ r d, hn (ix2 r d) = hnAt (X m c) (Gn m c) (rowAt t r) d) (r : Fin 1024) (j : Fin 512) :
    headBlk (k0_pay9 (F := Ideal) hn (iblk m c 2 t)) (iblk m c 3 t) (ix2 r j) = qkvOut m c (rowAt t r) (colAt t j) := by
  have hk : ¬(colAt t j).val / 2048 % 3 = 2 := by show ¬(512 * (t.val % 36) + j.val) / 2048 % 3 = 2; omega
  unfold qkvOut
  rw [if_neg hk]
  show headAt _ _ _ = _
  have hd : (512 * (t.val % 36) + j.val) / 128 = 4 * (t.val % 36) + j.val / 128 := by omega
  have hm : (512 * (t.val % 36) + j.val) % 128 = j.val % 128 := by omega
  have ea : (fun k : Fin 128 => k0_pay9 (F := Ideal) hn (iblk m c 2 t) (ix2 r ⟨128 * (j.val / 128) + k.val, by omega⟩))
      = fun k => dotAt m c (rowAt t r) ⟨128 * ((colAt t j).val / 128) + k.val, by have := (colAt t j).isLt; omega⟩ := funext fun k => by
    rw [acc_eq m c t hn hs]
    refine congrArg (dotAt m c (rowAt t r)) (Fin.ext ?_)
    show 512 * (t.val % 36) + (128 * (j.val / 128) + k.val) = 128 * ((512 * (t.val % 36) + j.val) / 128) + k.val
    omega
  have ej : (⟨j.val % 128, Nat.mod_lt _ (by decide)⟩ : Fin 128) = ⟨(colAt t j).val % 128, Nat.mod_lt _ (by decide)⟩ := Fin.ext hm.symm
  rw [← ea, ← ej, ← blk3 m c t j]
  rfl

/-- The result block after any point. -/
theorem out_eq (t : Fin cfg0.N) (r : Fin 1024) (j : Fin 512) :
    (show FVec Ideal S1024x512 .f32 from (outsAt0 m c t.val t.isLt).1) (ix2 r j) = qkvOut m c (rowAt t r) (colAt t j) := by
  by_cases h0 : t.val % 36 = 0
  · have e := congrArg Prod.fst (outsAt0_A m c t h0 (by omega) (by omega))
    dsimp only at e
    rw [e, out_A]
    exact head_eq m c t (by omega) _ (fun r d => hnAt_congr (fun d => blk0 m c t r d) (fun d => blk1 m c t d)) r j
  · have hs : ∀ r d, (show FVec Ideal S1024x2048 .bf16 from (outsAt0 m c (t.val - 1) (lt_of_le_of_lt (Nat.sub_le _ _) t.isLt)).2) (ix2 r d)
        = hnAt (X m c) (Gn m c) (rowAt t r) d := fun r d => by
      refine (scratch_eq m c (t.val - 1) _ r d).trans ?_
      have er : rowAt ⟨t.val - 1, lt_of_le_of_lt (Nat.sub_le _ _) t.isLt⟩ r = rowAt t r := by
        apply Fin.ext; show 1024 * ((t.val - 1) / 36) + r.val = 1024 * (t.val / 36) + r.val; omega
      rw [er]
    by_cases hv : t.val % 12 = 8 ∨ t.val % 12 = 9 ∨ t.val % 12 = 10 ∨ t.val % 12 = 11
    · have e := congrArg Prod.fst (outsAt0_C m c t h0 (not_not.mpr hv) hv)
      dsimp only at e
      rw [e, out_C]
      have hk : (colAt t j).val / 2048 % 3 = 2 := by show (512 * (t.val % 36) + j.val) / 2048 % 3 = 2; omega
      unfold qkvOut
      rw [if_pos hk]
      exact acc_eq m c t _ hs r j
    · have e := congrArg Prod.fst (outsAt0_B m c t h0 hv hv)
      dsimp only at e
      rw [e, out_B]
      exact head_eq m c t hv _ hs r j

/-- The result array at row `r`, column `j`. -/
theorem G4_at (r : Fin 8192) (j : Fin 18432) :
    (show FVec Ideal S8192x18432 .f32 from G4 m c) (ix2 r j) = qkvOut m c r j := by
  have hp : pt4Of (ix2 r j : S8192x18432.Idx) = 36 * (r.val / 1024) + j.val / 512 := by
    show 36 * (r.val / 1024 - 0) + 1 * (j.val / 512 - 0) = _
    omega
  have hN : pt4Of (ix2 r j : S8192x18432.Idx) < cfg0.N := by
    rw [hp]; have := r.isLt; have := j.isLt; exact lt_of_lt_of_eq (by omega) N_0.symm
  show G4 m c (ix2 r j : S8192x18432.Idx) = _
  unfold G4
  rw [dif_pos hN, ← outsAt0_sweep m c _ hN]
  have hl : loc4Of (ix2 r j : S8192x18432.Idx) = ix2 (⟨r.val % 1024, Nat.mod_lt _ (by decide)⟩ : Fin 1024) (⟨j.val % 512, Nat.mod_lt _ (by decide)⟩ : Fin 512) := by
    funext a; apply Fin.ext
    match a with
    | ⟨0, _⟩ => rfl
    | ⟨1, _⟩ => rfl
  rw [hl]
  refine (out_eq m c ⟨_, hN⟩ _ _).trans ?_
  have er : rowAt ⟨_, hN⟩ (⟨r.val % 1024, Nat.mod_lt _ (by decide)⟩ : Fin 1024) = r := by
    apply Fin.ext; show 1024 * (pt4Of (ix2 r j : S8192x18432.Idx) / 36) + r.val % 1024 = r.val; rw [hp]; have := j.isLt; omega
  have ec : colAt ⟨_, hN⟩ (⟨j.val % 512, Nat.mod_lt _ (by decide)⟩ : Fin 512) = j := by
    apply Fin.ext; show 512 * (pt4Of (ix2 r j : S8192x18432.Idx) % 36) + j.val % 512 = j.val; rw [hp]; have := j.isLt; omega
  rw [er, ec]

end

end Cert.QkvIdeal.Value

end
-- ==== Proof.QkvRef.lean ====
module

public import proofs.«01_k».proof.Proof.Gen.QkvRefIdeal.Run
public import proofs.«01_k».proof.Proof.Qkv

@[expose] public section

set_option maxRecDepth 16384

noncomputable section

open Idealize.ShloMosaic Idealize.ShloMosaic.TcCoe Idealize.SL.Sem

namespace Cert.QkvRefIdeal.Value

open Cert.QkvRefIdeal Cert.QkvRefIdeal.Gen Cert.Rows
open Cert.QkvIdeal.Value (headAt)

/-- The normalised rows, as the reference composes them. -/
def norm (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

theorem norm_at (x : FVec Ideal S8192x2048 .f32) (g : FVec Ideal S2048 .f32) (r : Fin 8192) (d : Fin 2048) :
    norm x g (ix2 r d) = hnAt (fun r d => x (ix2 r d)) (fun d => g (ix1 d)) r d := by
  pointwise [norm, hnAt]

/-- The projected rows. -/
def proj (h : FVec Ideal S8192x2048 .f32) (w : FVec Ideal S2048x18432 .f32) : FVec Ideal S8192x18432 .f32 :=
  Host.dotGeneral dot_S8192x2048_S2048x18432_S8192x18432_1_0_0_1_n_n none h w

theorem proj_at (h : FVec Ideal S8192x2048 .f32) (w : FVec Ideal S2048x18432 .f32) (r : Fin 8192) (j : Fin 18432) :
    proj h w (ix2 r j) = ∑ k : Fin 2048, h (ix2 r k) * w (ix2 k j) := by
  pointwise [proj]

/-- Kind `k`'s columns: of every dilation, the heads of the kind (0 query, 1 key, 2 value). -/
def kind (o : Fin 5 → ℕ) (hs : S8192x3x3x16x128.Slices o S8192x3x1x16x128) (a : FVec Ideal S8192x18432 .f32) : FVec Ideal S8192x3x16x128 .f32 :=
  shapeCast S8192x3x16x128 (extractStridedSlice S8192x3x1x16x128 o (shapeCast S8192x3x3x16x128 a shapeCasts_S8192x18432_S8192x3x3x16x128) hs) shapeCasts_S8192x3x1x16x128_S8192x3x16x128

/-- Every head normalised, times the dilation's gain. -/
def heads (a : FVec Ideal S8192x3x16x128 .f32) (g : FVec Ideal S3x128 .f32) : FVec Ideal S8192x3x16x128 .f32 :=
  mulf (mulf a (broadcastInDim S8192x3x16x128 ![0, 1, 2, 3] bcast_S8192x3x16x1_S8192x3x16x128_0_1_2_3 (Host.rsqrt (addf (Host.divf (broadcastInDim S8192x3x16x1 ![0, 1, 2] bcast_S8192x3x16_S8192x3x16x1_0_1_2 (Host.reduceAdd (mulf a a) (constant S_ .f32 0x00000000#32) reducesTo_S8192x3x16x128_S8192x3x16_d3 h_S_)) (broadcastInDim S8192x3x16x1 ![] bcast_S_S8192x3x16x1 (constant S_ .f32 0x43000000#32))) (broadcastInDim S8192x3x16x1 ![] bcast_S_S8192x3x16x1 (constant S_ .f32 0x358637BD#32)))))) (broadcastInDim S8192x3x16x128 ![0, 1, 2, 3] bcast_S1x3x1x128_S8192x3x16x128_0_1_2_3 (broadcastInDim S1x3x1x128 ![1, 2, 3] bcast_S3x1x128_S1x3x1x128_1_2_3 (broadcastInDim S3x1x128 ![0, 2] bcast_S3x128_S3x1x128_0_2 g)))

theorem heads_at (a : FVec Ideal S8192x3x16x128 .f32) (g : FVec Ideal S3x128 .f32) (r : Fin 8192) (s : Fin 3) (h : Fin 16) (e : Fin 128) :
    heads a g (ix4 r s h e) = headAt (fun k => a (ix4 r s h k)) (g (ix2 s e)) e := by
  pointwise [heads, headAt]

/-- The three kinds put side by side again. -/
def stack (q k v : FVec Ideal S8192x3x16x128 .f32) : FVec Ideal S8192x18432 .f32 :=
  shapeCast S8192x18432 (concatenate S8192x3x3x16x128 2 [⟨S8192x3x1x16x128, broadcastInDim S8192x3x1x16x128 ![0, 1, 3, 4] bcast_S8192x3x16x128_S8192x3x1x16x128_0_1_3_4 q⟩, ⟨S8192x3x1x16x128, broadcastInDim S8192x3x1x16x128 ![0, 1, 3, 4] bcast_S8192x3x16x128_S8192x3x1x16x128_0_1_3_4 k⟩, ⟨S8192x3x1x16x128, broadcastInDim S8192x3x1x16x128 ![0, 1, 3, 4] bcast_S8192x3x16x128_S8192x3x1x16x128_0_1_3_4 v⟩] concatenates_S8192x3x1x16x128_S8192x3x1x16x128_S8192x3x1x16x128_S8192x3x3x16x128_d2) shapeCasts_S8192x3x3x16x128_S8192x18432

theorem stack_at (q k v : FVec Ideal S8192x3x16x128 .f32) (r : Fin 8192) (C : Fin 18432) :
    stack q k v (ix2 r C) = if C.val / 2048 % 3 = 0 then q (ix4 r ⟨C.val / 6144, by omega⟩ ⟨C.val / 128 % 16, by omega⟩ ⟨C.val % 128, by omega⟩)
      else if C.val / 2048 % 3 = 1 then k (ix4 r ⟨C.val / 6144, by omega⟩ ⟨C.val / 128 % 16, by omega⟩ ⟨C.val % 128, by omega⟩)
      else v (ix4 r ⟨C.val / 6144, by omega⟩ ⟨C.val / 128 % 16, by omega⟩ ⟨C.val % 128, by omega⟩) := by
  have h3 : C.val / 2048 % 3 < 3 := Nat.mod_lt _ (by decide)
  pointwise [stack]
  by_cases h0 : C.val / 2048 % 3 = 0
  · have a0 : C.val / 2048 % 3 < 1 := by omega
    rw [dif_pos a0, if_pos h0]
  · have a0 : ¬C.val / 2048 % 3 < 1 := by omega
    rw [dif_neg a0, if_neg h0]
    by_cases h1 : C.val / 2048 % 3 = 1
    · have a1 : C.val / 2048 % 3 - 1 < 1 := by omega
      rw [dif_pos a1, if_pos h1]
    · have a1 : ¬C.val / 2048 % 3 - 1 < 1 := by omega
      exact (dif_neg a1).trans (if_neg h1).symm

theorem kind_at (u : Fin 3) (hs : S8192x3x3x16x128.Slices ![0, 0, u.val, 0, 0] S8192x3x1x16x128) (a : FVec Ideal S8192x18432 .f32) (r : Fin 8192) (s : Fin 3) (h : Fin 16) (e : Fin 128) :
    kind ![0, 0, u.val, 0, 0] hs a (ix4 r s h e) = a (ix2 r ⟨6144 * s.val + 2048 * u.val + 128 * h.val + e.val, by omega⟩) := by
  pointwise [kind]
  exact congrArg (fun j => a (ix2 r j)) (Fin.ext (by show s.val * 6144 + u.val * 2048 + h.val * 128 + e.val = 6144 * s.val + 2048 * u.val + 128 * h.val + e.val; omega))

/-- A kind's entry read back at column `C` of that kind. -/
theorem kind_col (u : Fin 3) (hs : S8192x3x3x16x128.Slices ![0, 0, u.val, 0, 0] S8192x3x1x16x128) (a : FVec Ideal S8192x18432 .f32) (r : Fin 8192) (C : Fin 18432)
    (hu : C.val / 2048 % 3 = u.val) (k : Fin 128) :
    kind ![0, 0, u.val, 0, 0] hs a (ix4 r ⟨C.val / 6144, by omega⟩ ⟨C.val / 128 % 16, by omega⟩ k) = a (ix2 r ⟨128 * (C.val / 128) + k.val, by omega⟩) := by
  rw [kind_at]
  refine congrArg (fun j => a (ix2 r j)) (Fin.ext ?_)
  show 6144 * (C.val / 6144) + 2048 * u.val + 128 * (C.val / 128 % 16) + k.val = 128 * (C.val / 128) + k.val
  omega

/-- The reference's result: queries and keys normalised head by head, values as projected. -/
def out (x : FVec Ideal S8192x2048 .f32) (g : FVec Ideal S2048 .f32) (w : FVec Ideal S2048x18432 .f32) (qg kg : FVec Ideal S3x128 .f32) : FVec Ideal S8192x18432 .f32 :=
  stack (heads (kind ![0, 0, 0, 0, 0] slices_S8192x3x3x16x128_S8192x3x1x16x128_0_0_0_0_0 (proj (norm x g) w)) qg)
    (heads (kind ![0, 0, 1, 0, 0] slices_S8192x3x3x16x128_S8192x3x1x16x128_0_0_1_0_0 (proj (norm x g) w)) kg)
    (kind ![0, 0, 2, 0, 0] slices_S8192x3x3x16x128_S8192x3x1x16x128_0_0_2_0_0 (proj (norm x g) w))

/-- The reference's result is the array the kernel computes from the same arguments. -/
theorem out_eq_kernel (m : (ℓ : Loc Cert.QkvIdeal.nD Cert.QkvIdeal.τ Cert.QkvIdeal.sig) → Buf (Elt Ideal) ℓ) (c : Dev Cert.QkvIdeal.nD) :
    out (m ((c.tc : Thread Cert.QkvIdeal.nD Cert.QkvIdeal.τ).loc Cert.QkvIdeal.main_arg0))
      (m ((c.tc : Thread Cert.QkvIdeal.nD Cert.QkvIdeal.τ).loc Cert.QkvIdeal.main_arg1))
      (m ((c.tc : Thread Cert.QkvIdeal.nD Cert.QkvIdeal.τ).loc Cert.QkvIdeal.main_arg2))
      (m ((c.tc : Thread Cert.QkvIdeal.nD Cert.QkvIdeal.τ).loc Cert.QkvIdeal.main_arg3))
      (m ((c.tc : Thread Cert.QkvIdeal.nD Cert.QkvIdeal.τ).loc Cert.QkvIdeal.main_arg4))
    = Cert.QkvIdeal.Value.G4 m c := by
  funext i
  obtain ⟨r, C, rfl⟩ : ∃ (r : Fin 8192) (C : Fin 18432), i = ix2 r C := ⟨i 0, i 1, eq_ix2 i⟩
  refine Eq.trans ?_ (Cert.QkvIdeal.Value.G4_at m c r C).symm
  have hp : ∀ C' : Fin 18432, proj (norm (m ((c.tc : Thread Cert.QkvIdeal.nD Cert.QkvIdeal.τ).loc Cert.QkvIdeal.main_arg0))
      (m ((c.tc : Thread Cert.QkvIdeal.nD Cert.QkvIdeal.τ).loc Cert.QkvIdeal.main_arg1)))
      (m ((c.tc : Thread Cert.QkvIdeal.nD Cert.QkvIdeal.τ).loc Cert.QkvIdeal.main_arg2)) (ix2 r C') = Cert.QkvIdeal.Value.dotAt m c r C' := fun C' => by
    refine (proj_at _ _ r C').trans ?_
    simp only [norm_at]
    rfl
  have h3 : C.val / 2048 % 3 < 3 := Nat.mod_lt _ (by decide)
  unfold out Cert.QkvIdeal.Value.qkvOut
  rw [stack_at, show Cert.QkvIdeal.Value.Gains m c (ix2 0 C) = _ from Cert.QkvIdeal.Value.gains_at _ _ C]
  by_cases h0 : C.val / 2048 % 3 = 0
  · have h2 : ¬C.val / 2048 % 3 = 2 := by omega
    rw [if_pos h0, if_pos h0, if_neg h2, heads_at]
    refine congrArg (fun a => headAt a _ _) (funext fun k => ?_)
    exact (kind_col 0 _ _ r C h0 k).trans (hp _)
  · rw [if_neg h0, if_neg h0]
    by_cases h1 : C.val / 2048 % 3 = 1
    · have h2 : ¬C.val / 2048 % 3 = 2 := by omega
      rw [if_pos h1, if_pos h1, if_neg h2, heads_at]
      refine congrArg (fun a => headAt a _ _) (funext fun k => ?_)
      exact (kind_col 1 _ _ r C h1 k).trans (hp _)
    · have h2 : C.val / 2048 % 3 = 2 := by omega
      rw [if_neg h1, if_pos h2]
      refine (kind_col 2 _ _ r C h2 _).trans ((hp _).trans (congrArg (Cert.QkvIdeal.Value.dotAt m c r) (Fin.ext ?_)))
      show 128 * (C.val / 128) + C.val % 128 = C.val
      omega

end Cert.QkvRefIdeal.Value

end
-- ==== Proof.BOut.lean ====
/-
  The attention's output projection over the extended reals: point `t` is row block `t / 4` and column tile `t % 4`;
  the scratch holds the row block from the run's first point on, and every point stores its tile of the residual plus
  the rows against its column tile.
-/
module

public import proofs.«01_k».proof.Proof.Gen.BOutIdeal.Value
public import proofs.«01_k».proof.Proof.Rows

@[expose] public section

set_option maxRecDepth 16384

noncomputable section

open Idealize.ShloMosaic Idealize.ShloMosaic.TcCoe Idealize.SL.Sem

namespace Cert.BOutIdeal.Value

open Cert.BOutIdeal Cert.BOutIdeal.Gen Cert.Rows

/-! ## What one point computes -/

/-- What one trip of the copying loop stores. -/
theorem pay1_eq (x : FVec Ideal S256x2048 .f32) : k0_pay1 (F := Ideal) x = x := by
  funext y
  obtain ⟨r, d, rfl⟩ : ∃ (r : Fin 256) (d : Fin 2048), y = ix2 r d := ⟨y 0, y 1, eq_ix2 y⟩
  pointwise [k0_pay1]

/-- What every point stores last, at an index. -/
theorem pay2_at (o : FVec Ideal S1024x2048 .bf16) (w : FVec Ideal S2048x512 .f32) (x : FVec Ideal S1024x512 .f32) (r : Fin 1024) (j : Fin 512) :
    k0_pay2 (F := Ideal) o w x (ix2 r j) = x (ix2 r j) + ∑ k : Fin 2048, o (ix2 r k) * w (ix2 k j) := by
  pointwise [k0_pay2]

section
variable (c : Dev nD) (i : grid0.Coords) (a2 : Memref sig .tc .vmem S1024x2048 .f32) (h2 : a2.IsWhole)
    (a3 : Memref sig .tc .vmem S2048x512 .f32) (h3 : a3.IsWhole) (a4 : Memref sig .tc .vmem S1024x512 .f32) (h4 : a4.IsWhole)
    (a5 : Memref sig .tc .vmem S1024x512 .f32) (h5 : a5.IsWhole) (a6 : Memref sig .tc .vmem S1024x2048 .bf16) (h6 : a6.IsWhole)

/-- Trip `k` starts at row `256 k`. -/
theorem off1_val : ∀ k : Fin k0_t1_loop.trips, k0_off1 k = ![256 * k.val, 0] := by decide +kernel

/-- One trip copies its 256 rows. -/
theorem trip_pieces (hc : cond0_0 i) (x0 : Vec Ideal S1024x2048 .f32) (k : Fin k0_t1_loop.trips) :
    tripL_k0_t1 (F := Ideal) Variants.none c none i a2 h2 a3 h3 a4 h4 a5 h5 a6 h6 hc (h2.unread x0) k
     = [⟨Rect.unit (s := S1024x2048) (k0_off1 k) S256x2048.size (k0_off1_inb i k hc),
          View.ld x0 (Rect.unit (s := S1024x2048) (k0_off1 k) S256x2048.size (k0_off1_inb i k hc))⟩] := by
  unfold tripL_k0_t1 trip_k0_t1
  dsimp only
  simp only [View.readAt_eq_ld, h2.read_unread]
  rw [pay1_eq]

/-- The block, as the scratch holds it. -/
def rows (x0 : Vec Ideal S1024x2048 .f32) : Vec Ideal S1024x2048 .bf16 := x0

/-- After any number of trips every piece is a tile of the block's rows. -/
theorem pb_tiles (hc : cond0_0 i) (x0 : Vec Ideal S1024x2048 .f32) (n : ℕ) (hn : n ≤ k0_t1_loop.trips) :
    ∀ p ∈ pb_k0_t1 (F := Ideal) Variants.none c none i a2 h2 a3 h3 a4 h4 a5 h5 a6 h6 hc (h2.unread x0) n,
      ∀ x : p.1.shape.Idx, p.2 x = rows x0 (p.1.emb x) := by
  induction n with
  | zero => exact fun p hp => absurd hp List.not_mem_nil
  | succ n ih =>
    have hs := pb_k0_t1_succ (F := Ideal) Variants.none c none i a2 h2 a3 h3 a4 h4 a5 h5 a6 h6 hc (h2.unread x0) ⟨n, hn⟩
    rw [trip_pieces] at hs
    dsimp only at hs
    rw [hs]
    intro p hp
    rcases List.mem_cons.mp hp with rfl | hp
    · exact fun x => rfl
    · exact ih (Nat.le_of_succ_le hn) p hp

/-- The loop's pieces left in the scratch are the block's rows. -/
theorem canon_rows (hc : cond0_0 i) (x0 : Vec Ideal S1024x2048 .f32) :
    View.canon (pb_k0_t1 (F := Ideal) Variants.none c none i a2 h2 a3 h3 a4 h4 a5 h5 a6 h6 hc (h2.unread x0)
      (Scf.trips k0_t1_loop.lb k0_t1_loop.ub k0_t1_loop.st)) = rows x0 :=
  funext fun y => View.canon_apply_of_pieces (rows x0) _ (pb_tiles c i a2 h2 a3 h3 a4 h4 a5 h5 a6 h6 hc x0 _ le_rfl) y
    (View.cover_of_tiledL (pb_k0_t1 (F := Ideal) Variants.none c none i a2 h2 a3 h3 a4 h4 a5 h5 a6 h6 hc (h2.unread x0) (Scf.trips k0_t1_loop.lb k0_t1_loop.ub k0_t1_loop.st)) S256x2048.size (by sl_kernel_rfl) y)

/-- What a run's later points leave in the result block. -/
theorem out_B (hc : ¬cond0_0 i) (x0 : Vec Ideal S1024x2048 .f32) (x1 : Vec Ideal S2048x512 .f32) (x2 : Vec Ideal S1024x512 .f32)
    (xs : Vec Ideal S1024x2048 .bf16) :
    out0_B_3 c i a2 h2 a3 h3 a4 h4 a5 h5 a6 h6 hc x0 x1 x2 xs = k0_pay2 xs x1 x2 := by
  frame_out

/-- What a run's first point leaves in the result block. -/
theorem out_A (hc : cond0_0 i) (x0 : Vec Ideal S1024x2048 .f32) (x1 : Vec Ideal S2048x512 .f32) (x2 : Vec Ideal S1024x512 .f32) :
    out0_A_3 c i a2 h2 a3 h3 a4 h4 a5 h5 a6 h6 hc x0 x1 x2 = k0_pay2 (rows x0) x1 x2 := by
  frame_out
  rw [View.readCov_eq_canon']
  have e2 := canon_rows c i a2 h2 a3 h3 a4 h4 a5 h5 a6 h6 hc x0
  have l2 := View.ld_unit_zero (Val := Elt Ideal) (S := S1024x2048) (e := .bf16) hz2 inb_S1024x2048_S1024x2048_0_0 (rows x0)
  refine congrArg (fun p => k0_pay2 p x1 x2) (Eq.trans ?_ l2)
  exact congrArg (fun G : Vec Ideal S1024x2048 .bf16 => View.ld (Val := Elt Ideal) G (Rect.unit ![0, 0] ![1024, 2048] inb_S1024x2048_S1024x2048_0_0)) e2

/-- What a run's first point leaves in the scratch. -/
theorem sout_A (hc : cond0_0 i) (x0 : Vec Ideal S1024x2048 .f32) (x1 : Vec Ideal S2048x512 .f32) (x2 : Vec Ideal S1024x512 .f32) :
    sout0_A_0 c i a2 h2 a3 h3 a4 h4 a5 h5 a6 h6 hc x0 x1 x2 = rows x0 := by
  frame_out
  exact canon_rows c i a2 h2 a3 h3 a4 h4 a5 h5 a6 h6 hc x0

end

/-! ## What the array holds -/

/-- The windows' block indices at point `t`. -/
theorem idx_val : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

section
variable (m : (ℓ : Loc nD τ sig) → Buf (Elt Ideal) ℓ) (c : Dev nD)

abbrev O (r : Fin 8192) (d : Fin 2048) : EReal := (show FVec Ideal S8192x2048 .f32 from m ((c : Thread nD τ).loc main_arg0)) (ix2 r d)
abbrev W (k : Fin 2048) (j : Fin 2048) : EReal := (show FVec Ideal S2048x2048 .f32 from m ((c : Thread nD τ).loc main_arg1)) (ix2 k j)
abbrev X (r : Fin 8192) (d : Fin 2048) : EReal := (show FVec Ideal S8192x2048 .f32 from m ((c : Thread nD τ).loc main_arg2)) (ix2 r d)

/-- The row block's row `r` at point `t`, as a row of the array. -/
def rowAt (t : Fin cfg0.N) (r : Fin 1024) : Fin 8192 :=
  ⟨1024 * (t.val / 4) + r.val, by have := lt_of_lt_of_eq t.isLt N_0; omega⟩
/-- The tile's column `j` at point `t`, as a column of the array. -/
def colAt (t : Fin cfg0.N) (j : Fin 512) : Fin 2048 := ⟨512 * (t.val % 4) + j.val, by omega⟩

theorem blk0 (t : Fin cfg0.N) (r : Fin 1024) (d : Fin 2048) :
    (show FVec Ideal S1024x2048 .f32 from iblk m c 0 t) (ix2 r d) = O m c (rowAt t r) d := by
  have h := idx_val t
  blk_ext [iblk, V, idx_val t, rowAt]

theorem blk1 (t : Fin cfg0.N) (k : Fin 2048) (j : Fin 512) :
    (show FVec Ideal S2048x512 .f32 from iblk m c 1 t) (ix2 k j) = W m c k (colAt t j) := by
  have h := idx_val t
  blk_ext [iblk, V, idx_val t, colAt]

theorem blk2 (t : Fin cfg0.N) (r : Fin 1024) (j : Fin 512) :
    (show FVec Ideal S1024x512 .f32 from iblk m c 2 t) (ix2 r j) = X m c (rowAt t r) (colAt t j) := by
  have h := idx_val t
  blk_ext [iblk, V, idx_val t, rowAt, colAt]

/-- The array the kernel computes. -/
def yOut (r : Fin 8192) (j : Fin 2048) : EReal := X m c r j + ∑ k : Fin 2048, O m c r k * W m c k j

/-- The scratch after any point: its row block. -/
theorem scratch_eq (n : ℕ) (hn : n < cfg0.N) (r : Fin 1024) (d : Fin 2048) :
    (show FVec Ideal S1024x2048 .bf16 from (outsAt0 m c n hn).2) (ix2 r d) = O m c (rowAt ⟨n, hn⟩ r) d := by
  have hA : ∀ t : Fin cfg0.N, t.val % 4 = 0 → (show FVec Ideal S1024x2048 .bf16 from (outsAt0 m c t.val t.isLt).2) (ix2 r d)
      = O m c (rowAt t r) d := fun t h0 => by
    have e := congrArg Prod.snd (outsAt0_A m c t h0)
    dsimp only at e
    rw [e, sout_A]
    exact blk0 m c t r d
  induction n with
  | zero => exact hA ⟨0, hn⟩ rfl
  | succ n ih =>
    by_cases h0 : (n + 1) % 4 = 0
    · exact hA ⟨n + 1, hn⟩ h0
    · have e := congrArg Prod.snd (outsAt0_B m c ⟨n + 1, hn⟩ h0)
      dsimp only at e
      rw [e]
      refine (ih (Nat.lt_of_succ_lt hn)).trans ?_
      have er : rowAt ⟨n, Nat.lt_of_succ_lt hn⟩ r = rowAt ⟨n + 1, hn⟩ r := by
        apply Fin.ext; show 1024 * (n / 4) + r.val = 1024 * ((n + 1) / 4) + r.val; omega
      rw [er]

/-- The result block after any point. -/
theorem out_eq (t : Fin cfg0.N) (r : Fin 1024) (j : Fin 512) :
    (show FVec Ideal S1024x512 .f32 from (outsAt0 m c t.val t.isLt).1) (ix2 r j) = yOut m c (rowAt t r) (colAt t j) := by
  unfold yOut
  by_cases h0 : t.val % 4 = 0
  · have e := congrArg Prod.fst (outsAt0_A m c t h0)
    dsimp only at e
    rw [e, out_A]
    refine (pay2_at _ _ _ r j).trans (congrArg₂ (· + ·) (blk2 m c t r j) (Finset.sum_congr rfl fun k _ => ?_))
    exact congrArg₂ (· * ·) (blk0 m c t r k) (blk1 m c t k j)
  · have e := congrArg Prod.fst (outsAt0_B m c t h0)
    dsimp only at e
    rw [e, out_B]
    have ht := t.isLt
    refine (pay2_at _ _ _ r j).trans (congrArg₂ (· + ·) (blk2 m c t r j) (Finset.sum_congr rfl fun k _ => ?_))
    refine congrArg₂ (· * ·) ((scratch_eq m c (t.val - 1) (by omega) r k).trans ?_) (blk1 m c t k j)
    have er : rowAt ⟨t.val - 1, by omega⟩ r = rowAt t r := by
      apply Fin.ext; show 1024 * ((t.val - 1) / 4) + r.val = 1024 * (t.val / 4) + r.val; omega
    rw [er]

/-- The result array at row `r`, column `j`. -/
theorem G3_at (r : Fin 8192) (j : Fin 2048) :
    (show FVec Ideal S8192x2048 .f32 from G3 m c) (ix2 r j) = yOut m c r j := by
  have hp : pt3Of (ix2 r j : S8192x2048.Idx) = 4 * (r.val / 1024) + j.val / 512 := by
    show 4 * (r.val / 1024 - 0) + 1 * (j.val / 512 - 0) = _
    omega
  have hN : pt3Of (ix2 r j : S8192x2048.Idx) < cfg0.N := by
    rw [hp]; have := r.isLt; have := j.isLt; exact lt_of_lt_of_eq (by omega) N_0.symm
  show G3 m c (ix2 r j : S8192x2048.Idx) = _
  unfold G3
  rw [dif_pos hN, ← outsAt0_sweep m c _ hN]
  have hl : loc3Of (ix2 r j : S8192x2048.Idx) = ix2 (⟨r.val % 1024, Nat.mod_lt _ (by decide)⟩ : Fin 1024) (⟨j.val % 512, Nat.mod_lt _ (by decide)⟩ : Fin 512) := by
    funext a; apply Fin.ext
    match a with
    | ⟨0, _⟩ => rfl
    | ⟨1, _⟩ => rfl
  rw [hl]
  refine (out_eq m c ⟨_, hN⟩ _ _).trans ?_
  have er : rowAt ⟨_, hN⟩ (⟨r.val % 1024, Nat.mod_lt _ (by decide)⟩ : Fin 1024) = r := by
    apply Fin.ext; show 1024 * (pt3Of (ix2 r j : S8192x2048.Idx) / 4) + r.val % 1024 = r.val; rw [hp]; have := j.isLt; omega
  have ec : colAt ⟨_, hN⟩ (⟨j.val % 512, Nat.mod_lt _ (by decide)⟩ : Fin 512) = j := by
    apply Fin.ext; show 512 * (pt3Of (ix2 r j : S8192x2048.Idx) % 4) + j.val % 512 = j.val; rw [hp]; have := j.isLt; omega
  rw [er, ec]

end

end Cert.BOutIdeal.Value

end
-- ==== Proof.BOutRef.lean ====
/-
  The attention's output projection in the reference, read at an index, and its equation with the kernel's array.
-/
module

public import proofs.«01_k».proof.Proof.BOut
public import proofs.«01_k».proof.Proof.Gen.BOutRefIdeal.Run

@[expose] public section

set_option maxRecDepth 16384

noncomputable section

open Idealize.ShloMosaic Idealize.ShloMosaic.TcCoe Idealize.SL.Sem

namespace Cert.BOutRefIdeal.Value

open Cert.BOutRefIdeal Cert.BOutRefIdeal.Gen

/-- The result, as the reference composes it. -/
def out (o : FVec Ideal S8192x2048 .f32) (w : FVec Ideal S2048x2048 .f32) (x : FVec Ideal S8192x2048 .f32) : FVec Ideal S8192x2048 .f32 :=
  addf x (Host.dotGeneral dot_S8192x2048_S2048x2048_S8192x2048_1_0_0_1_n_n none o w)

theorem out_at (o : FVec Ideal S8192x2048 .f32) (w : FVec Ideal S2048x2048 .f32) (x : FVec Ideal S8192x2048 .f32) (r : Fin 8192) (j : Fin 2048) :
    out o w x (ix2 r j) = x (ix2 r j) + ∑ k : Fin 2048, o (ix2 r k) * w (ix2 k j) := by
  pointwise [out]

/-- The reference's result is the array the kernel computes from the same arguments. -/
theorem out_eq_kernel (m : (ℓ : Loc Cert.BOutIdeal.nD Cert.BOutIdeal.τ Cert.BOutIdeal.sig) → Buf (Elt Ideal) ℓ) (c : Dev Cert.BOutIdeal.nD) :
    out (m ((c.tc : Thread Cert.BOutIdeal.nD Cert.BOutIdeal.τ).loc Cert.BOutIdeal.main_arg0))
      (m ((c.tc : Thread Cert.BOutIdeal.nD Cert.BOutIdeal.τ).loc Cert.BOutIdeal.main_arg1))
      (m ((c.tc : Thread Cert.BOutIdeal.nD Cert.BOutIdeal.τ).loc Cert.BOutIdeal.main_arg2))
    = Cert.BOutIdeal.Value.G3 m c := by
  funext i
  obtain ⟨r, j, rfl⟩ : ∃ (r : Fin 8192) (j : Fin 2048), i = ix2 r j := ⟨i 0, i 1, eq_ix2 i⟩
  exact (out_at _ _ _ r j).trans (Cert.BOutIdeal.Value.G3_at m c r j).symm

end Cert.BOutRefIdeal.Value

end
-- ==== Proof.Window.lean ====
/-
  The moving window of the pooling mixer at one position, over the extended reals.
-/
module

public import Idealize.ShloMosaic.Lib.Pipeline.ValueKit

@[expose] public section

noncomputable section

open Idealize.ShloMosaic

namespace Cert.Window

/-- A column group padded in front: row `n` is zero for the sixteen rows of padding, then row `n - 16` of the group. -/
def padAt (h : Fin 2048 → Fin 512 → EReal) (n : ℕ) (d : Fin 512) : EReal :=
  if hn : 16 ≤ n ∧ n < 2064 then h ⟨n - 16, by omega⟩ d else 0

/-- How many rows the window of `w` meets at position `n`, as the programs count them. -/
def cntAt (w n : ℕ) : EReal :=
  FloatOps.sitofp (F := Ideal) FTy.f32 (IntOp.minsi (BitVec.ofNat 32 w) (IntOp.addi (BitVec.ofNat 32 n) 1#32))

/-- The window's mean at position `n` less the row itself. -/
def zAt (w : ℕ) (h : Fin 2048 → Fin 512 → EReal) (n : ℕ) (d : Fin 512) : EReal :=
  Ideal.div (∑ k ∈ Finset.range w, padAt h (16 - k + n) d) (cntAt w n) - padAt h (16 + n) d

theorem zAt_congr {w : ℕ} {h h' : Fin 2048 → Fin 512 → EReal} {n : ℕ} {d : Fin 512} (e : ∀ r, h r d = h' r d) :
    zAt w h n d = zAt w h' n d := by
  simp only [zAt, padAt, e]

/-- Positions add as words add. -/
theorem addi_ofNat (a b : ℕ) : IntOp.addi (BitVec.ofNat 32 a) (BitVec.ofNat 32 b) = BitVec.ofNat 32 (a + b) :=
  (BitVec.ofNat_add a b).symm

/-- The window of the column group `q`. -/
def widthOf (q : ℕ) : ℕ := 2 ^ (q + 1)

end Cert.Window

end
-- ==== Proof.PoolBlock.lean ====
/-
  What one point of the pooling mixer leaves in its result block: the scratch holds the column group behind sixteen rows of
  zeros, the eight row chunks' window means less the rows themselves fill the second scratch, and the block is the
  residual plus their product with the group's weights, scaled.
-/
module

public import proofs.«01_k».proof.Proof.Gen.PoolIdeal.Value
public import proofs.«01_k».proof.Proof.Rows
public import proofs.«01_k».proof.Proof.Window

@[expose] public section

set_option maxRecDepth 16384

noncomputable section

open Idealize.ShloMosaic Idealize.ShloMosaic.TcCoe Idealize.SL.Sem

namespace Cert.PoolIdeal.Value

open Cert.PoolIdeal Cert.PoolIdeal.Gen Cert.Rows Cert.Window

/-- The staged column group at row `r`, column `d`. -/
abbrev grp (x0 : Vec Ideal S1x2048x512 .f32) (r : Fin 2048) (d : Fin 512) : EReal :=
  (show FVec Ideal S1x2048x512 .f32 from x0) (ix3 0 r d)

/-- The padded scratch. -/
def padB (x0 : Vec Ideal S1x2048x512 .f32) : Vec Ideal S2064x512 .f32 := fun y => padAt (grp x0) (y 0).val (y 1)

/-- The window means less the rows, for the window of `w`. -/
def zBlk (w : ℕ) (x0 : Vec Ideal S1x2048x512 .f32) : Vec Ideal S2048x512 .bf16 := fun y => zAt w (grp x0) (y 0).val (y 1)

/-- Where the padding's rectangle puts its index. -/
theorem emb_lo (r : Fin 16) (d : Fin 512) :
    ((Rect.unit (s := S2064x512) ![0, 0] ![16, 512] inb_S2064x512_S16x512_0_0).emb (ix2 r d) : S2064x512.Idx)
      = ix2 (⟨r.val, by omega⟩ : Fin 2064) d := by
  funext a; apply Fin.ext
  match a with
  | ⟨0, _⟩ => show 0 + 1 * r.val = r.val; omega
  | ⟨1, _⟩ => show 0 + 1 * d.val = d.val; omega

/-- Where the group's rectangle puts its index. -/
theorem emb_hi (r : Fin 2048) (d : Fin 512) :
    ((Rect.unit (s := S2064x512) ![16, 0] ![2048, 512] inb_S2064x512_S2048x512_16_0).emb (ix2 r d) : S2064x512.Idx)
      = ix2 (⟨16 + r.val, by omega⟩ : Fin 2064) d := by
  funext a; apply Fin.ext
  match a with
  | ⟨0, _⟩ => show 16 + 1 * r.val = 16 + r.val; omega
  | ⟨1, _⟩ => show 0 + 1 * d.val = d.val; omega

/-- The padded scratch, as the two stores leave it. -/
theorem canon_pad (x0 : Vec Ideal S1x2048x512 .f32) : View.canon (Val := Elt Ideal) (s := S2064x512) (e := .f32)
    [⟨Rect.unit (s := S2064x512) ![16, 0] ![2048, 512] inb_S2064x512_S2048x512_16_0, k0_pay62 (F := Ideal) x0⟩,
      ⟨Rect.unit (s := S2064x512) ![0, 0] ![16, 512] inb_S2064x512_S16x512_0_0, k0_pay61 (F := Ideal)⟩] = padB x0 := by
  funext y
  refine View.canon_apply_of_pieces (padB x0) _ ?_ y (View.cover_of_tiledBy _ ![16, 512] (by sl_kernel_rfl) y)
  simp only [List.forall_mem_cons, List.not_mem_nil, IsEmpty.forall_iff, implies_true, and_true]
  refine ⟨fun x => ?_, fun x => ?_⟩
  · obtain ⟨r, d, rfl⟩ : ∃ (r : Fin 2048) (d : Fin 512), x = ix2 r d := ⟨x 0, x 1, eq_ix2 x⟩
    rw [emb_hi]
    have e : k0_pay62 (F := Ideal) x0 (ix2 r d) = (show FVec Ideal S1x2048x512 .f32 from x0) (ix3 0 r d) := by pointwise [k0_pay62]
    refine e.trans ?_
    show _ = padAt _ (16 + r.val) d
    unfold padAt
    rw [dif_pos (by omega)]
    exact congrArg (fun q => grp x0 q d) (Fin.ext (by show r.val = 16 + r.val - 16; omega))
  · obtain ⟨r, d, rfl⟩ : ∃ (r : Fin 16) (d : Fin 512), x = ix2 r d := ⟨x 0, x 1, eq_ix2 x⟩
    rw [emb_lo]
    have e : k0_pay61 (F := Ideal) (ix2 r d) = 0 := by pointwise [k0_pay61]
    refine e.trans ?_
    show _ = padAt _ r.val d
    unfold padAt
    rw [dif_neg (by omega)]

/-- A load of 256 rows of the padded scratch from row `o`. -/
theorem ld_pad (a7 : Memref sig .tc .vmem S2064x512 .f32) (x0 : Vec Ideal S1x2048x512 .f32) (o : ℕ)
    (inb : ∀ a, (![o, 0] : Fin 2 → ℕ) a + (![256, 512] : Fin 2 → ℕ) a ≤ S2064x512.size a) :
    a7.view.readCov (Val := Elt Ideal)
      [⟨Rect.unit (s := S2064x512) ![16, 0] ![2048, 512] inb_S2064x512_S2048x512_16_0, k0_pay62 (F := Ideal) x0⟩,
        ⟨Rect.unit (s := S2064x512) ![0, 0] ![16, 512] inb_S2064x512_S16x512_0_0, k0_pay61 (F := Ideal)⟩]
      (Rect.unit (s := S2064x512) ![o, 0] ![256, 512] inb).toLoadRect
    = fun y => padAt (grp x0) (o + (y 0).val) (y 1) := by
  rw [View.readCov_eq_canon', canon_pad]
  funext y
  show padAt _ (o + 1 * (y 0).val) _ = _
  have e : (⟨0 + 1 * (y 1).val, by have := (y 1).isLt; simpa using this⟩ : Fin 512) = y 1 := Fin.ext (by simp)
  rw [Nat.one_mul]
  exact congrArg (padAt _ _) e

/-- Where a chunk's rectangle puts its index. -/
theorem emb_chunk (o : ℕ) (inb : ∀ a, (![o, 0] : Fin 2 → ℕ) a + (![256, 512] : Fin 2 → ℕ) a ≤ S2048x512.size a) (r : Fin 256) (d : Fin 512) :
    ((Rect.unit (s := S2048x512) ![o, 0] ![256, 512] inb).emb (ix2 r d) : S2048x512.Idx)
      = ix2 (⟨o + r.val, by have : o + 256 ≤ 2048 := inb 0; omega⟩ : Fin 2048) d := by
  funext a; apply Fin.ext
  match a with
  | ⟨0, _⟩ => show o + 1 * r.val = o + r.val; omega
  | ⟨1, _⟩ => show 0 + 1 * d.val = d.val; omega

/-- A chunk's stored value at an index, the window's sum written out. -/
theorem zBlk_chunk (w : ℕ) (x0 : Vec Ideal S1x2048x512 .f32) (o : ℕ)
    (inb : ∀ a, (![o, 0] : Fin 2 → ℕ) a + (![256, 512] : Fin 2 → ℕ) a ≤ S2048x512.size a) (r : Fin 256) (d : Fin 512) :
    zBlk w x0 ((Rect.unit (s := S2048x512) ![o, 0] ![256, 512] inb).emb (ix2 r d))
      = Ideal.div (∑ k ∈ Finset.range w, padAt (grp x0) (16 - k + o + r.val) d)
          (FloatOps.sitofp (F := Ideal) FTy.f32 (IntOp.minsi (BitVec.ofNat 32 w) (IntOp.addi (IntOp.addi (BitVec.ofNat 32 o) (BitVec.ofNat 32 r.val)) 1#32)))
        - padAt (grp x0) (16 + o + r.val) d := by
  rw [emb_chunk, addi_ofNat]
  simp only [Nat.add_assoc]
  rfl

section
variable (c : Dev nD) (i : grid0.Coords) (a2 : Memref sig .tc .vmem S1x2048x512 .f32) (h2 : a2.IsWhole)
    (a3 : Memref sig .tc .vmem S1x2048x512 .f32) (h3 : a3.IsWhole) (a4 : Memref sig .tc .vmem S1x512x512 .f32) (h4 : a4.IsWhole)
    (a5 : Memref sig .tc .vmem S1x512 .f32) (h5 : a5.IsWhole) (a6 : Memref sig .tc .vmem S1x2048x512 .f32) (h6 : a6.IsWhole)
    (a7 : Memref sig .tc .vmem S2064x512 .f32) (h7 : a7.IsWhole) (a8 : Memref sig .tc .vmem S2048x512 .bf16) (h8 : a8.IsWhole)
    (x0 : Vec Ideal S1x2048x512 .f32) (x1 : Vec Ideal S1x2048x512 .f32) (x2 : Vec Ideal S1x512x512 .f32) (x3 : Vec Ideal S1x512 .f32)

/-- Eight chunk stores that agree with the window of `w` leave the block of that window's means. -/
theorem store_of_chunks (w : ℕ) (L : List (View.Piece (Elt Ideal) S2048x512 .bf16)) (hc : View.Piece.tiledL L ![256, 512] = true)
    (hL : ∀ p ∈ L, ∀ x : p.1.shape.Idx, p.2 x = zBlk w x0 (p.1.emb x)) :
    k0_pay1 (k0_pay69 (a8.view.readCov (Val := Elt Ideal) L (Rect.unit (s := S2048x512) ![0, 0] ![2048, 512] inb_S2048x512_S2048x512_0_0).toLoadRect) x2) x1 x3
      = k0_pay1 (F := Ideal) (k0_pay69 (zBlk w x0) x2) x1 x3 := by
  rw [View.readCov_eq_canon']
  refine congrArg (fun p => k0_pay1 (k0_pay69 p x2) x1 x3)
    (Eq.trans ?_ (View.ld_unit_zero (Val := Elt Ideal) (S := S2048x512) (e := .bf16) hz2 inb_S2048x512_S2048x512_0_0 (zBlk w x0)))
  refine congrArg (fun G : Vec Ideal S2048x512 .bf16 =>
    View.ld (Val := Elt Ideal) G (Rect.unit ![0, 0] ![2048, 512] inb_S2048x512_S2048x512_0_0)) ?_
  exact funext fun y => View.canon_apply_of_pieces (zBlk w x0) L hL y (View.cover_of_tiledL L ![256, 512] hc y)

/-- What a point of the window of 2 leaves in the result block. -/
theorem out_A (q0 : cond0_0 i) (q1 : ¬cond0_1 i) (q2 : ¬cond0_2 i) (q3 : ¬cond0_3 i) :
    out0_A_4 c i a2 h2 a3 h3 a4 h4 a5 h5 a6 h6 a7 h7 a8 h8 q0 q1 q2 q3 x0 x1 x2 x3 = k0_pay1 (k0_pay69 (zBlk 2 x0) x2) x1 x3 := by
  frame_out
  simp only [ld_pad]
  refine store_of_chunks a8 x0 x1 x2 x3 2 _ (by sl_kernel_rfl) ?_
  simp only [List.forall_mem_cons, List.not_mem_nil, IsEmpty.forall_iff, implies_true, and_true]
  refine ⟨?_, ?_, ?_, ?_, ?_, ?_, ?_, ?_⟩
  all_goals
    intro x
    obtain ⟨r, d, rfl⟩ : ∃ (r : Fin 256) (d : Fin 512), x = ix2 r d := ⟨x 0, x 1, eq_ix2 x⟩
    refine Eq.trans ?_ (zBlk_chunk 2 x0 _ _ r d).symm
    simp only [Finset.sum_range_succ, Finset.sum_range_zero, zero_add, Nat.reduceAdd, Nat.reduceSub]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay63, k0_pay64, k0_pay65, k0_pay66, k0_pay67, k0_pay68]

/-- What a point of the window of 4 leaves in the result block. -/
theorem out_B (q0 : ¬cond0_0 i) (q1 : cond0_1 i) (q2 : ¬cond0_2 i) (q3 : ¬cond0_3 i) :
    out0_B_4 c i a2 h2 a3 h3 a4 h4 a5 h5 a6 h6 a7 h7 a8 h8 q0 q1 q2 q3 x0 x1 x2 x3 = k0_pay1 (k0_pay69 (zBlk 4 x0) x2) x1 x3 := by
  frame_out
  simp only [ld_pad]
  refine store_of_chunks a8 x0 x1 x2 x3 4 _ (by sl_kernel_rfl) ?_
  simp only [List.forall_mem_cons, List.not_mem_nil, IsEmpty.forall_iff, implies_true, and_true]
  refine ⟨?_, ?_, ?_, ?_, ?_, ?_, ?_, ?_⟩
  all_goals
    intro x
    obtain ⟨r, d, rfl⟩ : ∃ (r : Fin 256) (d : Fin 512), x = ix2 r d := ⟨x 0, x 1, eq_ix2 x⟩
    refine Eq.trans ?_ (zBlk_chunk 4 x0 _ _ r d).symm
    simp only [Finset.sum_range_succ, Finset.sum_range_zero, zero_add, Nat.reduceAdd, Nat.reduceSub]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay63, k0_pay64, k0_pay65, k0_pay66, k0_pay67, k0_pay68]

/-- What a point of the window of 8 leaves in the result block. -/
theorem out_C (q0 : ¬cond0_0 i) (q1 : ¬cond0_1 i) (q2 : cond0_2 i) (q3 : ¬cond0_3 i) :
    out0_C_4 c i a2 h2 a3 h3 a4 h4 a5 h5 a6 h6 a7 h7 a8 h8 q0 q1 q2 q3 x0 x1 x2 x3 = k0_pay1 (k0_pay69 (zBlk 8 x0) x2) x1 x3 := by
  frame_out
  simp only [ld_pad]
  refine store_of_chunks a8 x0 x1 x2 x3 8 _ (by sl_kernel_rfl) ?_
  simp only [List.forall_mem_cons, List.not_mem_nil, IsEmpty.forall_iff, implies_true, and_true]
  refine ⟨?_, ?_, ?_, ?_, ?_, ?_, ?_, ?_⟩
  all_goals
    intro x
    obtain ⟨r, d, rfl⟩ : ∃ (r : Fin 256) (d : Fin 512), x = ix2 r d := ⟨x 0, x 1, eq_ix2 x⟩
    refine Eq.trans ?_ (zBlk_chunk 8 x0 _ _ r d).symm
    simp only [Finset.sum_range_succ, Finset.sum_range_zero, zero_add, Nat.reduceAdd, Nat.reduceSub]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay63, k0_pay64, k0_pay65, k0_pay66, k0_pay67, k0_pay68]

/-- What a point of the window of 16 leaves in the result block. -/
theorem out_D (q0 : ¬cond0_0 i) (q1 : ¬cond0_1 i) (q2 : ¬cond0_2 i) (q3 : cond0_3 i) :
    out0_D_4 c i a2 h2 a3 h3 a4 h4 a5 h5 a6 h6 a7 h7 a8 h8 q0 q1 q2 q3 x0 x1 x2 x3 = k0_pay1 (k0_pay69 (zBlk 16 x0) x2) x1 x3 := by
  frame_out
  simp only [ld_pad]
  refine store_of_chunks a8 x0 x1 x2 x3 16 _ (by sl_kernel_rfl) ?_
  simp only [List.forall_mem_cons, List.not_mem_nil, IsEmpty.forall_iff, implies_true, and_true]
  refine ⟨?_, ?_, ?_, ?_, ?_, ?_, ?_, ?_⟩
  all_goals
    intro x
    obtain ⟨r, d, rfl⟩ : ∃ (r : Fin 256) (d : Fin 512), x = ix2 r d := ⟨x 0, x 1, eq_ix2 x⟩
    refine Eq.trans ?_ (zBlk_chunk 16 x0 _ _ r d).symm
    simp only [Finset.sum_range_succ, Finset.sum_range_zero, zero_add, Nat.reduceAdd, Nat.reduceSub]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay63, k0_pay64, k0_pay65, k0_pay66, k0_pay67, k0_pay68]

end

end Cert.PoolIdeal.Value

end
-- ==== Proof.Pool.lean ====
/-
  The pooling mixer over the extended reals: point `t` is the sequence `t / 4` and the column group `t % 4`, and stores the
  group's columns of the residual plus the scaled product of the group's window means with the group's weights.
-/
module

public import proofs.«01_k».proof.Proof.PoolBlock

@[expose] public section

set_option maxRecDepth 16384

noncomputable section

open Idealize.ShloMosaic Idealize.ShloMosaic.TcCoe Idealize.SL.Sem

namespace Cert.PoolIdeal.Value

open Cert.PoolIdeal Cert.PoolIdeal.Gen Cert.Rows Cert.Window

/-- What every point stores, at an index. -/
theorem pay1_at (z : FVec Ideal S2048x512 .bf16) (w : FVec Ideal S1x512x512 .f32) (x : FVec Ideal S1x2048x512 .f32)
    (s : FVec Ideal S1x512 .f32) (r : Fin 2048) (e : Fin 512) :
    k0_pay1 (F := Ideal) (k0_pay69 z w) x s (ix3 0 r e)
      = x (ix3 0 r e) + (∑ k : Fin 512, z (ix2 r k) * w (ix3 0 k e)) * s (ix2 0 e) := by
  pointwise [k0_pay1, k0_pay69]

/-- The windows' block indices at point `t`. -/
theorem idx_val : ∀ t : Fin cfg0.N, win0_0.index t = ![t.val / 4, 0, t.val % 4] ∧ win0_1.index t = ![t.val / 4, 0, t.val % 4]
    ∧ win0_2.index t = ![t.val % 4, 0, 0] ∧ win0_3.index t = ![0, t.val % 4] ∧ win0_4.index t = ![t.val / 4, 0, t.val % 4] :=
  (by decide +kernel : ∀ t : Fin grid0.N, _)

/-- Column `e` of group `g`. -/
def colOf (g : Fin 4) (e : Fin 512) : Fin 2048 := ⟨512 * g.val + e.val, by omega⟩

/-- The pooling mixer from its arguments: the residual plus the scaled product of the window means. -/
def poolAt (hp x : Fin 4 → Fin 2048 → Fin 2048 → EReal) (w : Fin 4 → Fin 512 → Fin 512 → EReal) (s : Fin 2048 → EReal)
    (b : Fin 4) (r : Fin 2048) (g : Fin 4) (e : Fin 512) : EReal :=
  x b r (colOf g e) + (∑ k : Fin 512, zAt (widthOf g.val) (fun n d => hp b n (colOf g d)) r.val k * w g k e) * s (colOf g e)

section
variable (m : (ℓ : Loc nD τ sig) → Buf (Elt Ideal) ℓ) (c : Dev nD)

abbrev Hp (b : Fin 4) (r j : Fin 2048) : EReal := (show FVec Ideal S4x2048x2048 .f32 from m ((c : Thread nD τ).loc main_arg0)) (ix3 b r j)
abbrev X (b : Fin 4) (r j : Fin 2048) : EReal := (show FVec Ideal S4x2048x2048 .f32 from m ((c : Thread nD τ).loc main_arg1)) (ix3 b r j)
abbrev Wg (g : Fin 4) (k e : Fin 512) : EReal := (show FVec Ideal S4x512x512 .f32 from m ((c : Thread nD τ).loc main_arg2)) (ix3 g k e)
abbrev Sc (j : Fin 2048) : EReal := (show FVec Ideal S2048 .f32 from m ((c : Thread nD τ).loc main_arg3)) (ix1 j)

/-- The sequence and the group of point `t`. -/
def seqOf (t : Fin cfg0.N) : Fin 4 := ⟨t.val / 4, by have := lt_of_lt_of_eq t.isLt N_0; omega⟩
def grpOf (t : Fin cfg0.N) : Fin 4 := ⟨t.val % 4, by omega⟩

theorem blk0 (t : Fin cfg0.N) (r : Fin 2048) (d : Fin 512) :
    (show FVec Ideal S1x2048x512 .f32 from iblk m c 0 t) (ix3 0 r d) = Hp m c (seqOf t) r (colOf (grpOf t) d) := by
  have h := idx_val t
  blk_ext [iblk, V, idx_val t, seqOf, grpOf, colOf]

theorem blk1 (t : Fin cfg0.N) (r : Fin 2048) (d : Fin 512) :
    (show FVec Ideal S1x2048x512 .f32 from iblk m c 1 t) (ix3 0 r d) = X m c (seqOf t) r (colOf (grpOf t) d) := by
  have h := idx_val t
  blk_ext [iblk, V, idx_val t, seqOf, grpOf, colOf]

theorem blk2 (t : Fin cfg0.N) (k e : Fin 512) :
    (show FVec Ideal S1x512x512 .f32 from iblk m c 2 t) (ix3 0 k e) = Wg m c (grpOf t) k e := by
  have h := idx_val t
  blk_ext [iblk, V, idx_val t, grpOf]

theorem blk3 (t : Fin cfg0.N) (e : Fin 512) :
    (show FVec Ideal S1x512 .f32 from iblk m c 3 t) (ix2 0 e) = Sc m c (colOf (grpOf t) e) := by
  have h := idx_val t
  blk_simp [iblk, idx_val t]
  entry_read
  pointwise
  blk_ext [idx_val t, grpOf, colOf]

/-- The result block after any point: its group's window, whichever of the four it is. -/
theorem outs_eq (t : Fin cfg0.N) :
    outsAt0 m c t.val t.isLt = k0_pay1 (k0_pay69 (zBlk (widthOf (grpOf t).val) (iblk m c 0 t)) (iblk m c 2 t)) (iblk m c 1 t) (iblk m c 3 t) := by
  have hq : t.val % 4 = 0 ∨ t.val % 4 = 1 ∨ t.val % 4 = 2 ∨ t.val % 4 = 3 := by omega
  have hw : widthOf (grpOf t).val = 2 ^ (t.val % 4 + 1) := rfl
  rw [hw]
  rcases hq with h | h | h | h <;> rw [h] <;> simp only [Nat.reduceAdd, Nat.reducePow]
  · rw [outsAt0_A m c t h (by omega) (by omega) (by omega), out_A]
  · rw [outsAt0_B m c t (by omega) h (by omega) (by omega), out_B]
  · rw [outsAt0_C m c t (by omega) (by omega) h (by omega), out_C]
  · rw [outsAt0_D m c t (by omega) (by omega) (by omega) h, out_D]

/-- The array the kernel computes. -/
def G4 : FVec Ideal S4x2048x2048 .f32 := fun y =>
  poolAt (Hp m c) (X m c) (Wg m c) (Sc m c) (y 0) (y 1) ⟨(y 2).val / 512, by have : (y 2).val < 2048 := (y 2).isLt; omega⟩
    ⟨(y 2).val % 512, by omega⟩

/-- The result array at a group's column. -/
theorem G4_at (b : Fin 4) (r : Fin 2048) (g : Fin 4) (e : Fin 512) :
    G4 m c (ix3 b r (colOf g e)) = poolAt (Hp m c) (X m c) (Wg m c) (Sc m c) b r g e := by
  have e1 : (⟨(colOf g e).val / 512, by have := (colOf g e).isLt; omega⟩ : Fin 4) = g := Fin.ext (by show (512 * g.val + e.val) / 512 = g.val; omega)
  have e2 : (⟨(colOf g e).val % 512, by omega⟩ : Fin 512) = e := Fin.ext (by show (512 * g.val + e.val) % 512 = e.val; omega)
  show poolAt (Hp m c) (X m c) (Wg m c) (Sc m c) b r ⟨(colOf g e).val / 512, _⟩ ⟨(colOf g e).val % 512, _⟩ = _
  rw [e1, e2]

/-- The result array after the last point. -/
theorem final : (dats m 0 c).arrAt 4 cfg0.N = G4 m c := by
  refine (dats m 0 c).arrAt_eq_of_covers 4 _ (by decide +kernel) fun t _ y => ?_
  obtain ⟨r, e, rfl⟩ : ∃ (r : Fin 2048) (e : Fin 512), y = ix3 0 r e :=
    ⟨y 1, y 2, (eq_ix3 y).trans (congrArg (fun q : Fin 1 => ix3 q (y 1) (y 2)) (Subsingleton.elim (α := Fin 1) _ _))⟩
  have hy : ((cfg0.win 4).blk t).view.emb (ix3 0 r e) = (ix3 (seqOf t) r (colOf (grpOf t) e) : S4x2048x2048.Idx) := by
    have h := idx_val t
    blk_ext [idx_val t, seqOf, grpOf, colOf]
  rw [hy, G4_at]
  blk_simp
  rw [after0_4, outs_eq]
  refine (pay1_at _ _ _ _ r e).trans ?_
  unfold poolAt
  refine congrArg₂ (· + ·) (blk1 m c t r e) (congrArg₂ (· * ·) (Finset.sum_congr rfl fun k _ => ?_) (blk3 m c t e))
  exact congrArg₂ (· * ·) (zAt_congr fun n => blk0 m c t n k) (blk2 m c t k e)

/-- The kernel's run, its result array named. -/
theorem run (ρ : Dev nD → PrngReg) : θ_run defs (onTc (τ := τ) (main (F := Ideal))) ⟨m, fun _ => 0, ρ⟩ fun r => ∀ c : Dev nD,
      r.2.mem ((c : Thread nD τ).loc main_v1) = G4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end

end Cert.PoolIdeal.Value

end
-- ==== Proof.PoolRef.lean ====
/-
  The pooling mixer in the reference: the banded sums read at an index, the sum over a window's rows brought to the sum over
  the window's offsets, and the equation with the kernel's array.
-/
module

public import proofs.«01_k».proof.Proof.Pool
public import proofs.«01_k».proof.Proof.Gen.PoolRefIdeal.Run
public import Idealize.ShloMosaic.Lib.WordCmp

@[expose] public section

set_option maxRecDepth 16384

noncomputable section

open Idealize.ShloMosaic Idealize.ShloMosaic.TcCoe Idealize.SL.Sem

namespace Cert.PoolRefIdeal.Value

open Cert.PoolRefIdeal Cert.PoolRefIdeal.Gen Cert.Window

/-- Whether row `s` is in the window of `w` ending at row `t`, as the reference computes it. -/
def band (w : BitVec 32) (t s : ℕ) : EReal :=
  FloatOps.uitofp (F := Ideal) FTy.f32 (IntOp.andi (IntOp.cmpi .sle (BitVec.ofNat 32 s) (BitVec.ofNat 32 t))
    (IntOp.cmpi .sgt (BitVec.ofNat 32 s) (IntOp.subi (BitVec.ofNat 32 t) w)))

/-- A group's window means less its rows, as the reference composes them. -/
def means (w : BitVec 32) (sl : FVec Ideal S4x2048x512 .f32) : FVec Ideal S4x2048x512 .f32 :=
  (subf (Host.divf (transpose S4x2048x512 [0, 2, 1] (Host.dotGeneral dot_S4x2048x512_S2048x2048_S4x512x2048_1_1_02_0_n_n none sl (uitofp .f32 (andi (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))) (cmpi .sgt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (subi (broadcastInDim S2048x1 ![0] bcast_S2048_S2048x1_0 (iotaInDim S2048 32 0)) (broadcastInDim S2048x1 ![] bcast_S_S2048x1 (constantI S_ 32 w)))))))) transposes_S4x512x2048_S4x2048x512_0_2_1) (broadcastInDim S4x2048x512 ![0, 1, 2] bcast_S1x2048x1_S4x2048x512_0_1_2 (broadcastInDim S1x2048x1 ![1, 2] bcast_S2048x1_S1x2048x1_1_2 (broadcastInDim S2048x1 ![0] bcast_S2048_S2048x1_0 (sitofp .f32 (minsi (broadcastInDim S2048 ![] bcast_S_S2048 (constantI S_ 32 w)) (addi (iotaInDim S2048 32 0) (broadcastInDim S2048 ![] bcast_S_S2048 (constantI S_ 32 1#32))))))))) sl)

theorem means_at (w : BitVec 32) (sl : FVec Ideal S4x2048x512 .f32) (b : Fin 4) (t : Fin 2048) (d : Fin 512) :
    means w sl (ix3 b t d) = Ideal.div (∑ s : Fin 2048, sl (ix3 b s d) * band w t.val s.val)
      (FloatOps.sitofp (F := Ideal) FTy.f32 (IntOp.minsi w (IntOp.addi (BitVec.ofNat 32 t.val) 1#32))) - sl (ix3 b t d) := by
  pointwise [means, band]

/-- The four groups' values side by side. -/
def stack (u0 u1 u2 u3 : FVec Ideal S4x2048x512 .f32) : FVec Ideal S4x2048x4x512 .f32 :=
  ((concatenate S4x2048x4x512 2 [⟨S4x2048x1x512, ((broadcastInDim S4x2048x1x512 ![0, 1, 3] bcast_S4x2048x512_S4x2048x1x512_0_1_3 u0) : (⟨S4x2048x1x512, .f32⟩ : BufTy).Contents (Elt Ideal))⟩, ⟨S4x2048x1x512, ((broadcastInDim S4x2048x1x512 ![0, 1, 3] bcast_S4x2048x512_S4x2048x1x512_0_1_3 u1) : (⟨S4x2048x1x512, .f32⟩ : BufTy).Contents (Elt Ideal))⟩, ⟨S4x2048x1x512, ((broadcastInDim S4x2048x1x512 ![0, 1, 3] bcast_S4x2048x512_S4x2048x1x512_0_1_3 u2) : (⟨S4x2048x1x512, .f32⟩ : BufTy).Contents (Elt Ideal))⟩, ⟨S4x2048x1x512, ((broadcastInDim S4x2048x1x512 ![0, 1, 3] bcast_S4x2048x512_S4x2048x1x512_0_1_3 u3) : (⟨S4x2048x1x512, .f32⟩ : BufTy).Contents (Elt Ideal))⟩] concatenates_S4x2048x1x512_S4x2048x1x512_S4x2048x1x512_S4x2048x1x512_S4x2048x4x512_d2 : (⟨S4x2048x4x512, .f32⟩ : BufTy).Contents (Elt Ideal)))

theorem stack_at (u0 u1 u2 u3 : FVec Ideal S4x2048x512 .f32) (b : Fin 4) (t : Fin 2048) (g : Fin 4) (k : Fin 512) :
    stack u0 u1 u2 u3 (ix4 b t g k) = (![u0, u1, u2, u3] g) (ix3 b t k) := by
  match g with
  | ⟨0, _⟩ => pointwise [stack]
  | ⟨1, _⟩ => pointwise [stack]
  | ⟨2, _⟩ => pointwise [stack]
  | ⟨3, _⟩ => pointwise [stack]

/-- The whole mixer, as the reference composes it. -/
def out (hp x : FVec Ideal S4x2048x2048 .f32) (w : FVec Ideal S4x512x512 .f32) (s : FVec Ideal S2048 .f32) : FVec Ideal S4x2048x2048 .f32 :=
  addf x (mulf (shapeCast _ (transpose S4x2048x4x512 [2, 3, 0, 1] (Host.dotGeneral dot_S4x512x512_S4x2048x4x512_S4x512x4x2048_1_3_2_01_0_2 none w (stack (means 2#32 (extractStridedSlice S4x2048x512 ![0, 0, 0] hp slices_S4x2048x2048_S4x2048x512_0_0_0))
      (means 4#32 (extractStridedSlice S4x2048x512 ![0, 0, 512] hp slices_S4x2048x2048_S4x2048x512_0_0_512))
      (means 8#32 (extractStridedSlice S4x2048x512 ![0, 0, 1024] hp slices_S4x2048x2048_S4x2048x512_0_0_1024))
      (means 16#32 (extractStridedSlice S4x2048x512 ![0, 0, 1536] hp slices_S4x2048x2048_S4x2048x512_0_0_1536)))) transposes_S4x512x4x2048_S4x2048x4x512_2_3_0_1) shapeCasts_S4x2048x4x512_S4x2048x2048) (broadcastInDim S4x2048x2048 ![0, 1, 2] bcast_S1x1x2048_S4x2048x2048_0_1_2 (broadcastInDim S1x1x2048 ![2] bcast_S2048_S1x1x2048_2 s)))

/-- The window as a condition on the rows. -/
theorem band_eq (w t s : ℕ) (hw : w ≤ 16) (ht : t < 2048) (hs : s < 2048) :
    band (BitVec.ofNat 32 w) t s = if s ≤ t ∧ t < s + w then 1 else 0 := by
  have e1 : (BitVec.ofNat 32 s).toInt = s := by rw [BitVec.toInt_ofNat']; simp [Int.bmod]; omega
  have e2 : (BitVec.ofNat 32 t).toInt = t := by rw [BitVec.toInt_ofNat']; simp [Int.bmod]; omega
  have e3 : (BitVec.ofNat 32 w).toInt = w := by rw [BitVec.toInt_ofNat']; simp [Int.bmod]; omega
  have e4 : (IntOp.subi (BitVec.ofNat 32 t) (BitVec.ofNat 32 w)).toInt = (t : ℤ) - w := by
    show (BitVec.ofNat 32 t - BitVec.ofNat 32 w).toInt = _
    rw [BitVec.toInt_sub, e2, e3]; simp [Int.bmod]; omega
  unfold band
  rw [WordCmp.cmpi_sle_eq, WordCmp.cmpi_sgt_eq, e1, e2, e4]
  by_cases h1 : s ≤ t <;> by_cases h2 : t < s + w
  all_goals
    have d1 : ((s : ℤ) ≤ t) = (s ≤ t) := by simp
    have d2 : ((t : ℤ) - w < s) = (t < s + w) := by apply propext; omega
    simp only [d1, d2, h1, h2, decide_true, decide_false, and_true, and_false, true_and, false_and, if_true, if_false]
  · show (((1 : ℕ) : ℝ) : EReal) = 1
    simp
  all_goals
    show (((0 : ℕ) : ℝ) : EReal) = 0
    simp

/-- The sum over the window's rows is the sum over its offsets. -/
theorem band_sum (h : Fin 2048 → Fin 512 → EReal) (w t : ℕ) (hw : w ≤ 16) (ht : t < 2048) (d : Fin 512) :
    ∑ s : Fin 2048, h s d * band (BitVec.ofNat 32 w) t s.val = ∑ k ∈ Finset.range w, padAt h (16 - k + t) d := by
  have hk : ∀ k ∈ Finset.range w, padAt h (16 - k + t) d = ∑ s : Fin 2048, if s.val + k = t then h s d else 0 := by
    intro k hk
    have hk' := Finset.mem_range.mp hk
    unfold padAt
    by_cases hn : k ≤ t
    · rw [dif_pos (by omega), Finset.sum_eq_single (⟨t - k, by omega⟩ : Fin 2048)]
      · rw [if_pos (by show t - k + k = t; omega)]
        exact congrArg (fun q => h q d) (Fin.ext (by show 16 - k + t - 16 = t - k; omega))
      · intro s _ hne
        rw [if_neg]
        intro e; exact hne (Fin.ext (by show s.val = t - k; omega))
      · intro hm; exact absurd (Finset.mem_univ _) hm
    · rw [dif_neg (by omega), Finset.sum_eq_zero]
      intro s _
      rw [if_neg (by omega)]
  rw [Finset.sum_congr rfl hk, Finset.sum_comm]
  refine Finset.sum_congr rfl fun s _ => ?_
  rw [band_eq w t s.val hw ht s.isLt]
  by_cases hb : s.val ≤ t ∧ t < s.val + w
  · rw [if_pos hb, mul_one, Finset.sum_eq_single (t - s.val)]
    · rw [if_pos (by omega)]
    · intro k _ hne
      rw [if_neg (by omega)]
    · intro hm; exact absurd (Finset.mem_range.mpr (by omega)) hm
  · rw [if_neg hb, mul_zero, Finset.sum_eq_zero]
    intro k hk
    have := Finset.mem_range.mp hk
    rw [if_neg (by omega)]

/-- A group's window means less its rows are the kernel's. -/
theorem means_eq (w : ℕ) (hw : w ≤ 16) (sl : FVec Ideal S4x2048x512 .f32) (b : Fin 4) (t : Fin 2048) (d : Fin 512) :
    means (BitVec.ofNat 32 w) sl (ix3 b t d) = zAt w (fun r d => sl (ix3 b r d)) t.val d := by
  rw [means_at]
  unfold zAt
  have e : padAt (fun r d => sl (ix3 b r d)) (16 + t.val) d = sl (ix3 b t d) := by
    unfold padAt
    rw [dif_pos (by omega)]
    exact congrArg (fun q => sl (ix3 b q d)) (Fin.ext (by show 16 + t.val - 16 = t.val; omega))
  rw [e, ← band_sum _ w t.val hw t.isLt d]
  rfl

open Cert.PoolIdeal.Value (colOf poolAt)

theorem out_at (hp x : FVec Ideal S4x2048x2048 .f32) (w : FVec Ideal S4x512x512 .f32) (s : FVec Ideal S2048 .f32)
    (b : Fin 4) (r : Fin 2048) (g : Fin 4) (e : Fin 512) :
    out hp x w s (ix3 b r (colOf g e)) = poolAt (fun b r j => hp (ix3 b r j)) (fun b r j => x (ix3 b r j))
      (fun g k e => w (ix3 g k e)) (fun j => s (ix1 j)) b r g e := by
  have e1 : (⟨(colOf g e).val / 512, by have := (colOf g e).isLt; omega⟩ : Fin 4) = g := Fin.ext (by show (512 * g.val + e.val) / 512 = g.val; omega)
  have e2 : (⟨(colOf g e).val % 512, by omega⟩ : Fin 512) = e := Fin.ext (by show (512 * g.val + e.val) % 512 = e.val; omega)
  unfold poolAt
  pointwise [out]
  rw [e1, e2]
  refine congrArg₂ (· + ·) rfl (congrArg₂ (· * ·) (Finset.sum_congr rfl fun k _ => ?_) rfl)
  rw [stack_at, mul_comm]
  refine congrArg₂ (· * ·) ?_ rfl
  match g with
  | ⟨0, _⟩ => refine (means_eq 2 (by omega) _ b r k).trans (zAt_congr fun n => ?_); pointwise; blk_ext [colOf]
  | ⟨1, _⟩ => refine (means_eq 4 (by omega) _ b r k).trans (zAt_congr fun n => ?_); pointwise; blk_ext [colOf]
  | ⟨2, _⟩ => refine (means_eq 8 (by omega) _ b r k).trans (zAt_congr fun n => ?_); pointwise; blk_ext [colOf]
  | ⟨3, _⟩ => refine (means_eq 16 (by omega) _ b r k).trans (zAt_congr fun n => ?_); pointwise; blk_ext [colOf]

/-- The reference's result is the array the kernel computes from the same arguments. -/
theorem out_eq_kernel (m : (ℓ : Loc Cert.PoolIdeal.nD Cert.PoolIdeal.τ Cert.PoolIdeal.sig) → Buf (Elt Ideal) ℓ) (c : Dev Cert.PoolIdeal.nD) :
    out (m ((c.tc : Thread Cert.PoolIdeal.nD Cert.PoolIdeal.τ).loc Cert.PoolIdeal.main_arg0))
      (m ((c.tc : Thread Cert.PoolIdeal.nD Cert.PoolIdeal.τ).loc Cert.PoolIdeal.main_arg1))
      (m ((c.tc : Thread Cert.PoolIdeal.nD Cert.PoolIdeal.τ).loc Cert.PoolIdeal.main_arg2))
      (m ((c.tc : Thread Cert.PoolIdeal.nD Cert.PoolIdeal.τ).loc Cert.PoolIdeal.main_arg3))
    = Cert.PoolIdeal.Value.G4 m c := by
  funext i
  obtain ⟨b, r, j, rfl⟩ : ∃ (b : Fin 4) (r j : Fin 2048), i = ix3 b r j := ⟨i 0, i 1, i 2, eq_ix3 i⟩
  obtain ⟨g, e, rfl⟩ : ∃ (g : Fin 4) (e : Fin 512), j = colOf g e :=
    ⟨⟨j.val / 512, by omega⟩, ⟨j.val % 512, by omega⟩, Fin.ext (by show j.val = 512 * (j.val / 512) + j.val % 512; omega)⟩
  exact (out_at _ _ _ _ b r g e).trans (Cert.PoolIdeal.Value.G4_at m c b r g e).symm

end Cert.PoolRefIdeal.Value

end
-- ==== Proof.Norm.lean ====
/-
  The normalisation in front of the pooling mixer over the extended reals: point `t` is the row block `t`, and its four
  trips store the rows scaled by the reciprocal root of their mean square and by the gain.
-/
module

public import proofs.«01_k».proof.Proof.Gen.NormIdeal.Value
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem

namespace Cert.NormIdeal.Value

open Cert.NormIdeal Cert.NormIdeal.Gen Cert.Rows

/-- What one trip stores, at an index. -/
theorem pay1_at (x : FVec Ideal S256x2048 .f32) (g : FVec Ideal S1x2048 .f32) (r : Fin 256) (d : Fin 2048) :
    k0_pay1 (F := Ideal) x g (ix2 r d) = hnAt (fun r d => x (ix2 r d)) (fun d => g (ix2 0 d)) r d := by
  pointwise [k0_pay1, hnAt]

/-- Trip `k` starts at row `256 k`. -/
theorem off1_val : ∀ k : Fin k0_t1_loop.trips, k0_off1 k = ![256 * k.val, 0] := by decide +kernel

/-- Where trip `k`'s rectangle puts its index. -/
theorem emb_rows (k : Fin k0_t1_loop.trips) (r : Fin 256) (d : Fin 2048) :
    ((Rect.unit (s := S1024x2048) (k0_off1 k) S256x2048.size (k0_off1_inb k)).emb (ix2 r d) : S1024x2048.Idx)
      = ix2 (⟨256 * k.val + r.val, by have := Nat.lt_of_lt_of_le k.isLt k0_t1_abs.2.1; omega⟩ : Fin 1024) d := by
  funext a
  apply Fin.ext
  match a with
  | ⟨0, _⟩ => show k0_off1 k 0 + 1 * r.val = 256 * k.val + r.val; rw [off1_val]; simp
  | ⟨1, _⟩ => show k0_off1 k 1 + 1 * d.val = d.val; rw [off1_val]; simp

/-- The whole block's normalisation. -/
def rowsBlk (x0 : Vec Ideal S1024x2048 .f32) (x1 : Vec Ideal S1x2048 .f32) : Vec Ideal S1024x2048 .f32 :=
  fun y => hnAt (fun (r : Fin 1024) d => (show FVec Ideal S1024x2048 .f32 from x0) (ix2 r d)) (fun d => (show FVec Ideal S1x2048 .f32 from x1) (ix2 0 d)) (y 0) (y 1)

section
variable (c : Dev nD) (i : grid0.Coords) (a1 : Memref sig .tc .vmem S1024x2048 .f32) (h1 : a1.IsWhole)
    (a2 : Memref sig .tc .vmem S1x2048 .f32) (h2 : a2.IsWhole) (a3 : Memref sig .tc .vmem S1024x2048 .f32) (h3 : a3.IsWhole)
    (x0 : Vec Ideal S1024x2048 .f32) (x1 : Vec Ideal S1x2048 .f32)

/-- One trip stores the normalisation of its 256 rows. -/
theorem trip_pieces (k : Fin k0_t1_loop.trips) :
    tripL_k0_t1 (F := Ideal) Variants.none c none i a1 h1 a2 h2 a3 h3 (h1.unread x0) (h2.unread x1) k
     = [⟨Rect.unit (s := S1024x2048) (k0_off1 k) S256x2048.size (k0_off1_inb k),
          k0_pay1 (View.ld x0 (Rect.unit (s := S1024x2048) (k0_off1 k) S256x2048.size (k0_off1_inb k))) x1⟩] := by
  unfold tripL_k0_t1 trip_k0_t1
  dsimp only
  simp only [View.readAt_eq_ld, h1.read_unread, h2.read_unread, View.ld_unit_zero (S := S1x2048) hz2]

/-- After any number of trips every piece is a tile of the block's normalisation. -/
theorem pb_tiles (n : ℕ) (hn : n ≤ k0_t1_loop.trips) :
    ∀ p ∈ pb_k0_t1 (F := Ideal) Variants.none c none i a1 h1 a2 h2 a3 h3 (h1.unread x0) (h2.unread x1) n,
      ∀ x : p.1.shape.Idx, p.2 x = rowsBlk x0 x1 (p.1.emb x) := by
  induction n with
  | zero => exact fun p hp => absurd hp List.not_mem_nil
  | succ n ih =>
    have hs := pb_k0_t1_succ (F := Ideal) Variants.none c none i a1 h1 a2 h2 a3 h3 (h1.unread x0) (h2.unread x1) ⟨n, hn⟩
    rw [trip_pieces] at hs
    dsimp only at hs
    rw [hs]
    intro p hp
    rcases List.mem_cons.mp hp with rfl | hp
    · intro x
      dsimp only at x ⊢
      obtain ⟨r, d, rfl⟩ : ∃ (r : Fin 256) (d : Fin 2048), x = ix2 r d := ⟨x 0, x 1, eq_ix2 x⟩
      refine (pay1_at _ _ r d).trans ?_
      rw [emb_rows ⟨n, hn⟩ r d]
      exact hnAt_congr (fun d => congrArg x0 (emb_rows ⟨n, hn⟩ r d)) (fun _ => rfl)
    · exact ih (Nat.le_of_succ_le hn) p hp

/-- What a point leaves in the result block. -/
theorem out_A : out0_A_2 c i a1 h1 a2 h2 a3 h3 x0 x1 = rowsBlk x0 x1 := by
  frame_out
  exact funext fun y => View.canon_apply_of_pieces (rowsBlk x0 x1) _ (pb_tiles c i a1 h1 a2 h2 a3 h3 x0 x1 _ le_rfl) y
    (View.cover_of_tiledL (pb_k0_t1 (F := Ideal) Variants.none c none i a1 h1 a2 h2 a3 h3 (h1.unread x0) (h2.unread x1) (Scf.trips k0_t1_loop.lb k0_t1_loop.ub k0_t1_loop.st)) S256x2048.size (by sl_kernel_rfl) y)

end

/-! ## What the array holds -/

/-- The windows' block indices at point `t`. -/
theorem idx_val : ∀ t : Fin cfg0.N, win0_0.index t = ![t.val, 0] ∧ win0_1.index t = ![0, 0] ∧ win0_2.index t = ![t.val, 0] :=
  (by decide +kernel : ∀ t : Fin grid0.N, _)

section
variable (m : (ℓ : Loc nD τ sig) → Buf (Elt Ideal) ℓ) (c : Dev nD)

abbrev X (r : Fin 8192) (d : Fin 2048) : EReal := (show FVec Ideal S8192x2048 .f32 from m ((c : Thread nD τ).loc main_arg0)) (ix2 r d)
abbrev Gn (d : Fin 2048) : EReal := (show FVec Ideal S2048 .f32 from m ((c : Thread nD τ).loc main_arg1)) (ix1 d)

/-- The row block's row `r` at point `t`, as a row of the array. -/
def rowAt (t : Fin cfg0.N) (r : Fin 1024) : Fin 8192 :=
  ⟨1024 * t.val + r.val, by have := lt_of_lt_of_eq t.isLt N_0; omega⟩

theorem blk0 (t : Fin cfg0.N) (r : Fin 1024) (d : Fin 2048) :
    (show FVec Ideal S1024x2048 .f32 from iblk m c 0 t) (ix2 r d) = X m c (rowAt t r) d := by
  have h := idx_val t
  blk_ext [iblk, V, idx_val t, rowAt]

theorem blk1 (t : Fin cfg0.N) (d : Fin 2048) :
    (show FVec Ideal S1x2048 .f32 from iblk m c 1 t) (ix2 0 d) = Gn m c d := by
  blk_simp [iblk, idx_val t]
  entry_read
  pointwise
  blk_ext [idx_val t]

/-- The array the kernel computes: every row's normalisation. -/
def G2 : FVec Ideal S8192x2048 .f32 := fun y => hnAt (X m c) (Gn m c) (y 0) (y 1)

/-- The result array after the last point. -/
theorem final : (dats m 0 c).arrAt 2 cfg0.N = G2 m c := by
  refine (dats m 0 c).arrAt_eq_of_covers 2 _ (by decide +kernel) fun t _ y => ?_
  obtain ⟨r, d, rfl⟩ : ∃ (r : Fin 1024) (d : Fin 2048), y = ix2 r d := ⟨y 0, y 1, eq_ix2 y⟩
  have e : (dats m 0 c).after 2 t = rowsBlk (iblk m c 0 t) (iblk m c 1 t) := by
    rw [after0_2, outsAt0, out_A]
  have hy : ((cfg0.win 2).blk t).view.emb (ix2 r d) = (ix2 (rowAt t r) d : S8192x2048.Idx) := by
    have h := idx_val t
    blk_ext [idx_val t, rowAt]
  rw [hy]
  blk_simp
  rw [e]
  exact hnAt_congr (fun d => blk0 m c t r d) (fun d => blk1 m c t d)

/-- The kernel's run, its result array named. -/
theorem run (ρ : Dev nD → PrngReg) : θ_run defs (onTc (τ := τ) (main (F := Ideal))) ⟨m, fun _ => 0, ρ⟩ fun r => ∀ c : Dev nD,
      r.2.mem ((c : Thread nD τ).loc main_v1) = G2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end

end Cert.NormIdeal.Value

end
-- ==== Proof.NormRef.lean ====
/-
  The pooling mixer's normalisation in the reference, read at an index, and its equation with the kernel's array.
-/
module

public import proofs.«01_k».proof.Proof.Norm
public import proofs.«01_k».proof.Proof.Gen.NormRefIdeal.Run

@[expose] public section

set_option maxRecDepth 16384

noncomputable section

open Idealize.ShloMosaic Idealize.ShloMosaic.TcCoe Idealize.SL.Sem

namespace Cert.NormRefIdeal.Value

open Cert.NormRefIdeal Cert.NormRefIdeal.Gen Cert.Rows

/-- The normalised rows, as the reference composes them. -/
def norm (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

theorem norm_at (x : FVec Ideal S8192x2048 .f32) (g : FVec Ideal S2048 .f32) (r : Fin 8192) (d : Fin 2048) :
    norm x g (ix2 r d) = hnAt (fun r d => x (ix2 r d)) (fun d => g (ix1 d)) r d := by
  pointwise [norm, hnAt]

/-- The reference's result is the array the kernel computes from the same arguments. -/
theorem out_eq_kernel (m : (ℓ : Loc Cert.NormIdeal.nD Cert.NormIdeal.τ Cert.NormIdeal.sig) → Buf (Elt Ideal) ℓ) (c : Dev Cert.NormIdeal.nD) :
    norm (m ((c.tc : Thread Cert.NormIdeal.nD Cert.NormIdeal.τ).loc Cert.NormIdeal.main_arg0))
        (m ((c.tc : Thread Cert.NormIdeal.nD Cert.NormIdeal.τ).loc Cert.NormIdeal.main_arg1))
    = Cert.NormIdeal.Value.G2 m c := by
  funext i
  obtain ⟨r, d, rfl⟩ : ∃ (r : Fin 8192) (d : Fin 2048), i = ix2 r d := ⟨i 0, i 1, eq_ix2 i⟩
  exact norm_at _ _ r d

end Cert.NormRefIdeal.Value

end
-- ==== Proof.AmixRun.lean ====
/-
  The gated mixer's body run once in each of its two cases, on any staging memrefs: at the first point of a row block it
  fills the gated scratch and multiplies by the weight's columns; at the other seven it only multiplies.  The pieces each
  buffer ends with are the witnesses the run finds.  The normalised rows (the window the body writes beside the result)
  are held at some contents: nothing is said of them.
-/
module

public import proofs.«01_k».proof.Proof.Gen.Amix.Frame
public import proofs.«01_k».proof.Proof.Gen.Amix.Launch
public import proofs.«01_k».proof.Proof.Gen.Amix.Skeleton
public import proofs.«01_k».proof.Proof.Gen.Amix.Loops
public import proofs.«01_k».proof.Proof.Gen.Amix.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Amix.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Amix Cert.Amix.Gen

variable {F : FTy → Type} [FloatOps F]

local notation "𝕄" => MT nD τ sig Unit (Elt F) ℕ (UR sig nD τ) ℕ

/-- The body fills the gated scratch at this point. -/
abbrev fresh (i : grid0.Coords) : Prop := k0_cond1 i = 1#1
/-- That is the first of the eight points of a row block. -/
theorem fresh_iff : ∀ t : Fin cfg0.N, fresh (grid0.coords t) ↔ t.val % 8 = 0 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [fresh, k0_cond1, e0, e1]
    word_cmp
   : ∀ t : Fin grid0.N, fresh (grid0.coords t) ↔ t.val % 8 = 0)

/-- One staging buffer of the result, through which what it holds is stated. -/
abbrev outView : View sig .tc .vmem S512x256 .f32 := (Memref.whole cc0_stg8_0 : Memref sig .tc .vmem S512x256 .f32).view

/-! Each window's staging memref at point `t`, and that it is whole. -/

abbrev ms0 (t : Fin cfg0.N) : Memref sig .tc .vmem S512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x2048 .f32 := win0_9.stage (cfg0.slots t 9)
abbrev hs9 (t : Fin cfg0.N) : (ms9 t).IsWhole := hstage0_9 ((cfg0.slots t 9).cast nbuf0_9)

/-- The gated scratch. -/
abbrev scM0 : Memref sig .tc .vmem S512x2048 .bf16 := Memref.whole cc0_scratch0
/-- The masked weights' scratch. -/
abbrev scM1 : Memref sig .tc .vmem S16x128x128 .bf16 := Memref.whole cc0_scratch1
/-- The gated scratch as a view. -/
abbrev gatedView : View sig .tc .vmem S512x2048 .bf16 := scM0.view

section
variable (c : Dev nD) (i : grid0.Coords) (arg2 : Memref sig .tc .vmem S512x256 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x128x128 .f32) (harg7 : arg7.IsWhole) (arg8 : Memref sig .tc .vmem S128x2048 .f32) (harg8 : arg8.IsWhole) (arg9 : Memref sig .tc .vmem S2048x256 .f32) (harg9 : arg9.IsWhole) (arg10 : Memref sig .tc .vmem S512x256 .f32) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S16x128x128 .bf16) (harg13 : arg13.IsWhole)
    (x0 : Vec F S512x256 .f32) (x1 : Vec F S512x2048 .f32) (x2 : Vec F S512x2048 .f32) (x3 : Vec F S1x2048 .f32) (x4 : Vec F S1x2048 .f32) (x5 : Vec F S16x128x128 .f32) (x6 : Vec F S128x2048 .f32) (x7 : Vec F S2048x256 .f32)

set_option backward.proofsInPublic true in
set_option maxHeartbeats 1000000 in
/-- The body where it fills the gated scratch: the pieces of the result block and of the scratch, and that the body runs to
    them from any contents of the two. -/
noncomputable def runStore (hc0 : fresh i) :
    Σ' (L8 : List (View.Piece (Elt F) S512x256 .f32)), { LS1 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ d, owns (c : Thread nD τ) arg11 fullShare d) ∗ (∃ f, arg12.view.loc (c : Thread nD τ) ↦[arg12.view.set]{fullShare} arg12.view.writes (Elt F) f LS1) ∗ (∃ d, owns (c : Thread nD τ) arg13 fullShare d)) -∗ K ⟨⟩))
          ⊢ wp frame (wpE (defs₀ (F := F)) Variants.none c none) E (cc0_amix i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_amix_eq_skeleton]; unfold cc0_amix_skel
    simp only [k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    have hrd0 : ∀ (𝒱 : Variants) (c : Dev nD) (bd : Option 𝒱.V) (i : grid0.Coords) (arg2 : Memref sig .tc .vmem S512x256 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x128x128 .f32) (harg7 : arg7.IsWhole) (arg8 : Memref sig .tc .vmem S128x2048 .f32) (harg8 : arg8.IsWhole) (arg9 : Memref sig .tc .vmem S2048x256 .f32) (harg9 : arg9.IsWhole) (arg10 : Memref sig .tc .vmem S512x256 .f32) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S16x128x128 .bf16) (harg13 : arg13.IsWhole) (k0_h1 : k0_cond1 i = 1#1) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg13 : BufTy.Contents (Elt F) arg13.view.ty) (hrdF : BufTy.Contents (Elt F) arg12.view.ty) (hrdB : LoadRect S512x2048), arg12.view.readAt (Elt F) hrdB (arg12.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 X_arg5 X_arg6 X_arg8 X_arg13 (Scf.trips k0_t1_loop.lb k0_t1_loop.ub k0_t1_loop.st)).2) = arg12.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 X_arg5 X_arg6 X_arg8 X_arg13 (Scf.trips k0_t1_loop.lb k0_t1_loop.ub k0_t1_loop.st)).2 hrdB := fun 𝒱 c bd i arg2 harg2 arg3 harg3 arg4 harg4 arg5 harg5 arg6 harg6 arg7 harg7 arg8 harg8 arg9 harg9 arg10 harg10 arg11 harg11 arg12 harg12 arg13 harg13 k0_h1 X_arg3 X_arg4 X_arg5 X_arg6 X_arg8 X_arg13 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 X_arg5 X_arg6 X_arg8 X_arg13 (Scf.trips k0_t1_loop.lb k0_t1_loop.ub k0_t1_loop.st)).2 S128x128.size (by sl_kernel_rfl) (hrdB.idx hrdJ))
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]
    · iexists _, _; isplitr; swap; · iexact HS0
      ipureintro; rfl
    isplitl [HS1]; · iexists _; iexact HS1
    iexists _, _; isplitr; swap; · iexact HS2
    ipureintro; rfl

set_option maxHeartbeats 1000000 in
/-- The body where the gated scratch is kept: the same, over what the scratch held. -/
noncomputable def runKeep (hc0 : ¬fresh i) (xs1 : Vec F S512x2048 .bf16) :
    Σ' (L8 : List (View.Piece (Elt F) S512x256 .f32)), { LS1 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs1 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ d, owns (c : Thread nD τ) arg11 fullShare d) ∗ owns (c : Thread nD τ) arg12 fullShare xs1 ∗ (∃ d, owns (c : Thread nD τ) arg13 fullShare d)) -∗ K ⟨⟩))
          ⊢ wp frame (wpE (defs₀ (F := F)) Variants.none c none) E (cc0_amix i arg2 harg2 arg3 harg3 arg4 harg4 arg5 harg5 arg6 harg6 arg7 harg7 arg8 harg8 arg9 harg9 arg10 harg10 arg11 harg11 arg12 harg12 arg13 harg13) K } := by
  refine ⟨?_, [], fun E K => ?run⟩
  case run =>
    simp only [cc0_amix_eq_skeleton]; unfold cc0_amix_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]
    · iexists _, _; isplitr; swap; · iexact HS0
      ipureintro; rfl
    isplitl [HS1]
    · iexists _; isplitr; · ipureintro; exact harg12.read_unread _
      iexact HS1
    iexists _, _; isplitr; swap; · iexact HS2
    ipureintro; rfl

end

end Cert.Amix.Hand

end
-- ==== Proof.AmixFrame.lean ====
/-
  The gated mixer's frame: what the result block and the gated scratch hold point by point, the proof data over them (the
  window of the normalised rows forgotten), the body at every point, the run, and the arguments unchanged at its end.
-/
module

public import proofs.«01_k».proof.Proof.AmixRun
public import Idealize.ShloMosaic.Lib.Claim

@[expose] public section

set_option maxRecDepth 16384

noncomputable section

namespace Cert.Amix.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Amix Cert.Amix.Gen

variable {F : FTy → Type} [FloatOps F]

local notation "𝕄" => MT nD τ sig Unit (Elt F) ℕ (UR sig nD τ) ℕ

section
variable (c : Dev nD) (i : grid0.Coords) (arg2 : Memref sig .tc .vmem S512x256 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x128x128 .f32) (harg7 : arg7.IsWhole) (arg8 : Memref sig .tc .vmem S128x2048 .f32) (harg8 : arg8.IsWhole) (arg9 : Memref sig .tc .vmem S2048x256 .f32) (harg9 : arg9.IsWhole) (arg10 : Memref sig .tc .vmem S512x256 .f32) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S16x128x128 .bf16) (harg13 : arg13.IsWhole)
    (x0 : Vec F S512x256 .f32) (x1 : Vec F S512x2048 .f32) (x2 : Vec F S512x2048 .f32) (x3 : Vec F S1x2048 .f32) (x4 : Vec F S1x2048 .f32) (x5 : Vec F S16x128x128 .f32) (x6 : Vec F S128x2048 .f32) (x7 : Vec F S2048x256 .f32)

/-- The result's one piece covers its block where the scratch is filled, -/
theorem storeCover (hc0 : fresh i) (y : S512x256.Idx) : ∃ pc ∈ (runStore c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0).1, y ∈ pc.1.set :=
  View.cover_of_tiledL (runStore c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0).1 S512x256.size (by sl_kernel_rfl) y

/-- and where it is kept. -/
theorem keepCover (hc0 : ¬fresh i) (xs1 : Vec F S512x2048 .bf16) (y : S512x256.Idx) : ∃ pc ∈ (runKeep c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0 xs1).1, y ∈ pc.1.set :=
  View.cover_of_tiledL (runKeep c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0 xs1).1 S512x256.size (by sl_kernel_rfl) y

/-- The heads' pieces of the four trips tile the gated scratch. -/
theorem storeCoverG (hc0 : fresh i) (y : S512x2048.Idx) : ∃ pc ∈ (runStore c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0).2.1, y ∈ pc.1.set :=
  View.cover_of_tiledL (runStore c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0).2.1 S128x128.size (by sl_kernel_rfl) y

/-- What the result block holds after a point that fills the scratch, -/
def storeOut (hc0 : fresh i) : Vec F S512x256 .f32 :=
  outView.read (Elt F) (outView.writes (Elt F) outView.junk (runStore c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0).1)

/-- after one that keeps it, -/
def keepOut (hc0 : ¬fresh i) (xs1 : Vec F S512x2048 .bf16) : Vec F S512x256 .f32 :=
  outView.read (Elt F) (outView.writes (Elt F) outView.junk (runKeep c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0 xs1).1)

/-- and what the scratch holds after a point that fills it. -/
def storeGated (hc0 : fresh i) : Vec F S512x2048 .bf16 :=
  gatedView.read (Elt F) (gatedView.writes (Elt F) gatedView.junk (runStore c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0).2.1)

end

variable (m : (ℓ : Loc nD τ sig) → Buf (Elt F) ℓ) (ρ : Dev nD → PrngReg)

/-! ## Point by point -/

/-- The first point of a row block: the result block and the gated scratch it leaves. -/
def storeAt (c : Dev nD) (t : Fin cfg0.N) (h0 : t.val % 8 = 0) : Vec F S512x256 .f32 × Vec F S512x2048 .bf16 :=
  (storeOut c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((fresh_iff t).mpr h0),
   storeGated c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((fresh_iff t).mpr h0))

/-- Another point: the result block over the scratch `g`. -/
def keepAt (c : Dev nD) (t : Fin cfg0.N) (h0 : ¬t.val % 8 = 0) (g : Vec F S512x2048 .bf16) : Vec F S512x256 .f32 :=
  keepOut c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) (fun h => h0 ((fresh_iff t).mp h)) g

/-- The result block and the gated scratch after the body at position `n`. -/
def outsAt (c : Dev nD) : (n : ℕ) → n < cfg0.N → Vec F S512x256 .f32 × Vec F S512x2048 .bf16
  | 0, hn => storeAt m c ⟨0, hn⟩ (Nat.zero_mod 8)
  | n + 1, hn =>
    if h0 : (n + 1) % 8 = 0 then storeAt m c ⟨n + 1, hn⟩ h0
    else (keepAt m c ⟨n + 1, hn⟩ h0 (outsAt c n (Nat.lt_of_succ_lt hn)).2, (outsAt c n (Nat.lt_of_succ_lt hn)).2)

theorem outsAt_store (c : Dev nD) (t : Fin cfg0.N) (h0 : t.val % 8 = 0) : outsAt m c t.val t.isLt = storeAt m c t h0 := by
  obtain ⟨n, hn⟩ := t
  cases n with
  | zero => exact rfl
  | succ n => exact dif_pos h0

theorem outsAt_keep (c : Dev nD) (t : Fin cfg0.N) (h0 : ¬t.val % 8 = 0) :
    outsAt m c t.val t.isLt = (keepAt m c t h0 (outsAt m c (t.val - 1) (by omega)).2, (outsAt m c (t.val - 1) (by omega)).2) := by
  obtain ⟨n, hn⟩ := t
  cases n with
  | zero => exact absurd (Nat.zero_mod 8) h0
  | succ n => exact dif_neg h0

/-! ## The invariant and the proof data -/

/-- The region's invariant at its ends, the two scratch buffers at some contents. -/
theorem PhiA_eq (c : Dev nD) : (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Between points the gated scratch holds what the last point left; the weights' scratch anything. -/
def PhiS (c : Dev nD) : (n : ℕ) → n ≤ cfg0.N → sProp 𝕄
  | 0, _ => Pipeline.ΦA spec0 c
  | n + 1, hn => iprop(iprop(owns (c : Thread nD τ) scM0 fullShare ((outsAt m c n hn).2) ∗ (∃ d, owns (c : Thread nD τ) scM1 fullShare d)) ∗ (∃ r, prngReg c r))

theorem PhiS_succ (c : Dev nD) (n : ℕ) (hn : n < cfg0.N) :
    PhiS m c (n + 1) hn = iprop(iprop(owns (c : Thread nD τ) scM0 fullShare ((outsAt m c n hn).2) ∗ (∃ d, owns (c : Thread nD τ) scM1 fullShare d)) ∗ (∃ r, prngReg c r)) := rfl

theorem PhiS_pos (c : Dev nD) (n : ℕ) (h : n ≤ cfg0.N) (hz : n ≠ 0) :
    PhiS m c n h = iprop(iprop(owns (c : Thread nD τ) scM0 fullShare ((outsAt m c (n - 1) (by omega)).2) ∗ (∃ d, owns (c : Thread nD τ) scM1 fullShare d)) ∗ (∃ r, prngReg c r)) := by
  cases n with
  | zero => exact absurd rfl hz
  | succ n => rfl

/-- What the scratch holds may be forgotten. -/
theorem PhiS_any (c : Dev nD) (n : ℕ) (h : n ≤ cfg0.N) : PhiS m c n h ⊢ Pipeline.ΦA spec0 c := by
  cases n with
  | zero => exact .rfl
  | succ n =>
    rw [PhiS_succ, PhiA_eq]
    iintro ⟨⟨HS1, HS2⟩, Hg⟩
    isplitl [HS1 HS2]
    · isplitl [HS1]
      · iexists _; iexact HS1
      iexact HS2
    iexact Hg

/-- The proof data: the inputs' windows hold their blocks, the result's what `outsAt` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).1
    | ⟨9, h9⟩ => Pipeline.Dat.unnamed (cfg := cfg0) ⟨9, h9⟩ t
  Φ t := PhiS m c t.val (Nat.le_of_lt_succ t.isLt)
  q w := Pipeline.shareOf spec0 w
  owed _ := 0

/-- The window of the normalised rows is the forgotten one. -/
def fgt (w : Fin 10) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body at every point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ (∃ d, owns (c : Thread nD τ) (ms9 t) fullShare d))

set_option maxHeartbeats 9600000 in
/-- The body at point `t`: the run of the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ, PhiS_castSucc m c t]
  by_cases h0 : t.val % 8 = 0
  · refine (sep_mono_left (PhiS_any m c _ _)).trans ?_
    rw [PhiA_eq, outsAt_store m c t h0]
    unfold storeAt storeOut storeGated; dsimp only
    iintro ⟨⟨⟨HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, HS0⟩
    iapply ((runStore c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((fresh_iff t).mpr h0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    iintro ⟨H0, H1, H2, H3, H4, H5, H6, H7, ⟨%e8, H8⟩, HS0, ⟨%es1, HS1⟩, HS2⟩
    isplitl [HS1 HS2 Hg]
    · isplitl [HS1 HS2]
      · isplitl [HS1]
        · unfold owns; iexists _; isplitr
          swap; · iexact HS1
          ipureintro; exact View.read_writes_of_cover _ _ _ _ _ (storeCoverG c _ _ _ _ _ _ _ _ _ _ _ _ _ _ _ _ _ _ _ _ _ _ _ _ _ _ _ _ _ _ _ _ _ _)
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (storeCover c _ _ _ _ _ _ _ _ _ _ _ _ _ _ _ _ _ _ _ _ _ _ _ _ _ _ _ _ _ _ _ _ _ _)
    iexact HS0
  · rw [PhiS_pos m c _ _ (fun hz => h0 (by rw [hz])), outsAt_keep m c t h0]
    unfold keepAt keepOut; dsimp only
    iintro ⟨⟨⟨HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, HS0⟩
    iapply ((runKeep c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => h0 ((fresh_iff t).mp h)) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    iintro ⟨H0, H1, H2, H3, H4, H5, H6, H7, ⟨%e8, H8⟩, HS0, HS1, HS2⟩
    isplitl [HS1 HS2 Hg]
    · isplitl [HS1 HS2]
      · isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (keepCover c _ _ _ _ _ _ _ _ _ _ _ _ _ _ _ _ _ _ _ _ _ _ _ _ _ _ _ _ _ _ _ _ _ _ _)
    iexact HS0

theorem defs₀_row (t : Fin cfg0.N) :
    defs₀ (F := F) .tc cfg0.body (cfg0.bodyArgs t (cfg0.slots t)) = bodyAt0 t := by
  unfold defs₀; rw [Defs.onTc_tc]

/-- The body's obligation, the normalised rows' window forgotten. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c :=
  PhiS_any m c cfg0.N le_rfl

/-! ## The run and the frame -/

/-- What a final state satisfies: the arrays as the proof data say, the forgotten one apart. -/
abbrev Post (r : PUnit × MemSt nD τ sig (Elt F)) : Prop :=
  Pipeline.RDat.FramePost (cfgs 0) (fun c => (dats m 0 c).toRForget fgt) (V m) r

set_option backward.isDefEq.respectTransparency.types false in
/-- The launch: every execution ends, in such a state, with every counter at zero. -/
theorem run_main : θ_run defs (onTc (τ := τ) (main (F := F))) (s₀ m ρ) (fun r => Post m r ∧ r.2.sem = fun _ => 0) :=
  Pipeline.θ_run_frame_track_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hin := hin m) (hout := hout m)

variable {m ρ}

/-- The arguments end as they began. -/
theorem Post.args {r : PUnit × MemSt nD τ sig (Elt F)} (h : Post m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h.arr_in c 0 rfl).trans (V_main_arg0 m c),
   (h.arr_in c 2 rfl).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   (h.arr_in c 5 rfl).trans (V_main_arg4 m c),
   ((h c).2 main_arg5 (Pipeline.mem_restRefs_of main_arg5 (by decide) (by decide))).trans (V_main_arg5 m c),
   (h.arr_in c 7 rfl).trans (V_main_arg6 m c)⟩

/-- The result array ends as the proof data's write-backs leave it. -/
theorem Post.result {r : PUnit × MemSt nD τ sig (Elt F)} (h : Post m r) (c : Dev nD) :
    r.2.mem ((cfg0.spec 8).arr.view.loc (c.tc : Thread nD τ)) = (dats m 0 c).arrAt 8 cfg0.N :=
  ((dats m 0 c).toRForget_arrAt_iff (fgt := fgt) (w := 8) rfl _ _).mp ((h c).1 8)

variable (m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => h.1.args c, h.2⟩) (run_main m ρ)

end Cert.Amix.Hand

end
-- ==== Proof.AmixPay.lean ====
/-
  What the gated mixer computes at a point, over the extended reals: the masked weights, the row block's normalisation, the
  gated rows head by head, and the result's columns.
-/
module

public import proofs.«01_k».proof.Proof.AmixFrame
public import proofs.«01_k».proof.Proof.Rows
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Amix.Hand

open Cert.Amix Cert.Amix.Gen Cert.Rows

/-! ## At an index -/

/-- A row's mean. -/
def meanAt (v : Fin 2048 → EReal) : EReal := Ideal.div (∑ k, v k) (Ideal.ofBits FTy.f32 0x45000000#32)

/-- A row's entry `d` less the mean, over the root of the variance, then the gain and the shift. -/
def lnAt (v g b : Fin 2048 → EReal) (d : Fin 2048) : EReal :=
  (v d - meanAt v) * Ideal.rsqrt (meanAt (fun k => (v k - meanAt v) * (v k - meanAt v)) + Ideal.ofBits FTy.f32 0x358637BD#32) * g d + b d

/-- The normalised rows of a trip, at an index. -/
theorem pay6_at (v : FVec Ideal S128x2048 .f32) (g b : FVec Ideal S1x2048 .f32) (r : Fin 128) (d : Fin 2048) :
    k0_pay6 (F := Ideal) v g b (ix2 r d) = lnAt (fun d => v (ix2 r d)) (fun d => g (ix2 0 d)) (fun d => b (ix2 0 d)) d := by
  pointwise [k0_pay6, k0_pay5, lnAt, meanAt]

/-- A head's gated rows: its masked weights against its columns of the normalised rows, the bias, the gate. -/
def headPay (w : FVec Ideal S1x128x128 .bf16) (v : FVec Ideal S128x128 .bf16) (b u : FVec Ideal S128x128 .f32) : FVec Ideal S128x128 .bf16 :=
  shapeCast S128x128 (truncf .bf16 (mulf u (addf (matmul dot_S128x128_S128x128_S128x128_1_0_0_1_n_n none
    (shapeCast S128x128 w shapeCasts_S1x128x128_S128x128) v (constant S128x128 .f32 0x00000000#32))
    (shapeCast S128x128 b shapeCasts_S128x128_S128x128))) bitsLt_bf16_f32) shapeCasts_S128x128_S128x128

theorem headPay_at (w : FVec Ideal S1x128x128 .bf16) (v : FVec Ideal S128x128 .bf16) (b u : FVec Ideal S128x128 .f32) (r d : Fin 128) :
    headPay w v b u (ix2 r d) = u (ix2 r d) * ((∑ j : Fin 128, w (ix3 0 r j) * v (ix2 j d)) + b (ix2 r d)) := by
  pointwise [headPay]

/-- The result's columns, at an index. -/
theorem pay4_at (x : FVec Ideal S512x256 .f32) (g : FVec Ideal S512x2048 .bf16) (w : FVec Ideal S2048x256 .f32) (r : Fin 512) (d : Fin 256) :
    k0_pay4 (F := Ideal) x g w (ix2 r d) = x (ix2 r d) + ∑ k : Fin 2048, g (ix2 r k) * w (ix2 k d) := by
  pointwise [k0_pay4]

/-- A masked weight. -/
def maskAt (w : EReal) (r j : Fin 128) : EReal := if j.val ≤ r.val then w else 0

/-- A head's weights with those above the diagonal replaced by zero. -/
def maskPay (w : FVec Ideal S1x128x128 .f32) : FVec Ideal S1x128x128 .bf16 :=
  shapeCast S1x128x128 (truncf .bf16 (select k0_pay26 (shapeCast S128x128 w shapeCasts_S1x128x128_S128x128)
    (broadcast S128x128 (Scalar.ofBits (F := Ideal) .f32 0x00000000#32))) bitsLt_bf16_f32) shapeCasts_S128x128_S1x128x128

/-- The triangle as the body makes it. -/
theorem tri_at : ∀ r j : Fin 128, k0_pay26 (ix2 r j) = if j.val ≤ r.val then 1#1 else 0#1 := fun r j => by
  pointwise [k0_pay26]
  rw [WordCmp.cmpi_sle_ofNat (by omega) (by omega)]
  by_cases h : j.val ≤ r.val
  · rw [if_pos h, decide_eq_true h]; rfl
  · rw [if_neg h, decide_eq_false h]; rfl

theorem maskPay_at (w : FVec Ideal S1x128x128 .f32) (r j : Fin 128) : maskPay w (ix3 0 r j) = maskAt (w (ix3 0 r j)) r j := by
  pointwise [maskPay, maskAt, tri_at]
  split <;> rfl

/-- A row block's chunk starts at row `128 k`, and head `h` at column `128 h`. -/
theorem off_val : ∀ k : Fin k0_t1_loop.trips, k0_off1 k = ![128 * k.val, 0] ∧ k0_off2 k = ![128 * k.val, 128 * 0] ∧ k0_off3 k = ![128 * k.val, 128 * 1] ∧ k0_off4 k = ![128 * k.val, 128 * 2] ∧ k0_off5 k = ![128 * k.val, 128 * 3] ∧ k0_off6 k = ![128 * k.val, 128 * 4] ∧ k0_off7 k = ![128 * k.val, 128 * 5] ∧ k0_off8 k = ![128 * k.val, 128 * 6] ∧ k0_off9 k = ![128 * k.val, 128 * 7] ∧ k0_off10 k = ![128 * k.val, 128 * 8] ∧ k0_off11 k = ![128 * k.val, 128 * 9] ∧ k0_off12 k = ![128 * k.val, 128 * 10] ∧ k0_off13 k = ![128 * k.val, 128 * 11] ∧ k0_off14 k = ![128 * k.val, 128 * 12] ∧ k0_off15 k = ![128 * k.val, 128 * 13] ∧ k0_off16 k = ![128 * k.val, 128 * 14] ∧ k0_off17 k = ![128 * k.val, 128 * 15] := by decide +kernel

/-- A row's place in its chunk, -/
def inChunk {n : ℕ} (r : Fin n) : Fin 128 := ⟨r.val % 128, Nat.mod_lt _ (by decide)⟩
/-- row `j` of the same chunk, -/
def chunkRow {n : ℕ} (hn : n % 128 = 0) (r : Fin n) (j : Fin 128) : Fin n := ⟨128 * (r.val / 128) + j.val, by omega⟩
/-- and a column's head. -/
def headOf (d : Fin 2048) : Fin 16 := ⟨d.val / 128, by omega⟩

/-- A gated entry: the gate times the head's masked weights against the chunk's normalised rows, the bias added. -/
def gateAt (u b : EReal) (w : Fin 128 → EReal) (v : Fin 128 → Fin 2048 → EReal) (g s : Fin 2048 → EReal) (d : Fin 2048) : EReal :=
  u * ((∑ j, w j * lnAt (v j) g s d) + b)

theorem gateAt_congr {u u' b b' : EReal} {w w' : Fin 128 → EReal} {v v' : Fin 128 → Fin 2048 → EReal} {g g' s s' : Fin 2048 → EReal}
    {d : Fin 2048} (hu : u = u') (hb : b = b') (hw : ∀ j, w j = w' j) (hv : ∀ j k, v j k = v' j k) (hg : ∀ k, g k = g' k) (hs : ∀ k, s k = s' k) :
    gateAt u b w v g s d = gateAt u' b' w' v' g' s' d := by
  obtain rfl := hu; obtain rfl := hb; obtain rfl := funext hw; obtain rfl := funext hg; obtain rfl := funext hs
  obtain rfl : v = v' := funext fun j => funext (hv j)
  rfl

/-- The row block's gated rows, from its gate `x1`, its rows `x2`, the gain, the shift, the weights `W` and the bias: row `R`,
    column `D`, -/
def gatedAt (x1 x2 : FVec Ideal S512x2048 .f32) (x3 x4 : FVec Ideal S1x2048 .f32) (x6 : FVec Ideal S128x2048 .f32)
    (W : FVec Ideal S16x128x128 .bf16) (R : Fin 512) (D : Fin 2048) : EReal :=
  gateAt (x1 (ix2 R D)) (x6 (ix2 (inChunk R) D)) (fun j => W (ix3 (headOf D) (inChunk R) j))
    (fun j d => x2 (ix2 (chunkRow rfl R j) d)) (fun d => x3 (ix2 0 d)) (fun d => x4 (ix2 0 d)) D
/-- and the whole block. -/
def gatedBlk (x1 x2 : Vec Ideal S512x2048 .f32) (x3 x4 : Vec Ideal S1x2048 .f32) (x6 : Vec Ideal S128x2048 .f32)
    (W : Vec Ideal S16x128x128 .bf16) : Vec Ideal S512x2048 .bf16 := fun y => gatedAt x1 x2 x3 x4 x6 W (y 0) (y 1)

/-- The masked weights of all heads. -/
def maskBlk (x5 : Vec Ideal S16x128x128 .f32) : Vec Ideal S16x128x128 .bf16 := fun y =>
  maskAt ((show FVec Ideal S16x128x128 .f32 from x5) (ix3 (y 0) (y 1) (y 2))) (y 1) (y 2)

/-- Where a piece of the gated rows puts its index. -/
theorem emb_head (k : Fin k0_t1_loop.trips) {h : ℕ} (hh : h < 16) {off : Fin 2 → ℕ} (hoff : off = ![128 * k.val, 128 * h])
    (inb : ∀ a, off a + S128x128.size a ≤ S512x2048.size a) (r d : Fin 128) :
    ((Rect.unit (s := S512x2048) off S128x128.size inb).emb (ix2 r d) : S512x2048.Idx)
      = ix2 (⟨128 * k.val + r.val, by have := Nat.lt_of_lt_of_le k.isLt k0_t1_abs.2.1; omega⟩ : Fin 512) (⟨128 * h + d.val, by omega⟩ : Fin 2048) := by
  subst hoff
  funext a
  apply Fin.ext
  match a with
  | ⟨0, _⟩ => show 128 * k.val + 1 * r.val = 128 * k.val + r.val; omega
  | ⟨1, _⟩ => show 128 * h + 1 * d.val = 128 * h + d.val; omega

/-- A trip's piece of head `h` is the tile of the row block's gated rows under it. -/
theorem head_tile (k : Fin k0_t1_loop.trips) {h : ℕ} {off : Fin 2 → ℕ} (hoff : off = ![128 * k.val, 128 * h])
    (inb : ∀ a, off a + S128x128.size a ≤ S512x2048.size a) (hh : h < 16)
    (inbW : ∀ a, (![h, 0, 0] : Fin 3 → ℕ) a + S1x128x128.size a ≤ S16x128x128.size a)
    (inbB : ∀ a, (![0, 128 * h] : Fin 2 → ℕ) a + S128x128.size a ≤ S128x2048.size a) (hs : S128x2048.Slices ![0, 128 * h] S128x128)
    (inb1 : ∀ a, k0_off1 k a + S128x2048.size a ≤ S512x2048.size a)
    (x1 x2 : Vec Ideal S512x2048 .f32) (x3 x4 : Vec Ideal S1x2048 .f32) (x6 : Vec Ideal S128x2048 .f32)
    (W : Vec Ideal S16x128x128 .bf16) (x : S128x128.Idx) :
    headPay (View.ld W (Rect.unit ![h, 0, 0] S1x128x128.size inbW))
        (extractStridedSlice S128x128 ![0, 128 * h] (k0_pay6 (View.ld x2 (Rect.unit (k0_off1 k) S128x2048.size inb1)) x3 x4) hs)
        (View.ld x6 (Rect.unit ![0, 128 * h] S128x128.size inbB)) (View.ld x1 (Rect.unit off S128x128.size inb)) x
      = gatedBlk x1 x2 x3 x4 x6 W ((Rect.unit (s := S512x2048) off S128x128.size inb).emb x) := by
  have hk : k.val < 4 := Nat.lt_of_lt_of_le k.isLt k0_t1_abs.2.1
  obtain ⟨r, d, rfl⟩ : ∃ r d : Fin 128, x = ix2 r d := ⟨x 0, x 1, eq_ix2 x⟩
  refine (headPay_at _ _ _ _ r d).trans ?_
  have hc : inChunk (⟨128 * k.val + r.val, by omega⟩ : Fin 512) = r := Fin.ext (by show (128 * k.val + r.val) % 128 = r.val; omega)
  have hd : headOf (⟨128 * h + d.val, by omega⟩ : Fin 2048) = ⟨h, hh⟩ := Fin.ext (by show (128 * h + d.val) / 128 = h; omega)
  have hr : ∀ j : Fin 128, chunkRow rfl (⟨128 * k.val + r.val, by omega⟩ : Fin 512) j = (⟨128 * k.val + j.val, by omega⟩ : Fin 512) :=
    fun j => Fin.ext (by show 128 * ((128 * k.val + r.val) / 128) + j.val = 128 * k.val + j.val; omega)
  rw [emb_head k hh hoff inb r d]
  show _ = gatedAt x1 x2 x3 x4 x6 W (⟨128 * k.val + r.val, by omega⟩ : Fin 512) (⟨128 * h + d.val, by omega⟩ : Fin 2048)
  unfold gatedAt
  rw [hc, hd]
  simp only [hr]
  unfold gateAt
  refine congrArg₂ (· * ·) (congrArg x1 (emb_head k hh hoff inb r d)) (congrArg₂ (· + ·) (Finset.sum_congr rfl fun j _ => congrArg₂ (· * ·) ?_ ?_) ?_)
  · refine congrArg W (funext fun a => Fin.ext ?_)
    match a with
    | ⟨0, _⟩ => show h + 1 * 0 = h; omega
    | ⟨1, _⟩ => show 0 + 1 * r.val = r.val; omega
    | ⟨2, _⟩ => show 0 + 1 * j.val = j.val; omega
  · refine (extractStridedSlice_apply _ _ _ _ (ix2 j (⟨128 * h + d.val, by omega⟩ : Fin 2048)) ?_).trans ?_
    · intro a
      match a with
      | ⟨0, _⟩ => show j.val = 0 + j.val; omega
      | ⟨1, _⟩ => show 128 * h + d.val = 128 * h + d.val; rfl
    refine (pay6_at _ _ _ j _).trans ?_
    refine congrArg (fun f => lnAt f _ _ _) (funext fun e => congrArg x2 (funext fun a => Fin.ext ?_))
    match a with
    | ⟨0, _⟩ => show k0_off1 k 0 + 1 * j.val = 128 * k.val + j.val; rw [(off_val k).1]; simp
    | ⟨1, _⟩ => show k0_off1 k 1 + 1 * e.val = e.val; rw [(off_val k).1]; simp
  · refine congrArg x6 (funext fun a => Fin.ext ?_)
    match a with
    | ⟨0, _⟩ => show 0 + 1 * r.val = r.val; omega
    | ⟨1, _⟩ => show 128 * h + 1 * d.val = 128 * h + d.val; omega

/-- A piece of the masked weights is the tile of all heads' under it. -/
theorem mask_tile {h : ℕ} (hh : h < 16) (inb : ∀ a, (![h, 0, 0] : Fin 3 → ℕ) a + S1x128x128.size a ≤ S16x128x128.size a)
    (x5 : Vec Ideal S16x128x128 .f32) (x : S1x128x128.Idx) :
    maskPay (View.ld x5 (Rect.unit ![h, 0, 0] S1x128x128.size inb)) x = maskBlk x5 ((Rect.unit (s := S16x128x128) ![h, 0, 0] S1x128x128.size inb).emb x) := by
  obtain ⟨z, r, j, rfl⟩ : ∃ (z : Fin 1) (r j : Fin 128), x = ix3 z r j := ⟨x 0, x 1, x 2, eq_ix3 x⟩
  obtain rfl : z = 0 := Subsingleton.elim _ _
  have he : ((Rect.unit (s := S16x128x128) ![h, 0, 0] S1x128x128.size inb).emb (ix3 0 r j) : S16x128x128.Idx) = ix3 (⟨h, hh⟩ : Fin 16) r j := by
    funext a
    apply Fin.ext
    match a with
    | ⟨0, _⟩ => show h + 1 * 0 = h; omega
    | ⟨1, _⟩ => show 0 + 1 * r.val = r.val; omega
    | ⟨2, _⟩ => show 0 + 1 * j.val = j.val; omega
  rw [he]
  exact (maskPay_at _ r j).trans (congrArg (fun w => maskAt w r j) (congrArg x5 he))

end Cert.Amix.Hand

end
-- ==== Proof.AmixTrip.lean ====
/-
  One trip of the gated mixer's loop stores tiles of the row block's gated rows, one per head.
-/
module

public import proofs.«01_k».proof.Proof.AmixPay

@[expose] public section

set_option maxRecDepth 16384

noncomputable section

open Idealize.ShloMosaic Idealize.ShloMosaic.TcCoe Idealize.SL.Sem

namespace Cert.Amix.Hand

open Cert.Amix Cert.Amix.Gen Cert.Rows

section
variable (c : Dev nD) (i : grid0.Coords) (a2 : Memref sig .tc .vmem S512x256 .f32) (h2 : a2.IsWhole) (a3 : Memref sig .tc .vmem S512x2048 .f32) (h3 : a3.IsWhole) (a4 : Memref sig .tc .vmem S512x2048 .f32) (h4 : a4.IsWhole) (a5 : Memref sig .tc .vmem S1x2048 .f32) (h5 : a5.IsWhole) (a6 : Memref sig .tc .vmem S1x2048 .f32) (h6 : a6.IsWhole) (a7 : Memref sig .tc .vmem S16x128x128 .f32) (h7 : a7.IsWhole) (a8 : Memref sig .tc .vmem S128x2048 .f32) (h8 : a8.IsWhole) (a9 : Memref sig .tc .vmem S2048x256 .f32) (h9 : a9.IsWhole) (a10 : Memref sig .tc .vmem S512x256 .f32) (h10 : a10.IsWhole) (a11 : Memref sig .tc .vmem S512x2048 .f32) (h11 : a11.IsWhole) (a12 : Memref sig .tc .vmem S512x2048 .bf16) (h12 : a12.IsWhole) (a13 : Memref sig .tc .vmem S16x128x128 .bf16) (h13 : a13.IsWhole)

set_option maxHeartbeats 2000000 in
/-- One trip's pieces are tiles of the row block's gated rows. -/
theorem trip_tiles (hc : fresh i) (x1 x2 : Vec Ideal S512x2048 .f32) (x3 x4 : Vec Ideal S1x2048 .f32) (x6 : Vec Ideal S128x2048 .f32)
    (X13 : BufTy.Contents (Elt Ideal) a13.view.ty) (k : Fin k0_t1_loop.trips) :
    ∀ p ∈ (tripL_k0_t1 (F := Ideal) Variants.none c none i a2 h2 a3 h3 a4 h4 a5 h5 a6 h6 a7 h7 a8 h8 a9 h9 a10 h10 a11 h11 a12 h12 a13 h13 hc (h3.unread x1) (h4.unread x2) (h5.unread x3) (h6.unread x4) (h8.unread x6) X13 k).2,
      ∀ x : p.1.shape.Idx, p.2 x = gatedBlk x1 x2 x3 x4 x6 (a13.view.read (Elt Ideal) X13) (p.1.emb x) := by
  unfold tripL_k0_t1 trip_k0_t1
  dsimp only
  delta trip_k0_t1.sl.r trip_k0_t1.sl.r_1 trip_k0_t1.sl.r_2 trip_k0_t1.sl.r_3 trip_k0_t1.sl.r_4
  simp only [View.readAt_eq_ld, h3.read_unread, h4.read_unread, h5.read_unread, h6.read_unread, h8.read_unread, View.ld_unit_zero (S := S1x2048) hz2]
  obtain ⟨-, o0, o1, o2, o3, o4, o5, o6, o7, o8, o9, o10, o11, o12, o13, o14, o15⟩ := off_val k
  exact List.forall_mem_cons.mpr ⟨head_tile k o15 _ (by decide) _ _ _ _ x1 x2 x3 x4 x6 _,
    List.forall_mem_cons.mpr ⟨head_tile k o14 _ (by decide) _ _ _ _ x1 x2 x3 x4 x6 _,
    List.forall_mem_cons.mpr ⟨head_tile k o13 _ (by decide) _ _ _ _ x1 x2 x3 x4 x6 _,
    List.forall_mem_cons.mpr ⟨head_tile k o12 _ (by decide) _ _ _ _ x1 x2 x3 x4 x6 _,
    List.forall_mem_cons.mpr ⟨head_tile k o11 _ (by decide) _ _ _ _ x1 x2 x3 x4 x6 _,
    List.forall_mem_cons.mpr ⟨head_tile k o10 _ (by decide) _ _ _ _ x1 x2 x3 x4 x6 _,
    List.forall_mem_cons.mpr ⟨head_tile k o9 _ (by decide) _ _ _ _ x1 x2 x3 x4 x6 _,
    List.forall_mem_cons.mpr ⟨head_tile k o8 _ (by decide) _ _ _ _ x1 x2 x3 x4 x6 _,
    List.forall_mem_cons.mpr ⟨head_tile k o7 _ (by decide) _ _ _ _ x1 x2 x3 x4 x6 _,
    List.forall_mem_cons.mpr ⟨head_tile k o6 _ (by decide) _ _ _ _ x1 x2 x3 x4 x6 _,
    List.forall_mem_cons.mpr ⟨head_tile k o5 _ (by decide) _ _ _ _ x1 x2 x3 x4 x6 _,
    List.forall_mem_cons.mpr ⟨head_tile k o4 _ (by decide) _ _ _ _ x1 x2 x3 x4 x6 _,
    List.forall_mem_cons.mpr ⟨head_tile k o3 _ (by decide) _ _ _ _ x1 x2 x3 x4 x6 _,
    List.forall_mem_cons.mpr ⟨head_tile k o2 _ (by decide) _ _ _ _ x1 x2 x3 x4 x6 _,
    List.forall_mem_cons.mpr ⟨head_tile k o1 _ (by decide) _ _ _ _ x1 x2 x3 x4 x6 _,
    List.forall_mem_cons.mpr ⟨head_tile k o0 _ (by decide) _ _ _ _ x1 x2 x3 x4 x6 _,
    List.forall_mem_nil _⟩⟩⟩⟩⟩⟩⟩⟩⟩⟩⟩⟩⟩⟩⟩⟩

end

end Cert.Amix.Hand

end
-- ==== Proof.AmixOut.lean ====
/-
  What the gated mixer's points leave in the result block and in the gated scratch.
-/
module

public import proofs.«01_k».proof.Proof.AmixTrip

@[expose] public section

set_option maxRecDepth 16384

noncomputable section

open Idealize.ShloMosaic Idealize.ShloMosaic.TcCoe Idealize.SL.Sem

namespace Cert.Amix.Hand

open Cert.Amix Cert.Amix.Gen Cert.Rows

section
variable (c : Dev nD) (i : grid0.Coords) (a2 : Memref sig .tc .vmem S512x256 .f32) (h2 : a2.IsWhole) (a3 : Memref sig .tc .vmem S512x2048 .f32) (h3 : a3.IsWhole) (a4 : Memref sig .tc .vmem S512x2048 .f32) (h4 : a4.IsWhole) (a5 : Memref sig .tc .vmem S1x2048 .f32) (h5 : a5.IsWhole) (a6 : Memref sig .tc .vmem S1x2048 .f32) (h6 : a6.IsWhole) (a7 : Memref sig .tc .vmem S16x128x128 .f32) (h7 : a7.IsWhole) (a8 : Memref sig .tc .vmem S128x2048 .f32) (h8 : a8.IsWhole) (a9 : Memref sig .tc .vmem S2048x256 .f32) (h9 : a9.IsWhole) (a10 : Memref sig .tc .vmem S512x256 .f32) (h10 : a10.IsWhole) (a11 : Memref sig .tc .vmem S512x2048 .f32) (h11 : a11.IsWhole) (a12 : Memref sig .tc .vmem S512x2048 .bf16) (h12 : a12.IsWhole) (a13 : Memref sig .tc .vmem S16x128x128 .bf16) (h13 : a13.IsWhole)

/-- After any number of trips every piece is a tile of the row block's gated rows. -/
theorem pb_tiles (hc : fresh i) (x1 x2 : Vec Ideal S512x2048 .f32) (x3 x4 : Vec Ideal S1x2048 .f32) (x6 : Vec Ideal S128x2048 .f32)
    (X13 : BufTy.Contents (Elt Ideal) a13.view.ty) (n : ℕ) (hn : n ≤ k0_t1_loop.trips) :
    ∀ p ∈ (pb_k0_t1 (F := Ideal) Variants.none c none i a2 h2 a3 h3 a4 h4 a5 h5 a6 h6 a7 h7 a8 h8 a9 h9 a10 h10 a11 h11 a12 h12 a13 h13 hc (h3.unread x1) (h4.unread x2) (h5.unread x3) (h6.unread x4) (h8.unread x6) X13 n).2,
      ∀ x : p.1.shape.Idx, p.2 x = gatedBlk x1 x2 x3 x4 x6 (a13.view.read (Elt Ideal) X13) (p.1.emb x) := by
  induction n with
  | zero => exact fun p hp => absurd hp List.not_mem_nil
  | succ n ih =>
    have hs := pb_k0_t1_succ (F := Ideal) Variants.none c none i a2 h2 a3 h3 a4 h4 a5 h5 a6 h6 a7 h7 a8 h8 a9 h9 a10 h10 a11 h11 a12 h12 a13 h13 hc (h3.unread x1) (h4.unread x2) (h5.unread x3) (h6.unread x4) (h8.unread x6) X13 ⟨n, hn⟩
    dsimp only at hs
    rw [hs]
    intro p hp
    rcases List.mem_append.mp hp with hp | hp
    · exact trip_tiles c i a2 h2 a3 h3 a4 h4 a5 h5 a6 h6 a7 h7 a8 h8 a9 h9 a10 h10 a11 h11 a12 h12 a13 h13 hc x1 x2 x3 x4 x6 X13 ⟨n, hn⟩ p hp
    · exact ih (Nat.le_of_succ_le hn) p hp

/-- The loop's pieces left in the gated scratch are the row block's gated rows. -/
theorem canon_gated (hc : fresh i) (x1 x2 : Vec Ideal S512x2048 .f32) (x3 x4 : Vec Ideal S1x2048 .f32) (x6 : Vec Ideal S128x2048 .f32)
    (X13 : BufTy.Contents (Elt Ideal) a13.view.ty) (W : Vec Ideal S16x128x128 .bf16) (hW : a13.view.read (Elt Ideal) X13 = W) :
    View.canon (pb_k0_t1 (F := Ideal) Variants.none c none i a2 h2 a3 h3 a4 h4 a5 h5 a6 h6 a7 h7 a8 h8 a9 h9 a10 h10 a11 h11 a12 h12 a13 h13 hc (h3.unread x1) (h4.unread x2) (h5.unread x3) (h6.unread x4) (h8.unread x6) X13
      (Scf.trips k0_t1_loop.lb k0_t1_loop.ub k0_t1_loop.st)).2 = gatedBlk x1 x2 x3 x4 x6 W := by
  subst hW
  exact funext fun y => View.canon_apply_of_pieces (gatedBlk x1 x2 x3 x4 x6 (a13.view.read (Elt Ideal) X13)) _ (pb_tiles c i a2 h2 a3 h3 a4 h4 a5 h5 a6 h6 a7 h7 a8 h8 a9 h9 a10 h10 a11 h11 a12 h12 a13 h13 hc x1 x2 x3 x4 x6 X13 _ le_rfl) y
    (View.cover_of_tiledL (pb_k0_t1 (F := Ideal) Variants.none c none i a2 h2 a3 h3 a4 h4 a5 h5 a6 h6 a7 h7 a8 h8 a9 h9 a10 h10 a11 h11 a12 h12 a13 h13 hc (h3.unread x1) (h4.unread x2) (h5.unread x3) (h6.unread x4) (h8.unread x6) X13 (Scf.trips k0_t1_loop.lb k0_t1_loop.ub k0_t1_loop.st)).2 S128x128.size (by sl_kernel_rfl) y)

/-- Pieces that are tiles of all heads' masked weights and cover them leave them. -/
theorem read_masks (x5 : Vec Ideal S16x128x128 .f32) (L : List (View.Piece (Elt Ideal) S16x128x128 .bf16))
    (hL : ∀ p ∈ L, ∀ x : p.1.shape.Idx, p.2 x = maskBlk x5 (p.1.emb x)) (hC : ∀ y, ∃ p ∈ L, y ∈ p.1.set) :
    a13.view.read (Elt Ideal) (a13.view.writes (Elt Ideal) a13.view.junk L) = maskBlk x5 :=
  funext fun y => (View.read_writes_junk_apply_eq_canon _ y L).trans (View.canon_apply_of_pieces (maskBlk x5) L hL y (hC y))

/-- What the first point of a row block leaves in the gated scratch: the row block's gated rows. -/
theorem storeGated_eq (x0 : Vec Ideal S512x256 .f32) (x1 x2 : Vec Ideal S512x2048 .f32) (x3 x4 : Vec Ideal S1x2048 .f32) (x5 : Vec Ideal S16x128x128 .f32) (x6 : Vec Ideal S128x2048 .f32) (x7 : Vec Ideal S2048x256 .f32)
    (hc : fresh i) :
    storeGated c i a2 h2 a3 h3 a4 h4 a5 h5 a6 h6 a7 h7 a8 h8 a9 h9 a10 h10 a11 h11 a12 h12 a13 h13 x0 x1 x2 x3 x4 x5 x6 x7 hc = gatedBlk x1 x2 x3 x4 x6 (maskBlk x5) := by
  frame_out
  refine canon_gated c i a2 h2 a3 h3 a4 h4 a5 h5 a6 h6 a7 h7 a8 h8 a9 h9 a10 h10 a11 h11 a12 h12 a13 h13 hc x1 x2 x3 x4 x6 _ _ (read_masks a13 x5 _ ?_ ?_)
  · exact List.forall_mem_cons.mpr ⟨mask_tile (h := 15) (by decide) _ x5,
    List.forall_mem_cons.mpr ⟨mask_tile (h := 14) (by decide) _ x5,
    List.forall_mem_cons.mpr ⟨mask_tile (h := 13) (by decide) _ x5,
    List.forall_mem_cons.mpr ⟨mask_tile (h := 12) (by decide) _ x5,
    List.forall_mem_cons.mpr ⟨mask_tile (h := 11) (by decide) _ x5,
    List.forall_mem_cons.mpr ⟨mask_tile (h := 10) (by decide) _ x5,
    List.forall_mem_cons.mpr ⟨mask_tile (h := 9) (by decide) _ x5,
    List.forall_mem_cons.mpr ⟨mask_tile (h := 8) (by decide) _ x5,
    List.forall_mem_cons.mpr ⟨mask_tile (h := 7) (by decide) _ x5,
    List.forall_mem_cons.mpr ⟨mask_tile (h := 6) (by decide) _ x5,
    List.forall_mem_cons.mpr ⟨mask_tile (h := 5) (by decide) _ x5,
    List.forall_mem_cons.mpr ⟨mask_tile (h := 4) (by decide) _ x5,
    List.forall_mem_cons.mpr ⟨mask_tile (h := 3) (by decide) _ x5,
    List.forall_mem_cons.mpr ⟨mask_tile (h := 2) (by decide) _ x5,
    List.forall_mem_cons.mpr ⟨mask_tile (h := 1) (by decide) _ x5,
    List.forall_mem_cons.mpr ⟨mask_tile (h := 0) (by decide) _ x5,
    List.forall_mem_nil _⟩⟩⟩⟩⟩⟩⟩⟩⟩⟩⟩⟩⟩⟩⟩⟩
  · exact fun y => View.cover_of_tiledL (_ : List (View.Piece (Elt Ideal) S16x128x128 .bf16)) S1x128x128.size (by sl_kernel_rfl) y

/-- What the first point of a row block leaves in the result block. -/
theorem storeOut_eq (x0 : Vec Ideal S512x256 .f32) (x1 x2 : Vec Ideal S512x2048 .f32) (x3 x4 : Vec Ideal S1x2048 .f32) (x5 : Vec Ideal S16x128x128 .f32) (x6 : Vec Ideal S128x2048 .f32) (x7 : Vec Ideal S2048x256 .f32)
    (hc : fresh i) :
    storeOut c i a2 h2 a3 h3 a4 h4 a5 h5 a6 h6 a7 h7 a8 h8 a9 h9 a10 h10 a11 h11 a12 h12 a13 h13 x0 x1 x2 x3 x4 x5 x6 x7 hc = k0_pay4 x0 (storeGated c i a2 h2 a3 h3 a4 h4 a5 h5 a6 h6 a7 h7 a8 h8 a9 h9 a10 h10 a11 h11 a12 h12 a13 h13 x0 x1 x2 x3 x4 x5 x6 x7 hc) x7 := by
  frame_out
  rw [View.readCov_eq_canon']
  exact congrArg (fun g => k0_pay4 x0 g x7) (View.ld_unit_zero (Val := Elt Ideal) (S := S512x2048) (e := .bf16) hz2 inb_S512x2048_S512x2048_0_0 _)

/-- What another point leaves in the result block. -/
theorem keepOut_eq (x0 : Vec Ideal S512x256 .f32) (x1 x2 : Vec Ideal S512x2048 .f32) (x3 x4 : Vec Ideal S1x2048 .f32) (x5 : Vec Ideal S16x128x128 .f32) (x6 : Vec Ideal S128x2048 .f32) (x7 : Vec Ideal S2048x256 .f32)
    (hc : ¬fresh i) (xs : Vec Ideal S512x2048 .bf16) :
    keepOut c i a2 h2 a3 h3 a4 h4 a5 h5 a6 h6 a7 h7 a8 h8 a9 h9 a10 h10 a11 h11 a12 h12 a13 h13 x0 x1 x2 x3 x4 x5 x6 x7 hc xs = k0_pay4 x0 xs x7 := by
  frame_out

end

end Cert.Amix.Hand

end
-- ==== Proof.AmixValue.lean ====
/-
  The gated mixer's array over the extended reals: point `t` is row block `t / 8` and column tile `t % 8`; the gated scratch
  holds the row block's gated rows from its first point on, and every point stores its columns of their product.
-/
module

public import proofs.«01_k».proof.Proof.AmixOut

@[expose] public section

set_option maxRecDepth 16384

noncomputable section

open Idealize.ShloMosaic Idealize.ShloMosaic.TcCoe Idealize.SL.Sem

namespace Cert.Amix.Hand

open Cert.Amix Cert.Amix.Gen Cert.Rows

/-- The windows' block indices at point `t`. -/
theorem idx_val : ∀ t : Fin cfg0.N, win0_0.index t = ![t.val / 8, t.val % 8] ∧ win0_1.index t = ![t.val / 8, 0] ∧ win0_2.index t = ![t.val / 8, 1]
    ∧ win0_3.index t = ![0, 0] ∧ win0_4.index t = ![0, 0] ∧ win0_5.index t = ![0, 0, 0] ∧ win0_6.index t = ![0, 0]
    ∧ win0_7.index t = ![0, t.val % 8] ∧ win0_8.index t = ![t.val / 8, t.val % 8] :=
  (by decide +kernel : ∀ t : Fin grid0.N, _)

section
variable (m : (ℓ : Loc nD τ sig) → Buf (Elt Ideal) ℓ) (c : Dev nD)

abbrev X (r : Fin 8192) (d : Fin 2048) : EReal := (show FVec Ideal S8192x2048 .f32 from m ((c : Thread nD τ).loc main_arg0)) (ix2 r d)
abbrev Z (r : Fin 8192) (d : Fin 4096) : EReal := (show FVec Ideal S8192x4096 .f32 from m ((c : Thread nD τ).loc main_arg1)) (ix2 r d)
abbrev Lg (d : Fin 2048) : EReal := (show FVec Ideal S2048 .f32 from m ((c : Thread nD τ).loc main_arg2)) (ix1 d)
abbrev Lb (d : Fin 2048) : EReal := (show FVec Ideal S2048 .f32 from m ((c : Thread nD τ).loc main_arg3)) (ix1 d)
abbrev Ws (h : Fin 16) (r j : Fin 128) : EReal := (show FVec Ideal S16x128x128 .f32 from m ((c : Thread nD τ).loc main_arg4)) (ix3 h r j)
abbrev Bs (h : Fin 16) (r : Fin 128) : EReal := (show FVec Ideal S16x128 .f32 from m ((c : Thread nD τ).loc main_arg5)) (ix2 h r)
abbrev Wo (k d : Fin 2048) : EReal := (show FVec Ideal S2048x2048 .f32 from m ((c : Thread nD τ).loc main_arg6)) (ix2 k d)

/-- The first half of the projected columns, the gate, -/
def colU (d : Fin 2048) : Fin 4096 := ⟨d.val, by omega⟩
/-- and the second. -/
def colV (d : Fin 2048) : Fin 4096 := ⟨2048 + d.val, by omega⟩
/-- The row block's row `r` at point `t`, as a row of the array. -/
def rowAt (t : Fin cfg0.N) (r : Fin 512) : Fin 8192 :=
  ⟨512 * (t.val / 8) + r.val, by have := lt_of_lt_of_eq t.isLt N_0; omega⟩
/-- The tile's column `d` at point `t`, as a column of the array. -/
def colAt (t : Fin cfg0.N) (d : Fin 256) : Fin 2048 := ⟨256 * (t.val % 8) + d.val, by omega⟩

theorem blk0 (t : Fin cfg0.N) (r : Fin 512) (d : Fin 256) :
    (show FVec Ideal S512x256 .f32 from iblk m c 0 t) (ix2 r d) = X m c (rowAt t r) (colAt t d) := by
  have h := idx_val t
  blk_ext [iblk, V, idx_val t, rowAt, colAt]

theorem blk1 (t : Fin cfg0.N) (r : Fin 512) (d : Fin 2048) :
    (show FVec Ideal S512x2048 .f32 from iblk m c 1 t) (ix2 r d) = Z m c (rowAt t r) (colU d) := by
  have h := idx_val t
  blk_ext [iblk, V, idx_val t, rowAt, colU]

theorem blk2 (t : Fin cfg0.N) (r : Fin 512) (d : Fin 2048) :
    (show FVec Ideal S512x2048 .f32 from iblk m c 2 t) (ix2 r d) = Z m c (rowAt t r) (colV d) := by
  have h := idx_val t
  blk_ext [iblk, V, idx_val t, rowAt, colV]

theorem blk3 (t : Fin cfg0.N) (d : Fin 2048) : (show FVec Ideal S1x2048 .f32 from iblk m c 3 t) (ix2 0 d) = Lg m c d := by
  blk_simp [iblk, idx_val t]
  entry_read
  pointwise
  blk_ext [idx_val t]

theorem blk4 (t : Fin cfg0.N) (d : Fin 2048) : (show FVec Ideal S1x2048 .f32 from iblk m c 4 t) (ix2 0 d) = Lb m c d := by
  blk_simp [iblk, idx_val t]
  entry_read
  pointwise
  blk_ext [idx_val t]

theorem blk5 (t : Fin cfg0.N) (h : Fin 16) (r j : Fin 128) :
    (show FVec Ideal S16x128x128 .f32 from iblk m c 5 t) (ix3 h r j) = Ws m c h r j := by
  have h := idx_val t
  blk_ext [iblk, V, idx_val t]

theorem blk6 (t : Fin cfg0.N) (r : Fin 128) (d : Fin 2048) :
    (show FVec Ideal S128x2048 .f32 from iblk m c 6 t) (ix2 r d) = Bs m c (headOf d) r := by
  blk_simp [iblk, idx_val t]
  entry_read
  pointwise
  have h := idx_val t
  blk_ext [idx_val t, headOf]

theorem blk7 (t : Fin cfg0.N) (k : Fin 2048) (d : Fin 256) :
    (show FVec Ideal S2048x256 .f32 from iblk m c 7 t) (ix2 k d) = Wo m c k (colAt t d) := by
  have h := idx_val t
  blk_ext [iblk, V, idx_val t, colAt]

/-- The gated row `r` at column `d`. -/
def gated (r : Fin 8192) (d : Fin 2048) : EReal :=
  gateAt (Z m c r (colU d)) (Bs m c (headOf d) (inChunk r)) (fun j => maskAt (Ws m c (headOf d) (inChunk r) j) (inChunk r) j)
    (fun j k => Z m c (chunkRow rfl r j) (colV k)) (Lg m c) (Lb m c) d

/-- The array the kernel computes, at row `r` and column `d`, -/
def outAt (r : Fin 8192) (d : Fin 2048) : EReal := X m c r d + ∑ k : Fin 2048, gated m c r k * Wo m c k d
/-- and whole. -/
def GA : FVec Ideal S8192x2048 .f32 := fun y => outAt m c (y 0) (y 1)

/-- A block's gated rows are the array's. -/
theorem gatedBlk_at (t : Fin cfg0.N) (r : Fin 512) (d : Fin 2048) :
    (show FVec Ideal S512x2048 .bf16 from gatedBlk (iblk m c 1 t) (iblk m c 2 t) (iblk m c 3 t) (iblk m c 4 t) (iblk m c 6 t) (maskBlk (iblk m c 5 t))) (ix2 r d)
      = gated m c (rowAt t r) d := by
  have hi : inChunk (rowAt t r) = inChunk r := Fin.ext (by show (512 * (t.val / 8) + r.val) % 128 = r.val % 128; omega)
  have hr : ∀ j, rowAt t (chunkRow rfl r j) = chunkRow rfl (rowAt t r) j := fun j => Fin.ext (by
    show 512 * (t.val / 8) + (128 * (r.val / 128) + j.val) = 128 * ((512 * (t.val / 8) + r.val) / 128) + j.val; omega)
  unfold gated
  rw [hi]
  exact gateAt_congr (blk1 m c t r d) (blk6 m c t _ d) (fun j => congrArg (fun w => maskAt w (inChunk r) j) (blk5 m c t _ _ j))
    (fun j k => (blk2 m c t (chunkRow rfl r j) k).trans (congrArg (fun R => Z m c R (colV k)) (hr j))) (blk3 m c t) (blk4 m c t)

/-- The scratch after any point: its row block's gated rows. -/
theorem scratch_eq (n : ℕ) (hn : n < cfg0.N) (r : Fin 512) (d : Fin 2048) :
    (show FVec Ideal S512x2048 .bf16 from (outsAt m c n hn).2) (ix2 r d) = gated m c (rowAt ⟨n, hn⟩ r) d := by
  have hA : ∀ t : Fin cfg0.N, t.val % 8 = 0 → (show FVec Ideal S512x2048 .bf16 from (outsAt m c t.val t.isLt).2) (ix2 r d)
      = gated m c (rowAt t r) d := fun t h0 => by
    have e := congrArg Prod.snd (outsAt_store m c t h0)
    unfold storeAt at e
    dsimp only at e
    rw [e, storeGated_eq]
    exact gatedBlk_at m c t r d
  induction n with
  | zero => exact hA ⟨0, hn⟩ rfl
  | succ n ih =>
    by_cases h0 : (n + 1) % 8 = 0
    · exact hA ⟨n + 1, hn⟩ h0
    · have e := congrArg Prod.snd (outsAt_keep m c ⟨n + 1, hn⟩ h0)
      dsimp only at e
      rw [e]
      refine (ih (Nat.lt_of_succ_lt hn)).trans ?_
      have er : rowAt ⟨n, Nat.lt_of_succ_lt hn⟩ r = rowAt ⟨n + 1, hn⟩ r := by
        apply Fin.ext; show 512 * (n / 8) + r.val = 512 * ((n + 1) / 8) + r.val; omega
      rw [er]

/-- The result block after any point. -/
theorem out_eq (t : Fin cfg0.N) (r : Fin 512) (d : Fin 256) :
    (show FVec Ideal S512x256 .f32 from (outsAt m c t.val t.isLt).1) (ix2 r d) = outAt m c (rowAt t r) (colAt t d) := by
  unfold outAt
  by_cases h0 : t.val % 8 = 0
  · have e := congrArg Prod.fst (outsAt_store m c t h0)
    unfold storeAt at e
    dsimp only at e
    rw [e, storeOut_eq, storeGated_eq]
    refine (pay4_at _ _ _ r d).trans (congrArg₂ (· + ·) (blk0 m c t r d) (Finset.sum_congr rfl fun k _ => ?_))
    exact congrArg₂ (· * ·) (gatedBlk_at m c t r k) (blk7 m c t k d)
  · have e := congrArg Prod.fst (outsAt_keep m c t h0)
    unfold keepAt at e
    dsimp only at e
    rw [e, keepOut_eq]
    have ht := t.isLt
    refine (pay4_at _ _ _ r d).trans (congrArg₂ (· + ·) (blk0 m c t r d) (Finset.sum_congr rfl fun k _ => ?_))
    refine congrArg₂ (· * ·) ((scratch_eq m c (t.val - 1) (by omega) r k).trans ?_) (blk7 m c t k d)
    have er : rowAt ⟨t.val - 1, by omega⟩ r = rowAt t r := by
      apply Fin.ext; show 512 * ((t.val - 1) / 8) + r.val = 512 * (t.val / 8) + r.val; omega
    rw [er]

/-- The result array after the last point. -/
theorem final : (dats m 0 c).arrAt 8 cfg0.N = GA m c := by
  refine (dats m 0 c).arrAt_eq_of_covers 8 _ (by decide +kernel) fun t _ y => ?_
  obtain ⟨r, d, rfl⟩ : ∃ (r : Fin 512) (d : Fin 256), y = ix2 r d := ⟨y 0, y 1, eq_ix2 y⟩
  have hy : ((cfg0.win 8).blk t).view.emb (ix2 r d) = (ix2 (rowAt t r) (colAt t d) : S8192x2048.Idx) := by
    have h := idx_val t
    blk_ext [idx_val t, rowAt, colAt]
  rw [hy]
  blk_simp
  rw [after0_8]
  exact out_eq m c t r d

/-- The kernel's run, its result array named. -/
theorem run (ρ : Dev nD → PrngReg) : θ_run defs (onTc (τ := τ) (main (F := Ideal))) ⟨m, fun _ => 0, ρ⟩ fun r => ∀ c : Dev nD,
      r.2.mem ((c.tc : Thread nD τ).loc main_v5_0) = GA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h.1.result c).trans (final m c), h.1.args c⟩) (run_main m ρ)

end

end Cert.Amix.Hand

end
-- ==== Proof.AmixIdealRun.lean ====
/-
  The gated mixer's idealized form is the same program: its definitions and its entry are those of the printed one, so the
  frame and the run proved there are its own.
-/
module

public import proofs.«01_k».proof.Proof.Gen.AmixIdeal.Frame
public import proofs.«01_k».proof.Proof.AmixValue

@[expose] public section

set_option maxRecDepth 100000

noncomputable section

open Idealize.ShloMosaic Idealize.ShloMosaic.TcCoe Idealize.SL.Sem

namespace Cert.AmixIdeal.Hand

/-- The two forms' kernel definitions are the same, -/
theorem defs0_eq {F : FTy → Type} [FloatOps F] : (Cert.AmixIdeal.defs₀ (F := F)) = (Cert.Amix.defs₀ (F := F)) := by
  unfold Cert.AmixIdeal.defs₀ Cert.Amix.defs₀
  refine congrArg Defs.onTc ?_
  funext l x
  match l, x with
  | 0, (t, s) => rfl

/-- and so are all their definitions. -/
theorem defs_eq {F : FTy → Type} [FloatOps F] : (Cert.AmixIdeal.defs (F := F)) = (Cert.Amix.defs (F := F)) := by
  unfold Cert.AmixIdeal.defs Cert.Amix.defs
  rw [defs0_eq]; rfl

/-- What holds of every run of the printed program holds of the idealized one's. -/
theorem carry {F : FTy → Type} [FloatOps F] (s : MemSt Cert.Amix.nD Cert.Amix.τ Cert.Amix.sig (Elt F)) (Q)
    (h : θ_run (Cert.Amix.defs (F := F)) (onTc (τ := Cert.Amix.τ) (Cert.Amix.main (F := F))) s Q) :
    θ_run (Cert.AmixIdeal.defs (F := F)) (onTc (τ := Cert.AmixIdeal.τ) (Cert.AmixIdeal.main (F := F))) s Q := by
  rw [defs_eq]; exact h

end Cert.AmixIdeal.Hand

namespace Cert.AmixIdeal.Value

open Cert.AmixIdeal Cert.AmixIdeal.Hand

/-- What every run keeps: its arguments, and no semaphore left up. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  carry _ _ (Cert.Amix.Hand.frame (F := F) m ρ)

variable (m : (ℓ : Loc nD τ sig) → Buf (Elt Ideal) ℓ)

/-- The array the mixer leaves. -/
def GA (c : Dev nD) : FVec Ideal S8192x2048 .f32 := Cert.Amix.Hand.GA m c

/-- Every run leaves it, and its arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v5_0) = GA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  carry _ _ (Cert.Amix.Hand.run m ρ)

end Cert.AmixIdeal.Value

end
-- ==== Proof.AmixRef.lean ====
/-
  The gated mixer in the reference, read at an index, and its equation with the kernel's array.
-/
module

public import proofs.«01_k».proof.Proof.AmixIdealRun
public import proofs.«01_k».proof.Proof.Gen.AmixRefIdeal.Run

@[expose] public section

set_option maxRecDepth 16384

noncomputable section

open Idealize.ShloMosaic Idealize.ShloMosaic.TcCoe Idealize.SL.Sem

namespace Cert.AmixRefIdeal.Value

open Cert.AmixRefIdeal Cert.AmixRefIdeal.Gen Cert.Amix.Hand

/-- Row `t` of batch entry `b`. -/
def rowOf (b : Fin 4) (t : Fin 2048) : Fin 8192 := ⟨b.val * 2048 + t.val, by omega⟩

/-- The gate's half of the projected rows, -/
def gateOf (z : FVec Ideal S8192x4096 .f32) : FVec Ideal S4x2048x2048 .f32 :=
  extractStridedSlice S4x2048x2048 ![0, 0, 0] (shapeCast _ z shapeCasts_S8192x4096_S4x2048x4096) slices_S4x2048x4096_S4x2048x2048_0_0_0
/-- and the mixed half. -/
def valOf (z : FVec Ideal S8192x4096 .f32) : FVec Ideal S4x2048x2048 .f32 :=
  extractStridedSlice S4x2048x2048 ![0, 0, 2048] (shapeCast _ z shapeCasts_S8192x4096_S4x2048x4096) slices_S4x2048x4096_S4x2048x2048_0_0_2048

theorem gateOf_at (z : FVec Ideal S8192x4096 .f32) (b : Fin 4) (t d : Fin 2048) : gateOf z (ix3 b t d) = z (ix2 (rowOf b t) (colU d)) := by
  pointwise [gateOf, rowOf, colU]
theorem valOf_at (z : FVec Ideal S8192x4096 .f32) (b : Fin 4) (t d : Fin 2048) : valOf z (ix3 b t d) = z (ix2 (rowOf b t) (colV d)) := by
  pointwise [valOf, rowOf, colV]

/-- The mean of each row. -/
def mean (v : FVec Ideal S4x2048x2048 .f32) : FVec Ideal S4x2048x1 .f32 :=
  Host.divf (broadcastInDim S4x2048x1 ![0, 1] bcast_S4x2048_S4x2048x1_0_1 (Host.reduceAdd v (constant S_ .f32 0x00000000#32) reducesTo_S4x2048x2048_S4x2048_d2 h_S_)) (broadcastInDim S4x2048x1 ![] bcast_S_S4x2048x1 (constant S_ .f32 0x45000000#32))
/-- Each row less its mean. -/
def centred (v : FVec Ideal S4x2048x2048 .f32) : FVec Ideal S4x2048x2048 .f32 :=
  subf v (broadcastInDim S4x2048x2048 ![0, 1, 2] bcast_S4x2048x1_S4x2048x2048_0_1_2 (mean v))
/-- The normalised rows. -/
def norm (v : FVec Ideal S4x2048x2048 .f32) (g s : FVec Ideal S2048 .f32) : FVec Ideal S4x2048x2048 .f32 :=
  addf (mulf (mulf (centred v) (broadcastInDim S4x2048x2048 ![0, 1, 2] bcast_S4x2048x1_S4x2048x2048_0_1_2 (Host.rsqrt (addf (mean (mulf (centred v) (centred v))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 g))) (broadcastInDim S4x2048x2048 ![0, 1, 2] bcast_S1x1x2048_S4x2048x2048_0_1_2 (broadcastInDim S1x1x2048 ![2] bcast_S2048_S1x1x2048_2 s))

theorem norm_at (v : FVec Ideal S4x2048x2048 .f32) (g s : FVec Ideal S2048 .f32) (b : Fin 4) (t d : Fin 2048) :
    norm v g s (ix3 b t d) = lnAt (fun d => v (ix3 b t d)) (fun d => g (ix1 d)) (fun d => s (ix1 d)) d := by
  pointwise [norm, centred, mean, lnAt, meanAt]

/-- The lower triangle. -/
def tri : FVec Ideal S128x128 .f32 :=
  select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))

theorem tri_at (r j : Fin 128) : tri (ix2 r j) = if j.val ≤ r.val then 1 else 0 := by
  pointwise [tri]
  show (if IntOp.cmpi .sge (BitVec.ofNat 32 r.val + 0#32) (BitVec.ofNat 32 j.val) = 1#1 then (1 : EReal) else 0) = _
  rw [BitVec.add_zero, WordCmp.cmpi_sge_ofNat (by omega) (by omega)]
  by_cases h : j.val ≤ r.val
  · rw [if_pos h, decide_eq_true h]; rfl
  · rw [if_neg h, decide_eq_false h]; rfl

/-- A weight times the triangle's entry is the masked weight. -/
theorem masked (w : EReal) (r j : Fin 128) : w * tri (ix2 r j) = maskAt w r j := by
  rw [tri_at]
  unfold maskAt
  split
  · exact mul_one w
  · exact mul_zero w

/-- The rows mixed within their chunks, head by head, and the bias. -/
def mixed (n : FVec Ideal S4x2048x2048 .f32) (w : FVec Ideal S16x128x128 .f32) (bs : FVec Ideal S16x128 .f32) : FVec Ideal S4x2048x2048 .f32 :=
  shapeCast _ (addf (transpose S4x16x128x16x128 [1, 2, 4, 0, 3] (Host.dotGeneral dot_S4x16x128x16x128_S16x128x128_S16x4x16x128x128_2_2_014_1_3_0 none (shapeCast _ n shapeCasts_S4x2048x2048_S4x16x128x16x128) (mulf w (broadcastInDim S16x128x128 ![0, 1, 2] bcast_S1x128x128_S16x128x128_0_1_2 (broadcastInDim S1x128x128 ![1, 2] bcast_S128x128_S1x128x128_1_2 tri)))) transposes_S16x4x16x128x128_S4x16x128x16x128_1_2_4_0_3) (broadcastInDim S4x16x128x16x128 ![0, 1, 2, 3, 4] bcast_S1x1x128x16x1_S4x16x128x16x128_0_1_2_3_4 (broadcastInDim S1x1x128x16x1 ![2, 3] bcast_S128x16_S1x1x128x16x1_2_3 (transpose S128x16 [1, 0] bs transposes_S16x128_S128x16_1_0)))) shapeCasts_S4x16x128x16x128_S4x2048x2048

theorem mixed_at (n : FVec Ideal S4x2048x2048 .f32) (w : FVec Ideal S16x128x128 .f32) (bs : FVec Ideal S16x128 .f32) (b : Fin 4) (t d : Fin 2048) :
    mixed n w bs (ix3 b t d) = (∑ j : Fin 128, maskAt (w (ix3 (headOf d) (inChunk t) j)) (inChunk t) j * n (ix3 b (chunkRow rfl t j) d))
      + bs (ix2 (headOf d) (inChunk t)) := by
  pointwise [mixed]
  refine congrArg (· + _) (Finset.sum_congr rfl fun j _ => ?_)
  refine (mul_comm _ _).trans ?_
  refine congr (congrArg HMul.hMul (masked _ _ _)) (congrArg (fun e => n (ix3 b e d)) (Fin.ext ?_))
  show t.val / 128 * 128 + j.val = 128 * (t.val / 128) + j.val
  omega

/-- The whole mixer, as the reference composes it. -/
def out (x : FVec Ideal S8192x2048 .f32) (u q : FVec Ideal S4x2048x2048 .f32) (wo : FVec Ideal S2048x2048 .f32) : FVec Ideal S8192x2048 .f32 :=
  addf x (shapeCast _ (Host.dotGeneral dot_S4x2048x2048_S2048x2048_S4x2048x2048_2_0_01_1_n_n none (mulf u q) wo) shapeCasts_S4x2048x2048_S8192x2048)

theorem out_at (x : FVec Ideal S8192x2048 .f32) (u q : FVec Ideal S4x2048x2048 .f32) (wo : FVec Ideal S2048x2048 .f32) (b : Fin 4) (t d : Fin 2048) :
    out x u q wo (ix2 (rowOf b t) d) = x (ix2 (rowOf b t) d) + ∑ k : Fin 2048, u (ix3 b t k) * q (ix3 b t k) * wo (ix2 k d) := by
  pointwise [out, rowOf]

/-- The whole mixer at an index. -/
theorem mixer_at (x : FVec Ideal S8192x2048 .f32) (z : FVec Ideal S8192x4096 .f32) (g s : FVec Ideal S2048 .f32) (w : FVec Ideal S16x128x128 .f32)
    (bs : FVec Ideal S16x128 .f32) (wo : FVec Ideal S2048x2048 .f32) (b : Fin 4) (t d : Fin 2048) :
    out x (gateOf z) (mixed (norm (valOf z) g s) w bs) wo (ix2 (rowOf b t) d) = x (ix2 (rowOf b t) d)
      + ∑ k : Fin 2048, gateAt (z (ix2 (rowOf b t) (colU k))) (bs (ix2 (headOf k) (inChunk (rowOf b t))))
          (fun j => maskAt (w (ix3 (headOf k) (inChunk (rowOf b t)) j)) (inChunk (rowOf b t)) j)
          (fun j e => z (ix2 (chunkRow rfl (rowOf b t) j) (colV e))) (fun e => g (ix1 e)) (fun e => s (ix1 e)) k * wo (ix2 k d) := by
  have hin : inChunk (rowOf b t) = inChunk t := Fin.ext (by show (b.val * 2048 + t.val) % 128 = t.val % 128; omega)
  have hrow : ∀ j : Fin 128, chunkRow rfl (rowOf b t) j = rowOf b (chunkRow rfl t j) := fun j => Fin.ext (by
    show 128 * ((b.val * 2048 + t.val) / 128) + j.val = b.val * 2048 + (128 * (t.val / 128) + j.val); omega)
  rw [out_at, hin]
  refine congrArg (x (ix2 (rowOf b t) d) + ·) (Finset.sum_congr rfl fun k _ => ?_)
  rw [gateOf_at, mixed_at]
  unfold gateAt
  have hsum : ∀ j : Fin 128, norm (valOf z) g s (ix3 b (chunkRow rfl t j) k)
      = lnAt (fun e => z (ix2 (chunkRow rfl (rowOf b t) j) (colV e))) (fun e => g (ix1 e)) (fun e => s (ix1 e)) k := fun j => by
    rw [norm_at, hrow]
    exact congrArg (fun v => lnAt v _ _ k) (funext fun e => valOf_at z b (chunkRow rfl t j) e)
  simp only [hsum]

/-- The reference's result is the array the kernel computes from the same arguments. -/
theorem out_eq_kernel (m : (ℓ : Loc Cert.AmixIdeal.nD Cert.AmixIdeal.τ Cert.AmixIdeal.sig) → Buf (Elt Ideal) ℓ) (c : Dev Cert.AmixIdeal.nD) :
    out (m ((c.tc : Thread Cert.AmixIdeal.nD Cert.AmixIdeal.τ).loc Cert.AmixIdeal.main_arg0))
      (gateOf (m ((c.tc : Thread Cert.AmixIdeal.nD Cert.AmixIdeal.τ).loc Cert.AmixIdeal.main_arg1)))
      (mixed (norm (valOf (m ((c.tc : Thread Cert.AmixIdeal.nD Cert.AmixIdeal.τ).loc Cert.AmixIdeal.main_arg1))) (m ((c.tc : Thread Cert.AmixIdeal.nD Cert.AmixIdeal.τ).loc Cert.AmixIdeal.main_arg2)) (m ((c.tc : Thread Cert.AmixIdeal.nD Cert.AmixIdeal.τ).loc Cert.AmixIdeal.main_arg3)))
        (m ((c.tc : Thread Cert.AmixIdeal.nD Cert.AmixIdeal.τ).loc Cert.AmixIdeal.main_arg4)) (m ((c.tc : Thread Cert.AmixIdeal.nD Cert.AmixIdeal.τ).loc Cert.AmixIdeal.main_arg5)))
      (m ((c.tc : Thread Cert.AmixIdeal.nD Cert.AmixIdeal.τ).loc Cert.AmixIdeal.main_arg6))
    = Cert.AmixIdeal.Value.GA m c := by
  funext i
  obtain ⟨r, d, rfl⟩ : ∃ (r : Fin 8192) (d : Fin 2048), i = ix2 r d := ⟨i 0, i 1, eq_ix2 i⟩
  obtain ⟨b, t, rfl⟩ : ∃ (b : Fin 4) (t : Fin 2048), r = rowOf b t :=
    ⟨⟨r.val / 2048, by omega⟩, ⟨r.val % 2048, by omega⟩, Fin.ext (by show r.val = r.val / 2048 * 2048 + r.val % 2048; omega)⟩
  exact mixer_at _ _ _ _ _ _ _ b t d

end Cert.AmixRefIdeal.Value

end
-- ==== Proof.PoolSSeq.lean ====
/-
  What the pooling mixer of the short sequences leaves in its windows' block: every sequence's sixteen carried rows followed
  by its eight rows scaled by the reciprocal root of their mean square and the gain.
-/
module

public import proofs.«01_k».proof.Proof.Gen.PoolSIdeal.Value
public import proofs.«01_k».proof.Proof.Rows
public import proofs.«01_k».proof.Proof.Window

@[expose] public section

set_option maxRecDepth 16384

noncomputable section

open Idealize.ShloMosaic Idealize.ShloMosaic.TcCoe Idealize.SL.Sem

namespace Cert.PoolSIdeal.Value

open Cert.PoolSIdeal Cert.PoolSIdeal.Gen Cert.Rows Cert.Window

/-- Row `n` of the sequence `b`: sixteen carried rows, then the eight normalised rows. -/
def seqAt (st : Fin 8 → Fin 16 → Fin 2048 → EReal) (x : Fin 64 → Fin 2048 → EReal) (g : Fin 2048 → EReal)
    (b : Fin 8) (n : ℕ) (j : Fin 2048) : EReal :=
  if hn : n < 16 then st b ⟨n, hn⟩ j else if hm : n < 24 then hnAt x g ⟨8 * b.val + (n - 16), by omega⟩ j else 0

section
variable (x0 : FVec Ideal S64x2048 .f32) (x1 : FVec Ideal S1x2048 .f32) (x2 : FVec Ideal S8x16x2048 .f32)

/-- The sequences of the staged blocks. -/
abbrev seqOf (b : Fin 8) (n : ℕ) (j : Fin 2048) : EReal :=
  seqAt (fun b r j => x2 (ix3 b r j)) (fun r j => x0 (ix2 r j)) (fun j => x1 (ix2 0 j)) b n j

/-- The block of the sequences. -/
def seqB : Vec Ideal S8x24x2048 .f32 := fun y => seqOf x0 x1 x2 (y 0) (y 1).val (y 2)

/-- The rows loaded from row `o`. -/
theorem ld_x (o : ℕ) (inb : ∀ a, (![o, 0] : Fin 2 → ℕ) a + (![8, 2048] : Fin 2 → ℕ) a ≤ S64x2048.size a) :
    (View.ld (Val := Elt Ideal) (S := S64x2048) (e' := .f32) x0 (Rect.unit ![o, 0] ![8, 2048] inb))
      = fun y => x0 (ix2 ⟨o + (y 0).val, by have : o + 8 ≤ 64 := inb 0; have : (y 0).val < 8 := (y 0).isLt; omega⟩ (y 1)) := by
  funext y
  refine congrArg x0 (funext fun a => Fin.ext ?_)
  match a with
  | ⟨0, _⟩ => show o + 1 * (y 0).val = o + (y 0).val; omega
  | ⟨1, _⟩ => show 0 + 1 * (y 1).val = (y 1).val; omega

/-- The carried rows loaded for the sequence `b`. -/
theorem ld_state (b : ℕ) (inb : ∀ a, (![b, 0, 0] : Fin 3 → ℕ) a + (![1, 16, 2048] : Fin 3 → ℕ) a ≤ S8x16x2048.size a) :
    (View.ld (Val := Elt Ideal) (S := S8x16x2048) (e' := .f32) x2 (Rect.unit ![b, 0, 0] ![1, 16, 2048] inb))
      = fun y => x2 (ix3 ⟨b, by have : b + 1 ≤ 8 := inb 0; omega⟩ (y 1) (y 2)) := by
  funext y
  refine congrArg x2 (funext fun a => Fin.ext ?_)
  match a with
  | ⟨0, _⟩ => have : (y 0).val < 1 := (y 0).isLt; show b + 1 * (y 0).val = b; omega
  | ⟨1, _⟩ => show 0 + 1 * (y 1).val = (y 1).val; omega
  | ⟨2, _⟩ => show 0 + 1 * (y 2).val = (y 2).val; omega

/-- Where a rectangle of one sequence's rows puts its index. -/
theorem emb_rows (b o n : ℕ) (inb : ∀ a, (![b, o, 0] : Fin 3 → ℕ) a + (![1, n, 2048] : Fin 3 → ℕ) a ≤ S8x24x2048.size a)
    (r : Fin n) (d : Fin 2048) :
    ((Rect.unit (s := S8x24x2048) ![b, o, 0] ![1, n, 2048] inb).emb (ix3 (0 : Fin 1) r d) : S8x24x2048.Idx)
      = ix3 (⟨b, by have : b + 1 ≤ 8 := inb 0; omega⟩ : Fin 8) (⟨o + r.val, by have : o + n ≤ 24 := inb 1; omega⟩ : Fin 24) d := by
  funext a; apply Fin.ext
  match a with
  | ⟨0, _⟩ => show b + 1 * 0 = b; omega
  | ⟨1, _⟩ => show o + 1 * r.val = o + r.val; omega
  | ⟨2, _⟩ => show 0 + 1 * d.val = d.val; omega

/-- The carried rows of the block. -/
theorem seqB_lo (b : ℕ) (inb : ∀ a, (![b, 0, 0] : Fin 3 → ℕ) a + (![1, 16, 2048] : Fin 3 → ℕ) a ≤ S8x24x2048.size a)
    (r : Fin 16) (d : Fin 2048) :
    seqB x0 x1 x2 ((Rect.unit (s := S8x24x2048) ![b, 0, 0] ![1, 16, 2048] inb).emb (ix3 (0 : Fin 1) r d))
      = x2 (ix3 ⟨b, by have : b + 1 ≤ 8 := inb 0; omega⟩ r d) := by
  rw [emb_rows]
  show seqOf x0 x1 x2 ⟨b, _⟩ (0 + r.val) d = _
  unfold seqOf seqAt
  rw [dif_pos (by omega)]
  exact congrArg (fun q => x2 (ix3 _ q d)) (Fin.ext (by show 0 + r.val = r.val; omega))

/-- The normalised rows of the block. -/
theorem seqB_hi (b o : ℕ) (ho : o = 8 * b)
    (inb : ∀ a, (![b, 16, 0] : Fin 3 → ℕ) a + (![1, 8, 2048] : Fin 3 → ℕ) a ≤ S8x24x2048.size a)
    (r : Fin 8) (d : Fin 2048) :
    seqB x0 x1 x2 ((Rect.unit (s := S8x24x2048) ![b, 16, 0] ![1, 8, 2048] inb).emb (ix3 (0 : Fin 1) r d))
      = hnAt (fun r j => x0 (ix2 r j)) (fun j => x1 (ix2 0 j)) ⟨o + r.val, by have : b + 1 ≤ 8 := inb 0; omega⟩ d := by
  subst ho
  rw [emb_rows]
  show seqOf x0 x1 x2 ⟨b, _⟩ (16 + r.val) d = _
  unfold seqOf seqAt
  rw [dif_neg (by omega), dif_pos (by omega)]
  exact congrArg (fun q => hnAt _ _ q d) (Fin.ext (by show 8 * b + (16 + r.val - 16) = 8 * b + r.val; omega))

/-- The block, as the sixteen stores leave it. -/
theorem canon_seq : View.canon (Val := Elt Ideal) (s := S8x24x2048) (e := .f32)
    [⟨Rect.unit (s := S8x24x2048) ![7, 16, 0] ![1, 8, 2048] inb_S8x24x2048_S1x8x2048_7_16_0, k0_pay20 (View.ld (Val := Elt Ideal) (S := S64x2048) (e' := .f32) x0 (Rect.unit ![56, 0] ![8, 2048] inb_S64x2048_S8x2048_56_0)) x1⟩,
      ⟨Rect.unit (s := S8x24x2048) ![7, 0, 0] ![1, 16, 2048] inb_S8x24x2048_S1x16x2048_7_0_0, k0_pay19 (View.ld (Val := Elt Ideal) (S := S8x16x2048) (e' := .f32) x2 (Rect.unit ![7, 0, 0] ![1, 16, 2048] inb_S8x16x2048_S1x16x2048_7_0_0))⟩,
      ⟨Rect.unit (s := S8x24x2048) ![6, 16, 0] ![1, 8, 2048] inb_S8x24x2048_S1x8x2048_6_16_0, k0_pay18 (View.ld (Val := Elt Ideal) (S := S64x2048) (e' := .f32) x0 (Rect.unit ![48, 0] ![8, 2048] inb_S64x2048_S8x2048_48_0)) x1⟩,
      ⟨Rect.unit (s := S8x24x2048) ![6, 0, 0] ![1, 16, 2048] inb_S8x24x2048_S1x16x2048_6_0_0, k0_pay17 (View.ld (Val := Elt Ideal) (S := S8x16x2048) (e' := .f32) x2 (Rect.unit ![6, 0, 0] ![1, 16, 2048] inb_S8x16x2048_S1x16x2048_6_0_0))⟩,
      ⟨Rect.unit (s := S8x24x2048) ![5, 16, 0] ![1, 8, 2048] inb_S8x24x2048_S1x8x2048_5_16_0, k0_pay16 (k0_pay15 (View.ld (Val := Elt Ideal) (S := S64x2048) (e' := .f32) x0 (Rect.unit ![40, 0] ![8, 2048] inb_S64x2048_S8x2048_40_0)) x1)⟩,
      ⟨Rect.unit (s := S8x24x2048) ![5, 0, 0] ![1, 16, 2048] inb_S8x24x2048_S1x16x2048_5_0_0, k0_pay14 (View.ld (Val := Elt Ideal) (S := S8x16x2048) (e' := .f32) x2 (Rect.unit ![5, 0, 0] ![1, 16, 2048] inb_S8x16x2048_S1x16x2048_5_0_0))⟩,
      ⟨Rect.unit (s := S8x24x2048) ![4, 16, 0] ![1, 8, 2048] inb_S8x24x2048_S1x8x2048_4_16_0, k0_pay13 (View.ld (Val := Elt Ideal) (S := S64x2048) (e' := .f32) x0 (Rect.unit ![32, 0] ![8, 2048] inb_S64x2048_S8x2048_32_0)) x1⟩,
      ⟨Rect.unit (s := S8x24x2048) ![4, 0, 0] ![1, 16, 2048] inb_S8x24x2048_S1x16x2048_4_0_0, k0_pay12 (View.ld (Val := Elt Ideal) (S := S8x16x2048) (e' := .f32) x2 (Rect.unit ![4, 0, 0] ![1, 16, 2048] inb_S8x16x2048_S1x16x2048_4_0_0))⟩,
      ⟨Rect.unit (s := S8x24x2048) ![3, 16, 0] ![1, 8, 2048] inb_S8x24x2048_S1x8x2048_3_16_0, k0_pay11 (View.ld (Val := Elt Ideal) (S := S64x2048) (e' := .f32) x0 (Rect.unit ![24, 0] ![8, 2048] inb_S64x2048_S8x2048_24_0)) x1⟩,
      ⟨Rect.unit (s := S8x24x2048) ![3, 0, 0] ![1, 16, 2048] inb_S8x24x2048_S1x16x2048_3_0_0, k0_pay10 (View.ld (Val := Elt Ideal) (S := S8x16x2048) (e' := .f32) x2 (Rect.unit ![3, 0, 0] ![1, 16, 2048] inb_S8x16x2048_S1x16x2048_3_0_0))⟩,
      ⟨Rect.unit (s := S8x24x2048) ![2, 16, 0] ![1, 8, 2048] inb_S8x24x2048_S1x8x2048_2_16_0, k0_pay9 (k0_pay8 (View.ld (Val := Elt Ideal) (S := S64x2048) (e' := .f32) x0 (Rect.unit ![16, 0] ![8, 2048] inb_S64x2048_S8x2048_16_0)) x1)⟩,
      ⟨Rect.unit (s := S8x24x2048) ![2, 0, 0] ![1, 16, 2048] inb_S8x24x2048_S1x16x2048_2_0_0, k0_pay7 (View.ld (Val := Elt Ideal) (S := S8x16x2048) (e' := .f32) x2 (Rect.unit ![2, 0, 0] ![1, 16, 2048] inb_S8x16x2048_S1x16x2048_2_0_0))⟩,
      ⟨Rect.unit (s := S8x24x2048) ![1, 16, 0] ![1, 8, 2048] inb_S8x24x2048_S1x8x2048_1_16_0, k0_pay6 (View.ld (Val := Elt Ideal) (S := S64x2048) (e' := .f32) x0 (Rect.unit ![8, 0] ![8, 2048] inb_S64x2048_S8x2048_8_0)) x1⟩,
      ⟨Rect.unit (s := S8x24x2048) ![1, 0, 0] ![1, 16, 2048] inb_S8x24x2048_S1x16x2048_1_0_0, k0_pay5 (View.ld (Val := Elt Ideal) (S := S8x16x2048) (e' := .f32) x2 (Rect.unit ![1, 0, 0] ![1, 16, 2048] inb_S8x16x2048_S1x16x2048_1_0_0))⟩,
      ⟨Rect.unit (s := S8x24x2048) ![0, 16, 0] ![1, 8, 2048] inb_S8x24x2048_S1x8x2048_0_16_0, k0_pay4 (View.ld (Val := Elt Ideal) (S := S64x2048) (e' := .f32) x0 (Rect.unit ![0, 0] ![8, 2048] inb_S64x2048_S8x2048_0_0)) x1⟩,
      ⟨Rect.unit (s := S8x24x2048) ![0, 0, 0] ![1, 16, 2048] inb_S8x24x2048_S1x16x2048_0_0_0, k0_pay3 (View.ld (Val := Elt Ideal) (S := S8x16x2048) (e' := .f32) x2 (Rect.unit ![0, 0, 0] ![1, 16, 2048] inb_S8x16x2048_S1x16x2048_0_0_0))⟩] = seqB x0 x1 x2 := by
  funext y
  refine View.canon_apply_of_pieces (seqB x0 x1 x2) _ ?_ y (View.cover_of_tiledBy _ ![1, 8, 2048] (by sl_kernel_rfl) y)
  simp only [ld_x, ld_state, List.forall_mem_cons, List.not_mem_nil, IsEmpty.forall_iff, implies_true, and_true]
  refine ⟨?_, ?_, ?_, ?_, ?_, ?_, ?_, ?_, ?_, ?_, ?_, ?_, ?_, ?_, ?_, ?_⟩
  all_goals intro x
  case' refine_2 | refine_4 | refine_6 | refine_8 | refine_10 | refine_12 | refine_14 | refine_16 =>
    obtain ⟨r, d, rfl⟩ : ∃ (r : Fin 16) (d : Fin 2048), x = ix3 0 r d :=
      ⟨x 1, x 2, (eq_ix3 x).trans (congrArg (fun q : Fin 1 => ix3 q (x 1) (x 2)) (Subsingleton.elim (α := Fin 1) _ _))⟩
    rw [seqB_lo]
    pointwise [k0_pay3, k0_pay5, k0_pay7, k0_pay10, k0_pay12, k0_pay14, k0_pay17, k0_pay19]
  all_goals
    obtain ⟨r, d, rfl⟩ : ∃ (r : Fin 8) (d : Fin 2048), x = ix3 0 r d :=
      ⟨x 1, x 2, (eq_ix3 x).trans (congrArg (fun q : Fin 1 => ix3 q (x 1) (x 2)) (Subsingleton.elim (α := Fin 1) _ _))⟩
    rw [seqB_hi x0 x1 x2 _ _ rfl]
    pointwise [k0_pay4, k0_pay6, k0_pay8, k0_pay9, k0_pay11, k0_pay13, k0_pay15, k0_pay16, k0_pay18, k0_pay20, hnAt]

/-- A load of eight rows of a column group of the sequence `b` from row `o`. -/
theorem ld_seq (a7 : Memref sig .tc .vmem S8x24x2048 .f32) (b o q : ℕ)
    (inb : ∀ a, (![b, o, q] : Fin 3 → ℕ) a + (![1, 8, 512] : Fin 3 → ℕ) a ≤ S8x24x2048.size a) :
    a7.view.readCov (Val := Elt Ideal)
    [⟨Rect.unit (s := S8x24x2048) ![7, 16, 0] ![1, 8, 2048] inb_S8x24x2048_S1x8x2048_7_16_0, k0_pay20 (View.ld (Val := Elt Ideal) (S := S64x2048) (e' := .f32) x0 (Rect.unit ![56, 0] ![8, 2048] inb_S64x2048_S8x2048_56_0)) x1⟩,
      ⟨Rect.unit (s := S8x24x2048) ![7, 0, 0] ![1, 16, 2048] inb_S8x24x2048_S1x16x2048_7_0_0, k0_pay19 (View.ld (Val := Elt Ideal) (S := S8x16x2048) (e' := .f32) x2 (Rect.unit ![7, 0, 0] ![1, 16, 2048] inb_S8x16x2048_S1x16x2048_7_0_0))⟩,
      ⟨Rect.unit (s := S8x24x2048) ![6, 16, 0] ![1, 8, 2048] inb_S8x24x2048_S1x8x2048_6_16_0, k0_pay18 (View.ld (Val := Elt Ideal) (S := S64x2048) (e' := .f32) x0 (Rect.unit ![48, 0] ![8, 2048] inb_S64x2048_S8x2048_48_0)) x1⟩,
      ⟨Rect.unit (s := S8x24x2048) ![6, 0, 0] ![1, 16, 2048] inb_S8x24x2048_S1x16x2048_6_0_0, k0_pay17 (View.ld (Val := Elt Ideal) (S := S8x16x2048) (e' := .f32) x2 (Rect.unit ![6, 0, 0] ![1, 16, 2048] inb_S8x16x2048_S1x16x2048_6_0_0))⟩,
      ⟨Rect.unit (s := S8x24x2048) ![5, 16, 0] ![1, 8, 2048] inb_S8x24x2048_S1x8x2048_5_16_0, k0_pay16 (k0_pay15 (View.ld (Val := Elt Ideal) (S := S64x2048) (e' := .f32) x0 (Rect.unit ![40, 0] ![8, 2048] inb_S64x2048_S8x2048_40_0)) x1)⟩,
      ⟨Rect.unit (s := S8x24x2048) ![5, 0, 0] ![1, 16, 2048] inb_S8x24x2048_S1x16x2048_5_0_0, k0_pay14 (View.ld (Val := Elt Ideal) (S := S8x16x2048) (e' := .f32) x2 (Rect.unit ![5, 0, 0] ![1, 16, 2048] inb_S8x16x2048_S1x16x2048_5_0_0))⟩,
      ⟨Rect.unit (s := S8x24x2048) ![4, 16, 0] ![1, 8, 2048] inb_S8x24x2048_S1x8x2048_4_16_0, k0_pay13 (View.ld (Val := Elt Ideal) (S := S64x2048) (e' := .f32) x0 (Rect.unit ![32, 0] ![8, 2048] inb_S64x2048_S8x2048_32_0)) x1⟩,
      ⟨Rect.unit (s := S8x24x2048) ![4, 0, 0] ![1, 16, 2048] inb_S8x24x2048_S1x16x2048_4_0_0, k0_pay12 (View.ld (Val := Elt Ideal) (S := S8x16x2048) (e' := .f32) x2 (Rect.unit ![4, 0, 0] ![1, 16, 2048] inb_S8x16x2048_S1x16x2048_4_0_0))⟩,
      ⟨Rect.unit (s := S8x24x2048) ![3, 16, 0] ![1, 8, 2048] inb_S8x24x2048_S1x8x2048_3_16_0, k0_pay11 (View.ld (Val := Elt Ideal) (S := S64x2048) (e' := .f32) x0 (Rect.unit ![24, 0] ![8, 2048] inb_S64x2048_S8x2048_24_0)) x1⟩,
      ⟨Rect.unit (s := S8x24x2048) ![3, 0, 0] ![1, 16, 2048] inb_S8x24x2048_S1x16x2048_3_0_0, k0_pay10 (View.ld (Val := Elt Ideal) (S := S8x16x2048) (e' := .f32) x2 (Rect.unit ![3, 0, 0] ![1, 16, 2048] inb_S8x16x2048_S1x16x2048_3_0_0))⟩,
      ⟨Rect.unit (s := S8x24x2048) ![2, 16, 0] ![1, 8, 2048] inb_S8x24x2048_S1x8x2048_2_16_0, k0_pay9 (k0_pay8 (View.ld (Val := Elt Ideal) (S := S64x2048) (e' := .f32) x0 (Rect.unit ![16, 0] ![8, 2048] inb_S64x2048_S8x2048_16_0)) x1)⟩,
      ⟨Rect.unit (s := S8x24x2048) ![2, 0, 0] ![1, 16, 2048] inb_S8x24x2048_S1x16x2048_2_0_0, k0_pay7 (View.ld (Val := Elt Ideal) (S := S8x16x2048) (e' := .f32) x2 (Rect.unit ![2, 0, 0] ![1, 16, 2048] inb_S8x16x2048_S1x16x2048_2_0_0))⟩,
      ⟨Rect.unit (s := S8x24x2048) ![1, 16, 0] ![1, 8, 2048] inb_S8x24x2048_S1x8x2048_1_16_0, k0_pay6 (View.ld (Val := Elt Ideal) (S := S64x2048) (e' := .f32) x0 (Rect.unit ![8, 0] ![8, 2048] inb_S64x2048_S8x2048_8_0)) x1⟩,
      ⟨Rect.unit (s := S8x24x2048) ![1, 0, 0] ![1, 16, 2048] inb_S8x24x2048_S1x16x2048_1_0_0, k0_pay5 (View.ld (Val := Elt Ideal) (S := S8x16x2048) (e' := .f32) x2 (Rect.unit ![1, 0, 0] ![1, 16, 2048] inb_S8x16x2048_S1x16x2048_1_0_0))⟩,
      ⟨Rect.unit (s := S8x24x2048) ![0, 16, 0] ![1, 8, 2048] inb_S8x24x2048_S1x8x2048_0_16_0, k0_pay4 (View.ld (Val := Elt Ideal) (S := S64x2048) (e' := .f32) x0 (Rect.unit ![0, 0] ![8, 2048] inb_S64x2048_S8x2048_0_0)) x1⟩,
      ⟨Rect.unit (s := S8x24x2048) ![0, 0, 0] ![1, 16, 2048] inb_S8x24x2048_S1x16x2048_0_0_0, k0_pay3 (View.ld (Val := Elt Ideal) (S := S8x16x2048) (e' := .f32) x2 (Rect.unit ![0, 0, 0] ![1, 16, 2048] inb_S8x16x2048_S1x16x2048_0_0_0))⟩]
      (Rect.unit (s := S8x24x2048) ![b, o, q] ![1, 8, 512] inb).toLoadRect
    = fun y => seqOf x0 x1 x2 ⟨b, by have : b + 1 ≤ 8 := inb 0; omega⟩ (o + (y 1).val)
        ⟨q + (y 2).val, by have : q + 512 ≤ 2048 := inb 2; have : (y 2).val < 512 := (y 2).isLt; omega⟩ := by
  rw [View.readCov_eq_canon', canon_seq]
  funext y
  have e0 : (⟨b + 1 * (y 0).val, by have : b + 1 ≤ 8 := inb 0; have : (y 0).val < 1 := (y 0).isLt; omega⟩ : Fin 8)
      = ⟨b, by have : b + 1 ≤ 8 := inb 0; omega⟩ := Fin.ext (by have : (y 0).val < 1 := (y 0).isLt; show b + 1 * (y 0).val = b; omega)
  show seqOf x0 x1 x2 ⟨b + 1 * (y 0).val, _⟩ (o + 1 * (y 1).val) ⟨q + 1 * (y 2).val, _⟩ = _
  rw [e0]
  simp only [Nat.one_mul]

end

section
variable (c : Dev nD) (i : grid0.Coords) (a1 : Memref sig .tc .vmem S64x2048 .f32) (h1 : a1.IsWhole)
    (a2 : Memref sig .tc .vmem S1x2048 .f32) (h2 : a2.IsWhole) (a3 : Memref sig .tc .vmem S8x16x2048 .f32) (h3 : a3.IsWhole)
    (a4 : Memref sig .tc .vmem S4x512x512 .f32) (h4 : a4.IsWhole) (a5 : Memref sig .tc .vmem S1x2048 .f32) (h5 : a5.IsWhole)
    (a6 : Memref sig .tc .vmem S64x2048 .f32) (h6 : a6.IsWhole) (a7 : Memref sig .tc .vmem S8x24x2048 .f32) (h7 : a7.IsWhole)
    (a8 : Memref sig .tc .vmem S64x2048 .bf16) (h8 : a8.IsWhole)
    (x0 : Vec Ideal S64x2048 .f32) (x1 : Vec Ideal S1x2048 .f32) (x2 : Vec Ideal S8x16x2048 .f32)
    (x3 : Vec Ideal S4x512x512 .f32) (x4 : Vec Ideal S1x2048 .f32)

/-- The point's block of sequences. -/
theorem out_6 : out0_A_6 c i a1 h1 a2 h2 a3 h3 a4 h4 a5 h5 a6 h6 a7 h7 a8 h8 x0 x1 x2 x3 x4 = seqB x0 x1 x2 := by
  frame_out
  exact canon_seq x0 x1 x2

end

end Cert.PoolSIdeal.Value

end
-- ==== Proof.PoolSBlock.lean ====
/-
  What the pooling mixer of the short sequences leaves in its result block: the scratch takes, for every sequence and column
  group, the window means less the rows themselves, and the block is the residual plus their product with the group's
  weights, scaled.
-/
module

public import proofs.«01_k».proof.Proof.PoolSSeq

@[expose] public section

set_option maxRecDepth 16384

noncomputable section

open Idealize.ShloMosaic Idealize.ShloMosaic.TcCoe Idealize.SL.Sem

namespace Cert.PoolSIdeal.Value

open Cert.PoolSIdeal Cert.PoolSIdeal.Gen Cert.Rows Cert.Window

/-- How many rows the window of `w` meets at row `r` of a sequence that 16384 rows went before, as the programs count. -/
def cntS (w r : ℕ) : EReal :=
  FloatOps.sitofp (F := Ideal) FTy.f32 (IntOp.minsi (BitVec.ofNat 32 w) (IntOp.addi (IntOp.addi 16384#32 (BitVec.ofNat 32 r)) 1#32))

/-- The mean over the window of `w` at row `r` less the row itself. -/
def meanAt (w : ℕ) (f : ℕ → EReal) (r : ℕ) : EReal :=
  Ideal.div (∑ k ∈ Finset.range w, f (16 - k + r)) (cntS w r) - f (16 + r)

section
variable (x0 : FVec Ideal S64x2048 .f32) (x1 : FVec Ideal S1x2048 .f32) (x2 : FVec Ideal S8x16x2048 .f32)
    (x3 : FVec Ideal S4x512x512 .f32) (x4 : FVec Ideal S1x2048 .f32)

/-- The window means less the rows at row `r` of the eight sequences, column `j`. -/
def zOf (r : Fin 64) (j : Fin 2048) : EReal :=
  meanAt (widthOf (j.val / 512)) (fun n => seqOf x0 x1 x2 ⟨r.val / 8, by omega⟩ n j) (r.val % 8)

/-- The scratch's block. -/
def zB : Vec Ideal S64x2048 .bf16 := fun y => zOf x0 x1 x2 (y 0) (y 1)

/-- The result at row `r`, column `j`. -/
def resOf (r : Fin 64) (j : Fin 2048) : EReal :=
  x0 (ix2 r j) + (∑ k : Fin 512, zOf x0 x1 x2 r ⟨512 * (j.val / 512) + k.val, by omega⟩
    * x3 (ix3 (⟨j.val / 512, by omega⟩ : Fin 4) k (⟨j.val % 512, by omega⟩ : Fin 512))) * x4 (ix2 0 j)

/-- The result block. -/
def resB : Vec Ideal S64x2048 .f32 := fun y => resOf x0 x1 x2 x3 x4 (y 0) (y 1)

/-- Where a rectangle of the block of rows puts its index. -/
theorem emb_tile (o q n k : ℕ) (inb : ∀ a, (![o, q] : Fin 2 → ℕ) a + (![n, k] : Fin 2 → ℕ) a ≤ S64x2048.size a)
    (r : Fin n) (d : Fin k) :
    ((Rect.unit (s := S64x2048) ![o, q] ![n, k] inb).emb (ix2 r d) : S64x2048.Idx)
      = ix2 (⟨o + r.val, by have : o + n ≤ 64 := inb 0; omega⟩ : Fin 64) (⟨q + d.val, by have : q + k ≤ 2048 := inb 1; omega⟩ : Fin 2048) := by
  funext a; apply Fin.ext
  match a with
  | ⟨0, _⟩ => show o + 1 * r.val = o + r.val; omega
  | ⟨1, _⟩ => show q + 1 * d.val = q + d.val; omega

/-- A stored tile's value at an index, the window's sum kept. -/
theorem zB_tile (o q : ℕ) (ho : o % 8 = 0) (hq : q % 512 = 0)
    (inb : ∀ a, (![o, q] : Fin 2 → ℕ) a + (![8, 512] : Fin 2 → ℕ) a ≤ S64x2048.size a) (r : Fin 8) (d : Fin 512) :
    zB x0 x1 x2 ((Rect.unit (s := S64x2048) ![o, q] ![8, 512] inb).emb (ix2 r d))
      = meanAt (widthOf (q / 512)) (fun n => seqOf x0 x1 x2 ⟨o / 8, by have : o + 8 ≤ 64 := inb 0; omega⟩ n
          ⟨q + d.val, by have : q + 512 ≤ 2048 := inb 1; omega⟩) r.val := by
  have hb : o + 8 ≤ 64 := inb 0
  have hg : q + 512 ≤ 2048 := inb 1
  rw [emb_tile]
  show zOf x0 x1 x2 ⟨o + r.val, _⟩ ⟨q + d.val, _⟩ = _
  unfold zOf
  have e1 : (q + d.val) / 512 = q / 512 := by omega
  have e2 : (o + r.val) % 8 = r.val := by omega
  have e3 : (⟨(o + r.val) / 8, by omega⟩ : Fin 8) = ⟨o / 8, by omega⟩ := Fin.ext (by show (o + r.val) / 8 = o / 8; omega)
  simp only [e1, e2, e3]

/-- A column group's value at an index of the result block. -/
theorem resB_tile (q : ℕ) (hq : q % 512 = 0)
    (inb : ∀ a, (![0, q] : Fin 2 → ℕ) a + (![64, 512] : Fin 2 → ℕ) a ≤ S64x2048.size a) (r : Fin 64) (e : Fin 512) :
    resB x0 x1 x2 x3 x4 ((Rect.unit (s := S64x2048) ![0, q] ![64, 512] inb).emb (ix2 r e))
      = x0 (ix2 r ⟨q + e.val, by have : q + 512 ≤ 2048 := inb 1; omega⟩)
        + (∑ k : Fin 512, zOf x0 x1 x2 r ⟨q + k.val, by have : q + 512 ≤ 2048 := inb 1; omega⟩
            * x3 (ix3 (⟨q / 512, by have : q + 512 ≤ 2048 := inb 1; omega⟩ : Fin 4) k e))
          * x4 (ix2 0 ⟨q + e.val, by have : q + 512 ≤ 2048 := inb 1; omega⟩) := by
  have hg : q + 512 ≤ 2048 := inb 1
  rw [emb_tile]
  have e0 : (⟨0 + r.val, by omega⟩ : Fin 64) = r := Fin.ext (by show 0 + r.val = r.val; omega)
  rw [e0]
  show resOf x0 x1 x2 x3 x4 r ⟨q + e.val, _⟩ = _
  unfold resOf
  have e1 : (q + e.val) / 512 = q / 512 := by omega
  have e3 : 512 * (q / 512) = q := by omega
  have e2 : (⟨(q + e.val) % 512, by omega⟩ : Fin 512) = e := Fin.ext (by show (q + e.val) % 512 = e.val; omega)
  simp only [e1, e2, e3]

/-- A column group loaded from the rows. -/
theorem ld_xg (q : ℕ) (inb : ∀ a, (![0, q] : Fin 2 → ℕ) a + (![64, 512] : Fin 2 → ℕ) a ≤ S64x2048.size a) :
    (View.ld (Val := Elt Ideal) (S := S64x2048) (e' := .f32) x0 (Rect.unit ![0, q] ![64, 512] inb))
      = fun y => x0 (ix2 (y 0) ⟨q + (y 1).val, by have : q + 512 ≤ 2048 := inb 1; have : (y 1).val < 512 := (y 1).isLt; omega⟩) := by
  funext y
  refine congrArg x0 (funext fun a => Fin.ext ?_)
  match a with
  | ⟨0, _⟩ => show 0 + 1 * (y 0).val = (y 0).val; omega
  | ⟨1, _⟩ => show q + 1 * (y 1).val = q + (y 1).val; omega

/-- A column group loaded from the scales. -/
theorem ld_sg (q : ℕ) (inb : ∀ a, (![0, q] : Fin 2 → ℕ) a + (![1, 512] : Fin 2 → ℕ) a ≤ S1x2048.size a) :
    (View.ld (Val := Elt Ideal) (S := S1x2048) (e' := .f32) x4 (Rect.unit ![0, q] ![1, 512] inb))
      = fun y => x4 (ix2 0 ⟨q + (y 1).val, by have : q + 512 ≤ 2048 := inb 1; have : (y 1).val < 512 := (y 1).isLt; omega⟩) := by
  funext y
  refine congrArg x4 (funext fun a => Fin.ext ?_)
  match a with
  | ⟨0, _⟩ => have : (y 0).val < 1 := (y 0).isLt; show 0 + 1 * (y 0).val = 0; omega
  | ⟨1, _⟩ => show q + 1 * (y 1).val = q + (y 1).val; omega

/-- A group's weights loaded. -/
theorem ld_wg (g : ℕ) (inb : ∀ a, (![g, 0, 0] : Fin 3 → ℕ) a + (![1, 512, 512] : Fin 3 → ℕ) a ≤ S4x512x512.size a) :
    (View.ld (Val := Elt Ideal) (S := S4x512x512) (e' := .f32) x3 (Rect.unit ![g, 0, 0] ![1, 512, 512] inb))
      = fun y => x3 (ix3 ⟨g, by have : g + 1 ≤ 4 := inb 0; omega⟩ (y 1) (y 2)) := by
  funext y
  refine congrArg x3 (funext fun a => Fin.ext ?_)
  match a with
  | ⟨0, _⟩ => have : (y 0).val < 1 := (y 0).isLt; show g + 1 * (y 0).val = g; omega
  | ⟨1, _⟩ => show 0 + 1 * (y 1).val = (y 1).val; omega
  | ⟨2, _⟩ => show 0 + 1 * (y 2).val = (y 2).val; omega

/-- A column group loaded from the scratch, once its tiles agree with the window means. -/
theorem ld_zg (a8 : Memref sig .tc .vmem S64x2048 .bf16) (L : List (View.Piece (Elt Ideal) S64x2048 .bf16))
    (hc : View.Piece.tiledL L ![8, 512] = true) (hL : ∀ p ∈ L, ∀ x : p.1.shape.Idx, p.2 x = zB x0 x1 x2 (p.1.emb x)) (q : ℕ)
    (inb : ∀ a, (![0, q] : Fin 2 → ℕ) a + (![64, 512] : Fin 2 → ℕ) a ≤ S64x2048.size a) :
    a8.view.readCov (Val := Elt Ideal) L (Rect.unit (s := S64x2048) ![0, q] ![64, 512] inb).toLoadRect
      = fun y => zOf x0 x1 x2 (y 0) ⟨q + (y 1).val, by have : q + 512 ≤ 2048 := inb 1; have : (y 1).val < 512 := (y 1).isLt; omega⟩ := by
  have hz : View.canon (Val := Elt Ideal) L = zB x0 x1 x2 :=
    funext fun y => View.canon_apply_of_pieces (zB x0 x1 x2) L hL y (View.cover_of_tiledL L ![8, 512] hc y)
  rw [View.readCov_eq_canon', hz]
  funext y
  have e0 : (⟨0 + 1 * (y 0).val, by have : (y 0).val < 64 := (y 0).isLt; omega⟩ : Fin 64) = y 0 := Fin.ext (by show 0 + 1 * (y 0).val = (y 0).val; omega)
  show zOf x0 x1 x2 ⟨0 + 1 * (y 0).val, _⟩ ⟨q + 1 * (y 1).val, _⟩ = _
  rw [e0]
  simp only [Nat.one_mul]

/-- The four stores leave the result block once the scratch's tiles agree with the window means. -/
theorem canon_res (a8 : Memref sig .tc .vmem S64x2048 .bf16) (L : List (View.Piece (Elt Ideal) S64x2048 .bf16))
    (hc : View.Piece.tiledL L ![8, 512] = true) (hL : ∀ p ∈ L, ∀ x : p.1.shape.Idx, p.2 x = zB x0 x1 x2 (p.1.emb x)) :
    View.canon (Val := Elt Ideal) (s := S64x2048) (e := .f32)
    [⟨Rect.unit (s := S64x2048) ![0, 1536] ![64, 512] inb_S64x2048_S64x512_0_1536, k0_pay2 (a8.view.readCov (Val := Elt Ideal) L (Rect.unit (s := S64x2048) ![0, 1536] ![64, 512] inb_S64x2048_S64x512_0_1536).toLoadRect) (View.ld (Val := Elt Ideal) (S := S4x512x512) (e' := .f32) x3 (Rect.unit ![3, 0, 0] ![1, 512, 512] inb_S4x512x512_S1x512x512_3_0_0)) (View.ld (Val := Elt Ideal) (S := S64x2048) (e' := .f32) x0 (Rect.unit ![0, 1536] ![64, 512] inb_S64x2048_S64x512_0_1536)) (View.ld (Val := Elt Ideal) (S := S1x2048) (e' := .f32) x4 (Rect.unit ![0, 1536] ![1, 512] inb_S1x2048_S1x512_0_1536))⟩,
      ⟨Rect.unit (s := S64x2048) ![0, 1024] ![64, 512] inb_S64x2048_S64x512_0_1024, k0_pay1 (View.ld (Val := Elt Ideal) (S := S64x2048) (e' := .f32) x0 (Rect.unit ![0, 1024] ![64, 512] inb_S64x2048_S64x512_0_1024)) (k0_pay111 (a8.view.readCov (Val := Elt Ideal) L (Rect.unit (s := S64x2048) ![0, 1024] ![64, 512] inb_S64x2048_S64x512_0_1024).toLoadRect) (View.ld (Val := Elt Ideal) (S := S4x512x512) (e' := .f32) x3 (Rect.unit ![2, 0, 0] ![1, 512, 512] inb_S4x512x512_S1x512x512_2_0_0)) (View.ld (Val := Elt Ideal) (S := S1x2048) (e' := .f32) x4 (Rect.unit ![0, 1024] ![1, 512] inb_S1x2048_S1x512_0_1024)))⟩,
      ⟨Rect.unit (s := S64x2048) ![0, 512] ![64, 512] inb_S64x2048_S64x512_0_512, k0_pay110 (a8.view.readCov (Val := Elt Ideal) L (Rect.unit (s := S64x2048) ![0, 512] ![64, 512] inb_S64x2048_S64x512_0_512).toLoadRect) (View.ld (Val := Elt Ideal) (S := S4x512x512) (e' := .f32) x3 (Rect.unit ![1, 0, 0] ![1, 512, 512] inb_S4x512x512_S1x512x512_1_0_0)) (View.ld (Val := Elt Ideal) (S := S64x2048) (e' := .f32) x0 (Rect.unit ![0, 512] ![64, 512] inb_S64x2048_S64x512_0_512)) (View.ld (Val := Elt Ideal) (S := S1x2048) (e' := .f32) x4 (Rect.unit ![0, 512] ![1, 512] inb_S1x2048_S1x512_0_512))⟩,
      ⟨Rect.unit (s := S64x2048) ![0, 0] ![64, 512] inb_S64x2048_S64x512_0_0, k0_pay109 (a8.view.readCov (Val := Elt Ideal) L (Rect.unit (s := S64x2048) ![0, 0] ![64, 512] inb_S64x2048_S64x512_0_0).toLoadRect) (View.ld (Val := Elt Ideal) (S := S4x512x512) (e' := .f32) x3 (Rect.unit ![0, 0, 0] ![1, 512, 512] inb_S4x512x512_S1x512x512_0_0_0)) (View.ld (Val := Elt Ideal) (S := S64x2048) (e' := .f32) x0 (Rect.unit ![0, 0] ![64, 512] inb_S64x2048_S64x512_0_0)) (View.ld (Val := Elt Ideal) (S := S1x2048) (e' := .f32) x4 (Rect.unit ![0, 0] ![1, 512] inb_S1x2048_S1x512_0_0))⟩] = resB x0 x1 x2 x3 x4 := by
  funext y
  refine View.canon_apply_of_pieces (resB x0 x1 x2 x3 x4) _ ?_ y (View.cover_of_tiledL _ ![64, 512] (by sl_kernel_rfl) y)
  simp only [ld_zg x0 x1 x2 a8 L hc hL, ld_xg, ld_sg, ld_wg, List.forall_mem_cons, List.not_mem_nil, IsEmpty.forall_iff, implies_true, and_true]
  refine ⟨?_, ?_, ?_, ?_⟩
  all_goals
    intro x
    obtain ⟨r, e, rfl⟩ : ∃ (r : Fin 64) (e : Fin 512), x = ix2 r e := ⟨x 0, x 1, eq_ix2 x⟩
    refine Eq.trans ?_ (resB_tile x0 x1 x2 x3 x4 _ rfl _ r e).symm
    simp only [Nat.reduceDiv]
    pointwise [k0_pay1, k0_pay2, k0_pay109, k0_pay110, k0_pay111]

end

end Cert.PoolSIdeal.Value

end
-- ==== Proof.PoolSRes.lean ====
/-
  The result block of the short sequences' pooling mixer, its loads from the scratches resolved.
-/
module

public import proofs.«01_k».proof.Proof.PoolSBlock

@[expose] public section

set_option maxRecDepth 16384

noncomputable section

open Idealize.ShloMosaic Idealize.ShloMosaic.TcCoe Idealize.SL.Sem

namespace Cert.PoolSIdeal.Value

open Cert.PoolSIdeal Cert.PoolSIdeal.Gen Cert.Rows Cert.Window

section
variable (c : Dev nD) (i : grid0.Coords) (a1 : Memref sig .tc .vmem S64x2048 .f32) (h1 : a1.IsWhole)
    (a2 : Memref sig .tc .vmem S1x2048 .f32) (h2 : a2.IsWhole) (a3 : Memref sig .tc .vmem S8x16x2048 .f32) (h3 : a3.IsWhole)
    (a4 : Memref sig .tc .vmem S4x512x512 .f32) (h4 : a4.IsWhole) (a5 : Memref sig .tc .vmem S1x2048 .f32) (h5 : a5.IsWhole)
    (a6 : Memref sig .tc .vmem S64x2048 .f32) (h6 : a6.IsWhole) (a7 : Memref sig .tc .vmem S8x24x2048 .f32) (h7 : a7.IsWhole)
    (a8 : Memref sig .tc .vmem S64x2048 .bf16) (h8 : a8.IsWhole)
    (x0 : Vec Ideal S64x2048 .f32) (x1 : Vec Ideal S1x2048 .f32) (x2 : Vec Ideal S8x16x2048 .f32)
    (x3 : Vec Ideal S4x512x512 .f32) (x4 : Vec Ideal S1x2048 .f32)

set_option maxHeartbeats 1600000 in
/-- The point's result block. -/
theorem out_5 : out0_A_5 c i a1 h1 a2 h2 a3 h3 a4 h4 a5 h5 a6 h6 a7 h7 a8 h8 x0 x1 x2 x3 x4 = resB x0 x1 x2 x3 x4 := by
  frame_out
  simp only [ld_seq]
  refine canon_res x0 x1 x2 x3 x4 a8 _ (by sl_kernel_rfl) ?_
  simp only [List.forall_mem_cons, List.not_mem_nil, IsEmpty.forall_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    intro x
    obtain ⟨r, d, rfl⟩ : ∃ (r : Fin 8) (d : Fin 512), x = ix2 r d := ⟨x 0, x 1, eq_ix2 x⟩
    refine Eq.trans ?_ (zB_tile x0 x1 x2 _ _ rfl rfl _ r d).symm
    simp only [meanAt, Nat.reduceDiv, cntS, widthOf, Finset.sum_range_succ, Finset.sum_range_zero, zero_add, Nat.reduceAdd, Nat.reduceSub, Nat.reducePow]
    generalize seqOf x0 x1 x2 = f
    pointwise [k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108]

end

end Cert.PoolSIdeal.Value

end
-- ==== Proof.PoolS.lean ====
/-
  The pooling mixer of the short sequences over the extended reals: its one point stages the whole arguments, so its two
  arrays are the two blocks.
-/
module

public import proofs.«01_k».proof.Proof.PoolSRes

@[expose] public section

set_option maxRecDepth 16384

noncomputable section

open Idealize.ShloMosaic Idealize.ShloMosaic.TcCoe Idealize.SL.Sem

namespace Cert.PoolSIdeal.Value

open Cert.PoolSIdeal Cert.PoolSIdeal.Gen Cert.Rows Cert.Window

/-- The windows' block indices. -/
theorem idx_val : ∀ t : Fin cfg0.N, win0_0.index t = ![0, 0] ∧ win0_1.index t = ![0, 0] ∧ win0_2.index t = ![0, 0, 0]
    ∧ win0_3.index t = ![0, 0, 0] ∧ win0_4.index t = ![0, 0] ∧ win0_5.index t = ![0, 0] ∧ win0_6.index t = ![0, 0, 0] :=
  (by decide +kernel : ∀ t : Fin grid0.N, _)

section
variable (m : (ℓ : Loc nD τ sig) → Buf (Elt Ideal) ℓ) (c : Dev nD)

abbrev X : FVec Ideal S64x2048 .f32 := m ((c : Thread nD τ).loc main_arg0)
abbrev Gn : FVec Ideal S2048 .f32 := m ((c : Thread nD τ).loc main_arg1)
abbrev St : FVec Ideal S8x15x2048 .f32 := m ((c : Thread nD τ).loc main_arg2)
abbrev Wt : FVec Ideal S4x512x512 .f32 := m ((c : Thread nD τ).loc main_arg3)
abbrev Sc : FVec Ideal S2048 .f32 := m ((c : Thread nD τ).loc main_arg4)

/-- The carried rows behind one row of zeros. -/
def stPad (st : FVec Ideal S8x15x2048 .f32) : FVec Ideal S8x16x2048 .f32 := fun y =>
  if h : 1 ≤ (y 1).val then st (ix3 (y 0) ⟨(y 1).val - 1, by have : (y 1).val < 16 := (y 1).isLt; omega⟩ (y 2)) else 0

/-- A row of gains or scales as one row of a matrix. -/
def rowMat (g : FVec Ideal S2048 .f32) : FVec Ideal S1x2048 .f32 := fun y => g (ix1 (y 1))

/-- The zero word as a number. -/
theorem zeroWord : FloatOps.sitofp (F := Ideal) FTy.f32 0#32 = 0 := by
  show (((0#32 : BitVec 32).toInt : ℝ) : EReal) = 0
  simp

/-- The gain as the region finds it, -/
theorem V_gain : V m c main_v1 = shapeCast S1x2048 (show FVec Ideal S2048 .f32 from m ((c : Thread nD τ).loc main_arg1)) shapeCasts_S2048_S1x2048 := by
  entry_read
  rfl
/-- the scale, -/
theorem V_scale : V m c main_v2 = shapeCast S1x2048 (show FVec Ideal S2048 .f32 from m ((c : Thread nD τ).loc main_arg4)) shapeCasts_S2048_S1x2048 := by
  entry_read
  rfl
/-- and the padded state. -/
theorem V_state : V m c main_v0 = pad S8x16x2048 ![0, 1, 0] ![0, 0, 0] ![0, 0, 0] (show FVec Ideal S8x15x2048 .f32 from m ((c : Thread nD τ).loc main_arg2)) (sitofp .f32 (constantI S_ 32 0#32)) pads_S8x15x2048_S8x16x2048_000_100_000 h_S_ := by
  entry_read
  rfl

theorem blk0 (t : Fin cfg0.N) : iblk m c 0 t = X m c := by
  funext y
  obtain ⟨r, d, rfl⟩ : ∃ (r : Fin 64) (d : Fin 2048), y = ix2 r d := ⟨y 0, y 1, eq_ix2 y⟩
  blk_ext [iblk, V, idx_val t]

theorem blk3 (t : Fin cfg0.N) : iblk m c 3 t = Wt m c := by
  funext y
  obtain ⟨g, k, e, rfl⟩ : ∃ (g : Fin 4) (k e : Fin 512), y = ix3 g k e := ⟨y 0, y 1, y 2, eq_ix3 y⟩
  blk_ext [iblk, V, idx_val t]

theorem blk1 (t : Fin cfg0.N) : iblk m c 1 t = rowMat (Gn m c) := by
  funext y
  obtain ⟨d, rfl⟩ : ∃ (d : Fin 2048), y = ix2 0 d :=
    ⟨y 1, (eq_ix2 y).trans (congrArg (fun q : Fin 1 => ix2 q (y 1)) (Subsingleton.elim (α := Fin 1) _ _))⟩
  show _ = Gn m c (ix1 d)
  blk_simp [iblk, idx_val t]
  rw [V_gain]
  pointwise
  blk_ext [idx_val t]

theorem blk4 (t : Fin cfg0.N) : iblk m c 4 t = rowMat (Sc m c) := by
  funext y
  obtain ⟨d, rfl⟩ : ∃ (d : Fin 2048), y = ix2 0 d :=
    ⟨y 1, (eq_ix2 y).trans (congrArg (fun q : Fin 1 => ix2 q (y 1)) (Subsingleton.elim (α := Fin 1) _ _))⟩
  show _ = Sc m c (ix1 d)
  blk_simp [iblk, idx_val t]
  rw [V_scale]
  pointwise
  blk_ext [idx_val t]

theorem blk2 (t : Fin cfg0.N) : iblk m c 2 t = stPad (St m c) := by
  funext y
  obtain ⟨b, r, d, rfl⟩ : ∃ (b : Fin 8) (r : Fin 16) (d : Fin 2048), y = ix3 b r d := ⟨y 0, y 1, y 2, eq_ix3 y⟩
  blk_simp [iblk, idx_val t]
  have hy : ((cfg0.win 2).blk t).view.emb (ix3 b r d) = (ix3 b r d : S8x16x2048.Idx) := by
    have h := idx_val t
    blk_ext [idx_val t]
  refine (congrArg (V m c main_v0) hy).trans ?_
  rw [V_state]
  pointwise [stPad]
  by_cases h : 1 ≤ r.val
  · rw [dif_pos (show 1 ≤ r.val ∧ r.val - 1 < 15 by omega), dif_pos h]
  · rw [dif_neg (by omega), dif_neg h]
    exact zeroWord

/-- The first array the kernel computes, -/
def G5 : FVec Ideal S64x2048 .f32 := resB (X m c) (rowMat (Gn m c)) (stPad (St m c)) (Wt m c) (rowMat (Sc m c))
/-- and the second. -/
def G6 : FVec Ideal S8x24x2048 .f32 := seqB (X m c) (rowMat (Gn m c)) (stPad (St m c))

theorem final5 : (dats m 0 c).arrAt 5 cfg0.N = G5 m c := by
  refine (dats m 0 c).arrAt_eq_of_covers 5 _ (by decide +kernel) fun t _ y => ?_
  obtain ⟨r, d, rfl⟩ : ∃ (r : Fin 64) (d : Fin 2048), y = ix2 r d := ⟨y 0, y 1, eq_ix2 y⟩
  have e : (dats m 0 c).after 5 t = G5 m c := by
    rw [after0_5]
    unfold outsAt0
    dsimp only
    rw [out_5, blk0, blk1, blk2, blk3, blk4]
    rfl
  have hy : ((cfg0.win 5).blk t).view.emb (ix2 r d) = (ix2 r d : S64x2048.Idx) := by
    have h := idx_val t
    blk_ext [idx_val t]
  rw [hy]
  blk_simp
  rw [e]

theorem final6 : (dats m 0 c).arrAt 6 cfg0.N = G6 m c := by
  refine (dats m 0 c).arrAt_eq_of_covers 6 _ (by decide +kernel) fun t _ y => ?_
  obtain ⟨b, r, d, rfl⟩ : ∃ (b : Fin 8) (r : Fin 24) (d : Fin 2048), y = ix3 b r d := ⟨y 0, y 1, y 2, eq_ix3 y⟩
  have e : (dats m 0 c).after 6 t = G6 m c := by
    rw [after0_6]
    unfold outsAt0
    dsimp only
    rw [out_6, blk0, blk1, blk2]
    rfl
  have hy : ((cfg0.win 6).blk t).view.emb (ix3 b r d) = (ix3 b r d : S8x24x2048.Idx) := by
    have h := idx_val t
    blk_ext [idx_val t]
  rw [hy]
  blk_simp
  rw [e]

/-- The kernel's run, its two result arrays named. -/
theorem run (ρ : Dev nD → PrngReg) : θ_run defs (onTc (τ := τ) (main (F := Ideal))) ⟨m, fun _ => 0, ρ⟩ fun r => ∀ c : Dev nD,
      r.2.mem ((c : Thread nD τ).loc main_v3_0) = G5 m c
      ∧ r.2.mem ((c : Thread nD τ).loc main_v3_1) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩) (run_blocks m ρ)

end

end Cert.PoolSIdeal.Value

end
-- ==== Proof.PoolSRef.lean ====
/-
  The pooling mixer of the short sequences in the reference: its sequences and banded sums read at an index, the sum over a
  window's rows brought to the sum over the window's offsets, and the equations with the kernel's two arrays.
-/
module

public import proofs.«01_k».proof.Proof.PoolS
public import proofs.«01_k».proof.Proof.PoolRef
public import proofs.«01_k».proof.Proof.Gen.PoolSRefIdeal.Run

@[expose] public section

set_option maxRecDepth 16384

noncomputable section

open Idealize.ShloMosaic Idealize.ShloMosaic.TcCoe Idealize.SL.Sem

namespace Cert.PoolSRefIdeal.Value

open Cert.PoolSRefIdeal Cert.PoolSRefIdeal.Gen Cert.Window Cert.Rows
open Cert.PoolRefIdeal.Value (band band_eq)
open Cert.PoolSIdeal.Value (seqAt seqOf seqB stPad rowMat meanAt cntS zOf resOf resB zeroWord)

/-- The eight rows of every sequence, normalised, as the reference composes them. -/
def rowsOf (x : FVec Ideal S64x2048 .f32) (g : FVec Ideal S2048 .f32) : FVec Ideal S8x8x2048 .f32 :=
  mulf (mulf (shapeCast S8x8x2048 x shapeCasts_S64x2048_S8x8x2048) (broadcastInDim S8x8x2048 ![0, 1, 2] bcast_S8x8x1_S8x8x2048_0_1_2 (Host.rsqrt (addf (Host.divf (broadcastInDim S8x8x1 ![0, 1] bcast_S8x8_S8x8x1_0_1 (Host.reduceAdd (mulf (shapeCast S8x8x2048 x shapeCasts_S64x2048_S8x8x2048) (shapeCast S8x8x2048 x shapeCasts_S64x2048_S8x8x2048)) (constant S_ .f32 0x00000000#32) reducesTo_S8x8x2048_S8x8_d2 h_S_)) (broadcastInDim S8x8x1 ![] bcast_S_S8x8x1 (constant S_ .f32 0x45000000#32))) (broadcastInDim S8x8x1 ![] bcast_S_S8x8x1 (constant S_ .f32 0x358637BD#32)))))) (broadcastInDim S8x8x2048 ![0, 1, 2] bcast_S1x1x2048_S8x8x2048_0_1_2 (broadcastInDim S1x1x2048 ![2] bcast_S2048_S1x1x2048_2 g))

theorem rowsOf_at (x : FVec Ideal S64x2048 .f32) (g : FVec Ideal S2048 .f32) (b t : Fin 8) (d : Fin 2048) :
    rowsOf x g (ix3 b t d) = hnAt (fun r j => x (ix2 r j)) (fun j => g (ix1 j)) ⟨8 * b.val + t.val, by omega⟩ d := by
  pointwise [rowsOf, hnAt]
  simp only [Nat.mul_comm b.val 8]

/-- The sequences: the carried rows, then the normalised rows. -/
def seqs (x : FVec Ideal S64x2048 .f32) (g : FVec Ideal S2048 .f32) (st : FVec Ideal S8x15x2048 .f32) : FVec Ideal S8x23x2048 .f32 :=
  concatenate S8x23x2048 1 [⟨S8x15x2048, st⟩, ⟨S8x8x2048, (rowsOf x g)⟩] concatenates_S8x15x2048_S8x8x2048_S8x23x2048_d1

/-- The kernel's sequences have one more row in front. -/
theorem seqs_at (x : FVec Ideal S64x2048 .f32) (g : FVec Ideal S2048 .f32) (st : FVec Ideal S8x15x2048 .f32)
    (b : Fin 8) (n : Fin 23) (j : Fin 2048) : seqs x g st (ix3 b n j) = seqOf x (rowMat g) (stPad st) b (n.val + 1) j := by
  unfold seqOf seqAt
  by_cases h : n.val < 15
  · rw [dif_pos (by omega)]
    pointwise [seqs, stPad, h]
    exact congrArg (fun q => st (ix3 b q j)) (Fin.ext (by show n.val = n.val + 1 - 1; omega))
  · rw [dif_neg (by omega), dif_pos (by omega)]
    have e : rowsOf x g (ix3 b ⟨n.val - 15, by omega⟩ j) = hnAt (fun r j => x (ix2 r j)) (fun j => g (ix1 j)) ⟨8 * b.val + (n.val + 1 - 16), by omega⟩ j := by
      rw [rowsOf_at]
      exact congrArg (fun q => hnAt _ _ q j) (Fin.ext (by show 8 * b.val + (n.val - 15) = 8 * b.val + (n.val + 1 - 16); omega))
    refine Eq.trans ?_ e
    pointwise [seqs, h]

/-- A group's window means less its rows, as the reference composes them. -/
def means (w : BitVec 32) (sl : FVec Ideal S8x23x512 .f32) : FVec Ideal S8x8x512 .f32 :=
  (subf (Host.divf (transpose S8x8x512 [0, 2, 1] (Host.dotGeneral dot_S8x23x512_S8x23_S8x512x8_1_1_02_0_n_n none sl (uitofp .f32 (andi (cmpi .sle (broadcastInDim S8x23 ![0, 1] bcast_S1x23_S8x23_0_1 (broadcastInDim S1x23 ![1] bcast_S23_S1x23_1 (iotaInDim S23 32 0))) (broadcastInDim S8x23 ![0, 1] bcast_S8x1_S8x23_0_1 (addi (broadcastInDim S8x1 ![0] bcast_S8_S8x1_0 (iotaInDim S8 32 0)) (broadcastInDim S8x1 ![] bcast_S_S8x1 (constantI S_ 32 15#32))))) (cmpi .sgt (broadcastInDim S8x23 ![0, 1] bcast_S1x23_S8x23_0_1 (broadcastInDim S1x23 ![1] bcast_S23_S1x23_1 (iotaInDim S23 32 0))) (broadcastInDim S8x23 ![0, 1] bcast_S8x1_S8x23_0_1 (subi (addi (broadcastInDim S8x1 ![0] bcast_S8_S8x1_0 (iotaInDim S8 32 0)) (broadcastInDim S8x1 ![] bcast_S_S8x1 (constantI S_ 32 15#32))) (broadcastInDim S8x1 ![] bcast_S_S8x1 (constantI S_ 32 w)))))))) transposes_S8x512x8_S8x8x512_0_2_1) (broadcastInDim S8x8x512 ![0, 1, 2] bcast_S1x8x1_S8x8x512_0_1_2 (broadcastInDim S1x8x1 ![1, 2] bcast_S8x1_S1x8x1_1_2 (broadcastInDim S8x1 ![0] bcast_S8_S8x1_0 (sitofp .f32 (minsi (broadcastInDim S8 ![] bcast_S_S8 (constantI S_ 32 w)) (addi (addi (broadcastInDim S8 ![] bcast_S_S8 (constantI S_ 32 16384#32)) (iotaInDim S8 32 0)) (broadcastInDim S8 ![] bcast_S_S8 (constantI S_ 32 1#32))))))))) (extractStridedSlice S8x8x512 ![0, 15, 0] sl slices_S8x23x512_S8x8x512_0_15_0))

theorem means_at (w : BitVec 32) (sl : FVec Ideal S8x23x512 .f32) (b t : Fin 8) (d : Fin 512) :
    means w sl (ix3 b t d) = Ideal.div (∑ s : Fin 23, sl (ix3 b s d) * band w (t.val + 15) s.val)
      (FloatOps.sitofp (F := Ideal) FTy.f32 (IntOp.minsi w (IntOp.addi (IntOp.addi 16384#32 (BitVec.ofNat 32 t.val)) 1#32)))
        - sl (ix3 b ⟨15 + t.val, by omega⟩ d) := by
  have e : BitVec.ofNat 32 (t.val + 15) = IntOp.addi (BitVec.ofNat 32 t.val) 15#32 := (addi_ofNat _ _).symm
  unfold band
  rw [e]
  pointwise [means]

/-- The four groups' values side by side. -/
def stack (u0 u1 u2 u3 : FVec Ideal S8x8x512 .f32) : FVec Ideal S8x8x4x512 .f32 :=
  (concatenate S8x8x4x512 2 [⟨S8x8x1x512, ((broadcastInDim S8x8x1x512 ![0, 1, 3] bcast_S8x8x512_S8x8x1x512_0_1_3 u0) : (⟨S8x8x1x512, .f32⟩ : BufTy).Contents (Elt Ideal))⟩, ⟨S8x8x1x512, ((broadcastInDim S8x8x1x512 ![0, 1, 3] bcast_S8x8x512_S8x8x1x512_0_1_3 u1) : (⟨S8x8x1x512, .f32⟩ : BufTy).Contents (Elt Ideal))⟩, ⟨S8x8x1x512, ((broadcastInDim S8x8x1x512 ![0, 1, 3] bcast_S8x8x512_S8x8x1x512_0_1_3 u2) : (⟨S8x8x1x512, .f32⟩ : BufTy).Contents (Elt Ideal))⟩, ⟨S8x8x1x512, ((broadcastInDim S8x8x1x512 ![0, 1, 3] bcast_S8x8x512_S8x8x1x512_0_1_3 u3) : (⟨S8x8x1x512, .f32⟩ : BufTy).Contents (Elt Ideal))⟩] concatenates_S8x8x1x512_S8x8x1x512_S8x8x1x512_S8x8x1x512_S8x8x4x512_d2 : (⟨S8x8x4x512, .f32⟩ : BufTy).Contents (Elt Ideal))

theorem stack_at (u0 u1 u2 u3 : FVec Ideal S8x8x512 .f32) (b t : Fin 8) (g : Fin 4) (k : Fin 512) :
    stack u0 u1 u2 u3 (ix4 b t g k) = (![u0, u1, u2, u3] g) (ix3 b t k) := by
  match g with
  | ⟨0, _⟩ => pointwise [stack]
  | ⟨1, _⟩ => pointwise [stack]
  | ⟨2, _⟩ => pointwise [stack]
  | ⟨3, _⟩ => pointwise [stack]

/-- The sum over the window's rows is the sum over its offsets. -/
theorem band_sum (f : ℕ → EReal) (w t : ℕ) (hw : w ≤ 16) (ht : t < 8) :
    ∑ s : Fin 23, f (s.val + 1) * band (BitVec.ofNat 32 w) (t + 15) s.val = ∑ k ∈ Finset.range w, f (16 - k + t) := by
  have hk : ∀ k ∈ Finset.range w, f (16 - k + t) = ∑ s : Fin 23, if s.val + k = t + 15 then f (s.val + 1) else 0 := by
    intro k hk
    have hk' := Finset.mem_range.mp hk
    rw [Finset.sum_eq_single (⟨t + 15 - k, by omega⟩ : Fin 23)]
    · rw [if_pos (by show t + 15 - k + k = t + 15; omega)]
      exact congrArg f (by show 16 - k + t = t + 15 - k + 1; omega)
    · intro s _ hne
      rw [if_neg]
      intro e; exact hne (Fin.ext (by show s.val = t + 15 - k; omega))
    · intro hm; exact absurd (Finset.mem_univ _) hm
  rw [Finset.sum_congr rfl hk, Finset.sum_comm]
  refine Finset.sum_congr rfl fun s _ => ?_
  rw [band_eq w (t + 15) s.val hw (by omega) (by omega)]
  by_cases hb : s.val ≤ t + 15 ∧ t + 15 < s.val + w
  · rw [if_pos hb, mul_one, Finset.sum_eq_single (t + 15 - s.val)]
    · rw [if_pos (by omega)]
    · intro k _ hne
      rw [if_neg (by omega)]
    · intro hm; exact absurd (Finset.mem_range.mpr (by omega)) hm
  · rw [if_neg hb, mul_zero, Finset.sum_eq_zero]
    intro k hk
    have := Finset.mem_range.mp hk
    rw [if_neg (by omega)]

/-- A group's window means less its rows are the kernel's, over any sequence the group's rows are taken from. -/
theorem means_eq (w : ℕ) (hw : w ≤ 16) (sl : FVec Ideal S8x23x512 .f32) (f : ℕ → EReal) (b t : Fin 8) (d : Fin 512)
    (hf : ∀ n : Fin 23, sl (ix3 b n d) = f (n.val + 1)) : means (BitVec.ofNat 32 w) sl (ix3 b t d) = meanAt w f t.val := by
  rw [means_at]
  unfold meanAt
  simp only [hf]
  rw [band_sum f w t.val hw t.isLt]
  exact congrArg₂ (· - ·) rfl (congrArg f (by show 15 + t.val + 1 = 16 + t.val; omega))

/-- The whole mixer, as the reference composes it, -/
def out (x : FVec Ideal S64x2048 .f32) (g : FVec Ideal S2048 .f32) (st : FVec Ideal S8x15x2048 .f32) (w : FVec Ideal S4x512x512 .f32)
    (s : FVec Ideal S2048 .f32) : FVec Ideal S64x2048 .f32 :=
  addf x (mulf (shapeCast _ (transpose S8x8x4x512 [2, 3, 0, 1] (Host.dotGeneral dot_S4x512x512_S8x8x4x512_S4x512x8x8_1_3_2_01_0_2 none w (stack
      (means 2#32 (extractStridedSlice S8x23x512 ![0, 0, 0] (seqs x g st) slices_S8x23x2048_S8x23x512_0_0_0))
      (means 4#32 (extractStridedSlice S8x23x512 ![0, 0, 512] (seqs x g st) slices_S8x23x2048_S8x23x512_0_0_512))
      (means 8#32 (extractStridedSlice S8x23x512 ![0, 0, 1024] (seqs x g st) slices_S8x23x2048_S8x23x512_0_0_1024))
      (means 16#32 (extractStridedSlice S8x23x512 ![0, 0, 1536] (seqs x g st) slices_S8x23x2048_S8x23x512_0_0_1536)))) transposes_S4x512x8x8_S8x8x4x512_2_3_0_1) shapeCasts_S8x8x4x512_S64x2048) (broadcastInDim S64x2048 ![0, 1] bcast_S1x2048_S64x2048_0_1 (broadcastInDim S1x2048 ![1] bcast_S2048_S1x2048_1 s)))
/-- and its padded sequences. -/
def outSeq (x : FVec Ideal S64x2048 .f32) (g : FVec Ideal S2048 .f32) (st : FVec Ideal S8x15x2048 .f32) : FVec Ideal S8x24x2048 .f32 :=
  pad S8x24x2048 ![0, 1, 0] ![0, 0, 0] ![0, 0, 0] (seqs x g st) (sitofp .f32 (constantI S_ 32 0#32)) pads_S8x23x2048_S8x24x2048_000_100_000 h_S_

/-- The padded sequences are the kernel's block. -/
theorem outSeq_eq (x : FVec Ideal S64x2048 .f32) (g : FVec Ideal S2048 .f32) (st : FVec Ideal S8x15x2048 .f32) :
    outSeq x g st = seqB x (rowMat g) (stPad st) := by
  funext y
  obtain ⟨b, r, d, rfl⟩ : ∃ (b : Fin 8) (r : Fin 24) (d : Fin 2048), y = ix3 b r d := ⟨y 0, y 1, y 2, eq_ix3 y⟩
  show _ = seqOf x (rowMat g) (stPad st) b r.val d
  by_cases h : 1 ≤ r.val
  · have e := seqs_at x g st b ⟨r.val - 1, by omega⟩ d
    have e' : r.val - 1 + 1 = r.val := by omega
    simp only [e'] at e
    refine Eq.trans ?_ e
    pointwise [outSeq]
    rw [dif_pos (show 1 ≤ r.val ∧ r.val - 1 < 23 by omega)]
  · have h0 : r.val = 0 := by omega
    have e : seqOf x (rowMat g) (stPad st) b r.val d = 0 := by
      unfold seqOf seqAt
      rw [dif_pos (by omega)]
      exact dif_neg h
    rw [e]
    refine Eq.trans ?_ zeroWord
    pointwise [outSeq]
    rw [dif_neg (by omega)]

/-- The mixer's result is the kernel's block. -/
theorem out_eq (x : FVec Ideal S64x2048 .f32) (g : FVec Ideal S2048 .f32) (st : FVec Ideal S8x15x2048 .f32) (w : FVec Ideal S4x512x512 .f32)
    (s : FVec Ideal S2048 .f32) : out x g st w s = resB x (rowMat g) (stPad st) w (rowMat s) := by
  funext y
  obtain ⟨r, j, rfl⟩ : ∃ (r : Fin 64) (j : Fin 2048), y = ix2 r j := ⟨y 0, y 1, eq_ix2 y⟩
  show _ = resOf x (rowMat g) (stPad st) w (rowMat s) r j
  unfold resOf
  pointwise [out]
  have hq : ∀ (q : Fin 4) (k : Fin 512), (![means 2#32 (extractStridedSlice S8x23x512 ![0, 0, 0] (seqs x g st) slices_S8x23x2048_S8x23x512_0_0_0),
      means 4#32 (extractStridedSlice S8x23x512 ![0, 0, 512] (seqs x g st) slices_S8x23x2048_S8x23x512_0_0_512),
      means 8#32 (extractStridedSlice S8x23x512 ![0, 0, 1024] (seqs x g st) slices_S8x23x2048_S8x23x512_0_0_1024),
      means 16#32 (extractStridedSlice S8x23x512 ![0, 0, 1536] (seqs x g st) slices_S8x23x2048_S8x23x512_0_0_1536)] q)
        (ix3 (⟨r.val / 8, by omega⟩ : Fin 8) (⟨r.val % 8, by omega⟩ : Fin 8) k)
      = meanAt (widthOf q.val) (fun n => seqOf x (rowMat g) (stPad st) ⟨r.val / 8, by omega⟩ n ⟨512 * q.val + k.val, by omega⟩) (r.val % 8) := by
    intro q k
    match q with
    | ⟨0, _⟩ =>
      refine means_eq 2 (by omega) _ (fun n => seqOf x (rowMat g) (stPad st) _ n ⟨512 * 0 + k.val, by omega⟩) _ _ k fun n => ?_
      refine Eq.trans ?_ (seqs_at x g st _ n _)
      pointwise
      blk_ext []
    | ⟨1, _⟩ =>
      refine means_eq 4 (by omega) _ (fun n => seqOf x (rowMat g) (stPad st) _ n ⟨512 * 1 + k.val, by omega⟩) _ _ k fun n => ?_
      refine Eq.trans ?_ (seqs_at x g st _ n _)
      pointwise
      blk_ext []
    | ⟨2, _⟩ =>
      refine means_eq 8 (by omega) _ (fun n => seqOf x (rowMat g) (stPad st) _ n ⟨512 * 2 + k.val, by omega⟩) _ _ k fun n => ?_
      refine Eq.trans ?_ (seqs_at x g st _ n _)
      pointwise
      blk_ext []
    | ⟨3, _⟩ =>
      refine means_eq 16 (by omega) _ (fun n => seqOf x (rowMat g) (stPad st) _ n ⟨512 * 3 + k.val, by omega⟩) _ _ k fun n => ?_
      refine Eq.trans ?_ (seqs_at x g st _ n _)
      pointwise
      blk_ext []
  refine congrArg₂ (· + ·) rfl (congrArg₂ (· * ·) (Finset.sum_congr rfl fun k _ => ?_) rfl)
  rw [stack_at, mul_comm]
  refine congrArg₂ (· * ·) ?_ rfl
  have e : (512 * (j.val / 512) + k.val) / 512 = j.val / 512 := by omega
  unfold zOf
  simp only [e]
  exact hq ⟨j.val / 512, by omega⟩ k

/-- The reference's run, its two results named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v164) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v165) = outSeq (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1, (h c).2.1, (h c).2.2⟩) (run (F := Ideal) m ρ)

section
variable (m : (ℓ : Loc Cert.PoolSIdeal.nD Cert.PoolSIdeal.τ Cert.PoolSIdeal.sig) → Buf (Elt Ideal) ℓ) (c : Dev Cert.PoolSIdeal.nD)

/-- From the same arguments the reference's first result is the kernel's, -/
theorem out_eq_kernel : out (m ((c.tc : Thread Cert.PoolSIdeal.nD Cert.PoolSIdeal.τ).loc Cert.PoolSIdeal.main_arg0)) (m ((c.tc : Thread Cert.PoolSIdeal.nD Cert.PoolSIdeal.τ).loc Cert.PoolSIdeal.main_arg1))
    (m ((c.tc : Thread Cert.PoolSIdeal.nD Cert.PoolSIdeal.τ).loc Cert.PoolSIdeal.main_arg2)) (m ((c.tc : Thread Cert.PoolSIdeal.nD Cert.PoolSIdeal.τ).loc Cert.PoolSIdeal.main_arg3))
    (m ((c.tc : Thread Cert.PoolSIdeal.nD Cert.PoolSIdeal.τ).loc Cert.PoolSIdeal.main_arg4)) = Cert.PoolSIdeal.Value.G5 m c :=
  out_eq _ _ _ _ _
/-- and so is its second. -/
theorem outSeq_eq_kernel : outSeq (m ((c.tc : Thread Cert.PoolSIdeal.nD Cert.PoolSIdeal.τ).loc Cert.PoolSIdeal.main_arg0)) (m ((c.tc : Thread Cert.PoolSIdeal.nD Cert.PoolSIdeal.τ).loc Cert.PoolSIdeal.main_arg1))
    (m ((c.tc : Thread Cert.PoolSIdeal.nD Cert.PoolSIdeal.τ).loc Cert.PoolSIdeal.main_arg2)) = Cert.PoolSIdeal.Value.G6 m c :=
  outSeq_eq _ _ _

end

end Cert.PoolSRefIdeal.Value

end
-- ==== Proof.AmixSFrame.lean ====
/-
  The gated mixer of one row of every eight, its frame: what the result block, the normalised rows' block and the gated
  scratch hold point by point, the proof data over them, the body at every point, the run, and the arguments unchanged at
  its end.
-/
module

public import proofs.«01_k».proof.Proof.AmixSRun
public import Idealize.ShloMosaic.Lib.Claim

@[expose] public section

set_option maxRecDepth 16384

noncomputable section

namespace Cert.AmixS.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AmixS Cert.AmixS.Gen

variable {F : FTy → Type} [FloatOps F]

local notation "𝕄" => MT nD τ sig Unit (Elt F) ℕ (UR sig nD τ) ℕ

section
variable (c : Dev nD) (i : grid0.Coords) (arg2 : Memref sig .tc .vmem S64x512 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S16x64x64 .f32) (harg7 : arg7.IsWhole) (arg8 : Memref sig .tc .vmem S64x2048 .f32) (harg8 : arg8.IsWhole) (arg9 : Memref sig .tc .vmem S2048x512 .f32) (harg9 : arg9.IsWhole) (arg10 : Memref sig .tc .vmem S64x512 .f32) (harg10 : arg10.IsWhole) (arg11 : Memref sig .tc .vmem S64x2048 .f32) (harg11 : arg11.IsWhole) (arg12 : Memref sig .tc .vmem S64x2048 .bf16) (harg12 : arg12.IsWhole) (arg13 : Memref sig .tc .vmem S16x64x64 .bf16) (harg13 : arg13.IsWhole)
    (x0 : Vec F S64x512 .f32) (x1 : Vec F S64x2048 .f32) (x2 : Vec F S64x2048 .f32) (x3 : Vec F S1x2048 .f32) (x4 : Vec F S1x2048 .f32) (x5 : Vec F S16x64x64 .f32) (x6 : Vec F S64x2048 .f32) (x7 : Vec F S2048x512 .f32)

/-- The result's one piece covers its block where the scratch is filled, -/
theorem storeCover (hc0 : fresh i) (y : S64x512.Idx) : ∃ pc ∈ (runStore c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0).1, y ∈ pc.1.set :=
  View.cover_of_tiledL (runStore c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0).1 S64x512.size (by sl_kernel_rfl) y

/-- and where it is kept. -/
theorem keepCover (hc0 : ¬fresh i) (xr : Vec F S64x2048 .f32) (xs1 : Vec F S64x2048 .bf16) (y : S64x512.Idx) : ∃ pc ∈ (runKeep c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0 xr xs1).1, y ∈ pc.1.set :=
  View.cover_of_tiledL (runKeep c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0 xr xs1).1 S64x512.size (by sl_kernel_rfl) y

/-- The heads' pieces of the four trips tile the gated scratch. -/
theorem storeCoverG (hc0 : fresh i) (y : S64x2048.Idx) : ∃ pc ∈ (runStore c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0).2.2.1, y ∈ pc.1.set :=
  View.cover_of_tiledL (runStore c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0).2.2.1 S64x128.size (by sl_kernel_rfl) y

/-- The normalised rows' one piece covers their block. -/
theorem storeCoverR (hc0 : fresh i) (y : S64x2048.Idx) : ∃ pc ∈ (runStore c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0).2.1, y ∈ pc.1.set :=
  View.cover_of_tiledL (runStore c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0).2.1 S64x2048.size (by sl_kernel_rfl) y

/-- What the result block holds after a point that fills the scratch, -/
def storeOut (hc0 : fresh i) : Vec F S64x512 .f32 :=
  outView.read (Elt F) (outView.writes (Elt F) outView.junk (runStore c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0).1)

/-- after one that keeps it, -/
def keepOut (hc0 : ¬fresh i) (xr : Vec F S64x2048 .f32) (xs1 : Vec F S64x2048 .bf16) : Vec F S64x512 .f32 :=
  outView.read (Elt F) (outView.writes (Elt F) outView.junk (runKeep c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0 xr xs1).1)

/-- and what the scratch holds after a point that fills it. -/
def storeGated (hc0 : fresh i) : Vec F S64x2048 .bf16 :=
  gatedView.read (Elt F) (gatedView.writes (Elt F) gatedView.junk (runStore c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0).2.2.1)

/-- What the normalised rows' block holds after such a point. -/
def storeRows (hc0 : fresh i) : Vec F S64x2048 .f32 :=
  rowsView.read (Elt F) (rowsView.writes (Elt F) rowsView.junk (runStore c i arg2 harg2 arg3 harg3 arg4 harg4 arg5 harg5 arg6 harg6 arg7 harg7 arg8 harg8 arg9 harg9 arg10 harg10 arg11 harg11 arg12 harg12 arg13 harg13 x0 x1 x2 x3 x4 x5 x6 x7 hc0).2.1)

end

variable (m : (ℓ : Loc nD τ sig) → Buf (Elt F) ℓ) (ρ : Dev nD → PrngReg)

/-! ## Point by point -/

/-- The first point of a row block: the result block and the gated scratch it leaves. -/
def storeAt (c : Dev nD) (t : Fin cfg0.N) (h0 : t.val % 4 = 0) : Vec F S64x512 .f32 × Vec F S64x2048 .f32 × Vec F S64x2048 .bf16 :=
  (storeOut c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((fresh_iff t).mpr h0),
   storeRows c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((fresh_iff t).mpr h0),
   storeGated c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((fresh_iff t).mpr h0))

/-- Another point: the result block over the scratch `g`. -/
def keepAt (c : Dev nD) (t : Fin cfg0.N) (h0 : ¬t.val % 4 = 0) (g : Vec F S64x2048 .f32 × Vec F S64x2048 .bf16) : Vec F S64x512 .f32 :=
  keepOut c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) (fun h => h0 ((fresh_iff t).mp h)) g.1 g.2

/-- The result block and the gated scratch after the body at position `n`. -/
def outsAt (c : Dev nD) : (n : ℕ) → n < cfg0.N → Vec F S64x512 .f32 × Vec F S64x2048 .f32 × Vec F S64x2048 .bf16
  | 0, hn => storeAt m c ⟨0, hn⟩ (Nat.zero_mod 4)
  | n + 1, hn =>
    if h0 : (n + 1) % 4 = 0 then storeAt m c ⟨n + 1, hn⟩ h0
    else (keepAt m c ⟨n + 1, hn⟩ h0 (outsAt c n (Nat.lt_of_succ_lt hn)).2, (outsAt c n (Nat.lt_of_succ_lt hn)).2)

theorem outsAt_store (c : Dev nD) (t : Fin cfg0.N) (h0 : t.val % 4 = 0) : outsAt m c t.val t.isLt = storeAt m c t h0 := by
  obtain ⟨n, hn⟩ := t
  cases n with
  | zero => exact rfl
  | succ n => exact dif_pos h0

theorem outsAt_keep (c : Dev nD) (t : Fin cfg0.N) (h0 : ¬t.val % 4 = 0) :
    outsAt m c t.val t.isLt = (keepAt m c t h0 (outsAt m c (t.val - 1) (by omega)).2, (outsAt m c (t.val - 1) (by omega)).2) := by
  obtain ⟨n, hn⟩ := t
  cases n with
  | zero => exact absurd (Nat.zero_mod 4) h0
  | succ n => exact dif_neg h0

/-! ## The invariant and the proof data -/

/-- The region's invariant at its ends, the two scratch buffers at some contents. -/
theorem PhiA_eq (c : Dev nD) : (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Between points the gated scratch holds what the last point left; the weights' scratch anything. -/
def PhiS (c : Dev nD) : (n : ℕ) → n ≤ cfg0.N → sProp 𝕄
  | 0, _ => Pipeline.ΦA spec0 c
  | n + 1, hn => iprop(iprop(owns (c : Thread nD τ) scM0 fullShare ((outsAt m c n hn).2.2) ∗ (∃ d, owns (c : Thread nD τ) scM1 fullShare d)) ∗ (∃ r, prngReg c r))

theorem PhiS_succ (c : Dev nD) (n : ℕ) (hn : n < cfg0.N) :
    PhiS m c (n + 1) hn = iprop(iprop(owns (c : Thread nD τ) scM0 fullShare ((outsAt m c n hn).2.2) ∗ (∃ d, owns (c : Thread nD τ) scM1 fullShare d)) ∗ (∃ r, prngReg c r)) := rfl

theorem PhiS_pos (c : Dev nD) (n : ℕ) (h : n ≤ cfg0.N) (hz : n ≠ 0) :
    PhiS m c n h = iprop(iprop(owns (c : Thread nD τ) scM0 fullShare ((outsAt m c (n - 1) (by omega)).2.2) ∗ (∃ d, owns (c : Thread nD τ) scM1 fullShare d)) ∗ (∃ r, prngReg c r)) := by
  cases n with
  | zero => exact absurd rfl hz
  | succ n => rfl

/-- What the scratch holds may be forgotten. -/
theorem PhiS_any (c : Dev nD) (n : ℕ) (h : n ≤ cfg0.N) : PhiS m c n h ⊢ Pipeline.ΦA spec0 c := by
  cases n with
  | zero => exact .rfl
  | succ n =>
    rw [PhiS_succ, PhiA_eq]
    iintro ⟨⟨HS1, HS2⟩, Hg⟩
    isplitl [HS1 HS2]
    · isplitl [HS1]
      · iexists _; iexact HS1
      iexact HS2
    iexact Hg

/-- The proof data: the inputs' windows hold their blocks, the result's what `outsAt` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).1
    | ⟨9, _⟩ => (outsAt m c t.val t.isLt).2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt m c t.val t.isLt).1 := by dsimp only [dats]

theorem after0_9 (c : Dev nD) (t : Fin cfg0.N) : (dats m 0 c).after 9 t = (outsAt m c t.val t.isLt).2.1 := by dsimp only [dats]

/-- The normalised rows' window is idle but at the first of the four points. -/
theorem idle9 (t : Fin cfg0.N) : cfg0.idle 9 (grid0.coords t) = !(k0_cond1 (grid0.coords t) == 1#1) := rfl

theorem idle9_fresh (t : Fin cfg0.N) (h0 : t.val % 4 = 0) : cfg0.idle 9 (cfg0.grid.coords t) = false := by
  have h : k0_cond1 (grid0.coords t) = 1#1 := (fresh_iff t).mpr h0
  refine (idle9 t).trans ?_
  rw [h]; rfl

theorem idle9_keep (t : Fin cfg0.N) (h0 : ¬t.val % 4 = 0) : cfg0.idle 9 (cfg0.grid.coords t) = true := by
  have h : ¬k0_cond1 (grid0.coords t) = 1#1 := fun h => h0 ((fresh_iff t).mp h)
  refine (idle9 t).trans ?_
  rw [beq_eq_false_iff_ne.mpr h]; rfl

theorem flush9_before (t : Fin cfg0.N) (h0 : ¬t.val % 4 = 0) :
    (cfg0.win 9).flush ⟨t.val - 1, Nat.lt_of_le_of_lt (Nat.sub_le _ _) t.isLt⟩ = false :=
  Bool.eq_false_iff.mpr fun h => by have := (flush0_9 _).mp h; dsimp only at this; omega

theorem before0_9_pos (c : Dev nD) (t : Fin cfg0.N) (h0 : ¬t.val % 4 = 0) (d) :
    (dats m 0 c).before 9 t d = (dats m 0 c).left 9 ⟨t.val - 1, Nat.lt_of_le_of_lt (Nat.sub_le _ _) t.isLt⟩ d := by
  rw [(dats m 0 c).before_of_pos 9 t (by omega) ((cfg0.win 9).fetch_out rfl t), flush9_before t h0]
  exact if_neg Bool.false_ne_true

/-- Every point leaves in their buffer what the first point put there. -/
theorem left0_9 (c : Dev nD) : ∀ (n : ℕ) (hn : n < cfg0.N) (d), (dats m 0 c).left 9 ⟨n, hn⟩ d = (outsAt m c n hn).2.1 := by
  intro n
  induction n with
  | zero =>
    intro hn d
    unfold Dat.left; rw [idle9_fresh ⟨0, hn⟩ rfl]
    unfold Dat.kept
    dsimp only
    rw [Pipeline.fill_of_clip_none 9 _ (fun _ => rfl) d ((dats m 0 c).after 9 ⟨0, hn⟩), Pipeline.Window.fill_cut]
    exact after0_9 m c ⟨0, hn⟩
  | succ n ih =>
    intro hn d
    have hN : n + 1 < 4 := Nat.lt_of_lt_of_eq hn N_0
    have h0 : ¬(n + 1) % 4 = 0 := by omega
    unfold Dat.left; rw [idle9_keep ⟨n + 1, hn⟩ h0]
    dsimp only
    rw [before0_9_pos m c ⟨n + 1, hn⟩ h0 d]
    refine (ih _ d).trans ?_
    exact (congrArg (·.2.1) (outsAt_keep m c ⟨n + 1, hn⟩ h0)).symm

/-- Where the normalised rows are kept, their block holds what the last point left. -/
theorem before0_9_keep (c : Dev nD) (t : Fin cfg0.N) (h0 : ¬t.val % 4 = 0) (d) :
    (dats m 0 c).before 9 t d = (outsAt m c (t.val - 1) (by omega)).2.1 :=
  (before0_9_pos m c t h0 d).trans (left0_9 m c _ _ d)

/-- So the body leaves what is asked of it there. -/
theorem leaves9 (c : Dev nD) (t : Fin cfg0.N) :
    owns (c : Thread nD τ) (ms9 t) fullShare ((dats m 0 c).after 9 t) ⊢ ((dats m 0 c).leavesExact 9 t : sProp 𝕄) := by
  unfold Dat.leavesExact
  by_cases h0 : t.val % 4 = 0
  · rw [idle9_fresh t h0]
  · rw [idle9_keep t h0]
    cases hf : (cfg0.win 9).flush t
    · have e : (dats m 0 c).after 9 t = (dats m 0 c).before 9 t ((dats m 0 c).after 9 t) := by
        rw [before0_9_keep m c t h0, after0_9, outsAt_keep m c t h0]
      dsimp only
      iintro H
      iexists (dats m 0 c).after 9 t
      rw [← e]
      iexact H
    · exact .rfl

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body at every point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 9600000 in
/-- The body at point `t`: the run of the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ, PhiS_castSucc m c t]
  by_cases h0 : t.val % 4 = 0
  · refine (sep_mono_left (PhiS_any m c _ _)).trans ?_
    rw [PhiA_eq, outsAt_store m c t h0]
    unfold storeAt storeOut storeRows storeGated; dsimp only
    iintro ⟨⟨⟨HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%ds0, HS0⟩⟩
    iapply ((runStore c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((fresh_iff t).mpr h0)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexists _; iexact HS0
    isplitl [HS1]; · iexact HS1
    isplitl [HS2]; · iexact HS2
    iintro ⟨H0, H1, H2, H3, H4, H5, H6, H7, ⟨%e8, H8⟩, ⟨%es0, HS0⟩, ⟨%es1, HS1⟩, HS2⟩
    isplitl [HS1 HS2 Hg]
    · isplitl [HS1 HS2]
      · isplitl [HS1]
        · unfold owns; iexists _; isplitr
          swap; · iexact HS1
          ipureintro; exact View.read_writes_of_cover _ _ _ _ _ (storeCoverG c _ _ _ _ _ _ _ _ _ _ _ _ _ _ _ _ _ _ _ _ _ _ _ _ _ _ _ _ _ _ _ _ _ _)
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (storeCover c _ _ _ _ _ _ _ _ _ _ _ _ _ _ _ _ _ _ _ _ _ _ _ _ _ _ _ _ _ _ _ _ _ _)
    unfold owns; iexists _; isplitr
    swap; · iexact HS0
    ipureintro; exact View.read_writes_of_cover _ _ _ _ _ (storeCoverR c _ _ _ _ _ _ _ _ _ _ _ _ _ _ _ _ _ _ _ _ _ _ _ _ _ _ _ _ _ _ _ _ _ _)
  · rw [PhiS_pos m c _ _ (fun hz => h0 (by rw [hz])), outsAt_keep m c t h0]
    simp only [before0_9_keep m c t h0]
    unfold keepAt keepOut; dsimp only
    iintro ⟨⟨⟨HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%ds0, HS0⟩⟩
    iapply ((runKeep c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => h0 ((fresh_iff t).mp h)) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    iintro ⟨H0, H1, H2, H3, H4, H5, H6, H7, ⟨%e8, H8⟩, HS0, HS1, HS2⟩
    isplitl [HS1 HS2 Hg]
    · isplitl [HS1 HS2]
      · isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (keepCover c _ _ _ _ _ _ _ _ _ _ _ _ _ _ _ _ _ _ _ _ _ _ _ _ _ _ _ _ _ _ _ _ _ _ _ _)
    iexact HS0

theorem defs₀_row (t : Fin cfg0.N) :
    defs₀ (F := F) .tc cfg0.body (cfg0.bodyArgs t (cfg0.slots t)) = bodyAt0 t := by
  unfold defs₀; rw [Defs.onTc_tc]

/-- The body's obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => sep_mono .rfl (sep_mono .rfl (sep_mono .rfl (sep_mono .rfl (sep_mono .rfl (sep_mono .rfl (sep_mono .rfl (sep_mono .rfl (sep_mono .rfl (sep_mono .rfl (sep_mono .rfl (leaves9 m c t)))))))))))

theorem hin (c : Dev nD) : Pipeline.ΦA spec0 c ⊢ (dats m 0 c).Φ 0 := .rfl

theorem hout (c : Dev nD) : (dats m 0 c).Φ (Fin.last cfg0.N) ⊢ Pipeline.ΦA spec0 c :=
  PhiS_any m c cfg0.N le_rfl

/-! ## The run and the frame -/

/-- What a final state satisfies: the arrays as the proof data say. -/
abbrev Post (r : PUnit × MemSt nD τ sig (Elt F)) : Prop := Pipeline.FramePost cfgs (dats m) 0 (V m) r

set_option backward.isDefEq.respectTransparency.types false in
/-- The launch: every execution ends, in such a state, with every counter at zero. -/
theorem run_main : θ_run defs (onTc (τ := τ) (main (F := F))) (s₀ m ρ) (fun r => Post m r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

variable {m ρ}

/-- The arguments end as they began. -/
theorem Post.args {r : PUnit × MemSt nD τ sig (Elt F)} (h : Post m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m 0 c).arrAt_in 0 rfl _).trans ((A_eq m c 0).trans (V_main_arg0 m c))),
   ((h c).1 2).trans (((dats m 0 c).arrAt_in 2 rfl _).trans ((A_eq m c 2).trans (V_main_arg1 m c))),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).1 7).trans (((dats m 0 c).arrAt_in 7 rfl _).trans ((A_eq m c 7).trans (V_main_arg6 m c)))⟩

variable (m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => h.1.args c, h.2⟩) (run_main m ρ)

end Cert.AmixS.Hand

end
-- ==== Proof.AmixSPay.lean ====
/-
  What the gated mixer of one row of every eight computes at a point, over the extended reals: the masked weights, the rows'
  normalisation, the gated rows head by head, and the result's columns.
-/
module

public import proofs.«01_k».proof.Proof.AmixSFrame
public import proofs.«01_k».proof.Proof.AmixPay

@[expose] public section

set_option maxRecDepth 16384

noncomputable section

open Idealize.ShloMosaic Idealize.ShloMosaic.TcCoe Idealize.SL.Sem

namespace Cert.AmixS.Hand

open Cert.AmixS Cert.AmixS.Gen Cert.Rows
open Cert.Amix.Hand (meanAt lnAt headOf)

/-- The rows less their mean, at an index, -/
theorem pay28_at (v : FVec Ideal S64x2048 .f32) (r : Fin 64) (d : Fin 2048) :
    k0_pay28 (F := Ideal) v (ix2 r d) = v (ix2 r d) - meanAt (fun d => v (ix2 r d)) := by
  pointwise [k0_pay28, meanAt]

/-- and normalised. -/
theorem pay29_at (v : FVec Ideal S64x2048 .f32) (g b : FVec Ideal S1x2048 .f32) (r : Fin 64) (d : Fin 2048) :
    k0_pay29 (F := Ideal) (k0_pay28 v) g b (ix2 r d) = lnAt (fun d => v (ix2 r d)) (fun d => g (ix2 0 d)) (fun d => b (ix2 0 d)) d := by
  pointwise [k0_pay29, pay28_at, lnAt, meanAt]

theorem pay30_at (v : FVec Ideal S64x2048 .f32) (g b : FVec Ideal S1x2048 .f32) (r : Fin 64) (d : Fin 2048) :
    k0_pay30 (F := Ideal) (k0_pay28 v) g b (ix2 r d) = lnAt (fun d => v (ix2 r d)) (fun d => g (ix2 0 d)) (fun d => b (ix2 0 d)) d :=
  pay29_at v g b r d

/-- A head's gated rows: its masked weights against its columns of the normalised rows, the bias, the gate. -/
def headPay (w : FVec Ideal S1x64x64 .bf16) (v : FVec Ideal S64x128 .bf16) (b u : FVec Ideal S64x128 .f32) : FVec Ideal S64x128 .bf16 :=
  shapeCast S64x128 (truncf .bf16 (mulf u (addf (matmul dot_S64x64_S64x128_S64x128_1_0_0_1_n_n none
    (shapeCast S64x64 w shapeCasts_S1x64x64_S64x64) v (constant S64x128 .f32 0x00000000#32))
    (shapeCast S64x128 b shapeCasts_S64x128_S64x128))) bitsLt_bf16_f32) shapeCasts_S64x128_S64x128

theorem headPay_at (w : FVec Ideal S1x64x64 .bf16) (v : FVec Ideal S64x128 .bf16) (b u : FVec Ideal S64x128 .f32) (r : Fin 64) (d : Fin 128) :
    headPay w v b u (ix2 r d) = u (ix2 r d) * ((∑ j : Fin 64, w (ix3 0 r j) * v (ix2 j d)) + b (ix2 r d)) := by
  pointwise [headPay]

/-- The result's columns, at an index. -/
theorem pay2_at (x : FVec Ideal S64x512 .f32) (g : FVec Ideal S64x2048 .bf16) (w : FVec Ideal S2048x512 .f32) (r : Fin 64) (d : Fin 512) :
    k0_pay2 (F := Ideal) x g w (ix2 r d) = x (ix2 r d) + ∑ k : Fin 2048, g (ix2 r k) * w (ix2 k d) := by
  pointwise [k0_pay2]

/-- Which weights are kept: not above the diagonal, of the same eight rows, and of their first four columns. -/
abbrev kept (r j : Fin 64) : Prop := j.val ≤ r.val ∧ r.val / 8 = j.val / 8 ∧ j.val % 8 < 4
/-- A masked weight. -/
def maskAt (w : EReal) (r j : Fin 64) : EReal := if kept r j then w else 0

/-- The mask as the body makes it, -/
abbrev maskBits : IVec S64x64 1 := k0_pay8 (iota .tc S64x64 32 [1] iota_S64x64_d1_w32) k0_pay3 k0_pay4 k0_pay5 k0_pay6 k0_pay7

/-- and at an index. -/
theorem maskBits_at : ∀ r j : Fin 64, maskBits (ix2 r j) = if kept r j then 1#1 else 0#1 := by
  decide +kernel

/-- A head's weights with those not kept replaced by zero. -/
def maskPay (w : FVec Ideal S1x64x64 .f32) : FVec Ideal S1x64x64 .bf16 :=
  shapeCast S1x64x64 (truncf .bf16 (select maskBits (shapeCast S64x64 w shapeCasts_S1x64x64_S64x64)
    (broadcast S64x64 (Scalar.ofBits (F := Ideal) .f32 0x00000000#32))) bitsLt_bf16_f32) shapeCasts_S64x64_S1x64x64

theorem maskPay_at (w : FVec Ideal S1x64x64 .f32) (r j : Fin 64) : maskPay w (ix3 0 r j) = maskAt (w (ix3 0 r j)) r j := by
  unfold maskPay
  generalize hB : maskBits = B
  have h := maskBits_at r j
  rw [hB] at h
  pointwise [maskAt, h]
  split <;> rfl

/-- A gated entry: the gate times the head's masked weights against the normalised rows, the bias added. -/
def gateAt (u b : EReal) (w : Fin 64 → EReal) (v : Fin 64 → Fin 2048 → EReal) (g s : Fin 2048 → EReal) (d : Fin 2048) : EReal :=
  u * ((∑ j, w j * lnAt (v j) g s d) + b)

theorem gateAt_congr {u u' b b' : EReal} {w w' : Fin 64 → EReal} {v v' : Fin 64 → Fin 2048 → EReal} {g g' s s' : Fin 2048 → EReal}
    {d : Fin 2048} (hu : u = u') (hb : b = b') (hw : ∀ j, w j = w' j) (hv : ∀ j k, v j k = v' j k) (hg : ∀ k, g k = g' k) (hs : ∀ k, s k = s' k) :
    gateAt u b w v g s d = gateAt u' b' w' v' g' s' d := by
  obtain rfl := hu; obtain rfl := hb; obtain rfl := funext hw; obtain rfl := funext hg; obtain rfl := funext hs
  obtain rfl : v = v' := funext fun j => funext (hv j)
  rfl

/-- The gated rows, from the gate `x1`, the rows `x2`, the gain, the shift, the weights `W` and the bias: row `R`, column `D`, -/
def gatedAt (x1 x2 : FVec Ideal S64x2048 .f32) (x3 x4 : FVec Ideal S1x2048 .f32) (x6 : FVec Ideal S64x2048 .f32)
    (W : FVec Ideal S16x64x64 .bf16) (R : Fin 64) (D : Fin 2048) : EReal :=
  gateAt (x1 (ix2 R D)) (x6 (ix2 R D)) (fun j => W (ix3 (headOf D) R j))
    (fun j d => x2 (ix2 j d)) (fun d => x3 (ix2 0 d)) (fun d => x4 (ix2 0 d)) D
/-- and all of them. -/
def gatedBlk (x1 x2 : Vec Ideal S64x2048 .f32) (x3 x4 : Vec Ideal S1x2048 .f32) (x6 : Vec Ideal S64x2048 .f32)
    (W : Vec Ideal S16x64x64 .bf16) : Vec Ideal S64x2048 .bf16 := fun y => gatedAt x1 x2 x3 x4 x6 W (y 0) (y 1)

/-- The masked weights of all heads. -/
def maskBlk (x5 : Vec Ideal S16x64x64 .f32) : Vec Ideal S16x64x64 .bf16 := fun y =>
  maskAt ((show FVec Ideal S16x64x64 .f32 from x5) (ix3 (y 0) (y 1) (y 2))) (y 1) (y 2)

/-- Where a piece of the gated rows puts its index. -/
theorem emb_head {h : ℕ} (hh : h < 16) {off : Fin 2 → ℕ} (hoff : off = ![0, 128 * h])
    (inb : ∀ a, off a + S64x128.size a ≤ S64x2048.size a) (r : Fin 64) (d : Fin 128) :
    ((Rect.unit (s := S64x2048) off S64x128.size inb).emb (ix2 r d) : S64x2048.Idx) = ix2 r (⟨128 * h + d.val, by omega⟩ : Fin 2048) := by
  subst hoff
  funext a
  apply Fin.ext
  match a with
  | ⟨0, _⟩ => show 0 + 1 * r.val = r.val; omega
  | ⟨1, _⟩ => show 128 * h + 1 * d.val = 128 * h + d.val; omega

/-- The piece of head `h` is the tile of the gated rows under it. -/
theorem head_tile {h : ℕ} (hh : h < 16) {off : Fin 2 → ℕ} (hoff : off = ![0, 128 * h])
    (inb : ∀ a, off a + S64x128.size a ≤ S64x2048.size a)
    (inbW : ∀ a, (![h, 0, 0] : Fin 3 → ℕ) a + S1x64x64.size a ≤ S16x64x64.size a) (hs : S64x2048.Slices off S64x128)
    (x1 x2 : Vec Ideal S64x2048 .f32) (x3 x4 : Vec Ideal S1x2048 .f32) (x6 : Vec Ideal S64x2048 .f32)
    (W : Vec Ideal S16x64x64 .bf16) (x : S64x128.Idx) :
    headPay (View.ld W (Rect.unit ![h, 0, 0] S1x64x64.size inbW))
        (extractStridedSlice S64x128 off (k0_pay30 (k0_pay28 x2) x3 x4) hs)
        (View.ld x6 (Rect.unit off S64x128.size inb)) (View.ld x1 (Rect.unit off S64x128.size inb)) x
      = gatedBlk x1 x2 x3 x4 x6 W ((Rect.unit (s := S64x2048) off S64x128.size inb).emb x) := by
  subst hoff
  obtain ⟨r, d, rfl⟩ : ∃ (r : Fin 64) (d : Fin 128), x = ix2 r d := ⟨x 0, x 1, eq_ix2 x⟩
  refine (headPay_at _ _ _ _ r d).trans ?_
  have hd : headOf (⟨128 * h + d.val, by omega⟩ : Fin 2048) = ⟨h, hh⟩ := Fin.ext (by show (128 * h + d.val) / 128 = h; omega)
  rw [emb_head hh rfl inb r d]
  show _ = gatedAt x1 x2 x3 x4 x6 W r (⟨128 * h + d.val, by omega⟩ : Fin 2048)
  unfold gatedAt
  rw [hd]
  unfold gateAt
  refine congrArg₂ (· * ·) (congrArg x1 (emb_head hh rfl inb r d)) (congrArg₂ (· + ·) (Finset.sum_congr rfl fun j _ => congrArg₂ (· * ·) ?_ ?_)
    (congrArg x6 (emb_head hh rfl inb r d)))
  · refine congrArg W (funext fun a => Fin.ext ?_)
    match a with
    | ⟨0, _⟩ => show h + 1 * 0 = h; omega
    | ⟨1, _⟩ => show 0 + 1 * r.val = r.val; omega
    | ⟨2, _⟩ => show 0 + 1 * j.val = j.val; omega
  · refine (extractStridedSlice_apply _ _ _ _ (ix2 j (⟨128 * h + d.val, by omega⟩ : Fin 2048)) ?_).trans (pay30_at _ _ _ j _)
    intro a
    match a with
    | ⟨0, _⟩ => show j.val = 0 + j.val; omega
    | ⟨1, _⟩ => show 128 * h + d.val = 128 * h + d.val; rfl

/-- A piece of the masked weights is the tile of all heads' under it. -/
theorem mask_tile {h : ℕ} (hh : h < 16) (inb : ∀ a, (![h, 0, 0] : Fin 3 → ℕ) a + S1x64x64.size a ≤ S16x64x64.size a)
    (x5 : Vec Ideal S16x64x64 .f32) (x : S1x64x64.Idx) :
    maskPay (View.ld x5 (Rect.unit ![h, 0, 0] S1x64x64.size inb)) x = maskBlk x5 ((Rect.unit (s := S16x64x64) ![h, 0, 0] S1x64x64.size inb).emb x) := by
  obtain ⟨z, r, j, rfl⟩ : ∃ (z : Fin 1) (r j : Fin 64), x = ix3 z r j := ⟨x 0, x 1, x 2, eq_ix3 x⟩
  obtain rfl : z = 0 := Subsingleton.elim _ _
  have he : ((Rect.unit (s := S16x64x64) ![h, 0, 0] S1x64x64.size inb).emb (ix3 0 r j) : S16x64x64.Idx) = ix3 (⟨h, hh⟩ : Fin 16) r j := by
    funext a
    apply Fin.ext
    match a with
    | ⟨0, _⟩ => show h + 1 * 0 = h; omega
    | ⟨1, _⟩ => show 0 + 1 * r.val = r.val; omega
    | ⟨2, _⟩ => show 0 + 1 * j.val = j.val; omega
  rw [he]
  exact (maskPay_at _ r j).trans (congrArg (fun w => maskAt w r j) (congrArg x5 he))

end Cert.AmixS.Hand

end
-- ==== Proof.AmixSOut.lean ====
/-
  What the points of the gated mixer of one row of every eight leave in the result block, in the normalised rows' block and
  in the gated scratch.
-/
module

public import proofs.«01_k».proof.Proof.AmixSPay

@[expose] public section

set_option maxRecDepth 16384

noncomputable section

open Idealize.ShloMosaic Idealize.ShloMosaic.TcCoe Idealize.SL.Sem

namespace Cert.AmixS.Hand

open Cert.AmixS Cert.AmixS.Gen Cert.Rows

section
variable (c : Dev nD) (i : grid0.Coords) (a2 : Memref sig .tc .vmem S64x512 .f32) (h2 : a2.IsWhole) (a3 : Memref sig .tc .vmem S64x2048 .f32) (h3 : a3.IsWhole) (a4 : Memref sig .tc .vmem S64x2048 .f32) (h4 : a4.IsWhole) (a5 : Memref sig .tc .vmem S1x2048 .f32) (h5 : a5.IsWhole) (a6 : Memref sig .tc .vmem S1x2048 .f32) (h6 : a6.IsWhole) (a7 : Memref sig .tc .vmem S16x64x64 .f32) (h7 : a7.IsWhole) (a8 : Memref sig .tc .vmem S64x2048 .f32) (h8 : a8.IsWhole) (a9 : Memref sig .tc .vmem S2048x512 .f32) (h9 : a9.IsWhole) (a10 : Memref sig .tc .vmem S64x512 .f32) (h10 : a10.IsWhole) (a11 : Memref sig .tc .vmem S64x2048 .f32) (h11 : a11.IsWhole) (a12 : Memref sig .tc .vmem S64x2048 .bf16) (h12 : a12.IsWhole) (a13 : Memref sig .tc .vmem S16x64x64 .bf16) (h13 : a13.IsWhole)

/-- What the first point leaves in the gated scratch: the gated rows. -/
theorem storeGated_eq (x0 : Vec Ideal S64x512 .f32) (x1 x2 : Vec Ideal S64x2048 .f32) (x3 x4 : Vec Ideal S1x2048 .f32) (x5 : Vec Ideal S16x64x64 .f32) (x6 : Vec Ideal S64x2048 .f32) (x7 : Vec Ideal S2048x512 .f32)
    (hc : fresh i) :
    storeGated c i a2 h2 a3 h3 a4 h4 a5 h5 a6 h6 a7 h7 a8 h8 a9 h9 a10 h10 a11 h11 a12 h12 a13 h13 x0 x1 x2 x3 x4 x5 x6 x7 hc = gatedBlk x1 x2 x3 x4 x6 (maskBlk x5) := by
  frame_out
  simp only [View.readCov_eq_canon']
  generalize hM : View.canon (Val := Elt Ideal) (s := S16x64x64) (e := .bf16) _ = W
  obtain rfl : W = maskBlk x5 := by
    rw [← hM]
    refine funext fun y => View.canon_apply_of_pieces (maskBlk x5) _ ?_ y
      (View.cover_of_tiledL (_ : List (View.Piece (Elt Ideal) S16x64x64 .bf16)) S1x64x64.size (by sl_kernel_rfl) y)
    exact List.forall_mem_cons.mpr ⟨mask_tile (h := 15) (by decide) _ x5,
    List.forall_mem_cons.mpr ⟨mask_tile (h := 14) (by decide) _ x5,
    List.forall_mem_cons.mpr ⟨mask_tile (h := 13) (by decide) _ x5,
    List.forall_mem_cons.mpr ⟨mask_tile (h := 12) (by decide) _ x5,
    List.forall_mem_cons.mpr ⟨mask_tile (h := 11) (by decide) _ x5,
    List.forall_mem_cons.mpr ⟨mask_tile (h := 10) (by decide) _ x5,
    List.forall_mem_cons.mpr ⟨mask_tile (h := 9) (by decide) _ x5,
    List.forall_mem_cons.mpr ⟨mask_tile (h := 8) (by decide) _ x5,
    List.forall_mem_cons.mpr ⟨mask_tile (h := 7) (by decide) _ x5,
    List.forall_mem_cons.mpr ⟨mask_tile (h := 6) (by decide) _ x5,
    List.forall_mem_cons.mpr ⟨mask_tile (h := 5) (by decide) _ x5,
    List.forall_mem_cons.mpr ⟨mask_tile (h := 4) (by decide) _ x5,
    List.forall_mem_cons.mpr ⟨mask_tile (h := 3) (by decide) _ x5,
    List.forall_mem_cons.mpr ⟨mask_tile (h := 2) (by decide) _ x5,
    List.forall_mem_cons.mpr ⟨mask_tile (h := 1) (by decide) _ x5,
    List.forall_mem_cons.mpr ⟨mask_tile (h := 0) (by decide) _ x5,
    List.forall_mem_nil _⟩⟩⟩⟩⟩⟩⟩⟩⟩⟩⟩⟩⟩⟩⟩⟩
  clear hM
  refine funext fun y => View.canon_apply_of_pieces (gatedBlk x1 x2 x3 x4 x6 (maskBlk x5)) _ ?_ y
    (View.cover_of_tiledL (_ : List (View.Piece (Elt Ideal) S64x2048 .bf16)) S64x128.size (by sl_kernel_rfl) y)
  exact List.forall_mem_cons.mpr ⟨head_tile (h := 15) (by decide) rfl _ (by decide) (by decide) x1 x2 x3 x4 x6 (maskBlk x5),
    List.forall_mem_cons.mpr ⟨head_tile (h := 14) (by decide) rfl _ (by decide) (by decide) x1 x2 x3 x4 x6 (maskBlk x5),
    List.forall_mem_cons.mpr ⟨head_tile (h := 13) (by decide) rfl _ (by decide) (by decide) x1 x2 x3 x4 x6 (maskBlk x5),
    List.forall_mem_cons.mpr ⟨head_tile (h := 12) (by decide) rfl _ (by decide) (by decide) x1 x2 x3 x4 x6 (maskBlk x5),
    List.forall_mem_cons.mpr ⟨head_tile (h := 11) (by decide) rfl _ (by decide) (by decide) x1 x2 x3 x4 x6 (maskBlk x5),
    List.forall_mem_cons.mpr ⟨head_tile (h := 10) (by decide) rfl _ (by decide) (by decide) x1 x2 x3 x4 x6 (maskBlk x5),
    List.forall_mem_cons.mpr ⟨head_tile (h := 9) (by decide) rfl _ (by decide) (by decide) x1 x2 x3 x4 x6 (maskBlk x5),
    List.forall_mem_cons.mpr ⟨head_tile (h := 8) (by decide) rfl _ (by decide) (by decide) x1 x2 x3 x4 x6 (maskBlk x5),
    List.forall_mem_cons.mpr ⟨head_tile (h := 7) (by decide) rfl _ (by decide) (by decide) x1 x2 x3 x4 x6 (maskBlk x5),
    List.forall_mem_cons.mpr ⟨head_tile (h := 6) (by decide) rfl _ (by decide) (by decide) x1 x2 x3 x4 x6 (maskBlk x5),
    List.forall_mem_cons.mpr ⟨head_tile (h := 5) (by decide) rfl _ (by decide) (by decide) x1 x2 x3 x4 x6 (maskBlk x5),
    List.forall_mem_cons.mpr ⟨head_tile (h := 4) (by decide) rfl _ (by decide) (by decide) x1 x2 x3 x4 x6 (maskBlk x5),
    List.forall_mem_cons.mpr ⟨head_tile (h := 3) (by decide) rfl _ (by decide) (by decide) x1 x2 x3 x4 x6 (maskBlk x5),
    List.forall_mem_cons.mpr ⟨head_tile (h := 2) (by decide) rfl _ (by decide) (by decide) x1 x2 x3 x4 x6 (maskBlk x5),
    List.forall_mem_cons.mpr ⟨head_tile (h := 1) (by decide) rfl _ (by decide) (by decide) x1 x2 x3 x4 x6 (maskBlk x5),
    List.forall_mem_cons.mpr ⟨head_tile (h := 0) (by decide) rfl _ (by decide) (by decide) x1 x2 x3 x4 x6 (maskBlk x5),
    List.forall_mem_nil _⟩⟩⟩⟩⟩⟩⟩⟩⟩⟩⟩⟩⟩⟩⟩⟩

/-- What the first point leaves in the normalised rows' block. -/
theorem storeRows_eq (x0 : Vec Ideal S64x512 .f32) (x1 x2 : Vec Ideal S64x2048 .f32) (x3 x4 : Vec Ideal S1x2048 .f32) (x5 : Vec Ideal S16x64x64 .f32) (x6 : Vec Ideal S64x2048 .f32) (x7 : Vec Ideal S2048x512 .f32)
    (hc : fresh i) :
    storeRows c i a2 h2 a3 h3 a4 h4 a5 h5 a6 h6 a7 h7 a8 h8 a9 h9 a10 h10 a11 h11 a12 h12 a13 h13 x0 x1 x2 x3 x4 x5 x6 x7 hc = k0_pay29 (k0_pay28 x2) x3 x4 := by
  frame_out

/-- What the first point leaves in the result block. -/
theorem storeOut_eq (x0 : Vec Ideal S64x512 .f32) (x1 x2 : Vec Ideal S64x2048 .f32) (x3 x4 : Vec Ideal S1x2048 .f32) (x5 : Vec Ideal S16x64x64 .f32) (x6 : Vec Ideal S64x2048 .f32) (x7 : Vec Ideal S2048x512 .f32)
    (hc : fresh i) :
    storeOut c i a2 h2 a3 h3 a4 h4 a5 h5 a6 h6 a7 h7 a8 h8 a9 h9 a10 h10 a11 h11 a12 h12 a13 h13 x0 x1 x2 x3 x4 x5 x6 x7 hc = k0_pay2 x0 (storeGated c i a2 h2 a3 h3 a4 h4 a5 h5 a6 h6 a7 h7 a8 h8 a9 h9 a10 h10 a11 h11 a12 h12 a13 h13 x0 x1 x2 x3 x4 x5 x6 x7 hc) x7 := by
  frame_out
  rw [View.readCov_eq_canon']
  exact congrArg (fun g => k0_pay2 x0 g x7) (View.ld_unit_zero (Val := Elt Ideal) (S := S64x2048) (e := .bf16) hz2 inb_S64x2048_S64x2048_0_0 _)

/-- What another point leaves in the result block. -/
theorem keepOut_eq (x0 : Vec Ideal S64x512 .f32) (x1 x2 : Vec Ideal S64x2048 .f32) (x3 x4 : Vec Ideal S1x2048 .f32) (x5 : Vec Ideal S16x64x64 .f32) (x6 : Vec Ideal S64x2048 .f32) (x7 : Vec Ideal S2048x512 .f32)
    (hc : ¬fresh i) (xr : Vec Ideal S64x2048 .f32) (xs : Vec Ideal S64x2048 .bf16) :
    keepOut c i a2 h2 a3 h3 a4 h4 a5 h5 a6 h6 a7 h7 a8 h8 a9 h9 a10 h10 a11 h11 a12 h12 a13 h13 x0 x1 x2 x3 x4 x5 x6 x7 hc xr xs = k0_pay2 x0 xs x7 := by
  frame_out

end

end Cert.AmixS.Hand

end
-- ==== Proof.AmixSValue.lean ====
/-
  The two arrays the gated mixer of one row of every eight leaves, over the extended reals: point `t` is column tile `t`; the
  gated scratch and the normalised rows' block hold all 64 rows from the first point on, and every point stores its columns of
  the product.
-/
module

public import proofs.«01_k».proof.Proof.AmixSOut
public import proofs.«01_k».proof.Proof.AmixValue

@[expose] public section

set_option maxRecDepth 16384

noncomputable section

open Idealize.ShloMosaic Idealize.ShloMosaic.TcCoe Idealize.SL.Sem

namespace Cert.AmixS.Hand

open Cert.AmixS Cert.AmixS.Gen Cert.Rows
open Cert.Amix.Hand (meanAt lnAt headOf colU colV)

/-- The windows' block indices at point `t`. -/
theorem idx_val : ∀ t : Fin cfg0.N, win0_0.index t = ![0, t.val] ∧ win0_1.index t = ![0, 0] ∧ win0_2.index t = ![0, 1]
    ∧ win0_3.index t = ![0, 0] ∧ win0_4.index t = ![0, 0] ∧ win0_5.index t = ![0, 0, 0] ∧ win0_6.index t = ![0, 0]
    ∧ win0_7.index t = ![0, t.val] ∧ win0_8.index t = ![0, t.val] ∧ win0_9.index t = ![0, 0] :=
  (by decide +kernel : ∀ t : Fin grid0.N, _)

section
variable (m : (ℓ : Loc nD τ sig) → Buf (Elt Ideal) ℓ) (c : Dev nD)

abbrev X (r : Fin 64) (d : Fin 2048) : EReal := (show FVec Ideal S64x2048 .f32 from m ((c : Thread nD τ).loc main_arg0)) (ix2 r d)
abbrev Z (r : Fin 64) (d : Fin 4096) : EReal := (show FVec Ideal S64x4096 .f32 from m ((c : Thread nD τ).loc main_arg1)) (ix2 r d)
abbrev Lg (d : Fin 2048) : EReal := (show FVec Ideal S2048 .f32 from m ((c : Thread nD τ).loc main_arg2)) (ix1 d)
abbrev Lb (d : Fin 2048) : EReal := (show FVec Ideal S2048 .f32 from m ((c : Thread nD τ).loc main_arg3)) (ix1 d)
abbrev Ws (h : Fin 16) (r j : Fin 128) : EReal := (show FVec Ideal S16x128x128 .f32 from m ((c : Thread nD τ).loc main_arg4)) (ix3 h r j)
abbrev Bs (h : Fin 16) (r : Fin 128) : EReal := (show FVec Ideal S16x128 .f32 from m ((c : Thread nD τ).loc main_arg5)) (ix2 h r)
abbrev Wo (k d : Fin 2048) : EReal := (show FVec Ideal S2048x2048 .f32 from m ((c : Thread nD τ).loc main_arg6)) (ix2 k d)

/-- A row's place among its eight. -/
def inEight (r : Fin 64) : Fin 128 := ⟨r.val % 8, by omega⟩
/-- The tile's column `d` at point `t`, as a column of the array. -/
def colAt (t : Fin cfg0.N) (d : Fin 512) : Fin 2048 := ⟨512 * t.val + d.val, by have := lt_of_lt_of_eq t.isLt N_0; omega⟩

theorem blk0 (t : Fin cfg0.N) (r : Fin 64) (d : Fin 512) :
    (show FVec Ideal S64x512 .f32 from iblk m c 0 t) (ix2 r d) = X m c r (colAt t d) := by
  have h := idx_val t
  blk_ext [iblk, V, idx_val t, colAt]

theorem blk1 (t : Fin cfg0.N) (r : Fin 64) (d : Fin 2048) :
    (show FVec Ideal S64x2048 .f32 from iblk m c 1 t) (ix2 r d) = Z m c r (colU d) := by
  have h := idx_val t
  blk_ext [iblk, V, idx_val t, colU]

theorem blk2 (t : Fin cfg0.N) (r : Fin 64) (d : Fin 2048) :
    (show FVec Ideal S64x2048 .f32 from iblk m c 2 t) (ix2 r d) = Z m c r (colV d) := by
  have h := idx_val t
  blk_ext [iblk, V, idx_val t, colV]

theorem blk3 (t : Fin cfg0.N) (d : Fin 2048) : (show FVec Ideal S1x2048 .f32 from iblk m c 3 t) (ix2 0 d) = Lg m c d := by
  blk_simp [iblk, idx_val t]
  entry_read
  pointwise
  blk_ext [idx_val t]

theorem blk4 (t : Fin cfg0.N) (d : Fin 2048) : (show FVec Ideal S1x2048 .f32 from iblk m c 4 t) (ix2 0 d) = Lb m c d := by
  blk_simp [iblk, idx_val t]
  entry_read
  pointwise
  blk_ext [idx_val t]

theorem blk5 (t : Fin cfg0.N) (h : Fin 16) (r j : Fin 64) :
    (show FVec Ideal S16x64x64 .f32 from iblk m c 5 t) (ix3 h r j) = Ws m c h (inEight r) (inEight j) := by
  blk_simp [iblk, idx_val t]
  entry_read
  pointwise
  have h := idx_val t
  blk_ext [idx_val t, inEight]

theorem blk6 (t : Fin cfg0.N) (r : Fin 64) (d : Fin 2048) :
    (show FVec Ideal S64x2048 .f32 from iblk m c 6 t) (ix2 r d) = Bs m c (headOf d) (inEight r) := by
  blk_simp [iblk, idx_val t]
  entry_read
  pointwise
  have h := idx_val t
  blk_ext [idx_val t, headOf, inEight]

theorem blk7 (t : Fin cfg0.N) (k : Fin 2048) (d : Fin 512) :
    (show FVec Ideal S2048x512 .f32 from iblk m c 7 t) (ix2 k d) = Wo m c k (colAt t d) := by
  have h := idx_val t
  blk_ext [iblk, V, idx_val t, colAt]

/-- The gated row `r` at column `d`. -/
def gated (r : Fin 64) (d : Fin 2048) : EReal :=
  gateAt (Z m c r (colU d)) (Bs m c (headOf d) (inEight r)) (fun j => maskAt (Ws m c (headOf d) (inEight r) (inEight j)) r j)
    (fun j k => Z m c j (colV k)) (Lg m c) (Lb m c) d

/-- The result array, at row `r` and column `d`, -/
def outAt (r : Fin 64) (d : Fin 2048) : EReal := X m c r d + ∑ k : Fin 2048, gated m c r k * Wo m c k d
/-- the normalised rows', -/
def rowsAt (r : Fin 64) (d : Fin 2048) : EReal := lnAt (fun k => Z m c r (colV k)) (Lg m c) (Lb m c) d
/-- and the two whole. -/
def G8 : FVec Ideal S64x2048 .f32 := fun y => outAt m c (y 0) (y 1)
def G9 : FVec Ideal S64x2048 .f32 := fun y => rowsAt m c (y 0) (y 1)

/-- A block's gated rows are the array's. -/
theorem gatedBlk_at (t : Fin cfg0.N) (r : Fin 64) (d : Fin 2048) :
    (show FVec Ideal S64x2048 .bf16 from gatedBlk (iblk m c 1 t) (iblk m c 2 t) (iblk m c 3 t) (iblk m c 4 t) (iblk m c 6 t) (maskBlk (iblk m c 5 t))) (ix2 r d)
      = gated m c r d := by
  unfold gated
  exact gateAt_congr (blk1 m c t r d) (blk6 m c t _ d) (fun j => congrArg (fun w => maskAt w r j) (blk5 m c t _ _ j))
    (fun j k => blk2 m c t j k) (blk3 m c t) (blk4 m c t)

/-- The gated scratch and the normalised rows' block after any point. -/
theorem kept_eq (n : ℕ) (hn : n < cfg0.N) (r : Fin 64) (d : Fin 2048) :
    (show FVec Ideal S64x2048 .bf16 from (outsAt m c n hn).2.2) (ix2 r d) = gated m c r d
    ∧ (show FVec Ideal S64x2048 .f32 from (outsAt m c n hn).2.1) (ix2 r d) = rowsAt m c r d := by
  have hA : ∀ t : Fin cfg0.N, t.val % 4 = 0 → (show FVec Ideal S64x2048 .bf16 from (outsAt m c t.val t.isLt).2.2) (ix2 r d) = gated m c r d
      ∧ (show FVec Ideal S64x2048 .f32 from (outsAt m c t.val t.isLt).2.1) (ix2 r d) = rowsAt m c r d := fun t h0 => by
    have e := congrArg (fun q => q.2.2) (outsAt_store m c t h0)
    have e' := congrArg (fun q => q.2.1) (outsAt_store m c t h0)
    unfold storeAt at e e'
    dsimp only at e e'
    rw [e, e', storeGated_eq, storeRows_eq]
    refine ⟨gatedBlk_at m c t r d, (pay29_at _ _ _ r d).trans ?_⟩
    unfold rowsAt
    exact congr (congr (congr (congrArg lnAt (funext fun k => blk2 m c t r k)) (funext fun k => blk3 m c t k)) (funext fun k => blk4 m c t k)) rfl
  induction n with
  | zero => exact hA ⟨0, hn⟩ rfl
  | succ n ih =>
    have h4 := lt_of_lt_of_eq hn N_0
    have h0 : ¬(n + 1) % 4 = 0 := by omega
    have e := congrArg Prod.snd (outsAt_keep m c ⟨n + 1, hn⟩ h0)
    dsimp only at e
    rw [e]
    exact ih (Nat.lt_of_succ_lt hn)

/-- The result block after any point. -/
theorem out_eq (t : Fin cfg0.N) (r : Fin 64) (d : Fin 512) :
    (show FVec Ideal S64x512 .f32 from (outsAt m c t.val t.isLt).1) (ix2 r d) = outAt m c r (colAt t d) := by
  unfold outAt
  by_cases h0 : t.val % 4 = 0
  · have e := congrArg Prod.fst (outsAt_store m c t h0)
    unfold storeAt at e
    dsimp only at e
    rw [e, storeOut_eq, storeGated_eq]
    refine (pay2_at _ _ _ r d).trans (congrArg₂ (· + ·) (blk0 m c t r d) (Finset.sum_congr rfl fun k _ => ?_))
    exact congrArg₂ (· * ·) (gatedBlk_at m c t r k) (blk7 m c t k d)
  · have e := congrArg Prod.fst (outsAt_keep m c t h0)
    unfold keepAt at e
    dsimp only at e
    rw [e, keepOut_eq]
    have ht := t.isLt
    refine (pay2_at _ _ _ r d).trans (congrArg₂ (· + ·) (blk0 m c t r d) (Finset.sum_congr rfl fun k _ => ?_))
    exact congrArg₂ (· * ·) (kept_eq m c (t.val - 1) (by omega) r k).1 (blk7 m c t k d)

/-- The result array after the last point, -/
theorem final8 : (dats m 0 c).arrAt 8 cfg0.N = G8 m c := by
  refine (dats m 0 c).arrAt_eq_of_covers 8 _ (by decide +kernel) fun t _ y => ?_
  obtain ⟨r, d, rfl⟩ : ∃ (r : Fin 64) (d : Fin 512), y = ix2 r d := ⟨y 0, y 1, eq_ix2 y⟩
  have hy : ((cfg0.win 8).blk t).view.emb (ix2 r d) = (ix2 r (colAt t d) : S64x2048.Idx) := by
    have h := idx_val t
    blk_ext [idx_val t, colAt]
  rw [hy]
  blk_simp
  rw [after0_8]
  exact out_eq m c t r d

/-- and the normalised rows'. -/
theorem final9 : (dats m 0 c).arrAt 9 cfg0.N = G9 m c := by
  refine (dats m 0 c).arrAt_eq_of_covers 9 _ (by decide +kernel) fun t _ y => ?_
  obtain ⟨r, d, rfl⟩ : ∃ (r : Fin 64) (d : Fin 2048), y = ix2 r d := ⟨y 0, y 1, eq_ix2 y⟩
  have hy : ((cfg0.win 9).blk t).view.emb (ix2 r d) = (ix2 r d : S64x2048.Idx) := by
    have h := idx_val t
    blk_ext [idx_val t]
  rw [hy]
  blk_simp
  rw [after0_9]
  exact (kept_eq m c t.val t.isLt r d).2

/-- The kernel's run, its two arrays named. -/
theorem run (ρ : Dev nD → PrngReg) : θ_run defs (onTc (τ := τ) (main (F := Ideal))) ⟨m, fun _ => 0, ρ⟩ fun r => ∀ c : Dev nD,
      r.2.mem ((c.tc : Thread nD τ).loc main_v13_0) = G8 m c
      ∧ r.2.mem ((c.tc : Thread nD τ).loc main_v13_1) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h.1 c).1 8).trans (final8 m c), ((h.1 c).1 9).trans (final9 m c), h.1.args c⟩) (run_main m ρ)

end

end Cert.AmixS.Hand

end
-- ==== Proof.AmixSIdealRun.lean ====
/-
  The idealized form of the gated mixer of one row of every eight is the same program: its definitions and its entry are those of the printed one, so the
  frame and the run proved there are its own.
-/
module

public import proofs.«01_k».proof.Proof.Gen.AmixSIdeal.Frame
public import proofs.«01_k».proof.Proof.AmixSValue

@[expose] public section

set_option maxRecDepth 100000

noncomputable section

open Idealize.ShloMosaic Idealize.ShloMosaic.TcCoe Idealize.SL.Sem

namespace Cert.AmixSIdeal.Hand

/-- The two forms' kernel definitions are the same, -/
theorem defs0_eq {F : FTy → Type} [FloatOps F] : (Cert.AmixSIdeal.defs₀ (F := F)) = (Cert.AmixS.defs₀ (F := F)) := by
  unfold Cert.AmixSIdeal.defs₀ Cert.AmixS.defs₀
  refine congrArg Defs.onTc ?_
  funext l x
  match l, x with
  | 0, (t, s) => rfl

/-- and so are all their definitions. -/
theorem defs_eq {F : FTy → Type} [FloatOps F] : (Cert.AmixSIdeal.defs (F := F)) = (Cert.AmixS.defs (F := F)) := by
  unfold Cert.AmixSIdeal.defs Cert.AmixS.defs
  rw [defs0_eq]; rfl

/-- What holds of every run of the printed program holds of the idealized one's. -/
theorem carry {F : FTy → Type} [FloatOps F] (s : MemSt Cert.AmixS.nD Cert.AmixS.τ Cert.AmixS.sig (Elt F)) (Q)
    (h : θ_run (Cert.AmixS.defs (F := F)) (onTc (τ := Cert.AmixS.τ) (Cert.AmixS.main (F := F))) s Q) :
    θ_run (Cert.AmixSIdeal.defs (F := F)) (onTc (τ := Cert.AmixSIdeal.τ) (Cert.AmixSIdeal.main (F := F))) s Q := by
  rw [defs_eq]; exact h

end Cert.AmixSIdeal.Hand

namespace Cert.AmixSIdeal.Value

open Cert.AmixSIdeal Cert.AmixSIdeal.Hand

/-- What every run keeps: its arguments, and no semaphore left up. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  carry _ _ (Cert.AmixS.Hand.frame (F := F) m ρ)

variable (m : (ℓ : Loc nD τ sig) → Buf (Elt Ideal) ℓ)

/-- The two arrays the mixer leaves. -/
def G8 (c : Dev nD) : FVec Ideal S64x2048 .f32 := Cert.AmixS.Hand.G8 m c
def G9 (c : Dev nD) : FVec Ideal S64x2048 .f32 := Cert.AmixS.Hand.G9 m c

/-- Every run leaves them, and its arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v13_0) = G8 m c
      ∧ r.2.mem ((c.tc : Thread nD τ).loc main_v13_1) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  carry _ _ (Cert.AmixS.Hand.run m ρ)

end Cert.AmixSIdeal.Value

end
-- ==== Proof.AmixSRef.lean ====
/-
  The gated mixer of one row of every eight in the reference: its masked weights, normalised rows and mixed rows read at an
  index, the sum over all 64 rows brought to the sum over a row's own eight, and the equations with the kernel's two arrays.
-/
module

public import proofs.«01_k».proof.Proof.AmixSIdealRun
public import proofs.«01_k».proof.Proof.Gen.AmixSRefIdeal.Run

@[expose] public section

set_option maxRecDepth 16384

noncomputable section

open Idealize.ShloMosaic Idealize.ShloMosaic.TcCoe Idealize.SL.Sem

namespace Cert.AmixSRefIdeal.Value

open Cert.AmixSRefIdeal Cert.AmixSRefIdeal.Gen Cert.AmixS.Hand
open Cert.Amix.Hand (meanAt lnAt headOf colU colV)

/-- Row `t` of batch entry `b`. -/
def rowOf (b t : Fin 8) : Fin 64 := ⟨b.val * 8 + t.val, by omega⟩
/-- One of eight rows, among the weights' 128. -/
def wide (t : Fin 8) : Fin 128 := ⟨t.val, by omega⟩

theorem inEight_rowOf (b t : Fin 8) : inEight (rowOf b t) = wide t := Fin.ext (by show (b.val * 8 + t.val) % 8 = t.val; omega)

/-- The gate's half of the projected rows, -/
def gateOf (z : FVec Ideal S64x4096 .f32) : FVec Ideal S8x8x2048 .f32 :=
  extractStridedSlice S8x8x2048 ![0, 0, 0] (shapeCast _ z shapeCasts_S64x4096_S8x8x4096) slices_S8x8x4096_S8x8x2048_0_0_0
/-- and the mixed half. -/
def valOf (z : FVec Ideal S64x4096 .f32) : FVec Ideal S8x8x2048 .f32 :=
  extractStridedSlice S8x8x2048 ![0, 0, 2048] (shapeCast _ z shapeCasts_S64x4096_S8x8x4096) slices_S8x8x4096_S8x8x2048_0_0_2048

theorem gateOf_at (z : FVec Ideal S64x4096 .f32) (b t : Fin 8) (d : Fin 2048) : gateOf z (ix3 b t d) = z (ix2 (rowOf b t) (colU d)) := by
  pointwise [gateOf, rowOf, colU]
theorem valOf_at (z : FVec Ideal S64x4096 .f32) (b t : Fin 8) (d : Fin 2048) : valOf z (ix3 b t d) = z (ix2 (rowOf b t) (colV d)) := by
  pointwise [valOf, rowOf, colV]

/-- The mean of each row. -/
def mean (v : FVec Ideal S8x8x2048 .f32) : FVec Ideal S8x8x1 .f32 :=
  Host.divf (broadcastInDim S8x8x1 ![0, 1] bcast_S8x8_S8x8x1_0_1 (Host.reduceAdd v (constant S_ .f32 0x00000000#32) reducesTo_S8x8x2048_S8x8_d2 h_S_)) (broadcastInDim S8x8x1 ![] bcast_S_S8x8x1 (constant S_ .f32 0x45000000#32))
/-- Each row less its mean. -/
def centred (v : FVec Ideal S8x8x2048 .f32) : FVec Ideal S8x8x2048 .f32 :=
  subf v (broadcastInDim S8x8x2048 ![0, 1, 2] bcast_S8x8x1_S8x8x2048_0_1_2 (mean v))
/-- The normalised rows. -/
def norm (v : FVec Ideal S8x8x2048 .f32) (g s : FVec Ideal S2048 .f32) : FVec Ideal S8x8x2048 .f32 :=
  addf (mulf (mulf (centred v) (broadcastInDim S8x8x2048 ![0, 1, 2] bcast_S8x8x1_S8x8x2048_0_1_2 (Host.rsqrt (addf (mean (mulf (centred v) (centred v))) (broadcastInDim S8x8x1 ![] bcast_S_S8x8x1 (constant S_ .f32 0x358637BD#32)))))) (broadcastInDim S8x8x2048 ![0, 1, 2] bcast_S1x1x2048_S8x8x2048_0_1_2 (broadcastInDim S1x1x2048 ![2] bcast_S2048_S1x1x2048_2 g))) (broadcastInDim S8x8x2048 ![0, 1, 2] bcast_S1x1x2048_S8x8x2048_0_1_2 (broadcastInDim S1x1x2048 ![2] bcast_S2048_S1x1x2048_2 s))

theorem norm_at (v : FVec Ideal S8x8x2048 .f32) (g s : FVec Ideal S2048 .f32) (b t : Fin 8) (d : Fin 2048) :
    norm v g s (ix3 b t d) = lnAt (fun d => v (ix3 b t d)) (fun d => g (ix1 d)) (fun d => s (ix1 d)) d := by
  pointwise [norm, centred, mean, lnAt, meanAt]

/-- The normalised rows of the projected ones. -/
theorem normVal_at (z : FVec Ideal S64x4096 .f32) (g s : FVec Ideal S2048 .f32) (b t : Fin 8) (d : Fin 2048) :
    norm (valOf z) g s (ix3 b t d) = lnAt (fun e => z (ix2 (rowOf b t) (colV e))) (fun e => g (ix1 e)) (fun e => s (ix1 e)) d := by
  rw [norm_at]
  exact congrArg (fun v => lnAt v _ _ d) (funext fun e => valOf_at z b t e)

/-- The lower triangle, -/
def tri : FVec Ideal S8x8 .f32 :=
  select (cmpi .sge (addi (iotaInDim S8x8 32 0) (broadcastInDim S8x8 ![] bcast_S_S8x8 (constantI S_ 32 0#32))) (iotaInDim S8x8 32 1)) (broadcastInDim S8x8 ![] bcast_S_S8x8 (constant S_ .f32 0x3F800000#32)) (broadcastInDim S8x8 ![] bcast_S_S8x8 (constant S_ .f32 0x00000000#32))
/-- the first four columns, -/
def firsts : FVec Ideal S8x8 .f32 :=
  broadcastInDim S8x8 ![0, 1] bcast_S1x8_S8x8_0_1 (broadcastInDim S1x8 ![1] bcast_S8_S1x8_1 (uitofp .f32 (cmpi .slt (iotaInDim S8 32 0) (broadcastInDim S8 ![] bcast_S_S8 (constantI S_ 32 4#32)))))

theorem tri_at (r j : Fin 8) : tri (ix2 r j) = if j.val ≤ r.val then 1 else 0 := by
  pointwise [tri]
  show (if IntOp.cmpi .sge (BitVec.ofNat 32 r.val + 0#32) (BitVec.ofNat 32 j.val) = 1#1 then (1 : EReal) else 0) = _
  rw [BitVec.add_zero, WordCmp.cmpi_sge_ofNat (by omega) (by omega)]
  by_cases h : j.val ≤ r.val
  · rw [if_pos h, decide_eq_true h]; rfl
  · rw [if_neg h, decide_eq_false h]; rfl

theorem firsts_at (r j : Fin 8) : firsts (ix2 r j) = if j.val < 4 then 1 else 0 := by
  pointwise [firsts]
  have e : IntOp.cmpi .slt (BitVec.ofNat 32 j.val) 4#32 = if j.val < 4 then 1#1 else 0#1 := by
    revert j; decide +kernel
  rw [e]
  split
  · show (((1 : ℕ) : ℝ) : EReal) = 1
    simp
  · show (((0 : ℕ) : ℝ) : EReal) = 0
    simp

/-- A weight times the two masks' entries. -/
def keptAt (w : EReal) (r j : Fin 8) : EReal := if j.val ≤ r.val ∧ j.val < 4 then w else 0

theorem masked (w : EReal) (r j : Fin 8) : w * (tri (ix2 r j) * firsts (ix2 r j)) = keptAt w r j := by
  rw [tri_at, firsts_at]
  unfold keptAt
  by_cases h : j.val ≤ r.val <;> by_cases h' : j.val < 4 <;> simp [h, h']

/-- The rows mixed within their eights, head by head, and the bias. -/
def mixed (n : FVec Ideal S8x8x2048 .f32) (w : FVec Ideal S16x128x128 .f32) (bs : FVec Ideal S16x128 .f32) : FVec Ideal S8x8x2048 .f32 :=
  shapeCast _ (addf (transpose S8x8x16x128 [1, 3, 0, 2] (Host.dotGeneral dot_S8x8x16x128_S16x8x8_S16x8x128x8_1_2_03_1_2_0 none (shapeCast _ n shapeCasts_S8x8x2048_S8x8x16x128) (mulf (extractStridedSlice S16x8x8 ![0, 0, 0] w slices_S16x128x128_S16x8x8_0_0_0) (broadcastInDim S16x8x8 ![0, 1, 2] bcast_S1x8x8_S16x8x8_0_1_2 (broadcastInDim S1x8x8 ![1, 2] bcast_S8x8_S1x8x8_1_2 (mulf tri firsts))))) transposes_S16x8x128x8_S8x8x16x128_1_3_0_2) (broadcastInDim S8x8x16x128 ![0, 1, 2, 3] bcast_S1x8x16x1_S8x8x16x128_0_1_2_3 (broadcastInDim S1x8x16x1 ![1, 2] bcast_S8x16_S1x8x16x1_1_2 (transpose S8x16 [1, 0] (extractStridedSlice S16x8 ![0, 0] bs slices_S16x128_S16x8_0_0) transposes_S16x8_S8x16_1_0)))) shapeCasts_S8x8x16x128_S8x8x2048

theorem mixed_at (n : FVec Ideal S8x8x2048 .f32) (w : FVec Ideal S16x128x128 .f32) (bs : FVec Ideal S16x128 .f32) (b t : Fin 8) (d : Fin 2048) :
    mixed n w bs (ix3 b t d) = (∑ j : Fin 8, keptAt (w (ix3 (headOf d) (wide t) (wide j))) t j * n (ix3 b j d))
      + bs (ix2 (headOf d) (wide t)) := by
  pointwise [mixed]
  refine congrArg (· + _) (Finset.sum_congr rfl fun j _ => ?_)
  refine (mul_comm _ _).trans ?_
  exact congrArg (· * _) (masked _ _ _)

/-- A row's own eight rows are all its masked weights keep. -/
theorem own_eight (w : Fin 128 → EReal) (f : Fin 64 → EReal) (b t : Fin 8) :
    ∑ j : Fin 8, keptAt (w (wide j)) t j * f (rowOf b j) = ∑ j : Fin 64, maskAt (w (inEight j)) (rowOf b t) j * f j := by
  refine Finset.sum_of_injOn (fun j : Fin 8 => rowOf b j) (fun i _ j _ h => ?_) (fun _ _ => Finset.mem_coe.mpr (Finset.mem_univ _)) (fun j _ hj => ?_) fun j _ => ?_
  · have h' : b.val * 8 + i.val = b.val * 8 + j.val := congrArg Fin.val h
    exact Fin.ext (by omega)
  · have hk : ¬kept (rowOf b t) j := fun h => hj (by
      have h2 : (b.val * 8 + t.val) / 8 = j.val / 8 := h.2.1
      exact ⟨⟨j.val % 8, by omega⟩, Finset.mem_coe.mpr (Finset.mem_univ _), Fin.ext (by show b.val * 8 + j.val % 8 = j.val; omega)⟩)
    unfold maskAt
    rw [if_neg hk, zero_mul]
  · have hk : kept (rowOf b t) (rowOf b j) ↔ (j.val ≤ t.val ∧ j.val < 4) := by
      show (b.val * 8 + j.val ≤ b.val * 8 + t.val ∧ (b.val * 8 + t.val) / 8 = (b.val * 8 + j.val) / 8 ∧ (b.val * 8 + j.val) % 8 < 4) ↔ _
      constructor
      · intro h; omega
      · intro h; omega
    refine congrArg (· * f (rowOf b j)) ?_
    show keptAt (w (wide j)) t j = maskAt (w (inEight (rowOf b j))) (rowOf b t) (rowOf b j)
    rw [inEight_rowOf]
    unfold keptAt maskAt
    exact if_congr hk.symm rfl rfl

/-- The whole mixer, as the reference composes it, -/
def out (x : FVec Ideal S64x2048 .f32) (u q : FVec Ideal S8x8x2048 .f32) (wo : FVec Ideal S2048x2048 .f32) : FVec Ideal S64x2048 .f32 :=
  addf x (shapeCast _ (Host.dotGeneral dot_S8x8x2048_S2048x2048_S8x8x2048_2_0_01_1_n_n none (mulf u q) wo) shapeCasts_S8x8x2048_S64x2048)
/-- and its normalised rows, one after another. -/
def rows (n : FVec Ideal S8x8x2048 .f32) : FVec Ideal S64x2048 .f32 := shapeCast _ n shapeCasts_S8x8x2048_S64x2048

theorem out_at (x : FVec Ideal S64x2048 .f32) (u q : FVec Ideal S8x8x2048 .f32) (wo : FVec Ideal S2048x2048 .f32) (b t : Fin 8) (d : Fin 2048) :
    out x u q wo (ix2 (rowOf b t) d) = x (ix2 (rowOf b t) d) + ∑ k : Fin 2048, u (ix3 b t k) * q (ix3 b t k) * wo (ix2 k d) := by
  pointwise [out, rowOf]

theorem rows_at (n : FVec Ideal S8x8x2048 .f32) (b t : Fin 8) (d : Fin 2048) : rows n (ix2 (rowOf b t) d) = n (ix3 b t d) := by
  pointwise [rows, rowOf]

/-- The whole mixer at an index. -/
theorem mixer_at (x : FVec Ideal S64x2048 .f32) (z : FVec Ideal S64x4096 .f32) (g s : FVec Ideal S2048 .f32) (w : FVec Ideal S16x128x128 .f32)
    (bs : FVec Ideal S16x128 .f32) (wo : FVec Ideal S2048x2048 .f32) (b t : Fin 8) (d : Fin 2048) :
    out x (gateOf z) (mixed (norm (valOf z) g s) w bs) wo (ix2 (rowOf b t) d) = x (ix2 (rowOf b t) d)
      + ∑ k : Fin 2048, gateAt (z (ix2 (rowOf b t) (colU k))) (bs (ix2 (headOf k) (inEight (rowOf b t))))
          (fun j => maskAt (w (ix3 (headOf k) (inEight (rowOf b t)) (inEight j))) (rowOf b t) j)
          (fun j e => z (ix2 j (colV e))) (fun e => g (ix1 e)) (fun e => s (ix1 e)) k * wo (ix2 k d) := by
  rw [out_at]
  refine congrArg (x (ix2 (rowOf b t) d) + ·) (Finset.sum_congr rfl fun k _ => ?_)
  rw [gateOf_at, mixed_at, inEight_rowOf]
  unfold gateAt
  simp only [normVal_at]
  rw [own_eight (fun j => w (ix3 (headOf k) (wide t) j)) (fun j => lnAt (fun e => z (ix2 j (colV e))) (fun e => g (ix1 e)) (fun e => s (ix1 e)) k) b t]

/-- Every row is one of an entry's eight. -/
theorem row_split (r : Fin 64) : ∃ b t : Fin 8, r = rowOf b t :=
  ⟨⟨r.val / 8, by omega⟩, ⟨r.val % 8, by omega⟩, Fin.ext (by show r.val = r.val / 8 * 8 + r.val % 8; omega)⟩

section
variable (m : (ℓ : Loc Cert.AmixSIdeal.nD Cert.AmixSIdeal.τ Cert.AmixSIdeal.sig) → Buf (Elt Ideal) ℓ) (c : Dev Cert.AmixSIdeal.nD)

/-- The reference's result is the array the kernel computes from the same arguments, -/
theorem out_eq_kernel : out (m ((c.tc : Thread Cert.AmixSIdeal.nD Cert.AmixSIdeal.τ).loc Cert.AmixSIdeal.main_arg0)) (gateOf (m ((c.tc : Thread Cert.AmixSIdeal.nD Cert.AmixSIdeal.τ).loc Cert.AmixSIdeal.main_arg1))) (mixed (norm (valOf (m ((c.tc : Thread Cert.AmixSIdeal.nD Cert.AmixSIdeal.τ).loc Cert.AmixSIdeal.main_arg1))) (m ((c.tc : Thread Cert.AmixSIdeal.nD Cert.AmixSIdeal.τ).loc Cert.AmixSIdeal.main_arg2)) (m ((c.tc : Thread Cert.AmixSIdeal.nD Cert.AmixSIdeal.τ).loc Cert.AmixSIdeal.main_arg3))) (m ((c.tc : Thread Cert.AmixSIdeal.nD Cert.AmixSIdeal.τ).loc Cert.AmixSIdeal.main_arg4)) (m ((c.tc : Thread Cert.AmixSIdeal.nD Cert.AmixSIdeal.τ).loc Cert.AmixSIdeal.main_arg5))) (m ((c.tc : Thread Cert.AmixSIdeal.nD Cert.AmixSIdeal.τ).loc Cert.AmixSIdeal.main_arg6)) = Cert.AmixSIdeal.Value.G8 m c := by
  funext i
  obtain ⟨r, d, rfl⟩ : ∃ (r : Fin 64) (d : Fin 2048), i = ix2 r d := ⟨i 0, i 1, eq_ix2 i⟩
  obtain ⟨b, t, rfl⟩ := row_split r
  exact mixer_at _ _ _ _ _ _ _ b t d

/-- and so are its normalised rows. -/
theorem rows_eq_kernel : rows (norm (valOf (m ((c.tc : Thread Cert.AmixSIdeal.nD Cert.AmixSIdeal.τ).loc Cert.AmixSIdeal.main_arg1))) (m ((c.tc : Thread Cert.AmixSIdeal.nD Cert.AmixSIdeal.τ).loc Cert.AmixSIdeal.main_arg2)) (m ((c.tc : Thread Cert.AmixSIdeal.nD Cert.AmixSIdeal.τ).loc Cert.AmixSIdeal.main_arg3))) = Cert.AmixSIdeal.Value.G9 m c := by
  funext i
  obtain ⟨r, d, rfl⟩ : ∃ (r : Fin 64) (d : Fin 2048), i = ix2 r d := ⟨i 0, i 1, eq_ix2 i⟩
  obtain ⟨b, t, rfl⟩ := row_split r
  exact (rows_at _ b t d).trans (normVal_at _ _ _ b t d)

end

/-- The reference's run, its two results named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v52) = out (m ((c.tc : Thread nD τ).loc main_arg0)) (gateOf (m ((c.tc : Thread nD τ).loc main_arg1))) (mixed (norm (valOf (m ((c.tc : Thread nD τ).loc main_arg1))) (m ((c.tc : Thread nD τ).loc main_arg2)) (m ((c.tc : Thread nD τ).loc main_arg3))) (m ((c.tc : Thread nD τ).loc main_arg4)) (m ((c.tc : Thread nD τ).loc main_arg5))) (m ((c.tc : Thread nD τ).loc main_arg6))
      ∧ r.2.mem ((c.tc : Thread nD τ).loc main_v53) = rows (norm (valOf (m ((c.tc : Thread nD τ).loc main_arg1))) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1, (h c).2.1, (h c).2.2⟩) (run (F := Ideal) m ρ)

end Cert.AmixSRefIdeal.Value

end
-- ==== Proof.lean ====
/-
  The claims, put together: the frames, and each kernel call against the reference's lines for the same part.
-/
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.Gen.AIn.Frame
public import proofs.«01_k».proof.Proof.Gen.AInIdeal.Value
public import proofs.«01_k».proof.Proof.Gen.AInRefIdeal.Run
public import proofs.«01_k».proof.Proof.Gen.Qkv.Frame
public import proofs.«01_k».proof.Proof.Gen.QkvIdeal.Value
public import proofs.«01_k».proof.Proof.Gen.QkvRefIdeal.Run
public import proofs.«01_k».proof.Proof.Gen.BOut.Frame
public import proofs.«01_k».proof.Proof.Gen.BOutIdeal.Value
public import proofs.«01_k».proof.Proof.Gen.BOutRefIdeal.Run
public import proofs.«01_k».proof.Proof.Gen.Pool.Frame
public import proofs.«01_k».proof.Proof.Gen.PoolIdeal.Value
public import proofs.«01_k».proof.Proof.Gen.PoolRefIdeal.Run
public import proofs.«01_k».proof.Proof.Gen.Norm.Frame
public import proofs.«01_k».proof.Proof.Gen.NormIdeal.Value
public import proofs.«01_k».proof.Proof.Gen.NormRefIdeal.Run
public import proofs.«01_k».proof.Proof.Gen.Amix.Frame
public import proofs.«01_k».proof.Proof.Gen.AmixIdeal.Frame
public import proofs.«01_k».proof.Proof.Gen.AmixRefIdeal.Run
public import proofs.«01_k».proof.Proof.Gen.PoolS.Frame
public import proofs.«01_k».proof.Proof.Gen.PoolSIdeal.Value
public import proofs.«01_k».proof.Proof.Gen.PoolSRefIdeal.Run
public import proofs.«01_k».proof.Proof.Gen.AmixS.Frame
public import proofs.«01_k».proof.Proof.AmixSRun
public import proofs.«01_k».proof.Proof.Gen.AmixSIdeal.Frame
public import proofs.«01_k».proof.Proof.Gen.AmixSRefIdeal.Run
public import proofs.«01_k».proof.Proof.FfnRef
public import proofs.«01_k».proof.Proof.AInRef
public import proofs.«01_k».proof.Proof.QkvRef
public import proofs.«01_k».proof.Proof.BOutRef
public import proofs.«01_k».proof.Proof.PoolRef
public import proofs.«01_k».proof.Proof.NormRef
public import proofs.«01_k».proof.Proof.AmixRef
public import proofs.«01_k».proof.Proof.PoolSRef
public import proofs.«01_k».proof.Proof.AmixSRef
public import Idealize.ShloMosaic.Adequacy
public import Idealize.ShloMosaic.Init
public import Idealize.ShloMosaic.Lib.Quiescent

@[expose] public section

noncomputable section

namespace Cert.Proof

open Idealize.ShloMosaic Idealize.SL.Sem

theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem quiescent_AInRefIdeal : quiescent_AInRefIdeal := fun m ρ _ =>
  (θ_run Cert.AInRefIdeal.defs _ _).mono (fun r h => ⟨fun c => (h c).2, sem_eq_zero_of_no_sems (by decide) r.2⟩)
    (Cert.AInRefIdeal.Value.run (F := Ideal) m ρ)

theorem quiescent_QkvRefIdeal : quiescent_QkvRefIdeal := fun m ρ _ =>
  (θ_run Cert.QkvRefIdeal.defs _ _).mono (fun r h => ⟨fun c => (h c).2, sem_eq_zero_of_no_sems (by decide) r.2⟩)
    (Cert.QkvRefIdeal.Value.run (F := Ideal) m ρ)

theorem quiescent_BOutRefIdeal : quiescent_BOutRefIdeal := fun m ρ _ =>
  (θ_run Cert.BOutRefIdeal.defs _ _).mono (fun r h => ⟨fun c => (h c).2, sem_eq_zero_of_no_sems (by decide) r.2⟩)
    (Cert.BOutRefIdeal.Value.run (F := Ideal) m ρ)

theorem quiescent_PoolRefIdeal : quiescent_PoolRefIdeal := fun m ρ _ =>
  (θ_run Cert.PoolRefIdeal.defs _ _).mono (fun r h => ⟨fun c => (h c).2, sem_eq_zero_of_no_sems (by decide) r.2⟩)
    (Cert.PoolRefIdeal.Value.run (F := Ideal) m ρ)

theorem quiescent_NormRefIdeal : quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

theorem quiescent_AmixRefIdeal : quiescent_AmixRefIdeal := fun m ρ _ =>
  (θ_run Cert.AmixRefIdeal.defs _ _).mono (fun r h => ⟨fun c => (h c).2, sem_eq_zero_of_no_sems (by decide) r.2⟩)
    (Cert.AmixRefIdeal.Value.run (F := Ideal) m ρ)

theorem quiescent_PoolSRefIdeal : quiescent_PoolSRefIdeal := fun m ρ _ =>
  (θ_run Cert.PoolSRefIdeal.defs _ _).mono (fun r h => ⟨fun c => (h c).2.2, sem_eq_zero_of_no_sems (by decide) r.2⟩)
    (Cert.PoolSRefIdeal.Value.run (F := Ideal) m ρ)

theorem quiescent_AmixSRefIdeal : quiescent_AmixSRefIdeal := fun m ρ _ =>
  (θ_run Cert.AmixSRefIdeal.defs _ _).mono (fun r h => ⟨fun c => (h c).2.2, sem_eq_zero_of_no_sems (by decide) r.2⟩)
    (Cert.AmixSRefIdeal.Value.run (F := Ideal) m ρ)

/-- The feed-forward kernel against the reference's feed-forward lines. -/
theorem algebraic_FfnIdeal_FfnRefIdeal : algebraic_FfnIdeal_FfnRefIdeal := by
  intro m ρ m' ρ' _ hagree
  refine ⟨fun c => Cert.FfnIdeal.Value.G5 m c, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  obtain ⟨e0, e1, e2, e3, e4⟩ := hagree c
  refine (h c).1.trans ?_
  rw [e0, e1, e2, e3, e4]
  exact Cert.FfnRefIdeal.Value.out_eq_kernel m c

/-- The gated mixer's input projection against the reference's lines for it. -/
theorem algebraic_AInIdeal_AInRefIdeal : algebraic_AInIdeal_AInRefIdeal := by
  intro m ρ m' ρ' _ hagree
  refine ⟨fun c => Cert.AInIdeal.Value.G3 m c, Cert.AInIdeal.Value.run (F := Ideal) m ρ, ?_⟩
  refine (θ_run Cert.AInRefIdeal.defs _ _).mono (fun _ h c => ⟨?_, (h c).2⟩) (Cert.AInRefIdeal.Value.run (F := Ideal) m' ρ')
  obtain ⟨e0, e1, e2⟩ := hagree c
  refine (h c).1.trans ?_
  unfold Cert.AInRefIdeal.Value.res_main_v26
  rw [e0, e1, e2]
  exact Cert.AInRefIdeal.Value.out_eq_kernel m c

/-- The windowed attention's projection, heads normalised, against the reference's lines for it. -/
theorem algebraic_QkvIdeal_QkvRefIdeal : algebraic_QkvIdeal_QkvRefIdeal := by
  intro m ρ m' ρ' _ hagree
  refine ⟨fun c => Cert.QkvIdeal.Value.G4 m c, Cert.QkvIdeal.Value.run (F := Ideal) m ρ, ?_⟩
  refine (θ_run Cert.QkvRefIdeal.defs _ _).mono (fun _ h c => ⟨?_, (h c).2⟩) (Cert.QkvRefIdeal.Value.run (F := Ideal) m' ρ')
  obtain ⟨e0, e1, e2, e3, e4⟩ := hagree c
  refine (h c).1.trans ?_
  unfold Cert.QkvRefIdeal.Value.res_main_v53
  rw [e0, e1, e2, e3, e4]
  exact Cert.QkvRefIdeal.Value.out_eq_kernel m c

/-- The windowed attention's output projection against the reference's line for it. -/
theorem algebraic_BOutIdeal_BOutRefIdeal : algebraic_BOutIdeal_BOutRefIdeal := by
  intro m ρ m' ρ' _ hagree
  refine ⟨fun c => Cert.BOutIdeal.Value.G3 m c, Cert.BOutIdeal.Value.run (F := Ideal) m ρ, ?_⟩
  refine (θ_run Cert.BOutRefIdeal.defs _ _).mono (fun _ h c => ⟨?_, (h c).2⟩) (Cert.BOutRefIdeal.Value.run (F := Ideal) m' ρ')
  obtain ⟨e0, e1, e2⟩ := hagree c
  refine (h c).1.trans ?_
  rw [e0, e1, e2]
  exact Cert.BOutRefIdeal.Value.out_eq_kernel m c

/-- The pooling mixer against the reference's window sums. -/
theorem algebraic_PoolIdeal_PoolRefIdeal : algebraic_PoolIdeal_PoolRefIdeal := by
  intro m ρ m' ρ' _ hagree
  refine ⟨fun c => Cert.PoolIdeal.Value.G4 m c, Cert.PoolIdeal.Value.run m ρ, ?_⟩
  refine (θ_run Cert.PoolRefIdeal.defs _ _).mono (fun _ h c => ⟨?_, (h c).2⟩) (Cert.PoolRefIdeal.Value.run (F := Ideal) m' ρ')
  obtain ⟨e0, e1, e2, e3⟩ := hagree c
  refine (h c).1.trans ?_
  unfold Cert.PoolRefIdeal.Value.res_main_v120
  rw [e0, e1, e2, e3]
  exact Cert.PoolRefIdeal.Value.out_eq_kernel m c

/-- The pooling mixer's normalisation against the reference's. -/
theorem algebraic_NormIdeal_NormRefIdeal : algebraic_NormIdeal_NormRefIdeal := by
  intro m ρ m' ρ' _ hagree
  refine ⟨fun c => Cert.NormIdeal.Value.G2 m c, Cert.NormIdeal.Value.run m ρ, ?_⟩
  refine (θ_run Cert.NormRefIdeal.defs _ _).mono (fun _ h c => ⟨?_, (h c).2⟩) (Cert.NormRefIdeal.Value.run (F := Ideal) m' ρ')
  obtain ⟨e0, e1⟩ := hagree c
  refine (h c).1.trans ?_
  rw [e0, e1]
  exact Cert.NormRefIdeal.Value.out_eq_kernel m c

/-- The gated mixer against the reference's lines for it. -/
theorem algebraic_AmixIdeal_AmixRefIdeal : algebraic_AmixIdeal_AmixRefIdeal := by
  intro m ρ m' ρ' _ hagree
  refine ⟨fun c => Cert.AmixIdeal.Value.GA m c, Cert.AmixIdeal.Value.run m ρ, ?_⟩
  refine (θ_run Cert.AmixRefIdeal.defs _ _).mono (fun _ h c => ⟨?_, (h c).2⟩) (Cert.AmixRefIdeal.Value.run (F := Ideal) m' ρ')
  obtain ⟨e0, e1, e2, e3, e4, e5, e6⟩ := hagree c
  refine (h c).1.trans ?_
  unfold Cert.AmixRefIdeal.Value.res_main_v43
  rw [e0, e1, e2, e3, e4, e5, e6]
  exact Cert.AmixRefIdeal.Value.out_eq_kernel m c

/-- The pooling mixer on the sample's rows against the reference's window sums over the state and the rows. -/
theorem algebraic_PoolSIdeal_PoolSRefIdeal : algebraic_PoolSIdeal_PoolSRefIdeal := by
  intro m ρ m' ρ' _ hagree
  refine ⟨fun c => Cert.PoolSIdeal.Value.G5 m c, fun c => Cert.PoolSIdeal.Value.G6 m c, Cert.PoolSIdeal.Value.run m ρ, ?_⟩
  refine (θ_run Cert.PoolSRefIdeal.defs _ _).mono (fun _ h c => ?_) (Cert.PoolSRefIdeal.Value.run_named m' ρ')
  obtain ⟨e0, e1, e2, e3, e4⟩ := hagree c
  refine ⟨(h c).1.trans ?_, (h c).2.1.trans ?_, (h c).2.2⟩
  · rw [e0, e1, e2, e3, e4]
    exact Cert.PoolSRefIdeal.Value.out_eq_kernel m c
  · rw [e0, e1, e2]
    exact Cert.PoolSRefIdeal.Value.outSeq_eq_kernel m c

/-- The gated mixer on the sample's rows against the reference's lines for it, its two outputs. -/
theorem algebraic_AmixSIdeal_AmixSRefIdeal : algebraic_AmixSIdeal_AmixSRefIdeal := by
  intro m ρ m' ρ' _ hagree
  refine ⟨fun c => Cert.AmixSIdeal.Value.G8 m c, fun c => Cert.AmixSIdeal.Value.G9 m c, Cert.AmixSIdeal.Value.run m ρ, ?_⟩
  refine (θ_run Cert.AmixSRefIdeal.defs _ _).mono (fun _ h c => ?_) (Cert.AmixSRefIdeal.Value.run_named m' ρ')
  obtain ⟨e0, e1, e2, e3, e4, e5, e6⟩ := hagree c
  refine ⟨(h c).1.trans ?_, (h c).2.1.trans ?_, (h c).2.2⟩
  · rw [e0, e1, e2, e3, e4, e5, e6]
    exact Cert.AmixSRefIdeal.Value.out_eq_kernel m c
  · rw [e1, e2, e3]
    exact Cert.AmixSRefIdeal.Value.rows_eq_kernel m c

theorem claim : Cert.Claim := ⟨Cert.Ffn.Gen.facts, Cert.FfnIdeal.Gen.facts, Cert.FfnRefIdeal.Gen.facts, Cert.AIn.Gen.facts, Cert.AInIdeal.Gen.facts, Cert.AInRefIdeal.Gen.facts, Cert.Qkv.Gen.facts, Cert.QkvIdeal.Gen.facts, Cert.QkvRefIdeal.Gen.facts, Cert.BOut.Gen.facts, Cert.BOutIdeal.Gen.facts, Cert.BOutRefIdeal.Gen.facts, Cert.Pool.Gen.facts, Cert.PoolIdeal.Gen.facts, Cert.PoolRefIdeal.Gen.facts, Cert.Norm.Gen.facts, Cert.NormIdeal.Gen.facts, Cert.NormRefIdeal.Gen.facts, Cert.Amix.Gen.facts, Cert.AmixIdeal.Gen.facts, Cert.AmixRefIdeal.Gen.facts, Cert.PoolS.Gen.facts, Cert.PoolSIdeal.Gen.facts, Cert.PoolSRefIdeal.Gen.facts, Cert.AmixS.Gen.facts, Cert.AmixSIdeal.Gen.facts, Cert.AmixSRefIdeal.Gen.facts,
  fun m ρ _ => Cert.Ffn.Gen.frame m ρ, fun m ρ _ => Cert.FfnIdeal.Gen.frame m ρ, quiescent_FfnRefIdeal,
  fun m ρ _ => Cert.AIn.Gen.frame m ρ, fun m ρ _ => Cert.AInIdeal.Gen.frame m ρ, quiescent_AInRefIdeal,
  fun m ρ _ => Cert.Qkv.Gen.frame m ρ, fun m ρ _ => Cert.QkvIdeal.Gen.frame m ρ, quiescent_QkvRefIdeal,
  fun m ρ _ => Cert.BOut.Gen.frame m ρ, fun m ρ _ => Cert.BOutIdeal.Gen.frame m ρ, quiescent_BOutRefIdeal,
  fun m ρ _ => Cert.Pool.Gen.frame m ρ, fun m ρ _ => Cert.PoolIdeal.Gen.frame m ρ, quiescent_PoolRefIdeal,
  fun m ρ _ => Cert.Norm.Gen.frame m ρ, fun m ρ _ => Cert.NormIdeal.Gen.frame m ρ, quiescent_NormRefIdeal,
  fun m ρ _ => Cert.Amix.Hand.frame m ρ, fun m ρ _ => Cert.AmixIdeal.Value.frame m ρ, quiescent_AmixRefIdeal,
  fun m ρ _ => Cert.PoolS.Gen.frame m ρ, fun m ρ _ => Cert.PoolSIdeal.Gen.frame m ρ, quiescent_PoolSRefIdeal,
  fun m ρ _ => Cert.AmixS.Hand.frame m ρ, fun m ρ _ => Cert.AmixSIdeal.Value.frame m ρ, quiescent_AmixSRefIdeal,
  (trivial : preserves_Ffn_FfnIdeal), algebraic_FfnIdeal_FfnRefIdeal,
  (trivial : preserves_AIn_AInIdeal), algebraic_AInIdeal_AInRefIdeal,
  (trivial : preserves_Qkv_QkvIdeal), algebraic_QkvIdeal_QkvRefIdeal,
  (trivial : preserves_BOut_BOutIdeal), algebraic_BOutIdeal_BOutRefIdeal,
  (trivial : preserves_Pool_PoolIdeal), algebraic_PoolIdeal_PoolRefIdeal,
  (trivial : preserves_Norm_NormIdeal), algebraic_NormIdeal_NormRefIdeal,
  (trivial : preserves_Amix_AmixIdeal), algebraic_AmixIdeal_AmixRefIdeal,
  (trivial : preserves_PoolS_PoolSIdeal), algebraic_PoolSIdeal_PoolSRefIdeal,
  (trivial : preserves_AmixS_AmixSIdeal), algebraic_AmixSIdeal_AmixSRefIdeal⟩

end Cert.Proof

end
